-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_FfnOne (m : (ℓ : Loc Cert.FfnOne.nD Cert.FfnOne.τ Cert.FfnOne.sig) → Buf (Elt Bits) ℓ) : Prop :=
  True

def Pre_FfnOneIdeal (m : (ℓ : Loc Cert.FfnOneIdeal.nD Cert.FfnOneIdeal.τ Cert.FfnOneIdeal.sig) → Buf (Elt Ideal) ℓ) : Prop :=
  True

def Pre_FfnOneRefIdeal (m : (ℓ : Loc Cert.FfnOneRefIdeal.nD Cert.FfnOneRefIdeal.τ Cert.FfnOneRefIdeal.sig) → Buf (Elt Ideal) ℓ) : Prop :=
  True

def Pre_FfnTwo (m : (ℓ : Loc Cert.FfnTwo.nD Cert.FfnTwo.τ Cert.FfnTwo.sig) → Buf (Elt Bits) ℓ) : Prop :=
  True

def Pre_FfnTwoIdeal (m : (ℓ : Loc Cert.FfnTwoIdeal.nD Cert.FfnTwoIdeal.τ Cert.FfnTwoIdeal.sig) → Buf (Elt Ideal) ℓ) : Prop :=
  True

def Pre_FfnTwoRefIdeal (m : (ℓ : Loc Cert.FfnTwoRefIdeal.nD Cert.FfnTwoRefIdeal.τ Cert.FfnTwoRefIdeal.sig) → Buf (Elt Ideal) ℓ) : Prop :=
  True

def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_SwaIdeal_swa_finite [hPre_swa_finite : Cert.Pre_swa_finite.Facts] (m : (ℓ : Loc Cert.SwaIdeal.nD Cert.SwaIdeal.τ Cert.SwaIdeal.sig) → Buf (Elt Ideal) ℓ) : Prop :=
  ∀ c : Dev Cert.SwaIdeal.nD,
    (Cert.Pre_swa_finite.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2)) (m ((c.tc : Thread Cert.SwaIdeal.nD Cert.SwaIdeal.τ).loc Cert.SwaIdeal.main_arg3)) (m ((c.tc : Thread Cert.SwaIdeal.nD Cert.SwaIdeal.τ).loc Cert.SwaIdeal.main_arg4)) (m ((c.tc : Thread Cert.SwaIdeal.nD Cert.SwaIdeal.τ).loc Cert.SwaIdeal.main_arg5))) = (fun _ => 1#1)

def Pre_SwaRefIdeal (m : (ℓ : Loc Cert.SwaRefIdeal.nD Cert.SwaRefIdeal.τ Cert.SwaRefIdeal.sig) → Buf (Elt Ideal) ℓ) : Prop :=
  True

def Pre_SwaRefIdeal_swa_finite [hPre_swa_finite : Cert.Pre_swa_finite.Facts] (m : (ℓ : Loc Cert.SwaRefIdeal.nD Cert.SwaRefIdeal.τ Cert.SwaRefIdeal.sig) → Buf (Elt Ideal) ℓ) : Prop :=
  ∀ c : Dev Cert.SwaRefIdeal.nD,
    (Cert.Pre_swa_finite.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2)) (m ((c.tc : Thread Cert.SwaRefIdeal.nD Cert.SwaRefIdeal.τ).loc Cert.SwaRefIdeal.main_arg3)) (m ((c.tc : Thread Cert.SwaRefIdeal.nD Cert.SwaRefIdeal.τ).loc Cert.SwaRefIdeal.main_arg4)) (m ((c.tc : Thread Cert.SwaRefIdeal.nD Cert.SwaRefIdeal.τ).loc Cert.SwaRefIdeal.main_arg5))) = (fun _ => 1#1)

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_FfnOne [hFfnOne : Cert.FfnOne.Facts] : Prop :=
  ∀ (m : (ℓ : Loc Cert.FfnOne.nD Cert.FfnOne.τ Cert.FfnOne.sig) → Buf (Elt Bits) ℓ) (g : Dev Cert.FfnOne.nD → PrngReg), Pre_FfnOne m →
    θ_run (Cert.FfnOne.defs (F := Bits)) (onTc (τ := Cert.FfnOne.τ) (Cert.FfnOne.main (F := Bits))) ⟨m, fun _ => 0, g⟩ (fun r => (∀ c : Dev Cert.FfnOne.nD,
      r.2.mem ((c.tc : Thread Cert.FfnOne.nD Cert.FfnOne.τ).loc Cert.FfnOne.main_arg0) = m ((c.tc : Thread Cert.FfnOne.nD Cert.FfnOne.τ).loc Cert.FfnOne.main_arg0)
      ∧ r.2.mem ((c.tc : Thread Cert.FfnOne.nD Cert.FfnOne.τ).loc Cert.FfnOne.main_arg1) = m ((c.tc : Thread Cert.FfnOne.nD Cert.FfnOne.τ).loc Cert.FfnOne.main_arg1)
      ∧ r.2.mem ((c.tc : Thread Cert.FfnOne.nD Cert.FfnOne.τ).loc Cert.FfnOne.main_arg2) = m ((c.tc : Thread Cert.FfnOne.nD Cert.FfnOne.τ).loc Cert.FfnOne.main_arg2)
      ∧ r.2.mem ((c.tc : Thread Cert.FfnOne.nD Cert.FfnOne.τ).loc Cert.FfnOne.main_arg3) = m ((c.tc : Thread Cert.FfnOne.nD Cert.FfnOne.τ).loc Cert.FfnOne.main_arg3)
      ∧ r.2.mem ((c.tc : Thread Cert.FfnOne.nD Cert.FfnOne.τ).loc Cert.FfnOne.main_arg4) = m ((c.tc : Thread Cert.FfnOne.nD Cert.FfnOne.τ).loc Cert.FfnOne.main_arg4)
      ∧ r.2.mem ((c.tc : Thread Cert.FfnOne.nD Cert.FfnOne.τ).loc Cert.FfnOne.main_arg5) = m ((c.tc : Thread Cert.FfnOne.nD Cert.FfnOne.τ).loc Cert.FfnOne.main_arg5))
      ∧ r.2.sem = fun _ => 0)

def quiescent_FfnOneIdeal [hFfnOneIdeal : Cert.FfnOneIdeal.Facts] : Prop :=
  ∀ (m : (ℓ : Loc Cert.FfnOneIdeal.nD Cert.FfnOneIdeal.τ Cert.FfnOneIdeal.sig) → Buf (Elt Ideal) ℓ) (g : Dev Cert.FfnOneIdeal.nD → PrngReg), Pre_FfnOneIdeal m →
    θ_run (Cert.FfnOneIdeal.defs (F := Ideal)) (onTc (τ := Cert.FfnOneIdeal.τ) (Cert.FfnOneIdeal.main (F := Ideal))) ⟨m, fun _ => 0, g⟩ (fun r => (∀ c : Dev Cert.FfnOneIdeal.nD,
      r.2.mem ((c.tc : Thread Cert.FfnOneIdeal.nD Cert.FfnOneIdeal.τ).loc Cert.FfnOneIdeal.main_arg0) = m ((c.tc : Thread Cert.FfnOneIdeal.nD Cert.FfnOneIdeal.τ).loc Cert.FfnOneIdeal.main_arg0)
      ∧ r.2.mem ((c.tc : Thread Cert.FfnOneIdeal.nD Cert.FfnOneIdeal.τ).loc Cert.FfnOneIdeal.main_arg1) = m ((c.tc : Thread Cert.FfnOneIdeal.nD Cert.FfnOneIdeal.τ).loc Cert.FfnOneIdeal.main_arg1)
      ∧ r.2.mem ((c.tc : Thread Cert.FfnOneIdeal.nD Cert.FfnOneIdeal.τ).loc Cert.FfnOneIdeal.main_arg2) = m ((c.tc : Thread Cert.FfnOneIdeal.nD Cert.FfnOneIdeal.τ).loc Cert.FfnOneIdeal.main_arg2)
      ∧ r.2.mem ((c.tc : Thread Cert.FfnOneIdeal.nD Cert.FfnOneIdeal.τ).loc Cert.FfnOneIdeal.main_arg3) = m ((c.tc : Thread Cert.FfnOneIdeal.nD Cert.FfnOneIdeal.τ).loc Cert.FfnOneIdeal.main_arg3)
      ∧ r.2.mem ((c.tc : Thread Cert.FfnOneIdeal.nD Cert.FfnOneIdeal.τ).loc Cert.FfnOneIdeal.main_arg4) = m ((c.tc : Thread Cert.FfnOneIdeal.nD Cert.FfnOneIdeal.τ).loc Cert.FfnOneIdeal.main_arg4)
      ∧ r.2.mem ((c.tc : Thread Cert.FfnOneIdeal.nD Cert.FfnOneIdeal.τ).loc Cert.FfnOneIdeal.main_arg5) = m ((c.tc : Thread Cert.FfnOneIdeal.nD Cert.FfnOneIdeal.τ).loc Cert.FfnOneIdeal.main_arg5))
      ∧ r.2.sem = fun _ => 0)

def quiescent_FfnOneRefIdeal [hFfnOneRefIdeal : Cert.FfnOneRefIdeal.Facts] : Prop :=
  ∀ (m : (ℓ : Loc Cert.FfnOneRefIdeal.nD Cert.FfnOneRefIdeal.τ Cert.FfnOneRefIdeal.sig) → Buf (Elt Ideal) ℓ) (g : Dev Cert.FfnOneRefIdeal.nD → PrngReg), Pre_FfnOneRefIdeal m →
    θ_run (Cert.FfnOneRefIdeal.defs (F := Ideal)) (onTc (τ := Cert.FfnOneRefIdeal.τ) (Cert.FfnOneRefIdeal.main (F := Ideal))) ⟨m, fun _ => 0, g⟩ (fun r => (∀ c : Dev Cert.FfnOneRefIdeal.nD,
      r.2.mem ((c.tc : Thread Cert.FfnOneRefIdeal.nD Cert.FfnOneRefIdeal.τ).loc Cert.FfnOneRefIdeal.main_arg0) = m ((c.tc : Thread Cert.FfnOneRefIdeal.nD Cert.FfnOneRefIdeal.τ).loc Cert.FfnOneRefIdeal.main_arg0)
      ∧ r.2.mem ((c.tc : Thread Cert.FfnOneRefIdeal.nD Cert.FfnOneRefIdeal.τ).loc Cert.FfnOneRefIdeal.main_arg1) = m ((c.tc : Thread Cert.FfnOneRefIdeal.nD Cert.FfnOneRefIdeal.τ).loc Cert.FfnOneRefIdeal.main_arg1)
      ∧ r.2.mem ((c.tc : Thread Cert.FfnOneRefIdeal.nD Cert.FfnOneRefIdeal.τ).loc Cert.FfnOneRefIdeal.main_arg2) = m ((c.tc : Thread Cert.FfnOneRefIdeal.nD Cert.FfnOneRefIdeal.τ).loc Cert.FfnOneRefIdeal.main_arg2)
      ∧ r.2.mem ((c.tc : Thread Cert.FfnOneRefIdeal.nD Cert.FfnOneRefIdeal.τ).loc Cert.FfnOneRefIdeal.main_arg3) = m ((c.tc : Thread Cert.FfnOneRefIdeal.nD Cert.FfnOneRefIdeal.τ).loc Cert.FfnOneRefIdeal.main_arg3)
      ∧ r.2.mem ((c.tc : Thread Cert.FfnOneRefIdeal.nD Cert.FfnOneRefIdeal.τ).loc Cert.FfnOneRefIdeal.main_arg4) = m ((c.tc : Thread Cert.FfnOneRefIdeal.nD Cert.FfnOneRefIdeal.τ).loc Cert.FfnOneRefIdeal.main_arg4)
      ∧ r.2.mem ((c.tc : Thread Cert.FfnOneRefIdeal.nD Cert.FfnOneRefIdeal.τ).loc Cert.FfnOneRefIdeal.main_arg5) = m ((c.tc : Thread Cert.FfnOneRefIdeal.nD Cert.FfnOneRefIdeal.τ).loc Cert.FfnOneRefIdeal.main_arg5))
      ∧ r.2.sem = fun _ => 0)

def quiescent_FfnTwo [hFfnTwo : Cert.FfnTwo.Facts] : Prop :=
  ∀ (m : (ℓ : Loc Cert.FfnTwo.nD Cert.FfnTwo.τ Cert.FfnTwo.sig) → Buf (Elt Bits) ℓ) (g : Dev Cert.FfnTwo.nD → PrngReg), Pre_FfnTwo m →
    θ_run (Cert.FfnTwo.defs (F := Bits)) (onTc (τ := Cert.FfnTwo.τ) (Cert.FfnTwo.main (F := Bits))) ⟨m, fun _ => 0, g⟩ (fun r => (∀ c : Dev Cert.FfnTwo.nD,
      r.2.mem ((c.tc : Thread Cert.FfnTwo.nD Cert.FfnTwo.τ).loc Cert.FfnTwo.main_arg0) = m ((c.tc : Thread Cert.FfnTwo.nD Cert.FfnTwo.τ).loc Cert.FfnTwo.main_arg0)
      ∧ r.2.mem ((c.tc : Thread Cert.FfnTwo.nD Cert.FfnTwo.τ).loc Cert.FfnTwo.main_arg1) = m ((c.tc : Thread Cert.FfnTwo.nD Cert.FfnTwo.τ).loc Cert.FfnTwo.main_arg1)
      ∧ r.2.mem ((c.tc : Thread Cert.FfnTwo.nD Cert.FfnTwo.τ).loc Cert.FfnTwo.main_arg2) = m ((c.tc : Thread Cert.FfnTwo.nD Cert.FfnTwo.τ).loc Cert.FfnTwo.main_arg2)
      ∧ r.2.mem ((c.tc : Thread Cert.FfnTwo.nD Cert.FfnTwo.τ).loc Cert.FfnTwo.main_arg3) = m ((c.tc : Thread Cert.FfnTwo.nD Cert.FfnTwo.τ).loc Cert.FfnTwo.main_arg3)
      ∧ r.2.mem ((c.tc : Thread Cert.FfnTwo.nD Cert.FfnTwo.τ).loc Cert.FfnTwo.main_arg4) = m ((c.tc : Thread Cert.FfnTwo.nD Cert.FfnTwo.τ).loc Cert.FfnTwo.main_arg4)
      ∧ r.2.mem ((c.tc : Thread Cert.FfnTwo.nD Cert.FfnTwo.τ).loc Cert.FfnTwo.main_arg5) = m ((c.tc : Thread Cert.FfnTwo.nD Cert.FfnTwo.τ).loc Cert.FfnTwo.main_arg5)
      ∧ r.2.mem ((c.tc : Thread Cert.FfnTwo.nD Cert.FfnTwo.τ).loc Cert.FfnTwo.main_arg6) = m ((c.tc : Thread Cert.FfnTwo.nD Cert.FfnTwo.τ).loc Cert.FfnTwo.main_arg6)
      ∧ r.2.mem ((c.tc : Thread Cert.FfnTwo.nD Cert.FfnTwo.τ).loc Cert.FfnTwo.main_arg7) = m ((c.tc : Thread Cert.FfnTwo.nD Cert.FfnTwo.τ).loc Cert.FfnTwo.main_arg7)
      ∧ r.2.mem ((c.tc : Thread Cert.FfnTwo.nD Cert.FfnTwo.τ).loc Cert.FfnTwo.main_arg8) = m ((c.tc : Thread Cert.FfnTwo.nD Cert.FfnTwo.τ).loc Cert.FfnTwo.main_arg8)
      ∧ r.2.mem ((c.tc : Thread Cert.FfnTwo.nD Cert.FfnTwo.τ).loc Cert.FfnTwo.main_arg9) = m ((c.tc : Thread Cert.FfnTwo.nD Cert.FfnTwo.τ).loc Cert.FfnTwo.main_arg9))
      ∧ r.2.sem = fun _ => 0)

def quiescent_FfnTwoIdeal [hFfnTwoIdeal : Cert.FfnTwoIdeal.Facts] : Prop :=
  ∀ (m : (ℓ : Loc Cert.FfnTwoIdeal.nD Cert.FfnTwoIdeal.τ Cert.FfnTwoIdeal.sig) → Buf (Elt Ideal) ℓ) (g : Dev Cert.FfnTwoIdeal.nD → PrngReg), Pre_FfnTwoIdeal m →
    θ_run (Cert.FfnTwoIdeal.defs (F := Ideal)) (onTc (τ := Cert.FfnTwoIdeal.τ) (Cert.FfnTwoIdeal.main (F := Ideal))) ⟨m, fun _ => 0, g⟩ (fun r => (∀ c : Dev Cert.FfnTwoIdeal.nD,
      r.2.mem ((c.tc : Thread Cert.FfnTwoIdeal.nD Cert.FfnTwoIdeal.τ).loc Cert.FfnTwoIdeal.main_arg0) = m ((c.tc : Thread Cert.FfnTwoIdeal.nD Cert.FfnTwoIdeal.τ).loc Cert.FfnTwoIdeal.main_arg0)
      ∧ r.2.mem ((c.tc : Thread Cert.FfnTwoIdeal.nD Cert.FfnTwoIdeal.τ).loc Cert.FfnTwoIdeal.main_arg1) = m ((c.tc : Thread Cert.FfnTwoIdeal.nD Cert.FfnTwoIdeal.τ).loc Cert.FfnTwoIdeal.main_arg1)
      ∧ r.2.mem ((c.tc : Thread Cert.FfnTwoIdeal.nD Cert.FfnTwoIdeal.τ).loc Cert.FfnTwoIdeal.main_arg2) = m ((c.tc : Thread Cert.FfnTwoIdeal.nD Cert.FfnTwoIdeal.τ).loc Cert.FfnTwoIdeal.main_arg2)
      ∧ r.2.mem ((c.tc : Thread Cert.FfnTwoIdeal.nD Cert.FfnTwoIdeal.τ).loc Cert.FfnTwoIdeal.main_arg3) = m ((c.tc : Thread Cert.FfnTwoIdeal.nD Cert.FfnTwoIdeal.τ).loc Cert.FfnTwoIdeal.main_arg3)
      ∧ r.2.mem ((c.tc : Thread Cert.FfnTwoIdeal.nD Cert.FfnTwoIdeal.τ).loc Cert.FfnTwoIdeal.main_arg4) = m ((c.tc : Thread Cert.FfnTwoIdeal.nD Cert.FfnTwoIdeal.τ).loc Cert.FfnTwoIdeal.main_arg4)
      ∧ r.2.mem ((c.tc : Thread Cert.FfnTwoIdeal.nD Cert.FfnTwoIdeal.τ).loc Cert.FfnTwoIdeal.main_arg5) = m ((c.tc : Thread Cert.FfnTwoIdeal.nD Cert.FfnTwoIdeal.τ).loc Cert.FfnTwoIdeal.main_arg5)
      ∧ r.2.mem ((c.tc : Thread Cert.FfnTwoIdeal.nD Cert.FfnTwoIdeal.τ).loc Cert.FfnTwoIdeal.main_arg6) = m ((c.tc : Thread Cert.FfnTwoIdeal.nD Cert.FfnTwoIdeal.τ).loc Cert.FfnTwoIdeal.main_arg6)
      ∧ r.2.mem ((c.tc : Thread Cert.FfnTwoIdeal.nD Cert.FfnTwoIdeal.τ).loc Cert.FfnTwoIdeal.main_arg7) = m ((c.tc : Thread Cert.FfnTwoIdeal.nD Cert.FfnTwoIdeal.τ).loc Cert.FfnTwoIdeal.main_arg7)
      ∧ r.2.mem ((c.tc : Thread Cert.FfnTwoIdeal.nD Cert.FfnTwoIdeal.τ).loc Cert.FfnTwoIdeal.main_arg8) = m ((c.tc : Thread Cert.FfnTwoIdeal.nD Cert.FfnTwoIdeal.τ).loc Cert.FfnTwoIdeal.main_arg8)
      ∧ r.2.mem ((c.tc : Thread Cert.FfnTwoIdeal.nD Cert.FfnTwoIdeal.τ).loc Cert.FfnTwoIdeal.main_arg9) = m ((c.tc : Thread Cert.FfnTwoIdeal.nD Cert.FfnTwoIdeal.τ).loc Cert.FfnTwoIdeal.main_arg9))
      ∧ r.2.sem = fun _ => 0)

def quiescent_FfnTwoRefIdeal [hFfnTwoRefIdeal : Cert.FfnTwoRefIdeal.Facts] : Prop :=
  ∀ (m : (ℓ : Loc Cert.FfnTwoRefIdeal.nD Cert.FfnTwoRefIdeal.τ Cert.FfnTwoRefIdeal.sig) → Buf (Elt Ideal) ℓ) (g : Dev Cert.FfnTwoRefIdeal.nD → PrngReg), Pre_FfnTwoRefIdeal m →
    θ_run (Cert.FfnTwoRefIdeal.defs (F := Ideal)) (onTc (τ := Cert.FfnTwoRefIdeal.τ) (Cert.FfnTwoRefIdeal.main (F := Ideal))) ⟨m, fun _ => 0, g⟩ (fun r => (∀ c : Dev Cert.FfnTwoRefIdeal.nD,
      r.2.mem ((c.tc : Thread Cert.FfnTwoRefIdeal.nD Cert.FfnTwoRefIdeal.τ).loc Cert.FfnTwoRefIdeal.main_arg0) = m ((c.tc : Thread Cert.FfnTwoRefIdeal.nD Cert.FfnTwoRefIdeal.τ).loc Cert.FfnTwoRefIdeal.main_arg0)
      ∧ r.2.mem ((c.tc : Thread Cert.FfnTwoRefIdeal.nD Cert.FfnTwoRefIdeal.τ).loc Cert.FfnTwoRefIdeal.main_arg1) = m ((c.tc : Thread Cert.FfnTwoRefIdeal.nD Cert.FfnTwoRefIdeal.τ).loc Cert.FfnTwoRefIdeal.main_arg1)
      ∧ r.2.mem ((c.tc : Thread Cert.FfnTwoRefIdeal.nD Cert.FfnTwoRefIdeal.τ).loc Cert.FfnTwoRefIdeal.main_arg2) = m ((c.tc : Thread Cert.FfnTwoRefIdeal.nD Cert.FfnTwoRefIdeal.τ).loc Cert.FfnTwoRefIdeal.main_arg2)
      ∧ r.2.mem ((c.tc : Thread Cert.FfnTwoRefIdeal.nD Cert.FfnTwoRefIdeal.τ).loc Cert.FfnTwoRefIdeal.main_arg3) = m ((c.tc : Thread Cert.FfnTwoRefIdeal.nD Cert.FfnTwoRefIdeal.τ).loc Cert.FfnTwoRefIdeal.main_arg3)
      ∧ r.2.mem ((c.tc : Thread Cert.FfnTwoRefIdeal.nD Cert.FfnTwoRefIdeal.τ).loc Cert.FfnTwoRefIdeal.main_arg4) = m ((c.tc : Thread Cert.FfnTwoRefIdeal.nD Cert.FfnTwoRefIdeal.τ).loc Cert.FfnTwoRefIdeal.main_arg4)
      ∧ r.2.mem ((c.tc : Thread Cert.FfnTwoRefIdeal.nD Cert.FfnTwoRefIdeal.τ).loc Cert.FfnTwoRefIdeal.main_arg5) = m ((c.tc : Thread Cert.FfnTwoRefIdeal.nD Cert.FfnTwoRefIdeal.τ).loc Cert.FfnTwoRefIdeal.main_arg5)
      ∧ r.2.mem ((c.tc : Thread Cert.FfnTwoRefIdeal.nD Cert.FfnTwoRefIdeal.τ).loc Cert.FfnTwoRefIdeal.main_arg6) = m ((c.tc : Thread Cert.FfnTwoRefIdeal.nD Cert.FfnTwoRefIdeal.τ).loc Cert.FfnTwoRefIdeal.main_arg6)
      ∧ r.2.mem ((c.tc : Thread Cert.FfnTwoRefIdeal.nD Cert.FfnTwoRefIdeal.τ).loc Cert.FfnTwoRefIdeal.main_arg7) = m ((c.tc : Thread Cert.FfnTwoRefIdeal.nD Cert.FfnTwoRefIdeal.τ).loc Cert.FfnTwoRefIdeal.main_arg7)
      ∧ r.2.mem ((c.tc : Thread Cert.FfnTwoRefIdeal.nD Cert.FfnTwoRefIdeal.τ).loc Cert.FfnTwoRefIdeal.main_arg8) = m ((c.tc : Thread Cert.FfnTwoRefIdeal.nD Cert.FfnTwoRefIdeal.τ).loc Cert.FfnTwoRefIdeal.main_arg8)
      ∧ r.2.mem ((c.tc : Thread Cert.FfnTwoRefIdeal.nD Cert.FfnTwoRefIdeal.τ).loc Cert.FfnTwoRefIdeal.main_arg9) = m ((c.tc : Thread Cert.FfnTwoRefIdeal.nD Cert.FfnTwoRefIdeal.τ).loc Cert.FfnTwoRefIdeal.main_arg9))
      ∧ r.2.sem = fun _ => 0)

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1)
      ∧ r.2.mem ((c.tc : Thread Cert.Swa.nD Cert.Swa.τ).loc Cert.Swa.main_arg2) = m ((c.tc : Thread Cert.Swa.nD Cert.Swa.τ).loc Cert.Swa.main_arg2)
      ∧ r.2.mem ((c.tc : Thread Cert.Swa.nD Cert.Swa.τ).loc Cert.Swa.main_arg3) = m ((c.tc : Thread Cert.Swa.nD Cert.Swa.τ).loc Cert.Swa.main_arg3)
      ∧ r.2.mem ((c.tc : Thread Cert.Swa.nD Cert.Swa.τ).loc Cert.Swa.main_arg4) = m ((c.tc : Thread Cert.Swa.nD Cert.Swa.τ).loc Cert.Swa.main_arg4)
      ∧ r.2.mem ((c.tc : Thread Cert.Swa.nD Cert.Swa.τ).loc Cert.Swa.main_arg5) = m ((c.tc : Thread Cert.Swa.nD Cert.Swa.τ).loc Cert.Swa.main_arg5))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
      ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3)
      ∧ r.2.mem ((c.tc : Thread Cert.SwaIdeal.nD Cert.SwaIdeal.τ).loc Cert.SwaIdeal.main_arg4) = m ((c.tc : Thread Cert.SwaIdeal.nD Cert.SwaIdeal.τ).loc Cert.SwaIdeal.main_arg4)
      ∧ r.2.mem ((c.tc : Thread Cert.SwaIdeal.nD Cert.SwaIdeal.τ).loc Cert.SwaIdeal.main_arg5) = m ((c.tc : Thread Cert.SwaIdeal.nD Cert.SwaIdeal.τ).loc Cert.SwaIdeal.main_arg5))
      ∧ r.2.sem = fun _ => 0)

def quiescent_SwaIdeal_pre_swa_finite [hSwaIdeal : Cert.SwaIdeal.Facts] [hPre_swa_finite : Cert.Pre_swa_finite.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal_swa_finite m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
      ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3)
      ∧ r.2.mem ((c.tc : Thread Cert.SwaIdeal.nD Cert.SwaIdeal.τ).loc Cert.SwaIdeal.main_arg4) = m ((c.tc : Thread Cert.SwaIdeal.nD Cert.SwaIdeal.τ).loc Cert.SwaIdeal.main_arg4)
      ∧ r.2.mem ((c.tc : Thread Cert.SwaIdeal.nD Cert.SwaIdeal.τ).loc Cert.SwaIdeal.main_arg5) = m ((c.tc : Thread Cert.SwaIdeal.nD Cert.SwaIdeal.τ).loc Cert.SwaIdeal.main_arg5))
      ∧ r.2.sem = fun _ => 0)

def quiescent_SwaRefIdeal [hSwaRefIdeal : Cert.SwaRefIdeal.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2)
      ∧ r.2.mem ((c.tc : Thread Cert.SwaRefIdeal.nD Cert.SwaRefIdeal.τ).loc Cert.SwaRefIdeal.main_arg3) = m ((c.tc : Thread Cert.SwaRefIdeal.nD Cert.SwaRefIdeal.τ).loc Cert.SwaRefIdeal.main_arg3)
      ∧ r.2.mem ((c.tc : Thread Cert.SwaRefIdeal.nD Cert.SwaRefIdeal.τ).loc Cert.SwaRefIdeal.main_arg4) = m ((c.tc : Thread Cert.SwaRefIdeal.nD Cert.SwaRefIdeal.τ).loc Cert.SwaRefIdeal.main_arg4)
      ∧ r.2.mem ((c.tc : Thread Cert.SwaRefIdeal.nD Cert.SwaRefIdeal.τ).loc Cert.SwaRefIdeal.main_arg5) = m ((c.tc : Thread Cert.SwaRefIdeal.nD Cert.SwaRefIdeal.τ).loc Cert.SwaRefIdeal.main_arg5))
      ∧ r.2.sem = fun _ => 0)

def quiescent_SwaRefIdeal_pre_swa_finite [hSwaRefIdeal : Cert.SwaRefIdeal.Facts] [hPre_swa_finite : Cert.Pre_swa_finite.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal_swa_finite m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2)
      ∧ r.2.mem ((c.tc : Thread Cert.SwaRefIdeal.nD Cert.SwaRefIdeal.τ).loc Cert.SwaRefIdeal.main_arg3) = m ((c.tc : Thread Cert.SwaRefIdeal.nD Cert.SwaRefIdeal.τ).loc Cert.SwaRefIdeal.main_arg3)
      ∧ r.2.mem ((c.tc : Thread Cert.SwaRefIdeal.nD Cert.SwaRefIdeal.τ).loc Cert.SwaRefIdeal.main_arg4) = m ((c.tc : Thread Cert.SwaRefIdeal.nD Cert.SwaRefIdeal.τ).loc Cert.SwaRefIdeal.main_arg4)
      ∧ r.2.mem ((c.tc : Thread Cert.SwaRefIdeal.nD Cert.SwaRefIdeal.τ).loc Cert.SwaRefIdeal.main_arg5) = m ((c.tc : Thread Cert.SwaRefIdeal.nD Cert.SwaRefIdeal.τ).loc Cert.SwaRefIdeal.main_arg5))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2)
      ∧ r.2.mem ((c.tc : Thread Cert.Mod.nD Cert.Mod.τ).loc Cert.Mod.main_arg3) = m ((c.tc : Thread Cert.Mod.nD Cert.Mod.τ).loc Cert.Mod.main_arg3))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6)
      ∧ r.2.mem ((c.tc : Thread Cert.InProj.nD Cert.InProj.τ).loc Cert.InProj.main_arg7) = m ((c.tc : Thread Cert.InProj.nD Cert.InProj.τ).loc Cert.InProj.main_arg7)
      ∧ r.2.mem ((c.tc : Thread Cert.InProj.nD Cert.InProj.τ).loc Cert.InProj.main_arg8) = m ((c.tc : Thread Cert.InProj.nD Cert.InProj.τ).loc Cert.InProj.main_arg8)
      ∧ r.2.mem ((c.tc : Thread Cert.InProj.nD Cert.InProj.τ).loc Cert.InProj.main_arg9) = m ((c.tc : Thread Cert.InProj.nD Cert.InProj.τ).loc Cert.InProj.main_arg9)
      ∧ r.2.mem ((c.tc : Thread Cert.InProj.nD Cert.InProj.τ).loc Cert.InProj.main_arg10) = m ((c.tc : Thread Cert.InProj.nD Cert.InProj.τ).loc Cert.InProj.main_arg10)
      ∧ r.2.mem ((c.tc : Thread Cert.InProj.nD Cert.InProj.τ).loc Cert.InProj.main_arg11) = m ((c.tc : Thread Cert.InProj.nD Cert.InProj.τ).loc Cert.InProj.main_arg11))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
      ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8)
      ∧ r.2.mem ((c.tc : Thread Cert.InProjIdeal.nD Cert.InProjIdeal.τ).loc Cert.InProjIdeal.main_arg9) = m ((c.tc : Thread Cert.InProjIdeal.nD Cert.InProjIdeal.τ).loc Cert.InProjIdeal.main_arg9)
      ∧ r.2.mem ((c.tc : Thread Cert.InProjIdeal.nD Cert.InProjIdeal.τ).loc Cert.InProjIdeal.main_arg10) = m ((c.tc : Thread Cert.InProjIdeal.nD Cert.InProjIdeal.τ).loc Cert.InProjIdeal.main_arg10)
      ∧ r.2.mem ((c.tc : Thread Cert.InProjIdeal.nD Cert.InProjIdeal.τ).loc Cert.InProjIdeal.main_arg11) = m ((c.tc : Thread Cert.InProjIdeal.nD Cert.InProjIdeal.τ).loc Cert.InProjIdeal.main_arg11))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6)
      ∧ r.2.mem ((c.tc : Thread Cert.InProjRefIdeal.nD Cert.InProjRefIdeal.τ).loc Cert.InProjRefIdeal.main_arg7) = m ((c.tc : Thread Cert.InProjRefIdeal.nD Cert.InProjRefIdeal.τ).loc Cert.InProjRefIdeal.main_arg7)
      ∧ r.2.mem ((c.tc : Thread Cert.InProjRefIdeal.nD Cert.InProjRefIdeal.τ).loc Cert.InProjRefIdeal.main_arg8) = m ((c.tc : Thread Cert.InProjRefIdeal.nD Cert.InProjRefIdeal.τ).loc Cert.InProjRefIdeal.main_arg8)
      ∧ r.2.mem ((c.tc : Thread Cert.InProjRefIdeal.nD Cert.InProjRefIdeal.τ).loc Cert.InProjRefIdeal.main_arg9) = m ((c.tc : Thread Cert.InProjRefIdeal.nD Cert.InProjRefIdeal.τ).loc Cert.InProjRefIdeal.main_arg9)
      ∧ r.2.mem ((c.tc : Thread Cert.InProjRefIdeal.nD Cert.InProjRefIdeal.τ).loc Cert.InProjRefIdeal.main_arg10) = m ((c.tc : Thread Cert.InProjRefIdeal.nD Cert.InProjRefIdeal.τ).loc Cert.InProjRefIdeal.main_arg10)
      ∧ r.2.mem ((c.tc : Thread Cert.InProjRefIdeal.nD Cert.InProjRefIdeal.τ).loc Cert.InProjRefIdeal.main_arg11) = m ((c.tc : Thread Cert.InProjRefIdeal.nD Cert.InProjRefIdeal.τ).loc Cert.InProjRefIdeal.main_arg11))
      ∧ r.2.sem = fun _ => 0)

def preserves_Kernel_KernelIdeal : Prop :=
  IdealRules.named_const.Statement Cert.KernelIdeal.κ "q_scale" .f32 0x3E16C740#32 (((Real.log 2)⁻¹ * (Real.sqrt 96)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_FfnOne_FfnOneIdeal : Prop :=
  True

def algebraic_FfnOneIdeal_FfnOneRefIdeal [hFfnOneIdeal : Cert.FfnOneIdeal.Facts] [hFfnOneRefIdeal : Cert.FfnOneRefIdeal.Facts] : Prop :=
  ∀ (m : (ℓ : Loc Cert.FfnOneIdeal.nD Cert.FfnOneIdeal.τ Cert.FfnOneIdeal.sig) → Buf (Elt Ideal) ℓ) (g : Dev Cert.FfnOneIdeal.nD → PrngReg)
    (m' : (ℓ : Loc Cert.FfnOneRefIdeal.nD Cert.FfnOneRefIdeal.τ Cert.FfnOneRefIdeal.sig) → Buf (Elt Ideal) ℓ) (g' : Dev Cert.FfnOneRefIdeal.nD → PrngReg), Pre_FfnOneIdeal m →
    (∀ c : Dev Cert.FfnOneIdeal.nD,
      m' ((c.tc : Thread Cert.FfnOneRefIdeal.nD Cert.FfnOneRefIdeal.τ).loc Cert.FfnOneRefIdeal.main_arg0) = m ((c.tc : Thread Cert.FfnOneIdeal.nD Cert.FfnOneIdeal.τ).loc Cert.FfnOneIdeal.main_arg0)
      ∧ m' ((c.tc : Thread Cert.FfnOneRefIdeal.nD Cert.FfnOneRefIdeal.τ).loc Cert.FfnOneRefIdeal.main_arg1) = m ((c.tc : Thread Cert.FfnOneIdeal.nD Cert.FfnOneIdeal.τ).loc Cert.FfnOneIdeal.main_arg1)
      ∧ m' ((c.tc : Thread Cert.FfnOneRefIdeal.nD Cert.FfnOneRefIdeal.τ).loc Cert.FfnOneRefIdeal.main_arg2) = m ((c.tc : Thread Cert.FfnOneIdeal.nD Cert.FfnOneIdeal.τ).loc Cert.FfnOneIdeal.main_arg2)
      ∧ m' ((c.tc : Thread Cert.FfnOneRefIdeal.nD Cert.FfnOneRefIdeal.τ).loc Cert.FfnOneRefIdeal.main_arg3) = m ((c.tc : Thread Cert.FfnOneIdeal.nD Cert.FfnOneIdeal.τ).loc Cert.FfnOneIdeal.main_arg3)
      ∧ m' ((c.tc : Thread Cert.FfnOneRefIdeal.nD Cert.FfnOneRefIdeal.τ).loc Cert.FfnOneRefIdeal.main_arg4) = m ((c.tc : Thread Cert.FfnOneIdeal.nD Cert.FfnOneIdeal.τ).loc Cert.FfnOneIdeal.main_arg4)
      ∧ m' ((c.tc : Thread Cert.FfnOneRefIdeal.nD Cert.FfnOneRefIdeal.τ).loc Cert.FfnOneRefIdeal.main_arg5) = m ((c.tc : Thread Cert.FfnOneIdeal.nD Cert.FfnOneIdeal.τ).loc Cert.FfnOneIdeal.main_arg5)) →
    ∃ (v0 : (c : Dev Cert.FfnOneIdeal.nD) → Buf (Elt Ideal) ((c.tc : Thread Cert.FfnOneIdeal.nD Cert.FfnOneIdeal.τ).loc Cert.FfnOneIdeal.main_v15)),
      θ_run (Cert.FfnOneIdeal.defs (F := Ideal)) (onTc (τ := Cert.FfnOneIdeal.τ) (Cert.FfnOneIdeal.main (F := Ideal))) ⟨m, fun _ => 0, g⟩ (fun r => ∀ c : Dev Cert.FfnOneIdeal.nD,
          r.2.mem ((c.tc : Thread Cert.FfnOneIdeal.nD Cert.FfnOneIdeal.τ).loc Cert.FfnOneIdeal.main_v15) = v0 c
          ∧ r.2.mem ((c.tc : Thread Cert.FfnOneIdeal.nD Cert.FfnOneIdeal.τ).loc Cert.FfnOneIdeal.main_arg0) = m ((c.tc : Thread Cert.FfnOneIdeal.nD Cert.FfnOneIdeal.τ).loc Cert.FfnOneIdeal.main_arg0)
          ∧ r.2.mem ((c.tc : Thread Cert.FfnOneIdeal.nD Cert.FfnOneIdeal.τ).loc Cert.FfnOneIdeal.main_arg1) = m ((c.tc : Thread Cert.FfnOneIdeal.nD Cert.FfnOneIdeal.τ).loc Cert.FfnOneIdeal.main_arg1)
          ∧ r.2.mem ((c.tc : Thread Cert.FfnOneIdeal.nD Cert.FfnOneIdeal.τ).loc Cert.FfnOneIdeal.main_arg2) = m ((c.tc : Thread Cert.FfnOneIdeal.nD Cert.FfnOneIdeal.τ).loc Cert.FfnOneIdeal.main_arg2)
          ∧ r.2.mem ((c.tc : Thread Cert.FfnOneIdeal.nD Cert.FfnOneIdeal.τ).loc Cert.FfnOneIdeal.main_arg3) = m ((c.tc : Thread Cert.FfnOneIdeal.nD Cert.FfnOneIdeal.τ).loc Cert.FfnOneIdeal.main_arg3)
          ∧ r.2.mem ((c.tc : Thread Cert.FfnOneIdeal.nD Cert.FfnOneIdeal.τ).loc Cert.FfnOneIdeal.main_arg4) = m ((c.tc : Thread Cert.FfnOneIdeal.nD Cert.FfnOneIdeal.τ).loc Cert.FfnOneIdeal.main_arg4)
          ∧ r.2.mem ((c.tc : Thread Cert.FfnOneIdeal.nD Cert.FfnOneIdeal.τ).loc Cert.FfnOneIdeal.main_arg5) = m ((c.tc : Thread Cert.FfnOneIdeal.nD Cert.FfnOneIdeal.τ).loc Cert.FfnOneIdeal.main_arg5))
      ∧ θ_run (Cert.FfnOneRefIdeal.defs (F := Ideal)) (onTc (τ := Cert.FfnOneRefIdeal.τ) (Cert.FfnOneRefIdeal.main (F := Ideal))) ⟨m', fun _ => 0, g'⟩ (fun r => ∀ c : Dev Cert.FfnOneRefIdeal.nD,
          r.2.mem ((c.tc : Thread Cert.FfnOneRefIdeal.nD Cert.FfnOneRefIdeal.τ).loc Cert.FfnOneRefIdeal.main_v44) = v0 c
          ∧ r.2.mem ((c.tc : Thread Cert.FfnOneRefIdeal.nD Cert.FfnOneRefIdeal.τ).loc Cert.FfnOneRefIdeal.main_arg0) = m' ((c.tc : Thread Cert.FfnOneRefIdeal.nD Cert.FfnOneRefIdeal.τ).loc Cert.FfnOneRefIdeal.main_arg0)
          ∧ r.2.mem ((c.tc : Thread Cert.FfnOneRefIdeal.nD Cert.FfnOneRefIdeal.τ).loc Cert.FfnOneRefIdeal.main_arg1) = m' ((c.tc : Thread Cert.FfnOneRefIdeal.nD Cert.FfnOneRefIdeal.τ).loc Cert.FfnOneRefIdeal.main_arg1)
          ∧ r.2.mem ((c.tc : Thread Cert.FfnOneRefIdeal.nD Cert.FfnOneRefIdeal.τ).loc Cert.FfnOneRefIdeal.main_arg2) = m' ((c.tc : Thread Cert.FfnOneRefIdeal.nD Cert.FfnOneRefIdeal.τ).loc Cert.FfnOneRefIdeal.main_arg2)
          ∧ r.2.mem ((c.tc : Thread Cert.FfnOneRefIdeal.nD Cert.FfnOneRefIdeal.τ).loc Cert.FfnOneRefIdeal.main_arg3) = m' ((c.tc : Thread Cert.FfnOneRefIdeal.nD Cert.FfnOneRefIdeal.τ).loc Cert.FfnOneRefIdeal.main_arg3)
          ∧ r.2.mem ((c.tc : Thread Cert.FfnOneRefIdeal.nD Cert.FfnOneRefIdeal.τ).loc Cert.FfnOneRefIdeal.main_arg4) = m' ((c.tc : Thread Cert.FfnOneRefIdeal.nD Cert.FfnOneRefIdeal.τ).loc Cert.FfnOneRefIdeal.main_arg4)
          ∧ r.2.mem ((c.tc : Thread Cert.FfnOneRefIdeal.nD Cert.FfnOneRefIdeal.τ).loc Cert.FfnOneRefIdeal.main_arg5) = m' ((c.tc : Thread Cert.FfnOneRefIdeal.nD Cert.FfnOneRefIdeal.τ).loc Cert.FfnOneRefIdeal.main_arg5))

def preserves_FfnTwo_FfnTwoIdeal : Prop :=
  True

def algebraic_FfnTwoIdeal_FfnTwoRefIdeal [hFfnTwoIdeal : Cert.FfnTwoIdeal.Facts] [hFfnTwoRefIdeal : Cert.FfnTwoRefIdeal.Facts] : Prop :=
  ∀ (m : (ℓ : Loc Cert.FfnTwoIdeal.nD Cert.FfnTwoIdeal.τ Cert.FfnTwoIdeal.sig) → Buf (Elt Ideal) ℓ) (g : Dev Cert.FfnTwoIdeal.nD → PrngReg)
    (m' : (ℓ : Loc Cert.FfnTwoRefIdeal.nD Cert.FfnTwoRefIdeal.τ Cert.FfnTwoRefIdeal.sig) → Buf (Elt Ideal) ℓ) (g' : Dev Cert.FfnTwoRefIdeal.nD → PrngReg), Pre_FfnTwoIdeal m →
    (∀ c : Dev Cert.FfnTwoIdeal.nD,
      m' ((c.tc : Thread Cert.FfnTwoRefIdeal.nD Cert.FfnTwoRefIdeal.τ).loc Cert.FfnTwoRefIdeal.main_arg0) = m ((c.tc : Thread Cert.FfnTwoIdeal.nD Cert.FfnTwoIdeal.τ).loc Cert.FfnTwoIdeal.main_arg0)
      ∧ m' ((c.tc : Thread Cert.FfnTwoRefIdeal.nD Cert.FfnTwoRefIdeal.τ).loc Cert.FfnTwoRefIdeal.main_arg1) = m ((c.tc : Thread Cert.FfnTwoIdeal.nD Cert.FfnTwoIdeal.τ).loc Cert.FfnTwoIdeal.main_arg1)
      ∧ m' ((c.tc : Thread Cert.FfnTwoRefIdeal.nD Cert.FfnTwoRefIdeal.τ).loc Cert.FfnTwoRefIdeal.main_arg2) = m ((c.tc : Thread Cert.FfnTwoIdeal.nD Cert.FfnTwoIdeal.τ).loc Cert.FfnTwoIdeal.main_arg2)
      ∧ m' ((c.tc : Thread Cert.FfnTwoRefIdeal.nD Cert.FfnTwoRefIdeal.τ).loc Cert.FfnTwoRefIdeal.main_arg3) = m ((c.tc : Thread Cert.FfnTwoIdeal.nD Cert.FfnTwoIdeal.τ).loc Cert.FfnTwoIdeal.main_arg3)
      ∧ m' ((c.tc : Thread Cert.FfnTwoRefIdeal.nD Cert.FfnTwoRefIdeal.τ).loc Cert.FfnTwoRefIdeal.main_arg4) = m ((c.tc : Thread Cert.FfnTwoIdeal.nD Cert.FfnTwoIdeal.τ).loc Cert.FfnTwoIdeal.main_arg4)
      ∧ m' ((c.tc : Thread Cert.FfnTwoRefIdeal.nD Cert.FfnTwoRefIdeal.τ).loc Cert.FfnTwoRefIdeal.main_arg5) = m ((c.tc : Thread Cert.FfnTwoIdeal.nD Cert.FfnTwoIdeal.τ).loc Cert.FfnTwoIdeal.main_arg5)
      ∧ m' ((c.tc : Thread Cert.FfnTwoRefIdeal.nD Cert.FfnTwoRefIdeal.τ).loc Cert.FfnTwoRefIdeal.main_arg6) = m ((c.tc : Thread Cert.FfnTwoIdeal.nD Cert.FfnTwoIdeal.τ).loc Cert.FfnTwoIdeal.main_arg6)
      ∧ m' ((c.tc : Thread Cert.FfnTwoRefIdeal.nD Cert.FfnTwoRefIdeal.τ).loc Cert.FfnTwoRefIdeal.main_arg7) = m ((c.tc : Thread Cert.FfnTwoIdeal.nD Cert.FfnTwoIdeal.τ).loc Cert.FfnTwoIdeal.main_arg7)
      ∧ m' ((c.tc : Thread Cert.FfnTwoRefIdeal.nD Cert.FfnTwoRefIdeal.τ).loc Cert.FfnTwoRefIdeal.main_arg8) = m ((c.tc : Thread Cert.FfnTwoIdeal.nD Cert.FfnTwoIdeal.τ).loc Cert.FfnTwoIdeal.main_arg8)
      ∧ m' ((c.tc : Thread Cert.FfnTwoRefIdeal.nD Cert.FfnTwoRefIdeal.τ).loc Cert.FfnTwoRefIdeal.main_arg9) = m ((c.tc : Thread Cert.FfnTwoIdeal.nD Cert.FfnTwoIdeal.τ).loc Cert.FfnTwoIdeal.main_arg9)) →
    ∃ (v0 : (c : Dev Cert.FfnTwoIdeal.nD) → Buf (Elt Ideal) ((c.tc : Thread Cert.FfnTwoIdeal.nD Cert.FfnTwoIdeal.τ).loc Cert.FfnTwoIdeal.main_v30)),
      θ_run (Cert.FfnTwoIdeal.defs (F := Ideal)) (onTc (τ := Cert.FfnTwoIdeal.τ) (Cert.FfnTwoIdeal.main (F := Ideal))) ⟨m, fun _ => 0, g⟩ (fun r => ∀ c : Dev Cert.FfnTwoIdeal.nD,
          r.2.mem ((c.tc : Thread Cert.FfnTwoIdeal.nD Cert.FfnTwoIdeal.τ).loc Cert.FfnTwoIdeal.main_v30) = v0 c
          ∧ r.2.mem ((c.tc : Thread Cert.FfnTwoIdeal.nD Cert.FfnTwoIdeal.τ).loc Cert.FfnTwoIdeal.main_arg0) = m ((c.tc : Thread Cert.FfnTwoIdeal.nD Cert.FfnTwoIdeal.τ).loc Cert.FfnTwoIdeal.main_arg0)
          ∧ r.2.mem ((c.tc : Thread Cert.FfnTwoIdeal.nD Cert.FfnTwoIdeal.τ).loc Cert.FfnTwoIdeal.main_arg1) = m ((c.tc : Thread Cert.FfnTwoIdeal.nD Cert.FfnTwoIdeal.τ).loc Cert.FfnTwoIdeal.main_arg1)
          ∧ r.2.mem ((c.tc : Thread Cert.FfnTwoIdeal.nD Cert.FfnTwoIdeal.τ).loc Cert.FfnTwoIdeal.main_arg2) = m ((c.tc : Thread Cert.FfnTwoIdeal.nD Cert.FfnTwoIdeal.τ).loc Cert.FfnTwoIdeal.main_arg2)
          ∧ r.2.mem ((c.tc : Thread Cert.FfnTwoIdeal.nD Cert.FfnTwoIdeal.τ).loc Cert.FfnTwoIdeal.main_arg3) = m ((c.tc : Thread Cert.FfnTwoIdeal.nD Cert.FfnTwoIdeal.τ).loc Cert.FfnTwoIdeal.main_arg3)
          ∧ r.2.mem ((c.tc : Thread Cert.FfnTwoIdeal.nD Cert.FfnTwoIdeal.τ).loc Cert.FfnTwoIdeal.main_arg4) = m ((c.tc : Thread Cert.FfnTwoIdeal.nD Cert.FfnTwoIdeal.τ).loc Cert.FfnTwoIdeal.main_arg4)
          ∧ r.2.mem ((c.tc : Thread Cert.FfnTwoIdeal.nD Cert.FfnTwoIdeal.τ).loc Cert.FfnTwoIdeal.main_arg5) = m ((c.tc : Thread Cert.FfnTwoIdeal.nD Cert.FfnTwoIdeal.τ).loc Cert.FfnTwoIdeal.main_arg5)
          ∧ r.2.mem ((c.tc : Thread Cert.FfnTwoIdeal.nD Cert.FfnTwoIdeal.τ).loc Cert.FfnTwoIdeal.main_arg6) = m ((c.tc : Thread Cert.FfnTwoIdeal.nD Cert.FfnTwoIdeal.τ).loc Cert.FfnTwoIdeal.main_arg6)
          ∧ r.2.mem ((c.tc : Thread Cert.FfnTwoIdeal.nD Cert.FfnTwoIdeal.τ).loc Cert.FfnTwoIdeal.main_arg7) = m ((c.tc : Thread Cert.FfnTwoIdeal.nD Cert.FfnTwoIdeal.τ).loc Cert.FfnTwoIdeal.main_arg7)
          ∧ r.2.mem ((c.tc : Thread Cert.FfnTwoIdeal.nD Cert.FfnTwoIdeal.τ).loc Cert.FfnTwoIdeal.main_arg8) = m ((c.tc : Thread Cert.FfnTwoIdeal.nD Cert.FfnTwoIdeal.τ).loc Cert.FfnTwoIdeal.main_arg8)
          ∧ r.2.mem ((c.tc : Thread Cert.FfnTwoIdeal.nD Cert.FfnTwoIdeal.τ).loc Cert.FfnTwoIdeal.main_arg9) = m ((c.tc : Thread Cert.FfnTwoIdeal.nD Cert.FfnTwoIdeal.τ).loc Cert.FfnTwoIdeal.main_arg9))
      ∧ θ_run (Cert.FfnTwoRefIdeal.defs (F := Ideal)) (onTc (τ := Cert.FfnTwoRefIdeal.τ) (Cert.FfnTwoRefIdeal.main (F := Ideal))) ⟨m', fun _ => 0, g'⟩ (fun r => ∀ c : Dev Cert.FfnTwoRefIdeal.nD,
          r.2.mem ((c.tc : Thread Cert.FfnTwoRefIdeal.nD Cert.FfnTwoRefIdeal.τ).loc Cert.FfnTwoRefIdeal.main_v65) = v0 c
          ∧ r.2.mem ((c.tc : Thread Cert.FfnTwoRefIdeal.nD Cert.FfnTwoRefIdeal.τ).loc Cert.FfnTwoRefIdeal.main_arg0) = m' ((c.tc : Thread Cert.FfnTwoRefIdeal.nD Cert.FfnTwoRefIdeal.τ).loc Cert.FfnTwoRefIdeal.main_arg0)
          ∧ r.2.mem ((c.tc : Thread Cert.FfnTwoRefIdeal.nD Cert.FfnTwoRefIdeal.τ).loc Cert.FfnTwoRefIdeal.main_arg1) = m' ((c.tc : Thread Cert.FfnTwoRefIdeal.nD Cert.FfnTwoRefIdeal.τ).loc Cert.FfnTwoRefIdeal.main_arg1)
          ∧ r.2.mem ((c.tc : Thread Cert.FfnTwoRefIdeal.nD Cert.FfnTwoRefIdeal.τ).loc Cert.FfnTwoRefIdeal.main_arg2) = m' ((c.tc : Thread Cert.FfnTwoRefIdeal.nD Cert.FfnTwoRefIdeal.τ).loc Cert.FfnTwoRefIdeal.main_arg2)
          ∧ r.2.mem ((c.tc : Thread Cert.FfnTwoRefIdeal.nD Cert.FfnTwoRefIdeal.τ).loc Cert.FfnTwoRefIdeal.main_arg3) = m' ((c.tc : Thread Cert.FfnTwoRefIdeal.nD Cert.FfnTwoRefIdeal.τ).loc Cert.FfnTwoRefIdeal.main_arg3)
          ∧ r.2.mem ((c.tc : Thread Cert.FfnTwoRefIdeal.nD Cert.FfnTwoRefIdeal.τ).loc Cert.FfnTwoRefIdeal.main_arg4) = m' ((c.tc : Thread Cert.FfnTwoRefIdeal.nD Cert.FfnTwoRefIdeal.τ).loc Cert.FfnTwoRefIdeal.main_arg4)
          ∧ r.2.mem ((c.tc : Thread Cert.FfnTwoRefIdeal.nD Cert.FfnTwoRefIdeal.τ).loc Cert.FfnTwoRefIdeal.main_arg5) = m' ((c.tc : Thread Cert.FfnTwoRefIdeal.nD Cert.FfnTwoRefIdeal.τ).loc Cert.FfnTwoRefIdeal.main_arg5)
          ∧ r.2.mem ((c.tc : Thread Cert.FfnTwoRefIdeal.nD Cert.FfnTwoRefIdeal.τ).loc Cert.FfnTwoRefIdeal.main_arg6) = m' ((c.tc : Thread Cert.FfnTwoRefIdeal.nD Cert.FfnTwoRefIdeal.τ).loc Cert.FfnTwoRefIdeal.main_arg6)
          ∧ r.2.mem ((c.tc : Thread Cert.FfnTwoRefIdeal.nD Cert.FfnTwoRefIdeal.τ).loc Cert.FfnTwoRefIdeal.main_arg7) = m' ((c.tc : Thread Cert.FfnTwoRefIdeal.nD Cert.FfnTwoRefIdeal.τ).loc Cert.FfnTwoRefIdeal.main_arg7)
          ∧ r.2.mem ((c.tc : Thread Cert.FfnTwoRefIdeal.nD Cert.FfnTwoRefIdeal.τ).loc Cert.FfnTwoRefIdeal.main_arg8) = m' ((c.tc : Thread Cert.FfnTwoRefIdeal.nD Cert.FfnTwoRefIdeal.τ).loc Cert.FfnTwoRefIdeal.main_arg8)
          ∧ r.2.mem ((c.tc : Thread Cert.FfnTwoRefIdeal.nD Cert.FfnTwoRefIdeal.τ).loc Cert.FfnTwoRefIdeal.main_arg9) = m' ((c.tc : Thread Cert.FfnTwoRefIdeal.nD Cert.FfnTwoRefIdeal.τ).loc Cert.FfnTwoRefIdeal.main_arg9))

def preserves_Swa_SwaIdeal : Prop :=
  IdealRules.named_const.Statement Cert.SwaIdeal.κ "swa_scale" .f32 0x3E38AA3B#32 (((Real.log 2)⁻¹ * 8⁻¹ : ℝ) : EReal)
  ∧ IdealRules.named_const.Statement Cert.SwaIdeal.κ "log2e" .f32 0x3FB8AA3B#32 (((Real.log 2)⁻¹ : ℝ) : EReal)

def algebraic_SwaIdeal_SwaRefIdeal_pre_swa_finite [hSwaIdeal : Cert.SwaIdeal.Facts] [hSwaRefIdeal : Cert.SwaRefIdeal.Facts] [hPre_swa_finite : Cert.Pre_swa_finite.Facts] : Prop :=
  ∀ (m : (ℓ : Loc Cert.SwaIdeal.nD Cert.SwaIdeal.τ Cert.SwaIdeal.sig) → Buf (Elt Ideal) ℓ) (g : Dev Cert.SwaIdeal.nD → PrngReg)
    (m' : (ℓ : Loc Cert.SwaRefIdeal.nD Cert.SwaRefIdeal.τ Cert.SwaRefIdeal.sig) → Buf (Elt Ideal) ℓ) (g' : Dev Cert.SwaRefIdeal.nD → PrngReg), Pre_SwaIdeal_swa_finite m →
    (∀ c : Dev Cert.SwaIdeal.nD,
      m' ((c.tc : Thread Cert.SwaRefIdeal.nD Cert.SwaRefIdeal.τ).loc Cert.SwaRefIdeal.main_arg0) = m ((c.tc : Thread Cert.SwaIdeal.nD Cert.SwaIdeal.τ).loc Cert.SwaIdeal.main_arg0)
      ∧ m' ((c.tc : Thread Cert.SwaRefIdeal.nD Cert.SwaRefIdeal.τ).loc Cert.SwaRefIdeal.main_arg1) = m ((c.tc : Thread Cert.SwaIdeal.nD Cert.SwaIdeal.τ).loc Cert.SwaIdeal.main_arg1)
      ∧ m' ((c.tc : Thread Cert.SwaRefIdeal.nD Cert.SwaRefIdeal.τ).loc Cert.SwaRefIdeal.main_arg2) = m ((c.tc : Thread Cert.SwaIdeal.nD Cert.SwaIdeal.τ).loc Cert.SwaIdeal.main_arg2)
      ∧ m' ((c.tc : Thread Cert.SwaRefIdeal.nD Cert.SwaRefIdeal.τ).loc Cert.SwaRefIdeal.main_arg3) = m ((c.tc : Thread Cert.SwaIdeal.nD Cert.SwaIdeal.τ).loc Cert.SwaIdeal.main_arg3)
      ∧ m' ((c.tc : Thread Cert.SwaRefIdeal.nD Cert.SwaRefIdeal.τ).loc Cert.SwaRefIdeal.main_arg4) = m ((c.tc : Thread Cert.SwaIdeal.nD Cert.SwaIdeal.τ).loc Cert.SwaIdeal.main_arg4)
      ∧ m' ((c.tc : Thread Cert.SwaRefIdeal.nD Cert.SwaRefIdeal.τ).loc Cert.SwaRefIdeal.main_arg5) = m ((c.tc : Thread Cert.SwaIdeal.nD Cert.SwaIdeal.τ).loc Cert.SwaIdeal.main_arg5)) →
    ∃ (v0 : (c : Dev Cert.SwaIdeal.nD) → Buf (Elt Ideal) ((c.tc : Thread Cert.SwaIdeal.nD Cert.SwaIdeal.τ).loc Cert.SwaIdeal.main_v20)),
      θ_run (Cert.SwaIdeal.defs (F := Ideal)) (onTc (τ := Cert.SwaIdeal.τ) (Cert.SwaIdeal.main (F := Ideal))) ⟨m, fun _ => 0, g⟩ (fun r => ∀ c : Dev Cert.SwaIdeal.nD,
          r.2.mem ((c.tc : Thread Cert.SwaIdeal.nD Cert.SwaIdeal.τ).loc Cert.SwaIdeal.main_v20) = v0 c
          ∧ r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
          ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
          ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
          ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3)
          ∧ r.2.mem ((c.tc : Thread Cert.SwaIdeal.nD Cert.SwaIdeal.τ).loc Cert.SwaIdeal.main_arg4) = m ((c.tc : Thread Cert.SwaIdeal.nD Cert.SwaIdeal.τ).loc Cert.SwaIdeal.main_arg4)
          ∧ r.2.mem ((c.tc : Thread Cert.SwaIdeal.nD Cert.SwaIdeal.τ).loc Cert.SwaIdeal.main_arg5) = m ((c.tc : Thread Cert.SwaIdeal.nD Cert.SwaIdeal.τ).loc Cert.SwaIdeal.main_arg5))
      ∧ θ_run (Cert.SwaRefIdeal.defs (F := Ideal)) (onTc (τ := Cert.SwaRefIdeal.τ) (Cert.SwaRefIdeal.main (F := Ideal))) ⟨m', fun _ => 0, g'⟩ (fun r => ∀ c : Dev Cert.SwaRefIdeal.nD,
          r.2.mem ((c.tc : Thread Cert.SwaRefIdeal.nD Cert.SwaRefIdeal.τ).loc Cert.SwaRefIdeal.main_v36) = v0 c
          ∧ r.2.mem ((c.tc : Thread Cert.SwaRefIdeal.nD Cert.SwaRefIdeal.τ).loc Cert.SwaRefIdeal.main_arg0) = m' ((c.tc : Thread Cert.SwaRefIdeal.nD Cert.SwaRefIdeal.τ).loc Cert.SwaRefIdeal.main_arg0)
          ∧ r.2.mem ((c.tc : Thread Cert.SwaRefIdeal.nD Cert.SwaRefIdeal.τ).loc Cert.SwaRefIdeal.main_arg1) = m' ((c.tc : Thread Cert.SwaRefIdeal.nD Cert.SwaRefIdeal.τ).loc Cert.SwaRefIdeal.main_arg1)
          ∧ r.2.mem ((c.tc : Thread Cert.SwaRefIdeal.nD Cert.SwaRefIdeal.τ).loc Cert.SwaRefIdeal.main_arg2) = m' ((c.tc : Thread Cert.SwaRefIdeal.nD Cert.SwaRefIdeal.τ).loc Cert.SwaRefIdeal.main_arg2)
          ∧ r.2.mem ((c.tc : Thread Cert.SwaRefIdeal.nD Cert.SwaRefIdeal.τ).loc Cert.SwaRefIdeal.main_arg3) = m' ((c.tc : Thread Cert.SwaRefIdeal.nD Cert.SwaRefIdeal.τ).loc Cert.SwaRefIdeal.main_arg3)
          ∧ r.2.mem ((c.tc : Thread Cert.SwaRefIdeal.nD Cert.SwaRefIdeal.τ).loc Cert.SwaRefIdeal.main_arg4) = m' ((c.tc : Thread Cert.SwaRefIdeal.nD Cert.SwaRefIdeal.τ).loc Cert.SwaRefIdeal.main_arg4)
          ∧ r.2.mem ((c.tc : Thread Cert.SwaRefIdeal.nD Cert.SwaRefIdeal.τ).loc Cert.SwaRefIdeal.main_arg5) = m' ((c.tc : Thread Cert.SwaRefIdeal.nD Cert.SwaRefIdeal.τ).loc Cert.SwaRefIdeal.main_arg5))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)
      ∧ m' ((c.tc : Thread Cert.ModRefIdeal.nD Cert.ModRefIdeal.τ).loc Cert.ModRefIdeal.main_arg3) = m ((c.tc : Thread Cert.ModIdeal.nD Cert.ModIdeal.τ).loc Cert.ModIdeal.main_arg3)) →
    ∃ (v0 : (c : Dev Cert.ModIdeal.nD) → Buf (Elt Ideal) ((c.tc : Thread Cert.ModIdeal.nD Cert.ModIdeal.τ).loc Cert.ModIdeal.main_v5)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v5) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
          ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v8) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2)
          ∧ r.2.mem ((c.tc : Thread Cert.ModRefIdeal.nD Cert.ModRefIdeal.τ).loc Cert.ModRefIdeal.main_arg3) = m' ((c.tc : Thread Cert.ModRefIdeal.nD Cert.ModRefIdeal.τ).loc Cert.ModRefIdeal.main_arg3))

def preserves_InProj_InProjIdeal : Prop :=
  IdealRules.named_const.Statement Cert.InProjIdeal.κ "swa_scale" .f32 0x3E38AA3B#32 (((Real.log 2)⁻¹ * 8⁻¹ : ℝ) : EReal)

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)
      ∧ m' ((c.tc : Thread Cert.InProjRefIdeal.nD Cert.InProjRefIdeal.τ).loc Cert.InProjRefIdeal.main_arg6) = m ((c.tc : Thread Cert.InProjIdeal.nD Cert.InProjIdeal.τ).loc Cert.InProjIdeal.main_arg6)
      ∧ m' ((c.tc : Thread Cert.InProjRefIdeal.nD Cert.InProjRefIdeal.τ).loc Cert.InProjRefIdeal.main_arg7) = m ((c.tc : Thread Cert.InProjIdeal.nD Cert.InProjIdeal.τ).loc Cert.InProjIdeal.main_arg7)
      ∧ m' ((c.tc : Thread Cert.InProjRefIdeal.nD Cert.InProjRefIdeal.τ).loc Cert.InProjRefIdeal.main_arg8) = m ((c.tc : Thread Cert.InProjIdeal.nD Cert.InProjIdeal.τ).loc Cert.InProjIdeal.main_arg8)
      ∧ m' ((c.tc : Thread Cert.InProjRefIdeal.nD Cert.InProjRefIdeal.τ).loc Cert.InProjRefIdeal.main_arg9) = m ((c.tc : Thread Cert.InProjIdeal.nD Cert.InProjIdeal.τ).loc Cert.InProjIdeal.main_arg9)
      ∧ m' ((c.tc : Thread Cert.InProjRefIdeal.nD Cert.InProjRefIdeal.τ).loc Cert.InProjRefIdeal.main_arg10) = m ((c.tc : Thread Cert.InProjIdeal.nD Cert.InProjIdeal.τ).loc Cert.InProjIdeal.main_arg10)
      ∧ m' ((c.tc : Thread Cert.InProjRefIdeal.nD Cert.InProjRefIdeal.τ).loc Cert.InProjRefIdeal.main_arg11) = m ((c.tc : Thread Cert.InProjIdeal.nD Cert.InProjIdeal.τ).loc Cert.InProjIdeal.main_arg11)) →
    ∃ (v0 : (c : Dev Cert.InProjIdeal.nD) → Buf (Elt Ideal) ((c.tc : Thread Cert.InProjIdeal.nD Cert.InProjIdeal.τ).loc Cert.InProjIdeal.main_v70_0)) (v1 : (c : Dev Cert.InProjIdeal.nD) → Buf (Elt Ideal) ((c.tc : Thread Cert.InProjIdeal.nD Cert.InProjIdeal.τ).loc Cert.InProjIdeal.main_v70_1)) (v2 : (c : Dev Cert.InProjIdeal.nD) → Buf (Elt Ideal) ((c.tc : Thread Cert.InProjIdeal.nD Cert.InProjIdeal.τ).loc Cert.InProjIdeal.main_v70_2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v70_0) = v0 c
          ∧ r.2.mem ((c.tc : Thread Cert.InProjIdeal.nD Cert.InProjIdeal.τ).loc Cert.InProjIdeal.main_v70_1) = v1 c
          ∧ r.2.mem ((c.tc : Thread Cert.InProjIdeal.nD Cert.InProjIdeal.τ).loc Cert.InProjIdeal.main_v70_2) = v2 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
          ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
          ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8)
          ∧ r.2.mem ((c.tc : Thread Cert.InProjIdeal.nD Cert.InProjIdeal.τ).loc Cert.InProjIdeal.main_arg9) = m ((c.tc : Thread Cert.InProjIdeal.nD Cert.InProjIdeal.τ).loc Cert.InProjIdeal.main_arg9)
          ∧ r.2.mem ((c.tc : Thread Cert.InProjIdeal.nD Cert.InProjIdeal.τ).loc Cert.InProjIdeal.main_arg10) = m ((c.tc : Thread Cert.InProjIdeal.nD Cert.InProjIdeal.τ).loc Cert.InProjIdeal.main_arg10)
          ∧ r.2.mem ((c.tc : Thread Cert.InProjIdeal.nD Cert.InProjIdeal.τ).loc Cert.InProjIdeal.main_arg11) = m ((c.tc : Thread Cert.InProjIdeal.nD Cert.InProjIdeal.τ).loc Cert.InProjIdeal.main_arg11))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v137) = v0 c
          ∧ r.2.mem ((c.tc : Thread Cert.InProjRefIdeal.nD Cert.InProjRefIdeal.τ).loc Cert.InProjRefIdeal.main_v139) = v1 c
          ∧ r.2.mem ((c.tc : Thread Cert.InProjRefIdeal.nD Cert.InProjRefIdeal.τ).loc Cert.InProjRefIdeal.main_v142) = v2 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5)
          ∧ r.2.mem ((c.tc : Thread Cert.InProjRefIdeal.nD Cert.InProjRefIdeal.τ).loc Cert.InProjRefIdeal.main_arg6) = m' ((c.tc : Thread Cert.InProjRefIdeal.nD Cert.InProjRefIdeal.τ).loc Cert.InProjRefIdeal.main_arg6)
          ∧ r.2.mem ((c.tc : Thread Cert.InProjRefIdeal.nD Cert.InProjRefIdeal.τ).loc Cert.InProjRefIdeal.main_arg7) = m' ((c.tc : Thread Cert.InProjRefIdeal.nD Cert.InProjRefIdeal.τ).loc Cert.InProjRefIdeal.main_arg7)
          ∧ r.2.mem ((c.tc : Thread Cert.InProjRefIdeal.nD Cert.InProjRefIdeal.τ).loc Cert.InProjRefIdeal.main_arg8) = m' ((c.tc : Thread Cert.InProjRefIdeal.nD Cert.InProjRefIdeal.τ).loc Cert.InProjRefIdeal.main_arg8)
          ∧ r.2.mem ((c.tc : Thread Cert.InProjRefIdeal.nD Cert.InProjRefIdeal.τ).loc Cert.InProjRefIdeal.main_arg9) = m' ((c.tc : Thread Cert.InProjRefIdeal.nD Cert.InProjRefIdeal.τ).loc Cert.InProjRefIdeal.main_arg9)
          ∧ r.2.mem ((c.tc : Thread Cert.InProjRefIdeal.nD Cert.InProjRefIdeal.τ).loc Cert.InProjRefIdeal.main_arg10) = m' ((c.tc : Thread Cert.InProjRefIdeal.nD Cert.InProjRefIdeal.τ).loc Cert.InProjRefIdeal.main_arg10)
          ∧ r.2.mem ((c.tc : Thread Cert.InProjRefIdeal.nD Cert.InProjRefIdeal.τ).loc Cert.InProjRefIdeal.main_arg11) = m' ((c.tc : Thread Cert.InProjRefIdeal.nD Cert.InProjRefIdeal.τ).loc Cert.InProjRefIdeal.main_arg11))

def Claim : Prop :=
  ∃ (hKernel : Cert.Kernel.Facts) (hKernelIdeal : Cert.KernelIdeal.Facts) (hReferenceIdeal : Cert.ReferenceIdeal.Facts) (hFfnOne : Cert.FfnOne.Facts) (hFfnOneIdeal : Cert.FfnOneIdeal.Facts) (hFfnOneRefIdeal : Cert.FfnOneRefIdeal.Facts) (hFfnTwo : Cert.FfnTwo.Facts) (hFfnTwoIdeal : Cert.FfnTwoIdeal.Facts) (hFfnTwoRefIdeal : Cert.FfnTwoRefIdeal.Facts) (hSwa : Cert.Swa.Facts) (hSwaIdeal : Cert.SwaIdeal.Facts) (hSwaRefIdeal : Cert.SwaRefIdeal.Facts) (hMod : Cert.Mod.Facts) (hModIdeal : Cert.ModIdeal.Facts) (hModRefIdeal : Cert.ModRefIdeal.Facts) (hInProj : Cert.InProj.Facts) (hInProjIdeal : Cert.InProjIdeal.Facts) (hInProjRefIdeal : Cert.InProjRefIdeal.Facts) (hPre_finite : Cert.Pre_finite.Facts) (hPre_swa_finite : Cert.Pre_swa_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_FfnOne (hFfnOne := hFfnOne)
    ∧ quiescent_FfnOneIdeal (hFfnOneIdeal := hFfnOneIdeal)
    ∧ quiescent_FfnOneRefIdeal (hFfnOneRefIdeal := hFfnOneRefIdeal)
    ∧ quiescent_FfnTwo (hFfnTwo := hFfnTwo)
    ∧ quiescent_FfnTwoIdeal (hFfnTwoIdeal := hFfnTwoIdeal)
    ∧ quiescent_FfnTwoRefIdeal (hFfnTwoRefIdeal := hFfnTwoRefIdeal)
    ∧ quiescent_Swa (hSwa := hSwa)
    ∧ quiescent_SwaIdeal (hSwaIdeal := hSwaIdeal)
    ∧ quiescent_SwaIdeal_pre_swa_finite (hSwaIdeal := hSwaIdeal) (hPre_swa_finite := hPre_swa_finite)
    ∧ quiescent_SwaRefIdeal (hSwaRefIdeal := hSwaRefIdeal)
    ∧ quiescent_SwaRefIdeal_pre_swa_finite (hSwaRefIdeal := hSwaRefIdeal) (hPre_swa_finite := hPre_swa_finite)
    ∧ quiescent_Mod (hMod := hMod)
    ∧ quiescent_ModIdeal (hModIdeal := hModIdeal)
    ∧ quiescent_ModRefIdeal (hModRefIdeal := hModRefIdeal)
    ∧ quiescent_InProj (hInProj := hInProj)
    ∧ quiescent_InProjIdeal (hInProjIdeal := hInProjIdeal)
    ∧ quiescent_InProjRefIdeal (hInProjRefIdeal := hInProjRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_FfnOne_FfnOneIdeal
    ∧ algebraic_FfnOneIdeal_FfnOneRefIdeal (hFfnOneIdeal := hFfnOneIdeal) (hFfnOneRefIdeal := hFfnOneRefIdeal)
    ∧ preserves_FfnTwo_FfnTwoIdeal
    ∧ algebraic_FfnTwoIdeal_FfnTwoRefIdeal (hFfnTwoIdeal := hFfnTwoIdeal) (hFfnTwoRefIdeal := hFfnTwoRefIdeal)
    ∧ preserves_Swa_SwaIdeal
    ∧ algebraic_SwaIdeal_SwaRefIdeal_pre_swa_finite (hSwaIdeal := hSwaIdeal) (hSwaRefIdeal := hSwaRefIdeal) (hPre_swa_finite := hPre_swa_finite)
    ∧ preserves_Mod_ModIdeal
    ∧ algebraic_ModIdeal_ModRefIdeal (hModIdeal := hModIdeal) (hModRefIdeal := hModRefIdeal)
    ∧ preserves_InProj_InProjIdeal
    ∧ algebraic_InProjIdeal_InProjRefIdeal (hInProjIdeal := hInProjIdeal) (hInProjRefIdeal := hInProjRefIdeal)
-- ==== Pre_finite.lean ====
abbrev S4x8192x8x96 : Shape := ⟨4, ![4, 8192, 8, 96]⟩
abbrev S4x8192x8x64 : Shape := ⟨4, ![4, 8192, 8, 64]⟩
abbrev S96 : Shape := ⟨1, ![96]⟩
abbrev S_ : Shape := ⟨0, ![]⟩

class Facts : Prop where
  bcast_S_S4x8192x8x96 : S_.BroadcastsInDim S4x8192x8x96 (![] : Fin 0 → Fin S4x8192x8x96.rank)
  reducesTo_S4x8192x8x96_S_d0_1_2_3 : S4x8192x8x96.ReducesTo [0, 1, 2, 3] S_
  h_S_ : 0 < S_.numel
  bcast_S_S96 : S_.BroadcastsInDim S96 (![] : Fin 0 → Fin S96.rank)
  reducesTo_S96_S_d0 : S96.ReducesTo [0] S_

variable [Facts]

def fn_part1 {F : FTy → Type} [FloatOps F] (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  main_v18

def fn {F : FTy → Type} [FloatOps F] (main_arg0 : FVec F S4x8192x8x96 .f32) (main_arg1 : FVec F S4x8192x8x96 .f32) (main_arg2 : FVec F S4x8192x8x64 .f32) (main_arg3 : FVec F S96 .f32) (main_arg4 : FVec F S96 .f32) : IVec S_ 1 :=
  let main_v0 : FVec F S4x8192x8x96 .f32 := Host.absf main_arg0
  let main_cst : FVec F S_ .f32 := constant S_ .f32 0x7F800000#32
  let main_v1 : FVec F S4x8192x8x96 .f32 := broadcastInDim S4x8192x8x96 ![] bcast_S_S4x8192x8x96 main_cst
  let main_v2 : IVec S4x8192x8x96 1 := cmpf .olt main_v0 main_v1
  let main_c : IVec S_ 1 := constantI S_ 1 1#1
  let main_v3 : IVec S_ 1 := (fun x v => Host.reduce IntOp.andi x v reducesTo_S4x8192x8x96_S_d0_1_2_3 h_S_) main_v2 main_c
  let main_v4 : FVec F S4x8192x8x96 .f32 := Host.absf main_arg1
  let main_cst_0 : FVec F S_ .f32 := constant S_ .f32 0x7F800000#32
  let main_v5 : FVec F S4x8192x8x96 .f32 := broadcastInDim S4x8192x8x96 ![] bcast_S_S4x8192x8x96 main_cst_0
  let main_v6 : IVec S4x8192x8x96 1 := cmpf .olt main_v4 main_v5
  let main_c_1 : IVec S_ 1 := constantI S_ 1 1#1
  let main_v7 : IVec S_ 1 := (fun x v => Host.reduce IntOp.andi x v reducesTo_S4x8192x8x96_S_d0_1_2_3 h_S_) main_v6 main_c_1
  let main_v8 : IVec S_ 1 := andi main_v3 main_v7
  let main_v9 : FVec F S96 .f32 := Host.absf main_arg3
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S96 .f32 := Host.absf main_arg4
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_v13 main_v16
-- ==== Pre_swa_finite.lean ====
abbrev S4x8192x8x64 : Shape := ⟨4, ![4, 8192, 8, 64]⟩
abbrev S4x8192x2x64 : Shape := ⟨4, ![4, 8192, 2, 64]⟩
abbrev S8 : Shape := ⟨1, ![8]⟩
abbrev S64 : Shape := ⟨1, ![64]⟩
abbrev S_ : Shape := ⟨0, ![]⟩

class Facts : Prop where
  bcast_S_S4x8192x8x64 : S_.BroadcastsInDim S4x8192x8x64 (![] : Fin 0 → Fin S4x8192x8x64.rank)
  reducesTo_S4x8192x8x64_S_d0_1_2_3 : S4x8192x8x64.ReducesTo [0, 1, 2, 3] S_
  h_S_ : 0 < S_.numel
  bcast_S_S4x8192x2x64 : S_.BroadcastsInDim S4x8192x2x64 (![] : Fin 0 → Fin S4x8192x2x64.rank)
  reducesTo_S4x8192x2x64_S_d0_1_2_3 : S4x8192x2x64.ReducesTo [0, 1, 2, 3] S_
  bcast_S_S8 : S_.BroadcastsInDim S8 (![] : Fin 0 → Fin S8.rank)
  reducesTo_S8_S_d0 : S8.ReducesTo [0] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S4x8192x8x64 .f32) (main_arg1 : FVec F S4x8192x2x64 .f32) (main_arg2 : FVec F S4x8192x2x64 .f32) (main_arg3 : FVec F S8 .f32) (main_arg4 : FVec F S64 .f32) (main_arg5 : FVec F S64 .f32) : IVec S_ 1 :=
  let main_v0 : FVec F S4x8192x8x64 .f32 := Host.absf main_arg0
  let main_cst : FVec F S_ .f32 := constant S_ .f32 0x7F800000#32
  let main_v1 : FVec F S4x8192x8x64 .f32 := broadcastInDim S4x8192x8x64 ![] bcast_S_S4x8192x8x64 main_cst
  let main_v2 : IVec S4x8192x8x64 1 := cmpf .olt main_v0 main_v1
  let main_c : IVec S_ 1 := constantI S_ 1 1#1
  let main_v3 : IVec S_ 1 := (fun x v => Host.reduce IntOp.andi x v reducesTo_S4x8192x8x64_S_d0_1_2_3 h_S_) main_v2 main_c
  let main_v4 : FVec F S4x8192x2x64 .f32 := Host.absf main_arg1
  let main_cst_0 : FVec F S_ .f32 := constant S_ .f32 0x7F800000#32
  let main_v5 : FVec F S4x8192x2x64 .f32 := broadcastInDim S4x8192x2x64 ![] bcast_S_S4x8192x2x64 main_cst_0
  let main_v6 : IVec S4x8192x2x64 1 := cmpf .olt main_v4 main_v5
  let main_c_1 : IVec S_ 1 := constantI S_ 1 1#1
  let main_v7 : IVec S_ 1 := (fun x v => Host.reduce IntOp.andi x v reducesTo_S4x8192x2x64_S_d0_1_2_3 h_S_) main_v6 main_c_1
  let main_v8 : IVec S_ 1 := andi main_v3 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_v13 main_v16
-- ==== Kernel.lean ====
abbrev S4x8192x8x96 : Shape := ⟨4, ![4, 8192, 8, 96]⟩
abbrev S4x8192x8x64 : Shape := ⟨4, ![4, 8192, 8, 64]⟩
abbrev S96 : Shape := ⟨1, ![96]⟩
abbrev S_ : Shape := ⟨0, ![]⟩
abbrev S4x8192x8x128 : Shape := ⟨4, ![4, 8192, 8, 128]⟩
abbrev S4x16x512x8x128 : Shape := ⟨5, ![4, 16, 512, 8, 128]⟩
abbrev S4x8x16x128x512 : Shape := ⟨5, ![4, 8, 16, 128, 512]⟩
abbrev S4x8x8192x128 : Shape := ⟨4, ![4, 8, 8192, 128]⟩
abbrev S4x4x2048x8x64 : Shape := ⟨5, ![4, 4, 2048, 8, 64]⟩
abbrev S4x8x4x64x2048 : Shape := ⟨5, ![4, 8, 4, 64, 2048]⟩
abbrev S1x1 : Shape := ⟨2, ![1, 1]⟩
abbrev S4x8x16x64x512 : Shape := ⟨5, ![4, 8, 16, 64, 512]⟩
abbrev S1x1x16x128x512 : Shape := ⟨5, ![1, 1, 16, 128, 512]⟩
abbrev S1x1x8192x128 : Shape := ⟨4, ![1, 1, 8192, 128]⟩
abbrev S1x1x4x64x2048 : Shape := ⟨5, ![1, 1, 4, 64, 2048]⟩
abbrev S1x1x16x64x512 : Shape := ⟨5, ![1, 1, 16, 64, 512]⟩
abbrev S2x2048x512 : Shape := ⟨3, ![2, 2048, 512]⟩
abbrev S64x2048 : Shape := ⟨2, ![64, 2048]⟩
abbrev S1x1x2048x128 : Shape := ⟨4, ![1, 1, 2048, 128]⟩
abbrev S2048x128 : Shape := ⟨2, ![2048, 128]⟩
abbrev S1x1x1x128x512 : Shape := ⟨5, ![1, 1, 1, 128, 512]⟩
abbrev S128x512 : Shape := ⟨2, ![128, 512]⟩
abbrev S2048x512 : Shape := ⟨2, ![2048, 512]⟩
abbrev S1x2048x512 : Shape := ⟨3, ![1, 2048, 512]⟩
abbrev S1x1x1x64x2048 : Shape := ⟨5, ![1, 1, 1, 64, 2048]⟩
abbrev S128x2048 : Shape := ⟨2, ![128, 2048]⟩
abbrev S64x512 : Shape := ⟨2, ![64, 512]⟩
abbrev S1x512 : Shape := ⟨2, ![1, 512]⟩
abbrev S1x1x1x64x512 : Shape := ⟨5, ![1, 1, 1, 64, 512]⟩

abbrev nBuf : Space → Nat
  | .hbm => 29
  | .vmem => 9
  | .smem => 1
  | _ => 0

abbrev bufTy : (tb : Table) → Fin (tcTables nBuf tb) → BufTy
  | .hbm, ⟨0, _⟩ => ⟨S4x8192x8x96, .f32⟩
  | .hbm, ⟨1, _⟩ => ⟨S4x8192x8x96, .f32⟩
  | .hbm, ⟨2, _⟩ => ⟨S4x8192x8x64, .f32⟩
  | .hbm, ⟨3, _⟩ => ⟨S96, .f32⟩
  | .hbm, ⟨4, _⟩ => ⟨S96, .f32⟩
  | .hbm, ⟨5, _⟩ => ⟨S_, .i32⟩
  | .hbm, ⟨6, _⟩ => ⟨S_, .f32⟩
  | .hbm, ⟨7, _⟩ => ⟨S4x8192x8x128, .f32⟩
  | .hbm, ⟨8, _⟩ => ⟨S4x16x512x8x128, .f32⟩
  | .hbm, ⟨9, _⟩ => ⟨S4x8x16x128x512, .f32⟩
  | .hbm, ⟨10, _⟩ => ⟨S4x8192x8x96, .bf16⟩
  | .hbm, ⟨11, _⟩ => ⟨S_, .i32⟩
  | .hbm, ⟨12, _⟩ => ⟨S_, .bf16⟩
  | .hbm, ⟨13, _⟩ => ⟨S4x8192x8x128, .bf16⟩
  | .hbm, ⟨14, _⟩ => ⟨S4x8x8192x128, .bf16⟩
  | .hbm, ⟨15, _⟩ => ⟨S4x8192x8x64, .bf16⟩
  | .hbm, ⟨16, _⟩ => ⟨S4x4x2048x8x64, .bf16⟩
  | .hbm, ⟨17, _⟩ => ⟨S4x8x4x64x2048, .bf16⟩
  | .hbm, ⟨18, _⟩ => ⟨S96, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S96, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S1x1, .f32⟩
  | .hbm, ⟨28, _⟩ => ⟨S4x8x16x64x512, .bf16⟩
  | .local _ .vmem, ⟨0, _⟩ => ⟨S1x1x16x128x512, .f32⟩
  | .local _ .vmem, ⟨1, _⟩ => ⟨S1x1x16x128x512, .f32⟩
  | .local _ .vmem, ⟨2, _⟩ => ⟨S1x1x8192x128, .bf16⟩
  | .local _ .vmem, ⟨3, _⟩ => ⟨S1x1x8192x128, .bf16⟩
  | .local _ .vmem, ⟨4, _⟩ => ⟨S1x1x4x64x2048, .bf16⟩
  | .local _ .vmem, ⟨5, _⟩ => ⟨S1x1x4x64x2048, .bf16⟩
  | .local _ .vmem, ⟨6, _⟩ => ⟨S1x1x16x64x512, .bf16⟩
  | .local _ .vmem, ⟨7, _⟩ => ⟨S1x1x16x64x512, .bf16⟩
  | .local _ .vmem, ⟨8, _⟩ => ⟨S2x2048x512, .bf16⟩
  | .local _ .smem, ⟨0, _⟩ => ⟨S1x1, .f32⟩
  | _, _ => ⟨S4x8192x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_call1_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

def k0_mult1 : BitVec 32 :=
  let c0_i32 : BitVec 32 := 0#32
  c0_i32
@[reducible] def k0_t1_loop : Scf.Loop 32 :=
  let c0_i32_14 : BitVec 32 := 0#32
  let c4_i32 : BitVec 32 := 4#32
  let v19 : BitVec 32 := Scalar.addi c0_i32_14 c4_i32
  let c1_i32 : BitVec 32 := 1#32
  ⟨c0_i32_14, v19, c1_i32⟩
def k0_mult2 (k0_t1 : Fin k0_t1_loop.trips) : BitVec 32 :=
  let c0_i32_14 : BitVec 32 := 0#32
  let c1_i32 : BitVec 32 := 1#32
  let arg8 : BitVec 32 := Scf.iv c0_i32_14 c1_i32 k0_t1
  let c16_i32 : BitVec 32 := 16#32
  let v20 : BitVec 32 := Scalar.muli arg8 c16_i32
  let c0_i32_16 : BitVec 32 := 0#32
  let v21 : BitVec 32 := Scalar.addi v20 c0_i32_16
  let c1_i32_17 : BitVec 32 := 1#32
  let v22 : BitVec 32 := Scalar.addi v21 c1_i32_17
  let c63_i32 : BitVec 32 := 63#32
  let v23 : BitVec 32 := Scalar.minsi v22 c63_i32
  let c3_i32 : BitVec 32 := 3#32
  let v24 : BitVec 32 := Scalar.andi v23 c3_i32
  let c2048_i32 : BitVec 32 := 2048#32
  let v25 : BitVec 32 := Scalar.muli v24 c2048_i32
  v25
def k0_off1 (k0_t1 : Fin k0_t1_loop.trips) (c0_i32_16 : BitVec 32) : Fin 4 → Nat :=
  let c0_18 : Index := 0#32
  let c0_19 : Index := 0#32
  let c0_i32_14 : BitVec 32 := 0#32
  let c1_i32 : BitVec 32 := 1#32
  let arg8 : BitVec 32 := Scf.iv c0_i32_14 c1_i32 k0_t1
  let c16_i32 : BitVec 32 := 16#32
  let v20 : BitVec 32 := Scalar.muli arg8 c16_i32
  let v21 : BitVec 32 := Scalar.addi v20 c0_i32_16
  let c1_i32_17 : BitVec 32 := 1#32
  let v22 : BitVec 32 := Scalar.addi v21 c1_i32_17
  let c63_i32 : BitVec 32 := 63#32
  let v23 : BitVec 32 := Scalar.minsi v22 c63_i32
  let c3_i32 : BitVec 32 := 3#32
  let v24 : BitVec 32 := Scalar.andi v23 c3_i32
  let c2048_i32 : BitVec 32 := 2048#32
  let v25 : BitVec 32 := Scalar.muli v24 c2048_i32
  let v26 : BitVec 32 := v25
  let v27 : Index := Scalar.indexCast v26
  let c0_20 : Index := 0#32
  ![0, 0, v27.toNat, 0]
def k0_off2 (k0_t1 : Fin k0_t1_loop.trips) (c0_i32_16 : BitVec 32) : Fin 5 → Nat :=
  let c0_21 : Index := 0#32
  let c0_22 : Index := 0#32
  let c0_i32_14 : BitVec 32 := 0#32
  let c1_i32 : BitVec 32 := 1#32
  let arg8 : BitVec 32 := Scf.iv c0_i32_14 c1_i32 k0_t1
  let c16_i32 : BitVec 32 := 16#32
  let v20 : BitVec 32 := Scalar.muli arg8 c16_i32
  let v21 : BitVec 32 := Scalar.addi v20 c0_i32_16
  let c1_i32_17 : BitVec 32 := 1#32
  let v22 : BitVec 32 := Scalar.addi v21 c1_i32_17
  let c63_i32 : BitVec 32 := 63#32
  let v23 : BitVec 32 := Scalar.minsi v22 c63_i32
  let c2_i32 : BitVec 32 := 2#32
  let v30 : BitVec 32 := Scalar.shrsi v23 c2_i32
  let v31 : Index := Scalar.indexCast v30
  let c0_23 : Index := 0#32
  let c0_24 : Index := 0#32
  ![0, 0, v31.toNat, 0, 0]
def k0_mult3 (k0_t1 : Fin k0_t1_loop.trips) : BitVec 32 :=
  let c0_i32_14 : BitVec 32 := 0#32
  let c1_i32 : BitVec 32 := 1#32
  let arg8 : BitVec 32 := Scf.iv c0_i32_14 c1_i32 k0_t1
  let c16_i32 : BitVec 32 := 16#32
  let v20 : BitVec 32 := Scalar.muli arg8 c16_i32
  let c1_i32_38 : BitVec 32 := 1#32
  let v51 : BitVec 32 := Scalar.addi v20 c1_i32_38
  let c1_i32_39 : BitVec 32 := 1#32
  let v52 : BitVec 32 := Scalar.addi v51 c1_i32_39
  let c63_i32_40 : BitVec 32 := 63#32
  let v53 : BitVec 32 := Scalar.minsi v52 c63_i32_40
  let c3_i32_41 : BitVec 32 := 3#32
  let v54 : BitVec 32 := Scalar.andi v53 c3_i32_41
  let c2048_i32_42 : BitVec 32 := 2048#32
  let v55 : BitVec 32 := Scalar.muli v54 c2048_i32_42
  v55
def k0_mult4 (k0_t1 : Fin k0_t1_loop.trips) : BitVec 32 :=
  let c0_i32_14 : BitVec 32 := 0#32
  let c1_i32 : BitVec 32 := 1#32
  let arg8 : BitVec 32 := Scf.iv c0_i32_14 c1_i32 k0_t1
  let c16_i32 : BitVec 32 := 16#32
  let v20 : BitVec 32 := Scalar.muli arg8 c16_i32
  let c2_i32_65 : BitVec 32 := 2#32
  let v82 : BitVec 32 := Scalar.addi v20 c2_i32_65
  let c1_i32_66 : BitVec 32 := 1#32
  let v83 : BitVec 32 := Scalar.addi v82 c1_i32_66
  let c63_i32_67 : BitVec 32 := 63#32
  let v84 : BitVec 32 := Scalar.minsi v83 c63_i32_67
  let c3_i32_68 : BitVec 32 := 3#32
  let v85 : BitVec 32 := Scalar.andi v84 c3_i32_68
  let c2048_i32_69 : BitVec 32 := 2048#32
  let v86 : BitVec 32 := Scalar.muli v85 c2048_i32_69
  v86
def k0_mult5 (k0_t1 : Fin k0_t1_loop.trips) : BitVec 32 :=
  let c0_i32_14 : BitVec 32 := 0#32
  let c1_i32 : BitVec 32 := 1#32
  let arg8 : BitVec 32 := Scf.iv c0_i32_14 c1_i32 k0_t1
  let c16_i32 : BitVec 32 := 16#32
  let v20 : BitVec 32 := Scalar.muli arg8 c16_i32
  let c3_i32_91 : BitVec 32 := 3#32
  let v113 : BitVec 32 := Scalar.addi v20 c3_i32_91
  let c1_i32_92 : BitVec 32 := 1#32
  let v114 : BitVec 32 := Scalar.addi v113 c1_i32_92
  let c63_i32_93 : BitVec 32 := 63#32
  let v115 : BitVec 32 := Scalar.minsi v114 c63_i32_93
  let c3_i32_94 : BitVec 32 := 3#32
  let v116 : BitVec 32 := Scalar.andi v115 c3_i32_94
  let c2048_i32_95 : BitVec 32 := 2048#32
  let v117 : BitVec 32 := Scalar.muli v116 c2048_i32_95
  v117
def k0_off3 (k0_t1 : Fin k0_t1_loop.trips) (c0_i32_119 : BitVec 32) : Fin 5 → Nat :=
  let c0_120 : Index := 0#32
  let c0_121 : Index := 0#32
  let c0_i32_14 : BitVec 32 := 0#32
  let c1_i32 : BitVec 32 := 1#32
  let arg8 : BitVec 32 := Scf.iv c0_i32_14 c1_i32 k0_t1
  let c4_i32_118 : BitVec 32 := 4#32
  let v151 : BitVec 32 := Scalar.muli arg8 c4_i32_118
  let v152 : BitVec 32 := Scalar.addi v151 c0_i32_119
  let v153 : Index := Scalar.indexCast v152
  let c0_122 : Index := 0#32
  let c0_123 : Index := 0#32
  ![0, 0, v153.toNat, 0, 0]
def k0_mult6 (k0_t1 : Fin k0_t1_loop.trips) : BitVec 32 :=
  let c0_i32_14 : BitVec 32 := 0#32
  let c1_i32 : BitVec 32 := 1#32
  let arg8 : BitVec 32 := Scf.iv c0_i32_14 c1_i32 k0_t1
  let c16_i32 : BitVec 32 := 16#32
  let v20 : BitVec 32 := Scalar.muli arg8 c16_i32
  let c4_i32_124 : BitVec 32 := 4#32
  let v157 : BitVec 32 := Scalar.addi v20 c4_i32_124
  let c1_i32_125 : BitVec 32 := 1#32
  let v158 : BitVec 32 := Scalar.addi v157 c1_i32_125
  let c63_i32_126 : BitVec 32 := 63#32
  let v159 : BitVec 32 := Scalar.minsi v158 c63_i32_126
  let c3_i32_127 : BitVec 32 := 3#32
  let v160 : BitVec 32 := Scalar.andi v159 c3_i32_127
  let c2048_i32_128 : BitVec 32 := 2048#32
  let v161 : BitVec 32 := Scalar.muli v160 c2048_i32_128
  v161
def k0_mult7 (k0_t1 : Fin k0_t1_loop.trips) : BitVec 32 :=
  let c0_i32_14 : BitVec 32 := 0#32
  let c1_i32 : BitVec 32 := 1#32
  let arg8 : BitVec 32 := Scf.iv c0_i32_14 c1_i32 k0_t1
  let c16_i32 : BitVec 32 := 16#32
  let v20 : BitVec 32 := Scalar.muli arg8 c16_i32
  let c5_i32 : BitVec 32 := 5#32
  let v187 : BitVec 32 := Scalar.addi v20 c5_i32
  let c1_i32_151 : BitVec 32 := 1#32
  let v188 : BitVec 32 := Scalar.addi v187 c1_i32_151
  let c63_i32_152 : BitVec 32 := 63#32
  let v189 : BitVec 32 := Scalar.minsi v188 c63_i32_152
  let c3_i32_153 : BitVec 32 := 3#32
  let v190 : BitVec 32 := Scalar.andi v189 c3_i32_153
  let c2048_i32_154 : BitVec 32 := 2048#32
  let v191 : BitVec 32 := Scalar.muli v190 c2048_i32_154
  v191
def k0_mult8 (k0_t1 : Fin k0_t1_loop.trips) : BitVec 32 :=
  let c0_i32_14 : BitVec 32 := 0#32
  let c1_i32 : BitVec 32 := 1#32
  let arg8 : BitVec 32 := Scf.iv c0_i32_14 c1_i32 k0_t1
  let c16_i32 : BitVec 32 := 16#32
  let v20 : BitVec 32 := Scalar.muli arg8 c16_i32
  let c6_i32 : BitVec 32 := 6#32
  let v218 : BitVec 32 := Scalar.addi v20 c6_i32
  let c1_i32_177 : BitVec 32 := 1#32
  let v219 : BitVec 32 := Scalar.addi v218 c1_i32_177
  let c63_i32_178 : BitVec 32 := 63#32
  let v220 : BitVec 32 := Scalar.minsi v219 c63_i32_178
  let c3_i32_179 : BitVec 32 := 3#32
  let v221 : BitVec 32 := Scalar.andi v220 c3_i32_179
  let c2048_i32_180 : BitVec 32 := 2048#32
  let v222 : BitVec 32 := Scalar.muli v221 c2048_i32_180
  v222
def k0_mult9 (k0_t1 : Fin k0_t1_loop.trips) : BitVec 32 :=
  let c0_i32_14 : BitVec 32 := 0#32
  let c1_i32 : BitVec 32 := 1#32
  let arg8 : BitVec 32 := Scf.iv c0_i32_14 c1_i32 k0_t1
  let c16_i32 : BitVec 32 := 16#32
  let v20 : BitVec 32 := Scalar.muli arg8 c16_i32
  let c7_i32 : BitVec 32 := 7#32
  let v249 : BitVec 32 := Scalar.addi v20 c7_i32
  let c1_i32_203 : BitVec 32 := 1#32
  let v250 : BitVec 32 := Scalar.addi v249 c1_i32_203
  let c63_i32_204 : BitVec 32 := 63#32
  let v251 : BitVec 32 := Scalar.minsi v250 c63_i32_204
  let c3_i32_205 : BitVec 32 := 3#32
  let v252 : BitVec 32 := Scalar.andi v251 c3_i32_205
  let c2048_i32_206 : BitVec 32 := 2048#32
  let v253 : BitVec 32 := Scalar.muli v252 c2048_i32_206
  v253
def k0_mult10 (k0_t1 : Fin k0_t1_loop.trips) : BitVec 32 :=
  let c0_i32_14 : BitVec 32 := 0#32
  let c1_i32 : BitVec 32 := 1#32
  let arg8 : BitVec 32 := Scf.iv c0_i32_14 c1_i32 k0_t1
  let c16_i32 : BitVec 32 := 16#32
  let v20 : BitVec 32 := Scalar.muli arg8 c16_i32
  let c8_i32 : BitVec 32 := 8#32
  let v293 : BitVec 32 := Scalar.addi v20 c8_i32
  let c1_i32_236 : BitVec 32 := 1#32
  let v294 : BitVec 32 := Scalar.addi v293 c1_i32_236
  let c63_i32_237 : BitVec 32 := 63#32
  let v295 : BitVec 32 := Scalar.minsi v294 c63_i32_237
  let c3_i32_238 : BitVec 32 := 3#32
  let v296 : BitVec 32 := Scalar.andi v295 c3_i32_238
  let c2048_i32_239 : BitVec 32 := 2048#32
  let v297 : BitVec 32 := Scalar.muli v296 c2048_i32_239
  v297
def k0_mult11 (k0_t1 : Fin k0_t1_loop.trips) : BitVec 32 :=
  let c0_i32_14 : BitVec 32 := 0#32
  let c1_i32 : BitVec 32 := 1#32
  let arg8 : BitVec 32 := Scf.iv c0_i32_14 c1_i32 k0_t1
  let c16_i32 : BitVec 32 := 16#32
  let v20 : BitVec 32 := Scalar.muli arg8 c16_i32
  let c9_i32 : BitVec 32 := 9#32
  let v323 : BitVec 32 := Scalar.addi v20 c9_i32
  let c1_i32_262 : BitVec 32 := 1#32
  let v324 : BitVec 32 := Scalar.addi v323 c1_i32_262
  let c63_i32_263 : BitVec 32 := 63#32
  let v325 : BitVec 32 := Scalar.minsi v324 c63_i32_263
  let c3_i32_264 : BitVec 32 := 3#32
  let v326 : BitVec 32 := Scalar.andi v325 c3_i32_264
  let c2048_i32_265 : BitVec 32 := 2048#32
  let v327 : BitVec 32 := Scalar.muli v326 c2048_i32_265
  v327
def k0_mult12 (k0_t1 : Fin k0_t1_loop.trips) : BitVec 32 :=
  let c0_i32_14 : BitVec 32 := 0#32
  let c1_i32 : BitVec 32 := 1#32
  let arg8 : BitVec 32 := Scf.iv c0_i32_14 c1_i32 k0_t1
  let c16_i32 : BitVec 32 := 16#32
  let v20 : BitVec 32 := Scalar.muli arg8 c16_i32
  let c10_i32 : BitVec 32 := 10#32
  let v354 : BitVec 32 := Scalar.addi v20 c10_i32
  let c1_i32_288 : BitVec 32 := 1#32
  let v355 : BitVec 32 := Scalar.addi v354 c1_i32_288
  let c63_i32_289 : BitVec 32 := 63#32
  let v356 : BitVec 32 := Scalar.minsi v355 c63_i32_289
  let c3_i32_290 : BitVec 32 := 3#32
  let v357 : BitVec 32 := Scalar.andi v356 c3_i32_290
  let c2048_i32_291 : BitVec 32 := 2048#32
  let v358 : BitVec 32 := Scalar.muli v357 c2048_i32_291
  v358
def k0_mult13 (k0_t1 : Fin k0_t1_loop.trips) : BitVec 32 :=
  let c0_i32_14 : BitVec 32 := 0#32
  let c1_i32 : BitVec 32 := 1#32
  let arg8 : BitVec 32 := Scf.iv c0_i32_14 c1_i32 k0_t1
  let c16_i32 : BitVec 32 := 16#32
  let v20 : BitVec 32 := Scalar.muli arg8 c16_i32
  let c11_i32 : BitVec 32 := 11#32
  let v385 : BitVec 32 := Scalar.addi v20 c11_i32
  let c1_i32_314 : BitVec 32 := 1#32
  let v386 : BitVec 32 := Scalar.addi v385 c1_i32_314
  let c63_i32_315 : BitVec 32 := 63#32
  let v387 : BitVec 32 := Scalar.minsi v386 c63_i32_315
  let c3_i32_316 : BitVec 32 := 3#32
  let v388 : BitVec 32 := Scalar.andi v387 c3_i32_316
  let c2048_i32_317 : BitVec 32 := 2048#32
  let v389 : BitVec 32 := Scalar.muli v388 c2048_i32_317
  v389
def k0_mult14 (k0_t1 : Fin k0_t1_loop.trips) : BitVec 32 :=
  let c0_i32_14 : BitVec 32 := 0#32
  let c1_i32 : BitVec 32 := 1#32
  let arg8 : BitVec 32 := Scf.iv c0_i32_14 c1_i32 k0_t1
  let c16_i32 : BitVec 32 := 16#32
  let v20 : BitVec 32 := Scalar.muli arg8 c16_i32
  let c12_i32 : BitVec 32 := 12#32
  let v429 : BitVec 32 := Scalar.addi v20 c12_i32
  let c1_i32_347 : BitVec 32 := 1#32
  let v430 : BitVec 32 := Scalar.addi v429 c1_i32_347
  let c63_i32_348 : BitVec 32 := 63#32
  let v431 : BitVec 32 := Scalar.minsi v430 c63_i32_348
  let c3_i32_349 : BitVec 32 := 3#32
  let v432 : BitVec 32 := Scalar.andi v431 c3_i32_349
  let c2048_i32_350 : BitVec 32 := 2048#32
  let v433 : BitVec 32 := Scalar.muli v432 c2048_i32_350
  v433
def k0_mult15 (k0_t1 : Fin k0_t1_loop.trips) : BitVec 32 :=
  let c0_i32_14 : BitVec 32 := 0#32
  let c1_i32 : BitVec 32 := 1#32
  let arg8 : BitVec 32 := Scf.iv c0_i32_14 c1_i32 k0_t1
  let c16_i32 : BitVec 32 := 16#32
  let v20 : BitVec 32 := Scalar.muli arg8 c16_i32
  let c13_i32 : BitVec 32 := 13#32
  let v459 : BitVec 32 := Scalar.addi v20 c13_i32
  let c1_i32_373 : BitVec 32 := 1#32
  let v460 : BitVec 32 := Scalar.addi v459 c1_i32_373
  let c63_i32_374 : BitVec 32 := 63#32
  let v461 : BitVec 32 := Scalar.minsi v460 c63_i32_374
  let c3_i32_375 : BitVec 32 := 3#32
  let v462 : BitVec 32 := Scalar.andi v461 c3_i32_375
  let c2048_i32_376 : BitVec 32 := 2048#32
  let v463 : BitVec 32 := Scalar.muli v462 c2048_i32_376
  v463
def k0_mult16 (k0_t1 : Fin k0_t1_loop.trips) : BitVec 32 :=
  let c0_i32_14 : BitVec 32 := 0#32
  let c1_i32 : BitVec 32 := 1#32
  let arg8 : BitVec 32 := Scf.iv c0_i32_14 c1_i32 k0_t1
  let c16_i32 : BitVec 32 := 16#32
  let v20 : BitVec 32 := Scalar.muli arg8 c16_i32
  let c14_i32 : BitVec 32 := 14#32
  let v490 : BitVec 32 := Scalar.addi v20 c14_i32
  let c1_i32_399 : BitVec 32 := 1#32
  let v491 : BitVec 32 := Scalar.addi v490 c1_i32_399
  let c63_i32_400 : BitVec 32 := 63#32
  let v492 : BitVec 32 := Scalar.minsi v491 c63_i32_400
  let c3_i32_401 : BitVec 32 := 3#32
  let v493 : BitVec 32 := Scalar.andi v492 c3_i32_401
  let c2048_i32_402 : BitVec 32 := 2048#32
  let v494 : BitVec 32 := Scalar.muli v493 c2048_i32_402
  v494
def k0_mult17 (k0_t1 : Fin k0_t1_loop.trips) : BitVec 32 :=
  let c0_i32_14 : BitVec 32 := 0#32
  let c1_i32 : BitVec 32 := 1#32
  let arg8 : BitVec 32 := Scf.iv c0_i32_14 c1_i32 k0_t1
  let c16_i32 : BitVec 32 := 16#32
  let v20 : BitVec 32 := Scalar.muli arg8 c16_i32
  let c15_i32 : BitVec 32 := 15#32
  let v521 : BitVec 32 := Scalar.addi v20 c15_i32
  let c1_i32_425 : BitVec 32 := 1#32
  let v522 : BitVec 32 := Scalar.addi v521 c1_i32_425
  let c63_i32_426 : BitVec 32 := 63#32
  let v523 : BitVec 32 := Scalar.minsi v522 c63_i32_426
  let c3_i32_427 : BitVec 32 := 3#32
  let v524 : BitVec 32 := Scalar.andi v523 c3_i32_427
  let c2048_i32_428 : BitVec 32 := 2048#32
  let v525 : BitVec 32 := Scalar.muli v524 c2048_i32_428
  v525
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1x16x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4x64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x16x64x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "q_scale" => some (((Real.log 2)⁻¹ * (Real.sqrt 96)⁻¹ : ℝ) : EReal)
  | _ => none
-- ==== ReferenceIdeal.lean ====
abbrev S4x8192x8x96 : Shape := ⟨4, ![4, 8192, 8, 96]⟩
abbrev S4x8192x8x64 : Shape := ⟨4, ![4, 8192, 8, 64]⟩
abbrev S96 : Shape := ⟨1, ![96]⟩
abbrev S4x8x8192x8192 : Shape := ⟨4, ![4, 8, 8192, 8192]⟩
abbrev S_ : Shape := ⟨0, ![]⟩
abbrev S4x8x8192 : Shape := ⟨3, ![4, 8, 8192]⟩
abbrev S4x8x8192x1 : Shape := ⟨4, ![4, 8, 8192, 1]⟩
abbrev S4x8x64x8192 : Shape := ⟨4, ![4, 8, 64, 8192]⟩
abbrev S4x16x512x8x64 : Shape := ⟨5, ![4, 16, 512, 8, 64]⟩
abbrev S4x8x16x64x512 : Shape := ⟨5, ![4, 8, 16, 64, 512]⟩

abbrev nBuf : Space → Nat
  | .hbm => 29
  | .vmem => 0
  | .smem => 0
  | _ => 0

abbrev bufTy : (tb : Table) → Fin (tcTables nBuf tb) → BufTy
  | .hbm, ⟨0, _⟩ => ⟨S4x8192x8x96, .f32⟩
  | .hbm, ⟨1, _⟩ => ⟨S4x8192x8x96, .f32⟩
  | .hbm, ⟨2, _⟩ => ⟨S4x8192x8x64, .f32⟩
  | .hbm, ⟨3, _⟩ => ⟨S96, .f32⟩
  | .hbm, ⟨4, _⟩ => ⟨S96, .f32⟩
  | .hbm, ⟨5, _⟩ => ⟨S4x8x8192x8192, .f32⟩
  | .hbm, ⟨6, _⟩ => ⟨S_, .f32⟩
  | .hbm, ⟨7, _⟩ => ⟨S_, .f32⟩
  | .hbm, ⟨8, _⟩ => ⟨S4x8x8192x8192, .f32⟩
  | .hbm, ⟨9, _⟩ => ⟨S4x8x8192x8192, .f32⟩
  | .hbm, ⟨10, _⟩ => ⟨S_, .f32⟩
  | .hbm, ⟨11, _⟩ => ⟨S4x8x8192, .f32⟩
  | .hbm, ⟨12, _⟩ => ⟨S_, .f32⟩
  | .hbm, ⟨13, _⟩ => ⟨S4x8x8192, .f32⟩
  | .hbm, ⟨14, _⟩ => ⟨S4x8x8192, .f32⟩
  | .hbm, ⟨15, _⟩ => ⟨S4x8x8192x1, .f32⟩
  | .hbm, ⟨16, _⟩ => ⟨S4x8x8192x8192, .f32⟩
  | .hbm, ⟨17, _⟩ => ⟨S4x8x8192x8192, .f32⟩
  | .hbm, ⟨18, _⟩ => ⟨S4x8x8192x8192, .f32⟩
  | .hbm, ⟨19, _⟩ => ⟨S_, .f32⟩
  | .hbm, ⟨20, _⟩ => ⟨S4x8x8192, .f32⟩
  | .hbm, ⟨21, _⟩ => ⟨S4x8x8192x1, .f32⟩
  | .hbm, ⟨22, _⟩ => ⟨S4x8x8192x8192, .f32⟩
  | .hbm, ⟨23, _⟩ => ⟨S4x8x8192x8192, .f32⟩
  | .hbm, ⟨24, _⟩ => ⟨S4x8x64x8192, .f32⟩
  | .hbm, ⟨25, _⟩ => ⟨S4x8192x8x64, .f32⟩
  | .hbm, ⟨26, _⟩ => ⟨S4x16x512x8x64, .f32⟩
  | .hbm, ⟨27, _⟩ => ⟨S4x8x16x64x512, .f32⟩
  | .hbm, ⟨28, _⟩ => ⟨S4x8x16x64x512, .bf16⟩
  | _, _ => ⟨S4x8192x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== FfnOne.lean ====
abbrev S4x8192x1024 : Shape := ⟨3, ![4, 8192, 1024]⟩
abbrev S4x9216 : Shape := ⟨2, ![4, 9216]⟩
abbrev S1x1024 : Shape := ⟨2, ![1, 1024]⟩
abbrev S1x1024x2816 : Shape := ⟨3, ![1, 1024, 2816]⟩
abbrev S1x2816x1024 : Shape := ⟨3, ![1, 2816, 1024]⟩
abbrev S4x9x1x1024 : Shape := ⟨4, ![4, 9, 1, 1024]⟩
abbrev S4x1x1x1024 : Shape := ⟨4, ![4, 1, 1, 1024]⟩
abbrev S4x1x1024 : Shape := ⟨3, ![4, 1, 1024]⟩
abbrev S1024x2816 : Shape := ⟨2, ![1024, 2816]⟩
abbrev S2816x1024 : Shape := ⟨2, ![2816, 1024]⟩
abbrev S1024 : Shape := ⟨1, ![1024]⟩
abbrev S1x1024x1024 : Shape := ⟨3, ![1, 1024, 1024]⟩
abbrev S1x1x1024 : Shape := ⟨3, ![1, 1, 1024]⟩
abbrev S1024x1024 : Shape := ⟨2, ![1024, 1024]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 22
  | .vmem => 16
  | .smem => 0
  | _ => 0

abbrev bufTy : (tb : Table) → Fin (tcTables nBuf tb) → BufTy
  | .hbm, ⟨0, _⟩ => ⟨S4x8192x1024, .f32⟩
  | .hbm, ⟨1, _⟩ => ⟨S4x9216, .f32⟩
  | .hbm, ⟨2, _⟩ => ⟨S1x1024, .f32⟩
  | .hbm, ⟨3, _⟩ => ⟨S1x1024x2816, .f32⟩
  | .hbm, ⟨4, _⟩ => ⟨S1x1024x2816, .f32⟩
  | .hbm, ⟨5, _⟩ => ⟨S1x2816x1024, .f32⟩
  | .hbm, ⟨6, _⟩ => ⟨S4x9x1x1024, .f32⟩
  | .hbm, ⟨7, _⟩ => ⟨S4x1x1x1024, .f32⟩
  | .hbm, ⟨8, _⟩ => ⟨S4x1x1024, .f32⟩
  | .hbm, ⟨9, _⟩ => ⟨S4x1x1x1024, .f32⟩
  | .hbm, ⟨10, _⟩ => ⟨S4x1x1024, .f32⟩
  | .hbm, ⟨11, _⟩ => ⟨S4x1x1x1024, .f32⟩
  | .hbm, ⟨12, _⟩ => ⟨S4x1x1024, .f32⟩
  | .hbm, ⟨13, _⟩ => ⟨S1024x2816, .f32⟩
  | .hbm, ⟨14, _⟩ => ⟨S1024x2816, .bf16⟩
  | .hbm, ⟨15, _⟩ => ⟨S1024x2816, .f32⟩
  | .hbm, ⟨16, _⟩ => ⟨S1024x2816, .bf16⟩
  | .hbm, ⟨17, _⟩ => ⟨S2816x1024, .f32⟩
  | .hbm, ⟨18, _⟩ => ⟨S2816x1024, .bf16⟩
  | .hbm, ⟨19, _⟩ => ⟨S1024, .f32⟩
  | .hbm, ⟨20, _⟩ => ⟨S1x1024, .f32⟩
  | .hbm, ⟨21, _⟩ => ⟨S4x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1024x2816, .bf16⟩
  | .local _ .vmem, ⟨10, _⟩ => ⟨S1024x2816, .bf16⟩
  | .local _ .vmem, ⟨11, _⟩ => ⟨S2816x1024, .bf16⟩
  | .local _ .vmem, ⟨12, _⟩ => ⟨S1x1024x1024, .f32⟩
  | .local _ .vmem, ⟨13, _⟩ => ⟨S1x1024x1024, .f32⟩
  | .local _ .vmem, ⟨14, _⟩ => ⟨S1024x1024, .bf16⟩
  | .local _ .vmem, ⟨15, _⟩ => ⟨S1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FfnOneRefIdeal.lean ====
abbrev S4x8192x1024 : Shape := ⟨3, ![4, 8192, 1024]⟩
abbrev S4x9216 : Shape := ⟨2, ![4, 9216]⟩
abbrev S1x1024 : Shape := ⟨2, ![1, 1024]⟩
abbrev S1x1024x2816 : Shape := ⟨3, ![1, 1024, 2816]⟩
abbrev S1x2816x1024 : Shape := ⟨3, ![1, 2816, 1024]⟩
abbrev S4x1024 : Shape := ⟨2, ![4, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x1x1024 : Shape := ⟨3, ![4, 1, 1024]⟩
abbrev S1024x2816 : Shape := ⟨2, ![1024, 2816]⟩
abbrev S2816x1024 : Shape := ⟨2, ![2816, 1024]⟩
abbrev S4x8192x2816 : Shape := ⟨3, ![4, 8192, 2816]⟩

abbrev nBuf : Space → Nat
  | .hbm => 64
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x9216, .f32⟩
  | .hbm, ⟨2, _⟩ => ⟨S1x1024, .f32⟩
  | .hbm, ⟨3, _⟩ => ⟨S1x1024x2816, .f32⟩
  | .hbm, ⟨4, _⟩ => ⟨S1x1024x2816, .f32⟩
  | .hbm, ⟨5, _⟩ => ⟨S1x2816x1024, .f32⟩
  | .hbm, ⟨6, _⟩ => ⟨S4x1024, .f32⟩
  | .hbm, ⟨7, _⟩ => ⟨S4x1024, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S4x1024, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S1024, .f32⟩
  | .hbm, ⟨16, _⟩ => ⟨S4x8192x1024, .f32⟩
  | .hbm, ⟨17, _⟩ => ⟨S_, .f32⟩
  | .hbm, ⟨18, _⟩ => ⟨S4x8192, .f32⟩
  | .hbm, ⟨19, _⟩ => ⟨S4x8192x1, .f32⟩
  | .hbm, ⟨20, _⟩ => ⟨S_, .f32⟩
  | .hbm, ⟨21, _⟩ => ⟨S4x8192x1, .f32⟩
  | .hbm, ⟨22, _⟩ => ⟨S4x8192x1, .f32⟩
  | .hbm, ⟨23, _⟩ => ⟨S_, .f32⟩
  | .hbm, ⟨24, _⟩ => ⟨S4x8192x1, .f32⟩
  | .hbm, ⟨25, _⟩ => ⟨S4x8192x1, .f32⟩
  | .hbm, ⟨26, _⟩ => ⟨S4x8192x1, .f32⟩
  | .hbm, ⟨27, _⟩ => ⟨S4x8192x1024, .f32⟩
  | .hbm, ⟨28, _⟩ => ⟨S4x8192x1024, .f32⟩
  | .hbm, ⟨29, _⟩ => ⟨S1x1x1024, .f32⟩
  | .hbm, ⟨30, _⟩ => ⟨S4x8192x1024, .f32⟩
  | .hbm, ⟨31, _⟩ => ⟨S4x8192x1024, .f32⟩
  | .hbm, ⟨32, _⟩ => ⟨S4x1x1024, .f32⟩
  | .hbm, ⟨33, _⟩ => ⟨S_, .f32⟩
  | .hbm, ⟨34, _⟩ => ⟨S4x1x1024, .f32⟩
  | .hbm, ⟨35, _⟩ => ⟨S4x1x1024, .f32⟩
  | .hbm, ⟨36, _⟩ => ⟨S4x8192x1024, .f32⟩
  | .hbm, ⟨37, _⟩ => ⟨S4x8192x1024, .f32⟩
  | .hbm, ⟨38, _⟩ => ⟨S4x1x1024, .f32⟩
  | .hbm, ⟨39, _⟩ => ⟨S4x8192x1024, .f32⟩
  | .hbm, ⟨40, _⟩ => ⟨S4x8192x1024, .f32⟩
  | .hbm, ⟨41, _⟩ => ⟨S4x1x1024, .f32⟩
  | .hbm, ⟨42, _⟩ => ⟨S_, .f32⟩
  | .hbm, ⟨43, _⟩ => ⟨S4x1x1024, .f32⟩
  | .hbm, ⟨44, _⟩ => ⟨S4x1x1024, .f32⟩
  | .hbm, ⟨45, _⟩ => ⟨S1024x2816, .f32⟩
  | .hbm, ⟨46, _⟩ => ⟨S1024x2816, .f32⟩
  | .hbm, ⟨47, _⟩ => ⟨S2816x1024, .f32⟩
  | .hbm, ⟨48, _⟩ => ⟨S4x8192x2816, .f32⟩
  | .hbm, ⟨49, _⟩ => ⟨S4x8192x2816, .f32⟩
  | .hbm, ⟨50, _⟩ => ⟨S4x8192x2816, .f32⟩
  | .hbm, ⟨51, _⟩ => ⟨S_, .f32⟩
  | .hbm, ⟨52, _⟩ => ⟨S4x8192x2816, .f32⟩
  | .hbm, ⟨53, _⟩ => ⟨S4x8192x2816, .f32⟩
  | .hbm, ⟨54, _⟩ => ⟨S_, .f32⟩
  | .hbm, ⟨55, _⟩ => ⟨S4x8192x2816, .f32⟩
  | .hbm, ⟨56, _⟩ => ⟨S4x8192x2816, .f32⟩
  | .hbm, ⟨57, _⟩ => ⟨S4x8192x2816, .f32⟩
  | .hbm, ⟨58, _⟩ => ⟨S4x8192x2816, .f32⟩
  | .hbm, ⟨59, _⟩ => ⟨S4x8192x2816, .f32⟩
  | .hbm, ⟨60, _⟩ => ⟨S4x8192x1024, .f32⟩
  | .hbm, ⟨61, _⟩ => ⟨S4x8192x1024, .f32⟩
  | .hbm, ⟨62, _⟩ => ⟨S4x8192x1024, .f32⟩
  | .hbm, ⟨63, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_call0_v5 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩

abbrev nD : Nat := 1
abbrev τ : Topo := Topo.v7x

variable {F : FTy → Type} [FloatOps F]
-- ==== FfnTwo.lean ====
abbrev S4x8192x1024 : Shape := ⟨3, ![4, 8192, 1024]⟩
abbrev S4x8192x512 : Shape := ⟨3, ![4, 8192, 512]⟩
abbrev S4x9216 : Shape := ⟨2, ![4, 9216]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S4x9x1x1024 : Shape := ⟨4, ![4, 9, 1, 1024]⟩
abbrev S4x1x1x1024 : Shape := ⟨4, ![4, 1, 1, 1024]⟩
abbrev S4x1x1024 : Shape := ⟨3, ![4, 1, 1024]⟩
abbrev S1024x2816 : Shape := ⟨2, ![1024, 2816]⟩
abbrev S2816x1024 : Shape := ⟨2, ![2816, 1024]⟩
abbrev S1x512x1024 : Shape := ⟨3, ![1, 512, 1024]⟩
abbrev S512x1024 : Shape := ⟨2, ![512, 1024]⟩
abbrev S4x512x8192 : Shape := ⟨3, ![4, 512, 8192]⟩
abbrev S4x16x512x8x64 : Shape := ⟨5, ![4, 16, 512, 8, 64]⟩
abbrev S4x8x16x64x512 : Shape := ⟨5, ![4, 8, 16, 64, 512]⟩
abbrev S1024 : Shape := ⟨1, ![1024]⟩
abbrev S1x8x2x64x512 : Shape := ⟨5, ![1, 8, 2, 64, 512]⟩
abbrev S1x1x1024 : Shape := ⟨3, ![1, 1, 1024]⟩
abbrev S1024x1024 : Shape := ⟨2, ![1024, 1024]⟩
abbrev S1x512x512 : Shape := ⟨3, ![1, 512, 512]⟩
abbrev S512x512 : Shape := ⟨2, ![512, 512]⟩
abbrev S1x8x1x64x512 : Shape := ⟨5, ![1, 8, 1, 64, 512]⟩
abbrev S8x64x512 : Shape := ⟨3, ![8, 64, 512]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 41
  | .vmem => 26
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .f32⟩
  | .hbm, ⟨2, _⟩ => ⟨S4x8192x512, .f32⟩
  | .hbm, ⟨3, _⟩ => ⟨S4x9216, .f32⟩
  | .hbm, ⟨4, _⟩ => ⟨S1x1024x1024, .f32⟩
  | .hbm, ⟨5, _⟩ => ⟨S1x1024, .f32⟩
  | .hbm, ⟨6, _⟩ => ⟨S1x1024x2816, .f32⟩
  | .hbm, ⟨7, _⟩ => ⟨S1x1024x2816, .f32⟩
  | .hbm, ⟨8, _⟩ => ⟨S1x2816x1024, .f32⟩
  | .hbm, ⟨9, _⟩ => ⟨S1x1024, .f32⟩
  | .hbm, ⟨10, _⟩ => ⟨S4x9x1x1024, .f32⟩
  | .hbm, ⟨11, _⟩ => ⟨S4x1x1x1024, .f32⟩
  | .hbm, ⟨12, _⟩ => ⟨S4x1x1024, .f32⟩
  | .hbm, ⟨13, _⟩ => ⟨S4x1x1x1024, .f32⟩
  | .hbm, ⟨14, _⟩ => ⟨S4x1x1024, .f32⟩
  | .hbm, ⟨15, _⟩ => ⟨S4x1x1x1024, .f32⟩
  | .hbm, ⟨16, _⟩ => ⟨S4x1x1024, .f32⟩
  | .hbm, ⟨17, _⟩ => ⟨S4x1x1x1024, .f32⟩
  | .hbm, ⟨18, _⟩ => ⟨S4x1x1024, .f32⟩
  | .hbm, ⟨19, _⟩ => ⟨S1024x2816, .f32⟩
  | .hbm, ⟨20, _⟩ => ⟨S1024x2816, .bf16⟩
  | .hbm, ⟨21, _⟩ => ⟨S1024x2816, .f32⟩
  | .hbm, ⟨22, _⟩ => ⟨S1024x2816, .bf16⟩
  | .hbm, ⟨23, _⟩ => ⟨S2816x1024, .f32⟩
  | .hbm, ⟨24, _⟩ => ⟨S2816x1024, .bf16⟩
  | .hbm, ⟨25, _⟩ => ⟨S1x512x1024, .f32⟩
  | .hbm, ⟨26, _⟩ => ⟨S512x1024, .f32⟩
  | .hbm, ⟨27, _⟩ => ⟨S512x1024, .bf16⟩
  | .hbm, ⟨28, _⟩ => ⟨S1x512x1024, .f32⟩
  | .hbm, ⟨29, _⟩ => ⟨S512x1024, .f32⟩
  | .hbm, ⟨30, _⟩ => ⟨S512x1024, .bf16⟩
  | .hbm, ⟨31, _⟩ => ⟨S4x8192x512, .bf16⟩
  | .hbm, ⟨32, _⟩ => ⟨S4x512x8192, .bf16⟩
  | .hbm, ⟨33, _⟩ => ⟨S4x8192x512, .bf16⟩
  | .hbm, ⟨34, _⟩ => ⟨S4x16x512x8x64, .bf16⟩
  | .hbm, ⟨35, _⟩ => ⟨S4x8x16x64x512, .bf16⟩
  | .hbm, ⟨36, _⟩ => ⟨S1024, .f32⟩
  | .hbm, ⟨37, _⟩ => ⟨S1x1024, .f32⟩
  | .hbm, ⟨38, _⟩ => ⟨S1024, .f32⟩
  | .hbm, ⟨39, _⟩ => ⟨S1x1024, .f32⟩
  | .hbm, ⟨40, _⟩ => ⟨S4x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x8x2x64x512, .bf16⟩
  | .local _ .vmem, ⟨5, _⟩ => ⟨S1x8x2x64x512, .bf16⟩
  | .local _ .vmem, ⟨6, _⟩ => ⟨S512x1024, .bf16⟩
  | .local _ .vmem, ⟨7, _⟩ => ⟨S512x1024, .bf16⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1024, .f32⟩
  | .local _ .vmem, ⟨17, _⟩ => ⟨S1024x2816, .bf16⟩
  | .local _ .vmem, ⟨18, _⟩ => ⟨S1024x2816, .bf16⟩
  | .local _ .vmem, ⟨19, _⟩ => ⟨S2816x1024, .bf16⟩
  | .local _ .vmem, ⟨20, _⟩ => ⟨S1x1024, .f32⟩
  | .local _ .vmem, ⟨21, _⟩ => ⟨S1x1024x1024, .f32⟩
  | .local _ .vmem, ⟨22, _⟩ => ⟨S1x1024x1024, .f32⟩
  | .local _ .vmem, ⟨23, _⟩ => ⟨S1024x1024, .bf16⟩
  | .local _ .vmem, ⟨24, _⟩ => ⟨S1024x1024, .f32⟩
  | .local _ .vmem, ⟨25, _⟩ => ⟨S1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x2x64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x2816 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x1024x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== FfnTwoRefIdeal.lean ====
abbrev S4x8192x1024 : Shape := ⟨3, ![4, 8192, 1024]⟩
abbrev S4x8192x512 : Shape := ⟨3, ![4, 8192, 512]⟩
abbrev S4x9216 : Shape := ⟨2, ![4, 9216]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S4x1024 : Shape := ⟨2, ![4, 1024]⟩
abbrev S1024x1024 : Shape := ⟨2, ![1024, 1024]⟩
abbrev S4x1x1024 : Shape := ⟨3, ![4, 1, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x2816 : Shape := ⟨2, ![1024, 2816]⟩
abbrev S2816x1024 : Shape := ⟨2, ![2816, 1024]⟩
abbrev S4x8192x2816 : Shape := ⟨3, ![4, 8192, 2816]⟩

abbrev nBuf : Space → Nat
  | .hbm => 92
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .f32⟩
  | .hbm, ⟨2, _⟩ => ⟨S4x8192x512, .f32⟩
  | .hbm, ⟨3, _⟩ => ⟨S4x9216, .f32⟩
  | .hbm, ⟨4, _⟩ => ⟨S1x1024x1024, .f32⟩
  | .hbm, ⟨5, _⟩ => ⟨S1x1024, .f32⟩
  | .hbm, ⟨6, _⟩ => ⟨S1x1024x2816, .f32⟩
  | .hbm, ⟨7, _⟩ => ⟨S1x1024x2816, .f32⟩
  | .hbm, ⟨8, _⟩ => ⟨S1x2816x1024, .f32⟩
  | .hbm, ⟨9, _⟩ => ⟨S1x1024, .f32⟩
  | .hbm, ⟨10, _⟩ => ⟨S4x1024, .f32⟩
  | .hbm, ⟨11, _⟩ => ⟨S4x1024, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S4x1024, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S4x8192x1024, .f32⟩
  | .hbm, ⟨20, _⟩ => ⟨S1024x1024, .f32⟩
  | .hbm, ⟨21, _⟩ => ⟨S4x8192x1024, .f32⟩
  | .hbm, ⟨22, _⟩ => ⟨S4x1x1024, .f32⟩
  | .hbm, ⟨23, _⟩ => ⟨S4x8192x1024, .f32⟩
  | .hbm, ⟨24, _⟩ => ⟨S4x8192x1024, .f32⟩
  | .hbm, ⟨25, _⟩ => ⟨S4x8192x1024, .f32⟩
  | .hbm, ⟨26, _⟩ => ⟨S1024, .f32⟩
  | .hbm, ⟨27, _⟩ => ⟨S4x8192x1024, .f32⟩
  | .hbm, ⟨28, _⟩ => ⟨S_, .f32⟩
  | .hbm, ⟨29, _⟩ => ⟨S4x8192, .f32⟩
  | .hbm, ⟨30, _⟩ => ⟨S4x8192x1, .f32⟩
  | .hbm, ⟨31, _⟩ => ⟨S_, .f32⟩
  | .hbm, ⟨32, _⟩ => ⟨S4x8192x1, .f32⟩
  | .hbm, ⟨33, _⟩ => ⟨S4x8192x1, .f32⟩
  | .hbm, ⟨34, _⟩ => ⟨S_, .f32⟩
  | .hbm, ⟨35, _⟩ => ⟨S4x8192x1, .f32⟩
  | .hbm, ⟨36, _⟩ => ⟨S4x8192x1, .f32⟩
  | .hbm, ⟨37, _⟩ => ⟨S4x8192x1, .f32⟩
  | .hbm, ⟨38, _⟩ => ⟨S4x8192x1024, .f32⟩
  | .hbm, ⟨39, _⟩ => ⟨S4x8192x1024, .f32⟩
  | .hbm, ⟨40, _⟩ => ⟨S1x1x1024, .f32⟩
  | .hbm, ⟨41, _⟩ => ⟨S4x8192x1024, .f32⟩
  | .hbm, ⟨42, _⟩ => ⟨S4x8192x1024, .f32⟩
  | .hbm, ⟨43, _⟩ => ⟨S4x1x1024, .f32⟩
  | .hbm, ⟨44, _⟩ => ⟨S_, .f32⟩
  | .hbm, ⟨45, _⟩ => ⟨S4x1x1024, .f32⟩
  | .hbm, ⟨46, _⟩ => ⟨S4x1x1024, .f32⟩
  | .hbm, ⟨47, _⟩ => ⟨S4x8192x1024, .f32⟩
  | .hbm, ⟨48, _⟩ => ⟨S4x8192x1024, .f32⟩
  | .hbm, ⟨49, _⟩ => ⟨S4x1x1024, .f32⟩
  | .hbm, ⟨50, _⟩ => ⟨S4x8192x1024, .f32⟩
  | .hbm, ⟨51, _⟩ => ⟨S4x8192x1024, .f32⟩
  | .hbm, ⟨52, _⟩ => ⟨S4x1x1024, .f32⟩
  | .hbm, ⟨53, _⟩ => ⟨S_, .f32⟩
  | .hbm, ⟨54, _⟩ => ⟨S4x1x1024, .f32⟩
  | .hbm, ⟨55, _⟩ => ⟨S4x1x1024, .f32⟩
  | .hbm, ⟨56, _⟩ => ⟨S1024x2816, .f32⟩
  | .hbm, ⟨57, _⟩ => ⟨S1024x2816, .f32⟩
  | .hbm, ⟨58, _⟩ => ⟨S2816x1024, .f32⟩
  | .hbm, ⟨59, _⟩ => ⟨S4x8192x2816, .f32⟩
  | .hbm, ⟨60, _⟩ => ⟨S4x8192x2816, .f32⟩
  | .hbm, ⟨61, _⟩ => ⟨S4x8192x2816, .f32⟩
  | .hbm, ⟨62, _⟩ => ⟨S_, .f32⟩
  | .hbm, ⟨63, _⟩ => ⟨S4x8192x2816, .f32⟩
  | .hbm, ⟨64, _⟩ => ⟨S4x8192x2816, .f32⟩
  | .hbm, ⟨65, _⟩ => ⟨S_, .f32⟩
  | .hbm, ⟨66, _⟩ => ⟨S4x8192x2816, .f32⟩
  | .hbm, ⟨67, _⟩ => ⟨S4x8192x2816, .f32⟩
  | .hbm, ⟨68, _⟩ => ⟨S4x8192x2816, .f32⟩
  | .hbm, ⟨69, _⟩ => ⟨S4x8192x2816, .f32⟩
  | .hbm, ⟨70, _⟩ => ⟨S4x8192x2816, .f32⟩
  | .hbm, ⟨71, _⟩ => ⟨S4x8192x1024, .f32⟩
  | .hbm, ⟨72, _⟩ => ⟨S4x8192x1024, .f32⟩
  | .hbm, ⟨73, _⟩ => ⟨S4x8192x1024, .f32⟩
  | .hbm, ⟨74, _⟩ => ⟨S4x8192x1024, .f32⟩
  | .hbm, ⟨75, _⟩ => ⟨S1024, .f32⟩
  | .hbm, ⟨76, _⟩ => ⟨S4x8192x1024, .f32⟩
  | .hbm, ⟨77, _⟩ => ⟨S_, .f32⟩
  | .hbm, ⟨78, _⟩ => ⟨S4x8192, .f32⟩
  | .hbm, ⟨79, _⟩ => ⟨S4x8192x1, .f32⟩
  | .hbm, ⟨80, _⟩ => ⟨S_, .f32⟩
  | .hbm, ⟨81, _⟩ => ⟨S4x8192x1, .f32⟩
  | .hbm, ⟨82, _⟩ => ⟨S4x8192x1, .f32⟩
  | .hbm, ⟨83, _⟩ => ⟨S_, .f32⟩
  | .hbm, ⟨84, _⟩ => ⟨S4x8192x1, .f32⟩
  | .hbm, ⟨85, _⟩ => ⟨S4x8192x1, .f32⟩
  | .hbm, ⟨86, _⟩ => ⟨S4x8192x1, .f32⟩
  | .hbm, ⟨87, _⟩ => ⟨S4x8192x1024, .f32⟩
  | .hbm, ⟨88, _⟩ => ⟨S4x8192x1024, .f32⟩
  | .hbm, ⟨89, _⟩ => ⟨S1x1x1024, .f32⟩
  | .hbm, ⟨90, _⟩ => ⟨S4x8192x1024, .f32⟩
  | .hbm, ⟨91, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_v19 : Ref sig .tc := ⟨.hbm, 30, rfl⟩
abbrev main_cst_0 : Ref sig .tc := ⟨.hbm, 31, rfl⟩
abbrev main_v20 : Ref sig .tc := ⟨.hbm, 32, rfl⟩
abbrev main_v21 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_2 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_3 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_call0_v0 : Ref sig .tc := ⟨.hbm, 60, rfl⟩
abbrev main_call0_v1 : Ref sig .tc := ⟨.hbm, 61, rfl⟩
abbrev main_call0_cst : Ref sig .tc := ⟨.hbm, 62, rfl⟩
abbrev main_call0_v2 : Ref sig .tc := ⟨.hbm, 63, rfl⟩
abbrev main_call0_v3 : Ref sig .tc := ⟨.hbm, 64, rfl⟩
abbrev main_call0_cst_0 : Ref sig .tc := ⟨.hbm, 65, rfl⟩
abbrev main_call0_v4 : Ref sig .tc := ⟨.hbm, 66, rfl⟩
abbrev main_call0_v5 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_4 : Ref sig .tc := ⟨.hbm, 77, rfl⟩
abbrev main_v54 : Ref sig .tc := ⟨.hbm, 78, rfl⟩
abbrev main_v55 : Ref sig .tc := ⟨.hbm, 79, rfl⟩
abbrev main_cst_5 : Ref sig .tc := ⟨.hbm, 80, rfl⟩
abbrev main_v56 : Ref sig .tc := ⟨.hbm, 81, rfl⟩
abbrev main_v57 : Ref sig .tc := ⟨.hbm, 82, rfl⟩
abbrev main_cst_6 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩

abbrev nD : Nat := 1
abbrev τ : Topo := Topo.v7x

variable {F : FTy → Type} [FloatOps F]
-- ==== Swa.lean ====
abbrev S4x8192x8x64 : Shape := ⟨4, ![4, 8192, 8, 64]⟩
abbrev S4x8192x2x64 : Shape := ⟨4, ![4, 8192, 2, 64]⟩
abbrev S8 : Shape := ⟨1, ![8]⟩
abbrev S64 : Shape := ⟨1, ![64]⟩
abbrev S4x8x64x8192 : Shape := ⟨4, ![4, 8, 64, 8192]⟩
abbrev S4x8192x128 : Shape := ⟨3, ![4, 8192, 128]⟩
abbrev S4x64x128x128 : Shape := ⟨4, ![4, 64, 128, 128]⟩
abbrev S8x128 : Shape := ⟨2, ![8, 128]⟩
abbrev S1024 : Shape := ⟨1, ![1024]⟩
abbrev S2x1x512 : Shape := ⟨3, ![2, 1, 512]⟩
abbrev S_ : Shape := ⟨0, ![]⟩
abbrev S1x1 : Shape := ⟨2, ![1, 1]⟩
abbrev S1x8x64x1024 : Shape := ⟨4, ![1, 8, 64, 1024]⟩
abbrev S1x8192x128 : Shape := ⟨3, ![1, 8192, 128]⟩
abbrev S1x64x128x128 : Shape := ⟨4, ![1, 64, 128, 128]⟩
abbrev S2x3x128x512 : Shape := ⟨4, ![2, 3, 128, 512]⟩
abbrev S128x512 : Shape := ⟨2, ![128, 512]⟩
abbrev S64x128 : Shape := ⟨2, ![64, 128]⟩
abbrev S1x1x64x128 : Shape := ⟨4, ![1, 1, 64, 128]⟩
abbrev S128x128 : Shape := ⟨2, ![128, 128]⟩
abbrev S1x128x128 : Shape := ⟨3, ![1, 128, 128]⟩
abbrev S384x128 : Shape := ⟨2, ![384, 128]⟩
abbrev S384x512 : Shape := ⟨2, ![384, 512]⟩
abbrev S1x1x128x512 : Shape := ⟨4, ![1, 1, 128, 512]⟩
abbrev S64x384 : Shape := ⟨2, ![64, 384]⟩
abbrev S16x384 : Shape := ⟨2, ![16, 384]⟩
abbrev S80x384 : Shape := ⟨2, ![80, 384]⟩
abbrev S1x3x128x512 : Shape := ⟨4, ![1, 3, 128, 512]⟩
abbrev S3x128x512 : Shape := ⟨3, ![3, 128, 512]⟩
abbrev S80x512 : Shape := ⟨2, ![80, 512]⟩
abbrev S1x512 : Shape := ⟨2, ![1, 512]⟩
abbrev S1x1x512 : Shape := ⟨3, ![1, 1, 512]⟩
abbrev S64x512 : Shape := ⟨2, ![64, 512]⟩

abbrev nBuf : Space → Nat
  | .hbm => 32
  | .vmem => 10
  | .smem => 1
  | _ => 0

abbrev bufTy : (tb : Table) → Fin (tcTables nBuf tb) → BufTy
  | .hbm, ⟨0, _⟩ => ⟨S4x8192x8x64, .f32⟩
  | .hbm, ⟨1, _⟩ => ⟨S4x8192x2x64, .f32⟩
  | .hbm, ⟨2, _⟩ => ⟨S4x8192x2x64, .f32⟩
  | .hbm, ⟨3, _⟩ => ⟨S8, .f32⟩
  | .hbm, ⟨4, _⟩ => ⟨S64, .f32⟩
  | .hbm, ⟨5, _⟩ => ⟨S64, .f32⟩
  | .hbm, ⟨6, _⟩ => ⟨S4x8x64x8192, .f32⟩
  | .hbm, ⟨7, _⟩ => ⟨S4x8192x2x64, .bf16⟩
  | .hbm, ⟨8, _⟩ => ⟨S4x8192x128, .bf16⟩
  | .hbm, ⟨9, _⟩ => ⟨S4x8192x2x64, .bf16⟩
  | .hbm, ⟨10, _⟩ => ⟨S4x64x128x128, .bf16⟩
  | .hbm, ⟨11, _⟩ => ⟨S4x64x128x128, .bf16⟩
  | .hbm, ⟨12, _⟩ => ⟨S8x128, .f32⟩
  | .hbm, ⟨13, _⟩ => ⟨S1024, .f32⟩
  | .hbm, ⟨14, _⟩ => ⟨S2x1x512, .f32⟩
  | .hbm, ⟨15, _⟩ => ⟨S64, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S8, .f32⟩
  | .hbm, ⟨26, _⟩ => ⟨S8, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S1x1, .f32⟩
  | .hbm, ⟨31, _⟩ => ⟨S4x8x64x8192, .bf16⟩
  | .local _ .vmem, ⟨0, _⟩ => ⟨S1x8x64x1024, .f32⟩
  | .local _ .vmem, ⟨1, _⟩ => ⟨S1x8x64x1024, .f32⟩
  | .local _ .vmem, ⟨2, _⟩ => ⟨S1x8192x128, .bf16⟩
  | .local _ .vmem, ⟨3, _⟩ => ⟨S1x8192x128, .bf16⟩
  | .local _ .vmem, ⟨4, _⟩ => ⟨S1x64x128x128, .bf16⟩
  | .local _ .vmem, ⟨5, _⟩ => ⟨S1x64x128x128, .bf16⟩
  | .local _ .vmem, ⟨6, _⟩ => ⟨S2x1x512, .f32⟩
  | .local _ .vmem, ⟨7, _⟩ => ⟨S1x8x64x1024, .bf16⟩
  | .local _ .vmem, ⟨8, _⟩ => ⟨S1x8x64x1024, .bf16⟩
  | .local _ .vmem, ⟨9, _⟩ => ⟨S2x3x128x512, .bf16⟩
  | .local _ .smem, ⟨0, _⟩ => ⟨S1x1, .f32⟩
  | _, _ => ⟨S4x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c8_i32 : BitVec 32 := 8#32
  let v6 : BitVec 32 := Scalar.muli arg1 c8_i32
  let c0_i32 : BitVec 32 := 0#32
  let v7 : BitVec 32 := Scalar.addi v6 c0_i32
  let c1_i32 : BitVec 32 := 1#32
  let v8 : BitVec 32 := Scalar.subi v7 c1_i32
  let c0_i32_0 : BitVec 32 := 0#32
  let v9 : BitVec 32 := Scalar.maxsi v8 c0_i32_0
  let c128_i32 : BitVec 32 := 128#32
  let v45 : BitVec 32 := Scalar.muli v9 c128_i32
  v45
def k0_off1 (i : grid0.Coords) (c0_i32 : BitVec 32) : Fin 3 → Nat :=
  let c0_22 : Index := 0#32
  let arg1 : BitVec 32 := BitVec.ofNat 32 (i 1).val
  let c8_i32 : BitVec 32 := 8#32
  let v6 : BitVec 32 := Scalar.muli arg1 c8_i32
  let v7 : BitVec 32 := Scalar.addi v6 c0_i32
  let c1_i32 : BitVec 32 := 1#32
  let v8 : BitVec 32 := Scalar.subi v7 c1_i32
  let c0_i32_0 : BitVec 32 := 0#32
  let v9 : BitVec 32 := Scalar.maxsi v8 c0_i32_0
  let c128_i32 : BitVec 32 := 128#32
  let v45 : BitVec 32 := Scalar.muli v9 c128_i32
  let v46 : BitVec 32 := v45
  let v47 : Index := Scalar.indexCast v46
  let c0_23 : Index := 0#32
  ![0, v47.toNat, 0]
def k0_mult2 (i : grid0.Coords) : BitVec 32 :=
  let arg1 : BitVec 32 := BitVec.ofNat 32 (i 1).val
  let c8_i32 : BitVec 32 := 8#32
  let v6 : BitVec 32 := Scalar.muli arg1 c8_i32
  let c0_i32 : BitVec 32 := 0#32
  let v7 : BitVec 32 := Scalar.addi v6 c0_i32
  let c128_i32_24 : BitVec 32 := 128#32
  let v50 : BitVec 32 := Scalar.muli v7 c128_i32_24
  v50
def k0_off2 (i : grid0.Coords) (c0_i32 : BitVec 32) : Fin 3 → Nat :=
  let c0_25 : Index := 0#32
  let arg1 : BitVec 32 := BitVec.ofNat 32 (i 1).val
  let c8_i32 : BitVec 32 := 8#32
  let v6 : BitVec 32 := Scalar.muli arg1 c8_i32
  let v7 : BitVec 32 := Scalar.addi v6 c0_i32
  let c128_i32_24 : BitVec 32 := 128#32
  let v50 : BitVec 32 := Scalar.muli v7 c128_i32_24
  let v51 : BitVec 32 := v50
  let v52 : Index := Scalar.indexCast v51
  let c0_26 : Index := 0#32
  ![0, v52.toNat, 0]
def k0_mult3 (i : grid0.Coords) : BitVec 32 :=
  let arg1 : BitVec 32 := BitVec.ofNat 32 (i 1).val
  let c8_i32 : BitVec 32 := 8#32
  let v6 : BitVec 32 := Scalar.muli arg1 c8_i32
  let c0_i32 : BitVec 32 := 0#32
  let v7 : BitVec 32 := Scalar.addi v6 c0_i32
  let c1_i32_1 : BitVec 32 := 1#32
  let v10 : BitVec 32 := Scalar.addi v7 c1_i32_1
  let c63_i32 : BitVec 32 := 63#32
  let v11 : BitVec 32 := Scalar.minsi v10 c63_i32
  let c128_i32_27 : BitVec 32 := 128#32
  let v55 : BitVec 32 := Scalar.muli v11 c128_i32_27
  v55
def k0_off3 (i : grid0.Coords) (c0_i32 : BitVec 32) : Fin 3 → Nat :=
  let c0_28 : Index := 0#32
  let arg1 : BitVec 32 := BitVec.ofNat 32 (i 1).val
  let c8_i32 : BitVec 32 := 8#32
  let v6 : BitVec 32 := Scalar.muli arg1 c8_i32
  let v7 : BitVec 32 := Scalar.addi v6 c0_i32
  let c1_i32_1 : BitVec 32 := 1#32
  let v10 : BitVec 32 := Scalar.addi v7 c1_i32_1
  let c63_i32 : BitVec 32 := 63#32
  let v11 : BitVec 32 := Scalar.minsi v10 c63_i32
  let c128_i32_27 : BitVec 32 := 128#32
  let v55 : BitVec 32 := Scalar.muli v11 c128_i32_27
  let v56 : BitVec 32 := v55
  let v57 : Index := Scalar.indexCast v56
  let c0_29 : Index := 0#32
  ![0, v57.toNat, 0]
def k0_mult4 (i : grid0.Coords) : BitVec 32 :=
  let arg1 : BitVec 32 := BitVec.ofNat 32 (i 1).val
  let c8_i32_47 : BitVec 32 := 8#32
  let v91 : BitVec 32 := Scalar.muli arg1 c8_i32_47
  let c0_i32_48 : BitVec 32 := 0#32
  let v92 : BitVec 32 := Scalar.addi v91 c0_i32_48
  let c1_i32_49 : BitVec 32 := 1#32
  let v93 : BitVec 32 := Scalar.subi v92 c1_i32_49
  let c0_i32_50 : BitVec 32 := 0#32
  let v94 : BitVec 32 := Scalar.maxsi v93 c0_i32_50
  let c128_i32_75 : BitVec 32 := 128#32
  let v130 : BitVec 32 := Scalar.muli v94 c128_i32_75
  v130
def k0_mult5 (i : grid0.Coords) : BitVec 32 :=
  let arg1 : BitVec 32 := BitVec.ofNat 32 (i 1).val
  let c8_i32_47 : BitVec 32 := 8#32
  let v91 : BitVec 32 := Scalar.muli arg1 c8_i32_47
  let c0_i32_48 : BitVec 32 := 0#32
  let v92 : BitVec 32 := Scalar.addi v91 c0_i32_48
  let c128_i32_78 : BitVec 32 := 128#32
  let v135 : BitVec 32 := Scalar.muli v92 c128_i32_78
  v135
def k0_mult6 (i : grid0.Coords) : BitVec 32 :=
  let arg1 : BitVec 32 := BitVec.ofNat 32 (i 1).val
  let c8_i32_47 : BitVec 32 := 8#32
  let v91 : BitVec 32 := Scalar.muli arg1 c8_i32_47
  let c0_i32_48 : BitVec 32 := 0#32
  let v92 : BitVec 32 := Scalar.addi v91 c0_i32_48
  let c1_i32_51 : BitVec 32 := 1#32
  let v95 : BitVec 32 := Scalar.addi v92 c1_i32_51
  let c63_i32_52 : BitVec 32 := 63#32
  let v96 : BitVec 32 := Scalar.minsi v95 c63_i32_52
  let c128_i32_81 : BitVec 32 := 128#32
  let v140 : BitVec 32 := Scalar.muli v96 c128_i32_81
  v140
def k0_off4 (i : grid0.Coords) (c0_i32_102 : BitVec 32) : Fin 4 → Nat :=
  let c0_109 : Index := 0#32
  let arg1 : BitVec 32 := BitVec.ofNat 32 (i 1).val
  let c8_i32_101 : BitVec 32 := 8#32
  let v176 : BitVec 32 := Scalar.muli arg1 c8_i32_101
  let v177 : BitVec 32 := Scalar.addi v176 c0_i32_102
  let c1_i32_103 : BitVec 32 := 1#32
  let v178 : BitVec 32 := Scalar.subi v177 c1_i32_103
  let c0_i32_104 : BitVec 32 := 0#32
  let v179 : BitVec 32 := Scalar.maxsi v178 c0_i32_104
  let v183 : Index := Scalar.indexCast v179
  let c0_110 : Index := 0#32
  let c0_111 : Index := 0#32
  ![0, v183.toNat, 0, 0]
def k0_off5 (i : grid0.Coords) (c0_i32_102 : BitVec 32) : Fin 4 → Nat :=
  let c0_112 : Index := 0#32
  let arg1 : BitVec 32 := BitVec.ofNat 32 (i 1).val
  let c8_i32_101 : BitVec 32 := 8#32
  let v176 : BitVec 32 := Scalar.muli arg1 c8_i32_101
  let v177 : BitVec 32 := Scalar.addi v176 c0_i32_102
  let v186 : Index := Scalar.indexCast v177
  let c0_113 : Index := 0#32
  let c0_114 : Index := 0#32
  ![0, v186.toNat, 0, 0]
def k0_off6 (i : grid0.Coords) (c0_i32_102 : BitVec 32) : Fin 4 → Nat :=
  let c0_115 : Index := 0#32
  let arg1 : BitVec 32 := BitVec.ofNat 32 (i 1).val
  let c8_i32_101 : BitVec 32 := 8#32
  let v176 : BitVec 32 := Scalar.muli arg1 c8_i32_101
  let v177 : BitVec 32 := Scalar.addi v176 c0_i32_102
  let c1_i32_105 : BitVec 32 := 1#32
  let v180 : BitVec 32 := Scalar.addi v177 c1_i32_105
  let c63_i32_106 : BitVec 32 := 63#32
  let v181 : BitVec 32 := Scalar.minsi v180 c63_i32_106
  let v189 : Index := Scalar.indexCast v181
  let c0_116 : Index := 0#32
  let c0_117 : Index := 0#32
  ![0, v189.toNat, 0, 0]
def k0_mult7 (i : grid0.Coords) : BitVec 32 :=
  let arg1 : BitVec 32 := BitVec.ofNat 32 (i 1).val
  let c8_i32_145 : BitVec 32 := 8#32
  let v233 : BitVec 32 := Scalar.muli arg1 c8_i32_145
  let c1_i32_146 : BitVec 32 := 1#32
  let v234 : BitVec 32 := Scalar.addi v233 c1_i32_146
  let c1_i32_147 : BitVec 32 := 1#32
  let v235 : BitVec 32 := Scalar.subi v234 c1_i32_147
  let c0_i32_148 : BitVec 32 := 0#32
  let v236 : BitVec 32 := Scalar.maxsi v235 c0_i32_148
  let c128_i32_176 : BitVec 32 := 128#32
  let v272 : BitVec 32 := Scalar.muli v236 c128_i32_176
  v272
def k0_mult8 (i : grid0.Coords) : BitVec 32 :=
  let arg1 : BitVec 32 := BitVec.ofNat 32 (i 1).val
  let c8_i32_145 : BitVec 32 := 8#32
  let v233 : BitVec 32 := Scalar.muli arg1 c8_i32_145
  let c1_i32_146 : BitVec 32 := 1#32
  let v234 : BitVec 32 := Scalar.addi v233 c1_i32_146
  let c128_i32_179 : BitVec 32 := 128#32
  let v277 : BitVec 32 := Scalar.muli v234 c128_i32_179
  v277
def k0_mult9 (i : grid0.Coords) : BitVec 32 :=
  let arg1 : BitVec 32 := BitVec.ofNat 32 (i 1).val
  let c8_i32_145 : BitVec 32 := 8#32
  let v233 : BitVec 32 := Scalar.muli arg1 c8_i32_145
  let c1_i32_146 : BitVec 32 := 1#32
  let v234 : BitVec 32 := Scalar.addi v233 c1_i32_146
  let c1_i32_149 : BitVec 32 := 1#32
  let v237 : BitVec 32 := Scalar.addi v234 c1_i32_149
  let c63_i32_150 : BitVec 32 := 63#32
  let v238 : BitVec 32 := Scalar.minsi v237 c63_i32_150
  let c128_i32_182 : BitVec 32 := 128#32
  let v282 : BitVec 32 := Scalar.muli v238 c128_i32_182
  v282
def k0_off7 (i : grid0.Coords) (c0_i32_203 : BitVec 32) : Fin 4 → Nat :=
  let c0_210 : Index := 0#32
  let arg1 : BitVec 32 := BitVec.ofNat 32 (i 1).val
  let c8_i32_202 : BitVec 32 := 8#32
  let v318 : BitVec 32 := Scalar.muli arg1 c8_i32_202
  let v319 : BitVec 32 := Scalar.addi v318 c0_i32_203
  let c1_i32_204 : BitVec 32 := 1#32
  let v320 : BitVec 32 := Scalar.subi v319 c1_i32_204
  let c0_i32_205 : BitVec 32 := 0#32
  let v321 : BitVec 32 := Scalar.maxsi v320 c0_i32_205
  let v325 : Index := Scalar.indexCast v321
  let c64 : Index := 64#32
  let c0_211 : Index := 0#32
  ![0, v325.toNat, 64, 0]
def k0_off8 (i : grid0.Coords) (c0_i32_203 : BitVec 32) : Fin 4 → Nat :=
  let c0_212 : Index := 0#32
  let arg1 : BitVec 32 := BitVec.ofNat 32 (i 1).val
  let c8_i32_202 : BitVec 32 := 8#32
  let v318 : BitVec 32 := Scalar.muli arg1 c8_i32_202
  let v319 : BitVec 32 := Scalar.addi v318 c0_i32_203
  let v328 : Index := Scalar.indexCast v319
  let c64_213 : Index := 64#32
  let c0_214 : Index := 0#32
  ![0, v328.toNat, 64, 0]
def k0_off9 (i : grid0.Coords) (c0_i32_203 : BitVec 32) : Fin 4 → Nat :=
  let c0_215 : Index := 0#32
  let arg1 : BitVec 32 := BitVec.ofNat 32 (i 1).val
  let c8_i32_202 : BitVec 32 := 8#32
  let v318 : BitVec 32 := Scalar.muli arg1 c8_i32_202
  let v319 : BitVec 32 := Scalar.addi v318 c0_i32_203
  let c1_i32_206 : BitVec 32 := 1#32
  let v322 : BitVec 32 := Scalar.addi v319 c1_i32_206
  let c63_i32_207 : BitVec 32 := 63#32
  let v323 : BitVec 32 := Scalar.minsi v322 c63_i32_207
  let v331 : Index := Scalar.indexCast v323
  let c64_216 : Index := 64#32
  let c0_217 : Index := 0#32
  ![0, v331.toNat, 64, 0]
def k0_mult10 (i : grid0.Coords) : BitVec 32 :=
  let arg1 : BitVec 32 := BitVec.ofNat 32 (i 1).val
  let c8_i32_245 : BitVec 32 := 8#32
  let v375 : BitVec 32 := Scalar.muli arg1 c8_i32_245
  let c1_i32_246 : BitVec 32 := 1#32
  let v376 : BitVec 32 := Scalar.addi v375 c1_i32_246
  let c1_i32_247 : BitVec 32 := 1#32
  let v377 : BitVec 32 := Scalar.subi v376 c1_i32_247
  let c0_i32_248 : BitVec 32 := 0#32
  let v378 : BitVec 32 := Scalar.maxsi v377 c0_i32_248
  let c128_i32_277 : BitVec 32 := 128#32
  let v414 : BitVec 32 := Scalar.muli v378 c128_i32_277
  v414
def k0_mult11 (i : grid0.Coords) : BitVec 32 :=
  let arg1 : BitVec 32 := BitVec.ofNat 32 (i 1).val
  let c8_i32_245 : BitVec 32 := 8#32
  let v375 : BitVec 32 := Scalar.muli arg1 c8_i32_245
  let c1_i32_246 : BitVec 32 := 1#32
  let v376 : BitVec 32 := Scalar.addi v375 c1_i32_246
  let c128_i32_280 : BitVec 32 := 128#32
  let v419 : BitVec 32 := Scalar.muli v376 c128_i32_280
  v419
def k0_mult12 (i : grid0.Coords) : BitVec 32 :=
  let arg1 : BitVec 32 := BitVec.ofNat 32 (i 1).val
  let c8_i32_245 : BitVec 32 := 8#32
  let v375 : BitVec 32 := Scalar.muli arg1 c8_i32_245
  let c1_i32_246 : BitVec 32 := 1#32
  let v376 : BitVec 32 := Scalar.addi v375 c1_i32_246
  let c1_i32_249 : BitVec 32 := 1#32
  let v379 : BitVec 32 := Scalar.addi v376 c1_i32_249
  let c63_i32_250 : BitVec 32 := 63#32
  let v380 : BitVec 32 := Scalar.minsi v379 c63_i32_250
  let c128_i32_283 : BitVec 32 := 128#32
  let v424 : BitVec 32 := Scalar.muli v380 c128_i32_283
  v424
def k0_mult13 (i : grid0.Coords) : BitVec 32 :=
  let arg1 : BitVec 32 := BitVec.ofNat 32 (i 1).val
  let c8_i32_347 : BitVec 32 := 8#32
  let v517 : BitVec 32 := Scalar.muli arg1 c8_i32_347
  let c2_i32 : BitVec 32 := 2#32
  let v518 : BitVec 32 := Scalar.addi v517 c2_i32
  let c1_i32_348 : BitVec 32 := 1#32
  let v519 : BitVec 32 := Scalar.subi v518 c1_i32_348
  let c0_i32_349 : BitVec 32 := 0#32
  let v520 : BitVec 32 := Scalar.maxsi v519 c0_i32_349
  let c128_i32_377 : BitVec 32 := 128#32
  let v556 : BitVec 32 := Scalar.muli v520 c128_i32_377
  v556
def k0_mult14 (i : grid0.Coords) : BitVec 32 :=
  let arg1 : BitVec 32 := BitVec.ofNat 32 (i 1).val
  let c8_i32_347 : BitVec 32 := 8#32
  let v517 : BitVec 32 := Scalar.muli arg1 c8_i32_347
  let c2_i32 : BitVec 32 := 2#32
  let v518 : BitVec 32 := Scalar.addi v517 c2_i32
  let c128_i32_380 : BitVec 32 := 128#32
  let v561 : BitVec 32 := Scalar.muli v518 c128_i32_380
  v561
def k0_mult15 (i : grid0.Coords) : BitVec 32 :=
  let arg1 : BitVec 32 := BitVec.ofNat 32 (i 1).val
  let c8_i32_347 : BitVec 32 := 8#32
  let v517 : BitVec 32 := Scalar.muli arg1 c8_i32_347
  let c2_i32 : BitVec 32 := 2#32
  let v518 : BitVec 32 := Scalar.addi v517 c2_i32
  let c1_i32_350 : BitVec 32 := 1#32
  let v521 : BitVec 32 := Scalar.addi v518 c1_i32_350
  let c63_i32_351 : BitVec 32 := 63#32
  let v522 : BitVec 32 := Scalar.minsi v521 c63_i32_351
  let c128_i32_383 : BitVec 32 := 128#32
  let v566 : BitVec 32 := Scalar.muli v522 c128_i32_383
  v566
def k0_mult16 (i : grid0.Coords) : BitVec 32 :=
  let arg1 : BitVec 32 := BitVec.ofNat 32 (i 1).val
  let c8_i32_447 : BitVec 32 := 8#32
  let v659 : BitVec 32 := Scalar.muli arg1 c8_i32_447
  let c2_i32_448 : BitVec 32 := 2#32
  let v660 : BitVec 32 := Scalar.addi v659 c2_i32_448
  let c1_i32_449 : BitVec 32 := 1#32
  let v661 : BitVec 32 := Scalar.subi v660 c1_i32_449
  let c0_i32_450 : BitVec 32 := 0#32
  let v662 : BitVec 32 := Scalar.maxsi v661 c0_i32_450
  let c128_i32_479 : BitVec 32 := 128#32
  let v698 : BitVec 32 := Scalar.muli v662 c128_i32_479
  v698
def k0_mult17 (i : grid0.Coords) : BitVec 32 :=
  let arg1 : BitVec 32 := BitVec.ofNat 32 (i 1).val
  let c8_i32_447 : BitVec 32 := 8#32
  let v659 : BitVec 32 := Scalar.muli arg1 c8_i32_447
  let c2_i32_448 : BitVec 32 := 2#32
  let v660 : BitVec 32 := Scalar.addi v659 c2_i32_448
  let c128_i32_482 : BitVec 32 := 128#32
  let v703 : BitVec 32 := Scalar.muli v660 c128_i32_482
  v703
def k0_mult18 (i : grid0.Coords) : BitVec 32 :=
  let arg1 : BitVec 32 := BitVec.ofNat 32 (i 1).val
  let c8_i32_447 : BitVec 32 := 8#32
  let v659 : BitVec 32 := Scalar.muli arg1 c8_i32_447
  let c2_i32_448 : BitVec 32 := 2#32
  let v660 : BitVec 32 := Scalar.addi v659 c2_i32_448
  let c1_i32_451 : BitVec 32 := 1#32
  let v663 : BitVec 32 := Scalar.addi v660 c1_i32_451
  let c63_i32_452 : BitVec 32 := 63#32
  let v664 : BitVec 32 := Scalar.minsi v663 c63_i32_452
  let c128_i32_485 : BitVec 32 := 128#32
  let v708 : BitVec 32 := Scalar.muli v664 c128_i32_485
  v708
def k0_mult19 (i : grid0.Coords) : BitVec 32 :=
  let arg1 : BitVec 32 := BitVec.ofNat 32 (i 1).val
  let c8_i32_549 : BitVec 32 := 8#32
  let v801 : BitVec 32 := Scalar.muli arg1 c8_i32_549
  let c3_i32 : BitVec 32 := 3#32
  let v802 : BitVec 32 := Scalar.addi v801 c3_i32
  let c1_i32_550 : BitVec 32 := 1#32
  let v803 : BitVec 32 := Scalar.subi v802 c1_i32_550
  let c0_i32_551 : BitVec 32 := 0#32
  let v804 : BitVec 32 := Scalar.maxsi v803 c0_i32_551
  let c128_i32_579 : BitVec 32 := 128#32
  let v840 : BitVec 32 := Scalar.muli v804 c128_i32_579
  v840
def k0_mult20 (i : grid0.Coords) : BitVec 32 :=
  let arg1 : BitVec 32 := BitVec.ofNat 32 (i 1).val
  let c8_i32_549 : BitVec 32 := 8#32
  let v801 : BitVec 32 := Scalar.muli arg1 c8_i32_549
  let c3_i32 : BitVec 32 := 3#32
  let v802 : BitVec 32 := Scalar.addi v801 c3_i32
  let c128_i32_582 : BitVec 32 := 128#32
  let v845 : BitVec 32 := Scalar.muli v802 c128_i32_582
  v845
def k0_mult21 (i : grid0.Coords) : BitVec 32 :=
  let arg1 : BitVec 32 := BitVec.ofNat 32 (i 1).val
  let c8_i32_549 : BitVec 32 := 8#32
  let v801 : BitVec 32 := Scalar.muli arg1 c8_i32_549
  let c3_i32 : BitVec 32 := 3#32
  let v802 : BitVec 32 := Scalar.addi v801 c3_i32
  let c1_i32_552 : BitVec 32 := 1#32
  let v805 : BitVec 32 := Scalar.addi v802 c1_i32_552
  let c63_i32_553 : BitVec 32 := 63#32
  let v806 : BitVec 32 := Scalar.minsi v805 c63_i32_553
  let c128_i32_585 : BitVec 32 := 128#32
  let v850 : BitVec 32 := Scalar.muli v806 c128_i32_585
  v850
def k0_mult22 (i : grid0.Coords) : BitVec 32 :=
  let arg1 : BitVec 32 := BitVec.ofNat 32 (i 1).val
  let c8_i32_649 : BitVec 32 := 8#32
  let v943 : BitVec 32 := Scalar.muli arg1 c8_i32_649
  let c3_i32_650 : BitVec 32 := 3#32
  let v944 : BitVec 32 := Scalar.addi v943 c3_i32_650
  let c1_i32_651 : BitVec 32 := 1#32
  let v945 : BitVec 32 := Scalar.subi v944 c1_i32_651
  let c0_i32_652 : BitVec 32 := 0#32
  let v946 : BitVec 32 := Scalar.maxsi v945 c0_i32_652
  let c128_i32_681 : BitVec 32 := 128#32
  let v982 : BitVec 32 := Scalar.muli v946 c128_i32_681
  v982
def k0_mult23 (i : grid0.Coords) : BitVec 32 :=
  let arg1 : BitVec 32 := BitVec.ofNat 32 (i 1).val
  let c8_i32_649 : BitVec 32 := 8#32
  let v943 : BitVec 32 := Scalar.muli arg1 c8_i32_649
  let c3_i32_650 : BitVec 32 := 3#32
  let v944 : BitVec 32 := Scalar.addi v943 c3_i32_650
  let c128_i32_684 : BitVec 32 := 128#32
  let v987 : BitVec 32 := Scalar.muli v944 c128_i32_684
  v987
def k0_mult24 (i : grid0.Coords) : BitVec 32 :=
  let arg1 : BitVec 32 := BitVec.ofNat 32 (i 1).val
  let c8_i32_649 : BitVec 32 := 8#32
  let v943 : BitVec 32 := Scalar.muli arg1 c8_i32_649
  let c3_i32_650 : BitVec 32 := 3#32
  let v944 : BitVec 32 := Scalar.addi v943 c3_i32_650
  let c1_i32_653 : BitVec 32 := 1#32
  let v947 : BitVec 32 := Scalar.addi v944 c1_i32_653
  let c63_i32_654 : BitVec 32 := 63#32
  let v948 : BitVec 32 := Scalar.minsi v947 c63_i32_654
  let c128_i32_687 : BitVec 32 := 128#32
  let v992 : BitVec 32 := Scalar.muli v948 c128_i32_687
  v992
def k0_mult25 (i : grid0.Coords) : BitVec 32 :=
  let arg1 : BitVec 32 := BitVec.ofNat 32 (i 1).val
  let c8_i32_751 : BitVec 32 := 8#32
  let v1085 : BitVec 32 := Scalar.muli arg1 c8_i32_751
  let c4_i32 : BitVec 32 := 4#32
  let v1086 : BitVec 32 := Scalar.addi v1085 c4_i32
  let c1_i32_752 : BitVec 32 := 1#32
  let v1087 : BitVec 32 := Scalar.subi v1086 c1_i32_752
  let c0_i32_753 : BitVec 32 := 0#32
  let v1088 : BitVec 32 := Scalar.maxsi v1087 c0_i32_753
  let c128_i32_781 : BitVec 32 := 128#32
  let v1124 : BitVec 32 := Scalar.muli v1088 c128_i32_781
  v1124
def k0_mult26 (i : grid0.Coords) : BitVec 32 :=
  let arg1 : BitVec 32 := BitVec.ofNat 32 (i 1).val
  let c8_i32_751 : BitVec 32 := 8#32
  let v1085 : BitVec 32 := Scalar.muli arg1 c8_i32_751
  let c4_i32 : BitVec 32 := 4#32
  let v1086 : BitVec 32 := Scalar.addi v1085 c4_i32
  let c128_i32_784 : BitVec 32 := 128#32
  let v1129 : BitVec 32 := Scalar.muli v1086 c128_i32_784
  v1129
def k0_mult27 (i : grid0.Coords) : BitVec 32 :=
  let arg1 : BitVec 32 := BitVec.ofNat 32 (i 1).val
  let c8_i32_751 : BitVec 32 := 8#32
  let v1085 : BitVec 32 := Scalar.muli arg1 c8_i32_751
  let c4_i32 : BitVec 32 := 4#32
  let v1086 : BitVec 32 := Scalar.addi v1085 c4_i32
  let c1_i32_754 : BitVec 32 := 1#32
  let v1089 : BitVec 32 := Scalar.addi v1086 c1_i32_754
  let c63_i32_755 : BitVec 32 := 63#32
  let v1090 : BitVec 32 := Scalar.minsi v1089 c63_i32_755
  let c128_i32_787 : BitVec 32 := 128#32
  let v1134 : BitVec 32 := Scalar.muli v1090 c128_i32_787
  v1134
def k0_mult28 (i : grid0.Coords) : BitVec 32 :=
  let arg1 : BitVec 32 := BitVec.ofNat 32 (i 1).val
  let c8_i32_851 : BitVec 32 := 8#32
  let v1227 : BitVec 32 := Scalar.muli arg1 c8_i32_851
  let c4_i32_852 : BitVec 32 := 4#32
  let v1228 : BitVec 32 := Scalar.addi v1227 c4_i32_852
  let c1_i32_853 : BitVec 32 := 1#32
  let v1229 : BitVec 32 := Scalar.subi v1228 c1_i32_853
  let c0_i32_854 : BitVec 32 := 0#32
  let v1230 : BitVec 32 := Scalar.maxsi v1229 c0_i32_854
  let c128_i32_883 : BitVec 32 := 128#32
  let v1266 : BitVec 32 := Scalar.muli v1230 c128_i32_883
  v1266
def k0_mult29 (i : grid0.Coords) : BitVec 32 :=
  let arg1 : BitVec 32 := BitVec.ofNat 32 (i 1).val
  let c8_i32_851 : BitVec 32 := 8#32
  let v1227 : BitVec 32 := Scalar.muli arg1 c8_i32_851
  let c4_i32_852 : BitVec 32 := 4#32
  let v1228 : BitVec 32 := Scalar.addi v1227 c4_i32_852
  let c128_i32_886 : BitVec 32 := 128#32
  let v1271 : BitVec 32 := Scalar.muli v1228 c128_i32_886
  v1271
def k0_mult30 (i : grid0.Coords) : BitVec 32 :=
  let arg1 : BitVec 32 := BitVec.ofNat 32 (i 1).val
  let c8_i32_851 : BitVec 32 := 8#32
  let v1227 : BitVec 32 := Scalar.muli arg1 c8_i32_851
  let c4_i32_852 : BitVec 32 := 4#32
  let v1228 : BitVec 32 := Scalar.addi v1227 c4_i32_852
  let c1_i32_855 : BitVec 32 := 1#32
  let v1231 : BitVec 32 := Scalar.addi v1228 c1_i32_855
  let c63_i32_856 : BitVec 32 := 63#32
  let v1232 : BitVec 32 := Scalar.minsi v1231 c63_i32_856
  let c128_i32_889 : BitVec 32 := 128#32
  let v1276 : BitVec 32 := Scalar.muli v1232 c128_i32_889
  v1276
def k0_mult31 (i : grid0.Coords) : BitVec 32 :=
  let arg1 : BitVec 32 := BitVec.ofNat 32 (i 1).val
  let c8_i32_953 : BitVec 32 := 8#32
  let v1369 : BitVec 32 := Scalar.muli arg1 c8_i32_953
  let c5_i32 : BitVec 32 := 5#32
  let v1370 : BitVec 32 := Scalar.addi v1369 c5_i32
  let c1_i32_954 : BitVec 32 := 1#32
  let v1371 : BitVec 32 := Scalar.subi v1370 c1_i32_954
  let c0_i32_955 : BitVec 32 := 0#32
  let v1372 : BitVec 32 := Scalar.maxsi v1371 c0_i32_955
  let c128_i32_983 : BitVec 32 := 128#32
  let v1408 : BitVec 32 := Scalar.muli v1372 c128_i32_983
  v1408
def k0_mult32 (i : grid0.Coords) : BitVec 32 :=
  let arg1 : BitVec 32 := BitVec.ofNat 32 (i 1).val
  let c8_i32_953 : BitVec 32 := 8#32
  let v1369 : BitVec 32 := Scalar.muli arg1 c8_i32_953
  let c5_i32 : BitVec 32 := 5#32
  let v1370 : BitVec 32 := Scalar.addi v1369 c5_i32
  let c128_i32_986 : BitVec 32 := 128#32
  let v1413 : BitVec 32 := Scalar.muli v1370 c128_i32_986
  v1413
def k0_mult33 (i : grid0.Coords) : BitVec 32 :=
  let arg1 : BitVec 32 := BitVec.ofNat 32 (i 1).val
  let c8_i32_953 : BitVec 32 := 8#32
  let v1369 : BitVec 32 := Scalar.muli arg1 c8_i32_953
  let c5_i32 : BitVec 32 := 5#32
  let v1370 : BitVec 32 := Scalar.addi v1369 c5_i32
  let c1_i32_956 : BitVec 32 := 1#32
  let v1373 : BitVec 32 := Scalar.addi v1370 c1_i32_956
  let c63_i32_957 : BitVec 32 := 63#32
  let v1374 : BitVec 32 := Scalar.minsi v1373 c63_i32_957
  let c128_i32_989 : BitVec 32 := 128#32
  let v1418 : BitVec 32 := Scalar.muli v1374 c128_i32_989
  v1418
def k0_mult34 (i : grid0.Coords) : BitVec 32 :=
  let arg1 : BitVec 32 := BitVec.ofNat 32 (i 1).val
  let c8_i32_1053 : BitVec 32 := 8#32
  let v1511 : BitVec 32 := Scalar.muli arg1 c8_i32_1053
  let c5_i32_1054 : BitVec 32 := 5#32
  let v1512 : BitVec 32 := Scalar.addi v1511 c5_i32_1054
  let c1_i32_1055 : BitVec 32 := 1#32
  let v1513 : BitVec 32 := Scalar.subi v1512 c1_i32_1055
  let c0_i32_1056 : BitVec 32 := 0#32
  let v1514 : BitVec 32 := Scalar.maxsi v1513 c0_i32_1056
  let c128_i32_1085 : BitVec 32 := 128#32
  let v1550 : BitVec 32 := Scalar.muli v1514 c128_i32_1085
  v1550
def k0_mult35 (i : grid0.Coords) : BitVec 32 :=
  let arg1 : BitVec 32 := BitVec.ofNat 32 (i 1).val
  let c8_i32_1053 : BitVec 32 := 8#32
  let v1511 : BitVec 32 := Scalar.muli arg1 c8_i32_1053
  let c5_i32_1054 : BitVec 32 := 5#32
  let v1512 : BitVec 32 := Scalar.addi v1511 c5_i32_1054
  let c128_i32_1088 : BitVec 32 := 128#32
  let v1555 : BitVec 32 := Scalar.muli v1512 c128_i32_1088
  v1555
def k0_mult36 (i : grid0.Coords) : BitVec 32 :=
  let arg1 : BitVec 32 := BitVec.ofNat 32 (i 1).val
  let c8_i32_1053 : BitVec 32 := 8#32
  let v1511 : BitVec 32 := Scalar.muli arg1 c8_i32_1053
  let c5_i32_1054 : BitVec 32 := 5#32
  let v1512 : BitVec 32 := Scalar.addi v1511 c5_i32_1054
  let c1_i32_1057 : BitVec 32 := 1#32
  let v1515 : BitVec 32 := Scalar.addi v1512 c1_i32_1057
  let c63_i32_1058 : BitVec 32 := 63#32
  let v1516 : BitVec 32 := Scalar.minsi v1515 c63_i32_1058
  let c128_i32_1091 : BitVec 32 := 128#32
  let v1560 : BitVec 32 := Scalar.muli v1516 c128_i32_1091
  v1560
def k0_mult37 (i : grid0.Coords) : BitVec 32 :=
  let arg1 : BitVec 32 := BitVec.ofNat 32 (i 1).val
  let c8_i32_1155 : BitVec 32 := 8#32
  let v1653 : BitVec 32 := Scalar.muli arg1 c8_i32_1155
  let c6_i32 : BitVec 32 := 6#32
  let v1654 : BitVec 32 := Scalar.addi v1653 c6_i32
  let c1_i32_1156 : BitVec 32 := 1#32
  let v1655 : BitVec 32 := Scalar.subi v1654 c1_i32_1156
  let c0_i32_1157 : BitVec 32 := 0#32
  let v1656 : BitVec 32 := Scalar.maxsi v1655 c0_i32_1157
  let c128_i32_1185 : BitVec 32 := 128#32
  let v1692 : BitVec 32 := Scalar.muli v1656 c128_i32_1185
  v1692
def k0_mult38 (i : grid0.Coords) : BitVec 32 :=
  let arg1 : BitVec 32 := BitVec.ofNat 32 (i 1).val
  let c8_i32_1155 : BitVec 32 := 8#32
  let v1653 : BitVec 32 := Scalar.muli arg1 c8_i32_1155
  let c6_i32 : BitVec 32 := 6#32
  let v1654 : BitVec 32 := Scalar.addi v1653 c6_i32
  let c128_i32_1188 : BitVec 32 := 128#32
  let v1697 : BitVec 32 := Scalar.muli v1654 c128_i32_1188
  v1697
def k0_mult39 (i : grid0.Coords) : BitVec 32 :=
  let arg1 : BitVec 32 := BitVec.ofNat 32 (i 1).val
  let c8_i32_1155 : BitVec 32 := 8#32
  let v1653 : BitVec 32 := Scalar.muli arg1 c8_i32_1155
  let c6_i32 : BitVec 32 := 6#32
  let v1654 : BitVec 32 := Scalar.addi v1653 c6_i32
  let c1_i32_1158 : BitVec 32 := 1#32
  let v1657 : BitVec 32 := Scalar.addi v1654 c1_i32_1158
  let c63_i32_1159 : BitVec 32 := 63#32
  let v1658 : BitVec 32 := Scalar.minsi v1657 c63_i32_1159
  let c128_i32_1191 : BitVec 32 := 128#32
  let v1702 : BitVec 32 := Scalar.muli v1658 c128_i32_1191
  v1702
def k0_mult40 (i : grid0.Coords) : BitVec 32 :=
  let arg1 : BitVec 32 := BitVec.ofNat 32 (i 1).val
  let c8_i32_1255 : BitVec 32 := 8#32
  let v1795 : BitVec 32 := Scalar.muli arg1 c8_i32_1255
  let c6_i32_1256 : BitVec 32 := 6#32
  let v1796 : BitVec 32 := Scalar.addi v1795 c6_i32_1256
  let c1_i32_1257 : BitVec 32 := 1#32
  let v1797 : BitVec 32 := Scalar.subi v1796 c1_i32_1257
  let c0_i32_1258 : BitVec 32 := 0#32
  let v1798 : BitVec 32 := Scalar.maxsi v1797 c0_i32_1258
  let c128_i32_1287 : BitVec 32 := 128#32
  let v1834 : BitVec 32 := Scalar.muli v1798 c128_i32_1287
  v1834
def k0_mult41 (i : grid0.Coords) : BitVec 32 :=
  let arg1 : BitVec 32 := BitVec.ofNat 32 (i 1).val
  let c8_i32_1255 : BitVec 32 := 8#32
  let v1795 : BitVec 32 := Scalar.muli arg1 c8_i32_1255
  let c6_i32_1256 : BitVec 32 := 6#32
  let v1796 : BitVec 32 := Scalar.addi v1795 c6_i32_1256
  let c128_i32_1290 : BitVec 32 := 128#32
  let v1839 : BitVec 32 := Scalar.muli v1796 c128_i32_1290
  v1839
def k0_mult42 (i : grid0.Coords) : BitVec 32 :=
  let arg1 : BitVec 32 := BitVec.ofNat 32 (i 1).val
  let c8_i32_1255 : BitVec 32 := 8#32
  let v1795 : BitVec 32 := Scalar.muli arg1 c8_i32_1255
  let c6_i32_1256 : BitVec 32 := 6#32
  let v1796 : BitVec 32 := Scalar.addi v1795 c6_i32_1256
  let c1_i32_1259 : BitVec 32 := 1#32
  let v1799 : BitVec 32 := Scalar.addi v1796 c1_i32_1259
  let c63_i32_1260 : BitVec 32 := 63#32
  let v1800 : BitVec 32 := Scalar.minsi v1799 c63_i32_1260
  let c128_i32_1293 : BitVec 32 := 128#32
  let v1844 : BitVec 32 := Scalar.muli v1800 c128_i32_1293
  v1844
def k0_mult43 (i : grid0.Coords) : BitVec 32 :=
  let arg1 : BitVec 32 := BitVec.ofNat 32 (i 1).val
  let c8_i32_1357 : BitVec 32 := 8#32
  let v1937 : BitVec 32 := Scalar.muli arg1 c8_i32_1357
  let c7_i32 : BitVec 32 := 7#32
  let v1938 : BitVec 32 := Scalar.addi v1937 c7_i32
  let c1_i32_1358 : BitVec 32 := 1#32
  let v1939 : BitVec 32 := Scalar.subi v1938 c1_i32_1358
  let c0_i32_1359 : BitVec 32 := 0#32
  let v1940 : BitVec 32 := Scalar.maxsi v1939 c0_i32_1359
  let c128_i32_1387 : BitVec 32 := 128#32
  let v1976 : BitVec 32 := Scalar.muli v1940 c128_i32_1387
  v1976
def k0_mult44 (i : grid0.Coords) : BitVec 32 :=
  let arg1 : BitVec 32 := BitVec.ofNat 32 (i 1).val
  let c8_i32_1357 : BitVec 32 := 8#32
  let v1937 : BitVec 32 := Scalar.muli arg1 c8_i32_1357
  let c7_i32 : BitVec 32 := 7#32
  let v1938 : BitVec 32 := Scalar.addi v1937 c7_i32
  let c128_i32_1390 : BitVec 32 := 128#32
  let v1981 : BitVec 32 := Scalar.muli v1938 c128_i32_1390
  v1981
def k0_mult45 (i : grid0.Coords) : BitVec 32 :=
  let arg1 : BitVec 32 := BitVec.ofNat 32 (i 1).val
  let c8_i32_1357 : BitVec 32 := 8#32
  let v1937 : BitVec 32 := Scalar.muli arg1 c8_i32_1357
  let c7_i32 : BitVec 32 := 7#32
  let v1938 : BitVec 32 := Scalar.addi v1937 c7_i32
  let c1_i32_1360 : BitVec 32 := 1#32
  let v1941 : BitVec 32 := Scalar.addi v1938 c1_i32_1360
  let c63_i32_1361 : BitVec 32 := 63#32
  let v1942 : BitVec 32 := Scalar.minsi v1941 c63_i32_1361
  let c128_i32_1393 : BitVec 32 := 128#32
  let v1986 : BitVec 32 := Scalar.muli v1942 c128_i32_1393
  v1986
def k0_mult46 (i : grid0.Coords) : BitVec 32 :=
  let arg1 : BitVec 32 := BitVec.ofNat 32 (i 1).val
  let c8_i32_1457 : BitVec 32 := 8#32
  let v2079 : BitVec 32 := Scalar.muli arg1 c8_i32_1457
  let c7_i32_1458 : BitVec 32 := 7#32
  let v2080 : BitVec 32 := Scalar.addi v2079 c7_i32_1458
  let c1_i32_1459 : BitVec 32 := 1#32
  let v2081 : BitVec 32 := Scalar.subi v2080 c1_i32_1459
  let c0_i32_1460 : BitVec 32 := 0#32
  let v2082 : BitVec 32 := Scalar.maxsi v2081 c0_i32_1460
  let c128_i32_1489 : BitVec 32 := 128#32
  let v2118 : BitVec 32 := Scalar.muli v2082 c128_i32_1489
  v2118
def k0_mult47 (i : grid0.Coords) : BitVec 32 :=
  let arg1 : BitVec 32 := BitVec.ofNat 32 (i 1).val
  let c8_i32_1457 : BitVec 32 := 8#32
  let v2079 : BitVec 32 := Scalar.muli arg1 c8_i32_1457
  let c7_i32_1458 : BitVec 32 := 7#32
  let v2080 : BitVec 32 := Scalar.addi v2079 c7_i32_1458
  let c128_i32_1492 : BitVec 32 := 128#32
  let v2123 : BitVec 32 := Scalar.muli v2080 c128_i32_1492
  v2123
def k0_mult48 (i : grid0.Coords) : BitVec 32 :=
  let arg1 : BitVec 32 := BitVec.ofNat 32 (i 1).val
  let c8_i32_1457 : BitVec 32 := 8#32
  let v2079 : BitVec 32 := Scalar.muli arg1 c8_i32_1457
  let c7_i32_1458 : BitVec 32 := 7#32
  let v2080 : BitVec 32 := Scalar.addi v2079 c7_i32_1458
  let c1_i32_1461 : BitVec 32 := 1#32
  let v2083 : BitVec 32 := Scalar.addi v2080 c1_i32_1461
  let c63_i32_1462 : BitVec 32 := 63#32
  let v2084 : BitVec 32 := Scalar.minsi v2083 c63_i32_1462
  let c128_i32_1495 : BitVec 32 := 128#32
  let v2128 : BitVec 32 := Scalar.muli v2084 c128_i32_1495
  v2128
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x8x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x64x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S2x1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x8x64x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SwaIdeal.lean ====
variable {F : FTy → Type} [FloatOps F] [Named F]
def κ : String → Option EReal := fun
  | "log2e" => some (((Real.log 2)⁻¹ : ℝ) : EReal)
  | "swa_scale" => some (((Real.log 2)⁻¹ * 8⁻¹ : ℝ) : EReal)
  | _ => none
-- ==== SwaRefIdeal.lean ====
abbrev S4x8192x8x64 : Shape := ⟨4, ![4, 8192, 8, 64]⟩
abbrev S4x8192x2x64 : Shape := ⟨4, ![4, 8192, 2, 64]⟩
abbrev S8 : Shape := ⟨1, ![8]⟩
abbrev S64 : Shape := ⟨1, ![64]⟩
abbrev S4x8192x2x4x64 : Shape := ⟨5, ![4, 8192, 2, 4, 64]⟩
abbrev S4x8x8192x8192 : Shape := ⟨4, ![4, 8, 8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1x8x1x1 : Shape := ⟨4, ![1, 8, 1, 1]⟩
abbrev S4x8x8192 : Shape := ⟨3, ![4, 8, 8192]⟩
abbrev S4x8x8192x1 : Shape := ⟨4, ![4, 8, 8192, 1]⟩
abbrev S4x8x64x8192 : Shape := ⟨4, ![4, 8, 64, 8192]⟩

abbrev nBuf : Space → Nat
  | .hbm => 51
  | .vmem => 0
  | .smem => 0
  | _ => 0

abbrev bufTy : (tb : Table) → Fin (tcTables nBuf tb) → BufTy
  | .hbm, ⟨0, _⟩ => ⟨S4x8192x8x64, .f32⟩
  | .hbm, ⟨1, _⟩ => ⟨S4x8192x2x64, .f32⟩
  | .hbm, ⟨2, _⟩ => ⟨S4x8192x2x64, .f32⟩
  | .hbm, ⟨3, _⟩ => ⟨S8, .f32⟩
  | .hbm, ⟨4, _⟩ => ⟨S64, .f32⟩
  | .hbm, ⟨5, _⟩ => ⟨S64, .f32⟩
  | .hbm, ⟨6, _⟩ => ⟨S4x8192x2x4x64, .f32⟩
  | .hbm, ⟨7, _⟩ => ⟨S4x8192x8x64, .f32⟩
  | .hbm, ⟨8, _⟩ => ⟨S4x8x8192x8192, .f32⟩
  | .hbm, ⟨9, _⟩ => ⟨S_, .f32⟩
  | .hbm, ⟨10, _⟩ => ⟨S4x8x8192x8192, .f32⟩
  | .hbm, ⟨11, _⟩ => ⟨S4x8x8192x8192, .f32⟩
  | .hbm, ⟨12, _⟩ => ⟨S8192, .i32⟩
  | .hbm, ⟨13, _⟩ => ⟨S8192x1, .i32⟩
  | .hbm, ⟨14, _⟩ => ⟨S1x8192, .i32⟩
  | .hbm, ⟨15, _⟩ => ⟨S8192x8192, .i32⟩
  | .hbm, ⟨16, _⟩ => ⟨S8192x8192, .i32⟩
  | .hbm, ⟨17, _⟩ => ⟨S8192x8192, .i32⟩
  | .hbm, ⟨18, _⟩ => ⟨S8192x8192, .i32⟩
  | .hbm, ⟨19, _⟩ => ⟨S_, .i32⟩
  | .hbm, ⟨20, _⟩ => ⟨S8192x8192, .i32⟩
  | .hbm, ⟨21, _⟩ => ⟨S8192x8192, .i1⟩
  | .hbm, ⟨22, _⟩ => ⟨S_, .f32⟩
  | .hbm, ⟨23, _⟩ => ⟨S_, .f32⟩
  | .hbm, ⟨24, _⟩ => ⟨S4x8x8192x8192, .i1⟩
  | .hbm, ⟨25, _⟩ => ⟨S4x8x8192x8192, .f32⟩
  | .hbm, ⟨26, _⟩ => ⟨S4x8x8192x8192, .f32⟩
  | .hbm, ⟨27, _⟩ => ⟨S1x8x1x1, .f32⟩
  | .hbm, ⟨28, _⟩ => ⟨S_, .f32⟩
  | .hbm, ⟨29, _⟩ => ⟨S4x8x8192, .f32⟩
  | .hbm, ⟨30, _⟩ => ⟨S4x8x8192x1, .f32⟩
  | .hbm, ⟨31, _⟩ => ⟨S4x8x8192x1, .f32⟩
  | .hbm, ⟨32, _⟩ => ⟨S4x8x8192x1, .f32⟩
  | .hbm, ⟨33, _⟩ => ⟨S4x8x8192x8192, .f32⟩
  | .hbm, ⟨34, _⟩ => ⟨S4x8x8192x8192, .f32⟩
  | .hbm, ⟨35, _⟩ => ⟨S4x8x8192x8192, .f32⟩
  | .hbm, ⟨36, _⟩ => ⟨S_, .f32⟩
  | .hbm, ⟨37, _⟩ => ⟨S4x8x8192, .f32⟩
  | .hbm, ⟨38, _⟩ => ⟨S4x8x8192x1, .f32⟩
  | .hbm, ⟨39, _⟩ => ⟨S4x8x8192x1, .f32⟩
  | .hbm, ⟨40, _⟩ => ⟨S4x8x8192x1, .f32⟩
  | .hbm, ⟨41, _⟩ => ⟨S4x8x8192x1, .f32⟩
  | .hbm, ⟨42, _⟩ => ⟨S4x8x8192x1, .f32⟩
  | .hbm, ⟨43, _⟩ => ⟨S4x8x8192x8192, .f32⟩
  | .hbm, ⟨44, _⟩ => ⟨S4x8x8192x8192, .f32⟩
  | .hbm, ⟨45, _⟩ => ⟨S4x8192x2x4x64, .f32⟩
  | .hbm, ⟨46, _⟩ => ⟨S4x8192x8x64, .f32⟩
  | .hbm, ⟨47, _⟩ => ⟨S4x8x64x8192, .f32⟩
  | .hbm, ⟨48, _⟩ => ⟨S4x8192x8x64, .f32⟩
  | .hbm, ⟨49, _⟩ => ⟨S4x8x64x8192, .f32⟩
  | .hbm, ⟨50, _⟩ => ⟨S4x8x64x8192, .bf16⟩
  | _, _ => ⟨S4x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]
-- ==== Mod.lean ====
abbrev S4x1024 : Shape := ⟨2, ![4, 1024]⟩
abbrev S8x1024 : Shape := ⟨2, ![8, 1024]⟩
abbrev S1x1024x9216 : Shape := ⟨3, ![1, 1024, 9216]⟩
abbrev S1x9216 : Shape := ⟨2, ![1, 9216]⟩
abbrev S_ : Shape := ⟨0, ![]⟩
abbrev S16x1024 : Shape := ⟨2, ![16, 1024]⟩
abbrev S1024x9216 : Shape := ⟨2, ![1024, 9216]⟩
abbrev S9216 : Shape := ⟨1, ![9216]⟩
abbrev S16x9216 : Shape := ⟨2, ![16, 9216]⟩
abbrev S1024x1152 : Shape := ⟨2, ![1024, 1152]⟩
abbrev S1x1152 : Shape := ⟨2, ![1, 1152]⟩
abbrev S16x1152 : Shape := ⟨2, ![16, 1152]⟩

abbrev nBuf : Space → Nat
  | .hbm => 11
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S8x1024, .f32⟩
  | .hbm, ⟨2, _⟩ => ⟨S1x1024x9216, .f32⟩
  | .hbm, ⟨3, _⟩ => ⟨S1x9216, .f32⟩
  | .hbm, ⟨4, _⟩ => ⟨S_, .f32⟩
  | .hbm, ⟨5, _⟩ => ⟨S4x1024, .f32⟩
  | .hbm, ⟨6, _⟩ => ⟨S16x1024, .f32⟩
  | .hbm, ⟨7, _⟩ => ⟨S1024x9216, .f32⟩
  | .hbm, ⟨8, _⟩ => ⟨S9216, .f32⟩
  | .hbm, ⟨9, _⟩ => ⟨S1x9216, .f32⟩
  | .hbm, ⟨10, _⟩ => ⟨S16x9216, .f32⟩
  | .local _ .vmem, ⟨0, _⟩ => ⟨S16x1024, .f32⟩
  | .local _ .vmem, ⟨1, _⟩ => ⟨S1024x1152, .f32⟩
  | .local _ .vmem, ⟨2, _⟩ => ⟨S1024x1152, .f32⟩
  | .local _ .vmem, ⟨3, _⟩ => ⟨S1x1152, .f32⟩
  | .local _ .vmem, ⟨4, _⟩ => ⟨S1x1152, .f32⟩
  | .local _ .vmem, ⟨5, _⟩ => ⟨S16x1152, .f32⟩
  | .local _ .vmem, ⟨6, _⟩ => ⟨S16x1152, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModRefIdeal.lean ====
abbrev S4x1024 : Shape := ⟨2, ![4, 1024]⟩
abbrev S8x1024 : Shape := ⟨2, ![8, 1024]⟩
abbrev S1x1024x9216 : Shape := ⟨3, ![1, 1024, 9216]⟩
abbrev S1x9216 : Shape := ⟨2, ![1, 9216]⟩
abbrev S_ : Shape := ⟨0, ![]⟩
abbrev S16x1024 : Shape := ⟨2, ![16, 1024]⟩
abbrev S1024x9216 : Shape := ⟨2, ![1024, 9216]⟩
abbrev S16x9216 : Shape := ⟨2, ![16, 9216]⟩
abbrev S9216 : Shape := ⟨1, ![9216]⟩

abbrev nBuf : Space → Nat
  | .hbm => 22
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S8x1024, .f32⟩
  | .hbm, ⟨2, _⟩ => ⟨S1x1024x9216, .f32⟩
  | .hbm, ⟨3, _⟩ => ⟨S1x9216, .f32⟩
  | .hbm, ⟨4, _⟩ => ⟨S_, .f32⟩
  | .hbm, ⟨5, _⟩ => ⟨S4x1024, .f32⟩
  | .hbm, ⟨6, _⟩ => ⟨S16x1024, .f32⟩
  | .hbm, ⟨7, _⟩ => ⟨S16x1024, .f32⟩
  | .hbm, ⟨8, _⟩ => ⟨S16x1024, .f32⟩
  | .hbm, ⟨9, _⟩ => ⟨S_, .f32⟩
  | .hbm, ⟨10, _⟩ => ⟨S16x1024, .f32⟩
  | .hbm, ⟨11, _⟩ => ⟨S16x1024, .f32⟩
  | .hbm, ⟨12, _⟩ => ⟨S_, .f32⟩
  | .hbm, ⟨13, _⟩ => ⟨S16x1024, .f32⟩
  | .hbm, ⟨14, _⟩ => ⟨S16x1024, .f32⟩
  | .hbm, ⟨15, _⟩ => ⟨S16x1024, .f32⟩
  | .hbm, ⟨16, _⟩ => ⟨S1024x9216, .f32⟩
  | .hbm, ⟨17, _⟩ => ⟨S16x9216, .f32⟩
  | .hbm, ⟨18, _⟩ => ⟨S9216, .f32⟩
  | .hbm, ⟨19, _⟩ => ⟨S1x9216, .f32⟩
  | .hbm, ⟨20, _⟩ => ⟨S16x9216, .f32⟩
  | .hbm, ⟨21, _⟩ => ⟨S16x9216, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]
-- ==== InProj.lean ====
abbrev S4x8192x1024 : Shape := ⟨3, ![4, 8192, 1024]⟩
abbrev S4x9216 : Shape := ⟨2, ![4, 9216]⟩
abbrev S1x1024 : Shape := ⟨2, ![1, 1024]⟩
abbrev S1x1024x1184 : Shape := ⟨3, ![1, 1024, 1184]⟩
abbrev S1x64 : Shape := ⟨2, ![1, 64]⟩
abbrev S1x256 : Shape := ⟨2, ![1, 256]⟩
abbrev S1x256x768 : Shape := ⟨3, ![1, 256, 768]⟩
abbrev S1x128 : Shape := ⟨2, ![1, 128]⟩
abbrev S1x128x1024 : Shape := ⟨3, ![1, 128, 1024]⟩
abbrev S1x96 : Shape := ⟨2, ![1, 96]⟩
abbrev S4x9x1x1024 : Shape := ⟨4, ![4, 9, 1, 1024]⟩
abbrev S4x1x1x1024 : Shape := ⟨4, ![4, 1, 1, 1024]⟩
abbrev S4x1x1024 : Shape := ⟨3, ![4, 1, 1024]⟩
abbrev S1024x1184 : Shape := ⟨2, ![1024, 1184]⟩
abbrev S1184x1024 : Shape := ⟨2, ![1184, 1024]⟩
abbrev S256x768 : Shape := ⟨2, ![256, 768]⟩
abbrev S256x8x96 : Shape := ⟨3, ![256, 8, 96]⟩
abbrev S_ : Shape := ⟨0, ![]⟩
abbrev S256x8x128 : Shape := ⟨3, ![256, 8, 128]⟩
abbrev S256x1024 : Shape := ⟨2, ![256, 1024]⟩
abbrev S1024x256 : Shape := ⟨2, ![1024, 256]⟩
abbrev S128x1024 : Shape := ⟨2, ![128, 1024]⟩
abbrev S1024x128 : Shape := ⟨2, ![1024, 128]⟩
abbrev S64 : Shape := ⟨1, ![64]⟩
abbrev S256 : Shape := ⟨1, ![256]⟩
abbrev S128 : Shape := ⟨1, ![128]⟩
abbrev S96 : Shape := ⟨1, ![96]⟩
abbrev S32 : Shape := ⟨1, ![32]⟩
abbrev S704 : Shape := ⟨1, ![704]⟩
abbrev S704x1 : Shape := ⟨2, ![704, 1]⟩
abbrev S704x512 : Shape := ⟨2, ![704, 512]⟩
abbrev S1024 : Shape := ⟨1, ![1024]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S32x8192 : Shape := ⟨2, ![32, 8192]⟩
abbrev S16 : Shape := ⟨1, ![16]⟩
abbrev S1x16 : Shape := ⟨2, ![1, 16]⟩
abbrev S8192x16 : Shape := ⟨2, ![8192, 16]⟩
abbrev S16x8192 : Shape := ⟨2, ![16, 8192]⟩
abbrev S96x8192 : Shape := ⟨2, ![96, 8192]⟩
abbrev S4x8x64x8192 : Shape := ⟨4, ![4, 8, 64, 8192]⟩
abbrev S4x8192x128 : Shape := ⟨3, ![4, 8192, 128]⟩
abbrev S4x64x128x128 : Shape := ⟨4, ![4, 64, 128, 128]⟩
abbrev S4x8x16x128x512 : Shape := ⟨5, ![4, 8, 16, 128, 512]⟩
abbrev S4x8x8192x128 : Shape := ⟨4, ![4, 8, 8192, 128]⟩
abbrev S4x8x4x64x2048 : Shape := ⟨5, ![4, 8, 4, 64, 2048]⟩
abbrev S1x1024x1024 : Shape := ⟨3, ![1, 1024, 1024]⟩
abbrev S1x1x1024 : Shape := ⟨3, ![1, 1, 1024]⟩
abbrev S96x1024 : Shape := ⟨2, ![96, 1024]⟩
abbrev S1x8x64x1024 : Shape := ⟨4, ![1, 8, 64, 1024]⟩
abbrev S1x1024x128 : Shape := ⟨3, ![1, 1024, 128]⟩
abbrev S1x8x128x128 : Shape := ⟨4, ![1, 8, 128, 128]⟩
abbrev S1x8x2x128x512 : Shape := ⟨5, ![1, 8, 2, 128, 512]⟩
abbrev S1x8x1024x128 : Shape := ⟨4, ![1, 8, 1024, 128]⟩
abbrev S1x8x1x64x1024 : Shape := ⟨5, ![1, 8, 1, 64, 1024]⟩
abbrev S2x1184x512 : Shape := ⟨3, ![2, 1184, 512]⟩
abbrev S2x256x512 : Shape := ⟨3, ![2, 256, 512]⟩
abbrev S2x128x512 : Shape := ⟨3, ![2, 128, 512]⟩
abbrev S2x1024x512 : Shape := ⟨3, ![2, 1024, 512]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S1184x512 : Shape := ⟨2, ![1184, 512]⟩
abbrev S1x1184x512 : Shape := ⟨3, ![1, 1184, 512]⟩
abbrev S32x512 : Shape := ⟨2, ![32, 512]⟩
abbrev S64x512 : Shape := ⟨2, ![64, 512]⟩
abbrev S1x512 : Shape := ⟨2, ![1, 512]⟩
abbrev S1x1x64x512 : Shape := ⟨4, ![1, 1, 64, 512]⟩
abbrev S128x512 : Shape := ⟨2, ![128, 512]⟩
abbrev S512x128 : Shape := ⟨2, ![512, 128]⟩
abbrev S1x512x128 : Shape := ⟨3, ![1, 512, 128]⟩
abbrev S128x128 : Shape := ⟨2, ![128, 128]⟩
abbrev S1x1x128x128 : Shape := ⟨4, ![1, 1, 128, 128]⟩
abbrev S256x512 : Shape := ⟨2, ![256, 512]⟩
abbrev S1x256x512 : Shape := ⟨3, ![1, 256, 512]⟩
abbrev S1x128x512 : Shape := ⟨3, ![1, 128, 512]⟩
abbrev S1024x512 : Shape := ⟨2, ![1024, 512]⟩
abbrev S1x1024x512 : Shape := ⟨3, ![1, 1024, 512]⟩
abbrev S16x512 : Shape := ⟨2, ![16, 512]⟩
abbrev S96x512 : Shape := ⟨2, ![96, 512]⟩
abbrev S1x96x512 : Shape := ⟨3, ![1, 96, 512]⟩
abbrev S1x1x1x128x512 : Shape := ⟨5, ![1, 1, 1, 128, 512]⟩
abbrev S1x32x512 : Shape := ⟨3, ![1, 32, 512]⟩
abbrev S1x64x512 : Shape := ⟨3, ![1, 64, 512]⟩
abbrev S1x1x512x128 : Shape := ⟨4, ![1, 1, 512, 128]⟩
abbrev S1x1x1x64x512 : Shape := ⟨5, ![1, 1, 1, 64, 512]⟩

abbrev nBuf : Space → Nat
  | .hbm => 98
  | .vmem => 30
  | .smem => 0
  | _ => 0

abbrev bufTy : (tb : Table) → Fin (tcTables nBuf tb) → BufTy
  | .hbm, ⟨0, _⟩ => ⟨S4x8192x1024, .f32⟩
  | .hbm, ⟨1, _⟩ => ⟨S4x9216, .f32⟩
  | .hbm, ⟨2, _⟩ => ⟨S1x1024, .f32⟩
  | .hbm, ⟨3, _⟩ => ⟨S1x1024x1184, .f32⟩
  | .hbm, ⟨4, _⟩ => ⟨S1x64, .f32⟩
  | .hbm, ⟨5, _⟩ => ⟨S1x64, .f32⟩
  | .hbm, ⟨6, _⟩ => ⟨S1x256, .f32⟩
  | .hbm, ⟨7, _⟩ => ⟨S1x256x768, .f32⟩
  | .hbm, ⟨8, _⟩ => ⟨S1x128, .f32⟩
  | .hbm, ⟨9, _⟩ => ⟨S1x128x1024, .f32⟩
  | .hbm, ⟨10, _⟩ => ⟨S1x96, .f32⟩
  | .hbm, ⟨11, _⟩ => ⟨S1x96, .f32⟩
  | .hbm, ⟨12, _⟩ => ⟨S4x9x1x1024, .f32⟩
  | .hbm, ⟨13, _⟩ => ⟨S4x1x1x1024, .f32⟩
  | .hbm, ⟨14, _⟩ => ⟨S4x1x1024, .f32⟩
  | .hbm, ⟨15, _⟩ => ⟨S4x1x1x1024, .f32⟩
  | .hbm, ⟨16, _⟩ => ⟨S4x1x1024, .f32⟩
  | .hbm, ⟨17, _⟩ => ⟨S1024x1184, .f32⟩
  | .hbm, ⟨18, _⟩ => ⟨S1184x1024, .f32⟩
  | .hbm, ⟨19, _⟩ => ⟨S1184x1024, .bf16⟩
  | .hbm, ⟨20, _⟩ => ⟨S256x768, .f32⟩
  | .hbm, ⟨21, _⟩ => ⟨S256x8x96, .f32⟩
  | .hbm, ⟨22, _⟩ => ⟨S_, .i32⟩
  | .hbm, ⟨23, _⟩ => ⟨S_, .f32⟩
  | .hbm, ⟨24, _⟩ => ⟨S256x8x128, .f32⟩
  | .hbm, ⟨25, _⟩ => ⟨S256x1024, .f32⟩
  | .hbm, ⟨26, _⟩ => ⟨S1024x256, .f32⟩
  | .hbm, ⟨27, _⟩ => ⟨S1024x256, .bf16⟩
  | .hbm, ⟨28, _⟩ => ⟨S128x1024, .f32⟩
  | .hbm, ⟨29, _⟩ => ⟨S1024x128, .f32⟩
  | .hbm, ⟨30, _⟩ => ⟨S1024x128, .bf16⟩
  | .hbm, ⟨31, _⟩ => ⟨S64, .f32⟩
  | .hbm, ⟨32, _⟩ => ⟨S64, .f32⟩
  | .hbm, ⟨33, _⟩ => ⟨S256, .f32⟩
  | .hbm, ⟨34, _⟩ => ⟨S128, .f32⟩
  | .hbm, ⟨35, _⟩ => ⟨S96, .f32⟩
  | .hbm, ⟨36, _⟩ => ⟨S96, .f32⟩
  | .hbm, ⟨37, _⟩ => ⟨S64, .f32⟩
  | .hbm, ⟨38, _⟩ => ⟨S32, .f32⟩
  | .hbm, ⟨39, _⟩ => ⟨S704, .f32⟩
  | .hbm, ⟨40, _⟩ => ⟨S704x1, .f32⟩
  | .hbm, ⟨41, _⟩ => ⟨S704x512, .f32⟩
  | .hbm, ⟨42, _⟩ => ⟨S1024, .f32⟩
  | .hbm, ⟨43, _⟩ => ⟨S1x1024, .f32⟩
  | .hbm, ⟨44, _⟩ => ⟨S8192, .f32⟩
  | .hbm, ⟨45, _⟩ => ⟨S32, .f32⟩
  | .hbm, ⟨46, _⟩ => ⟨S_, .f32⟩
  | .hbm, ⟨47, _⟩ => ⟨S32, .f32⟩
  | .hbm, ⟨48, _⟩ => ⟨S32, .f32⟩
  | .hbm, ⟨49, _⟩ => ⟨S_, .f32⟩
  | .hbm, ⟨50, _⟩ => ⟨S32, .f32⟩
  | .hbm, ⟨51, _⟩ => ⟨S32, .f32⟩
  | .hbm, ⟨52, _⟩ => ⟨S32, .f32⟩
  | .hbm, ⟨53, _⟩ => ⟨S_, .f32⟩
  | .hbm, ⟨54, _⟩ => ⟨S32, .f32⟩
  | .hbm, ⟨55, _⟩ => ⟨S32, .f32⟩
  | .hbm, ⟨56, _⟩ => ⟨S_, .f32⟩
  | .hbm, ⟨57, _⟩ => ⟨S32, .f32⟩
  | .hbm, ⟨58, _⟩ => ⟨S32, .f32⟩
  | .hbm, ⟨59, _⟩ => ⟨S8192x1, .f32⟩
  | .hbm, ⟨60, _⟩ => ⟨S1x32, .f32⟩
  | .hbm, ⟨61, _⟩ => ⟨S8192x32, .f32⟩
  | .hbm, ⟨62, _⟩ => ⟨S8192x32, .f32⟩
  | .hbm, ⟨63, _⟩ => ⟨S8192x32, .f32⟩
  | .hbm, ⟨64, _⟩ => ⟨S8192x32, .f32⟩
  | .hbm, ⟨65, _⟩ => ⟨S32x8192, .f32⟩
  | .hbm, ⟨66, _⟩ => ⟨S8192x32, .f32⟩
  | .hbm, ⟨67, _⟩ => ⟨S32x8192, .f32⟩
  | .hbm, ⟨68, _⟩ => ⟨S16, .f32⟩
  | .hbm, ⟨69, _⟩ => ⟨S_, .f32⟩
  | .hbm, ⟨70, _⟩ => ⟨S16, .f32⟩
  | .hbm, ⟨71, _⟩ => ⟨S16, .f32⟩
  | .hbm, ⟨72, _⟩ => ⟨S_, .f32⟩
  | .hbm, ⟨73, _⟩ => ⟨S16, .f32⟩
  | .hbm, ⟨74, _⟩ => ⟨S16, .f32⟩
  | .hbm, ⟨75, _⟩ => ⟨S16, .f32⟩
  | .hbm, ⟨76, _⟩ => ⟨S_, .f32⟩
  | .hbm, ⟨77, _⟩ => ⟨S16, .f32⟩
  | .hbm, ⟨78, _⟩ => ⟨S16, .f32⟩
  | .hbm, ⟨79, _⟩ => ⟨S_, .f32⟩
  | .hbm, ⟨80, _⟩ => ⟨S16, .f32⟩
  | .hbm, ⟨81, _⟩ => ⟨S16, .f32⟩
  | .hbm, ⟨82, _⟩ => ⟨S8192x1, .f32⟩
  | .hbm, ⟨83, _⟩ => ⟨S1x16, .f32⟩
  | .hbm, ⟨84, _⟩ => ⟨S8192x16, .f32⟩
  | .hbm, ⟨85, _⟩ => ⟨S8192x16, .f32⟩
  | .hbm, ⟨86, _⟩ => ⟨S8192x16, .f32⟩
  | .hbm, ⟨87, _⟩ => ⟨S8192x16, .f32⟩
  | .hbm, ⟨88, _⟩ => ⟨S16x8192, .f32⟩
  | .hbm, ⟨89, _⟩ => ⟨S8192x16, .f32⟩
  | .hbm, ⟨90, _⟩ => ⟨S16x8192, .f32⟩
  | .hbm, ⟨91, _⟩ => ⟨S96x8192, .f32⟩
  | .hbm, ⟨92, _⟩ => ⟨S4x8x64x8192, .bf16⟩
  | .hbm, ⟨93, _⟩ => ⟨S4x8192x128, .bf16⟩
  | .hbm, ⟨94, _⟩ => ⟨S4x64x128x128, .bf16⟩
  | .hbm, ⟨95, _⟩ => ⟨S4x8x16x128x512, .bf16⟩
  | .hbm, ⟨96, _⟩ => ⟨S4x8x8192x128, .bf16⟩
  | .hbm, ⟨97, _⟩ => ⟨S4x8x4x64x2048, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1184x1024, .bf16⟩
  | .local _ .vmem, ⟨8, _⟩ => ⟨S1024x256, .bf16⟩
  | .local _ .vmem, ⟨9, _⟩ => ⟨S1024x128, .bf16⟩
  | .local _ .vmem, ⟨10, _⟩ => ⟨S704x512, .f32⟩
  | .local _ .vmem, ⟨11, _⟩ => ⟨S96x1024, .f32⟩
  | .local _ .vmem, ⟨12, _⟩ => ⟨S96x1024, .f32⟩
  | .local _ .vmem, ⟨13, _⟩ => ⟨S1x8x64x1024, .bf16⟩
  | .local _ .vmem, ⟨14, _⟩ => ⟨S1x8x64x1024, .bf16⟩
  | .local _ .vmem, ⟨15, _⟩ => ⟨S1x1024x128, .bf16⟩
  | .local _ .vmem, ⟨16, _⟩ => ⟨S1x1024x128, .bf16⟩
  | .local _ .vmem, ⟨17, _⟩ => ⟨S1x8x128x128, .bf16⟩
  | .local _ .vmem, ⟨18, _⟩ => ⟨S1x8x128x128, .bf16⟩
  | .local _ .vmem, ⟨19, _⟩ => ⟨S1x8x2x128x512, .bf16⟩
  | .local _ .vmem, ⟨20, _⟩ => ⟨S1x8x2x128x512, .bf16⟩
  | .local _ .vmem, ⟨21, _⟩ => ⟨S1x8x1024x128, .bf16⟩
  | .local _ .vmem, ⟨22, _⟩ => ⟨S1x8x1024x128, .bf16⟩
  | .local _ .vmem, ⟨23, _⟩ => ⟨S1x8x1x64x1024, .bf16⟩
  | .local _ .vmem, ⟨24, _⟩ => ⟨S1x8x1x64x1024, .bf16⟩
  | .local _ .vmem, ⟨25, _⟩ => ⟨S2x1184x512, .f32⟩
  | .local _ .vmem, ⟨26, _⟩ => ⟨S2x256x512, .bf16⟩
  | .local _ .vmem, ⟨27, _⟩ => ⟨S2x128x512, .bf16⟩
  | .local _ .vmem, ⟨28, _⟩ => ⟨S2x1024x512, .f32⟩
  | .local _ .vmem, ⟨29, _⟩ => ⟨S2x1024x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c : Ref sig .tc := ⟨.hbm, 22, rfl⟩
abbrev main_call0_v0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst : Ref sig .tc := ⟨.hbm, 46, rfl⟩
abbrev main_v32 : Ref sig .tc := ⟨.hbm, 47, rfl⟩
abbrev main_v33 : Ref sig .tc := ⟨.hbm, 48, rfl⟩
abbrev main_cst_0 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_1 : Ref sig .tc := ⟨.hbm, 53, rfl⟩
abbrev main_v37 : Ref sig .tc := ⟨.hbm, 54, rfl⟩
abbrev main_v38 : Ref sig .tc := ⟨.hbm, 55, rfl⟩
abbrev main_cst_2 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_3 : Ref sig .tc := ⟨.hbm, 69, rfl⟩
abbrev main_v51 : Ref sig .tc := ⟨.hbm, 70, rfl⟩
abbrev main_v52 : Ref sig .tc := ⟨.hbm, 71, rfl⟩
abbrev main_cst_4 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_5 : Ref sig .tc := ⟨.hbm, 76, rfl⟩
abbrev main_v56 : Ref sig .tc := ⟨.hbm, 77, rfl⟩
abbrev main_v57 : Ref sig .tc := ⟨.hbm, 78, rfl⟩
abbrev main_cst_6 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70_0 : Ref sig .tc := ⟨.hbm, 92, rfl⟩
abbrev main_v70_1 : Ref sig .tc := ⟨.hbm, 93, rfl⟩
abbrev main_v70_2 : Ref sig .tc := ⟨.hbm, 94, rfl⟩
abbrev main_v70_3 : Ref sig .tc := ⟨.hbm, 95, rfl⟩
abbrev main_v70_4 : Ref sig .tc := ⟨.hbm, 96, rfl⟩
abbrev main_v70_5 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_14 (i : grid0.Coords) : Fin 5 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![arg0.toNat, c0_i32_10.toNat, v16.toNat, c0_i32_11.toNat, v26.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1184x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S704x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S96x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x8x64x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x128x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x2x128x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x1024x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x8x1x64x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== InProjIdeal.lean ====
variable {F : FTy → Type} [FloatOps F] [Named F]
def κ : String → Option EReal := fun
  | "swa_scale" => some (((Real.log 2)⁻¹ * 8⁻¹ : ℝ) : EReal)
  | _ => none
-- ==== InProjRefIdeal.lean ====
abbrev S4x8192x1024 : Shape := ⟨3, ![4, 8192, 1024]⟩
abbrev S4x9216 : Shape := ⟨2, ![4, 9216]⟩
abbrev S1x1024 : Shape := ⟨2, ![1, 1024]⟩
abbrev S1x1024x1184 : Shape := ⟨3, ![1, 1024, 1184]⟩
abbrev S1x64 : Shape := ⟨2, ![1, 64]⟩
abbrev S1x256 : Shape := ⟨2, ![1, 256]⟩
abbrev S1x256x768 : Shape := ⟨3, ![1, 256, 768]⟩
abbrev S1x128 : Shape := ⟨2, ![1, 128]⟩
abbrev S1x128x1024 : Shape := ⟨3, ![1, 128, 1024]⟩
abbrev S1x96 : Shape := ⟨2, ![1, 96]⟩
abbrev S4x1024 : Shape := ⟨2, ![4, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x1x1024 : Shape := ⟨3, ![4, 1, 1024]⟩
abbrev S1024x1184 : Shape := ⟨2, ![1024, 1184]⟩
abbrev S4x8192x1184 : Shape := ⟨3, ![4, 8192, 1184]⟩
abbrev S4x8192x512 : Shape := ⟨3, ![4, 8192, 512]⟩
abbrev S4x8192x128 : Shape := ⟨3, ![4, 8192, 128]⟩
abbrev S4x8192x8x64 : Shape := ⟨4, ![4, 8192, 8, 64]⟩
abbrev S64 : Shape := ⟨1, ![64]⟩
abbrev S4x8192x8 : Shape := ⟨3, ![4, 8192, 8]⟩
abbrev S4x8192x8x1 : Shape := ⟨4, ![4, 8192, 8, 1]⟩
abbrev S1x1x1x64 : Shape := ⟨4, ![1, 1, 1, 64]⟩
abbrev S8192 : Shape := ⟨1, ![8192]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S4x8192x8x32 : Shape := ⟨4, ![4, 8192, 8, 32]⟩
abbrev S4x8192x2x64 : Shape := ⟨4, ![4, 8192, 2, 64]⟩
abbrev S4x8192x2 : Shape := ⟨3, ![4, 8192, 2]⟩
abbrev S4x8192x2x1 : Shape := ⟨4, ![4, 8192, 2, 1]⟩
abbrev S4x8192x2x32 : Shape := ⟨4, ![4, 8192, 2, 32]⟩
abbrev S4x8x64x8192 : Shape := ⟨4, ![4, 8, 64, 8192]⟩
abbrev S4x64x128x128 : Shape := ⟨4, ![4, 64, 128, 128]⟩

abbrev nBuf : Space → Nat
  | .hbm => 175
  | .vmem => 0
  | .smem => 0
  | _ => 0

abbrev hbmTy0_0 (i : Nat) : BufTy := match i % 128 with
  | 0 => ⟨S4x8192x1024, .f32⟩
  | 1 => ⟨S4x9216, .f32⟩
  | 2 => ⟨S1x1024, .f32⟩
  | 3 => ⟨S1x1024x1184, .f32⟩
  | 4 => ⟨S1x64, .f32⟩
  | 5 => ⟨S1x64, .f32⟩
  | 6 => ⟨S1x256, .f32⟩
  | 7 => ⟨S1x256x768, .f32⟩
  | 8 => ⟨S1x128, .f32⟩
  | 9 => ⟨S1x128x1024, .f32⟩
  | 10 => ⟨S1x96, .f32⟩
  | 11 => ⟨S1x96, .f32⟩
  | 12 => ⟨S4x1024, .f32⟩
  | 13 => ⟨S4x1024, .f32⟩
  | 14 => ⟨S4x1024, .f32⟩
  | 15 => ⟨S4x1024, .f32⟩
  | 16 => ⟨S4x1024, .f32⟩
  | 17 => ⟨S4x1024, .f32⟩
  | 18 => ⟨S4x1024, .f32⟩
  | 19 => ⟨S4x1024, .f32⟩
  | 20 => ⟨S4x1024, .f32⟩
  | 21 => ⟨S1024, .f32⟩
  | 22 => ⟨S4x8192x1024, .f32⟩
  | 23 => ⟨S_, .f32⟩
  | 24 => ⟨S4x8192, .f32⟩
  | 25 => ⟨S4x8192x1, .f32⟩
  | 26 => ⟨S_, .f32⟩
  | 27 => ⟨S4x8192x1, .f32⟩
  | 28 => ⟨S4x8192x1, .f32⟩
  | 29 => ⟨S_, .f32⟩
  | 30 => ⟨S4x8192x1, .f32⟩
  | 31 => ⟨S4x8192x1, .f32⟩
  | 32 => ⟨S4x8192x1, .f32⟩
  | 33 => ⟨S4x8192x1024, .f32⟩
  | 34 => ⟨S4x8192x1024, .f32⟩
  | 35 => ⟨S1x1x1024, .f32⟩
  | 36 => ⟨S4x8192x1024, .f32⟩
  | 37 => ⟨S4x8192x1024, .f32⟩
  | 38 => ⟨S4x1x1024, .f32⟩
  | 39 => ⟨S_, .f32⟩
  | 40 => ⟨S4x1x1024, .f32⟩
  | 41 => ⟨S4x1x1024, .f32⟩
  | 42 => ⟨S4x8192x1024, .f32⟩
  | 43 => ⟨S4x8192x1024, .f32⟩
  | 44 => ⟨S4x1x1024, .f32⟩
  | 45 => ⟨S4x8192x1024, .f32⟩
  | 46 => ⟨S4x8192x1024, .f32⟩
  | 47 => ⟨S1024x1184, .f32⟩
  | 48 => ⟨S4x8192x1184, .f32⟩
  | 49 => ⟨S4x8192x512, .f32⟩
  | 50 => ⟨S4x8192x128, .f32⟩
  | 51 => ⟨S4x8192x128, .f32⟩
  | 52 => ⟨S4x8192x8x64, .f32⟩
  | 53 => ⟨S64, .f32⟩
  | 54 => ⟨S4x8192x8x64, .f32⟩
  | 55 => ⟨S_, .f32⟩
  | 56 => ⟨S4x8192x8, .f32⟩
  | 57 => ⟨S4x8192x8x1, .f32⟩
  | 58 => ⟨S_, .f32⟩
  | 59 => ⟨S4x8192x8x1, .f32⟩
  | 60 => ⟨S4x8192x8x1, .f32⟩
  | 61 => ⟨S_, .f32⟩
  | 62 => ⟨S4x8192x8x1, .f32⟩
  | 63 => ⟨S4x8192x8x1, .f32⟩
  | 64 => ⟨S4x8192x8x1, .f32⟩
  | 65 => ⟨S4x8192x8x64, .f32⟩
  | 66 => ⟨S4x8192x8x64, .f32⟩
  | 67 => ⟨S1x1x1x64, .f32⟩
  | 68 => ⟨S4x8192x8x64, .f32⟩
  | 69 => ⟨S4x8192x8x64, .f32⟩
  | 70 => ⟨S8192, .f32⟩
  | 71 => ⟨S32, .f32⟩
  | 72 => ⟨S_, .f32⟩
  | 73 => ⟨S32, .f32⟩
  | 74 => ⟨S32, .f32⟩
  | 75 => ⟨S_, .f32⟩
  | 76 => ⟨S32, .f32⟩
  | 77 => ⟨S32, .f32⟩
  | 78 => ⟨S32, .f32⟩
  | 79 => ⟨S_, .f32⟩
  | 80 => ⟨S32, .f32⟩
  | 81 => ⟨S32, .f32⟩
  | 82 => ⟨S_, .f32⟩
  | 83 => ⟨S32, .f32⟩
  | 84 => ⟨S32, .f32⟩
  | 85 => ⟨S8192x1, .f32⟩
  | 86 => ⟨S1x32, .f32⟩
  | 87 => ⟨S8192x32, .f32⟩
  | 88 => ⟨S8192x32, .f32⟩
  | 89 => ⟨S8192x32, .f32⟩
  | 90 => ⟨S8192x32, .f32⟩
  | 91 => ⟨S1x8192x1x32, .f32⟩
  | 92 => ⟨S8192x32, .f32⟩
  | 93 => ⟨S1x8192x1x32, .f32⟩
  | 94 => ⟨S4x8192x8x32, .f32⟩
  | 95 => ⟨S4x8192x8x32, .f32⟩
  | 96 => ⟨S4x8192x8x32, .f32⟩
  | 97 => ⟨S4x8192x8x32, .f32⟩
  | 98 => ⟨S4x8192x8x32, .f32⟩
  | 99 => ⟨S4x8192x8x32, .f32⟩
  | 100 => ⟨S4x8192x8x32, .f32⟩
  | 101 => ⟨S4x8192x8x32, .f32⟩
  | 102 => ⟨S4x8192x8x32, .f32⟩
  | 103 => ⟨S4x8192x8x32, .f32⟩
  | 104 => ⟨S4x8192x8x32, .f32⟩
  | 105 => ⟨S4x8192x8x32, .f32⟩
  | 106 => ⟨S4x8192x8x64, .f32⟩
  | 107 => ⟨S4x8192x2x64, .f32⟩
  | 108 => ⟨S64, .f32⟩
  | 109 => ⟨S4x8192x2x64, .f32⟩
  | 110 => ⟨S_, .f32⟩
  | 111 => ⟨S4x8192x2, .f32⟩
  | 112 => ⟨S4x8192x2x1, .f32⟩
  | 113 => ⟨S_, .f32⟩
  | 114 => ⟨S4x8192x2x1, .f32⟩
  | 115 => ⟨S4x8192x2x1, .f32⟩
  | 116 => ⟨S_, .f32⟩
  | 117 => ⟨S4x8192x2x1, .f32⟩
  | 118 => ⟨S4x8192x2x1, .f32⟩
  | 119 => ⟨S4x8192x2x1, .f32⟩
  | 120 => ⟨S4x8192x2x64, .f32⟩
  | 121 => ⟨S4x8192x2x64, .f32⟩
  | 122 => ⟨S1x1x1x64, .f32⟩
  | 123 => ⟨S4x8192x2x64, .f32⟩
  | 124 => ⟨S4x8192x2x64, .f32⟩
  | 125 => ⟨S8192, .f32⟩
  | 126 => ⟨S32, .f32⟩
  | 127 => ⟨S_, .f32⟩
  | _ => ⟨S4x8192x1024, .f32⟩

abbrev hbmTy0_1 (i : Nat) : BufTy := match i % 128 with
  | 0 => ⟨S32, .f32⟩
  | 1 => ⟨S32, .f32⟩
  | 2 => ⟨S_, .f32⟩
  | 3 => ⟨S32, .f32⟩
  | 4 => ⟨S32, .f32⟩
  | 5 => ⟨S32, .f32⟩
  | 6 => ⟨S_, .f32⟩
  | 7 => ⟨S32, .f32⟩
  | 8 => ⟨S32, .f32⟩
  | 9 => ⟨S_, .f32⟩
  | 10 => ⟨S32, .f32⟩
  | 11 => ⟨S32, .f32⟩
  | 12 => ⟨S8192x1, .f32⟩
  | 13 => ⟨S1x32, .f32⟩
  | 14 => ⟨S8192x32, .f32⟩
  | 15 => ⟨S8192x32, .f32⟩
  | 16 => ⟨S8192x32, .f32⟩
  | 17 => ⟨S8192x32, .f32⟩
  | 18 => ⟨S1x8192x1x32, .f32⟩
  | 19 => ⟨S8192x32, .f32⟩
  | 20 => ⟨S1x8192x1x32, .f32⟩
  | 21 => ⟨S4x8192x2x32, .f32⟩
  | 22 => ⟨S4x8192x2x32, .f32⟩
  | 23 => ⟨S4x8192x2x32, .f32⟩
  | 24 => ⟨S4x8192x2x32, .f32⟩
  | 25 => ⟨S4x8192x2x32, .f32⟩
  | 26 => ⟨S4x8192x2x32, .f32⟩
  | 27 => ⟨S4x8192x2x32, .f32⟩
  | 28 => ⟨S4x8192x2x32, .f32⟩
  | 29 => ⟨S4x8192x2x32, .f32⟩
  | 30 => ⟨S4x8192x2x32, .f32⟩
  | 31 => ⟨S4x8192x2x32, .f32⟩
  | 32 => ⟨S4x8192x2x32, .f32⟩
  | 33 => ⟨S4x8192x2x64, .f32⟩
  | 34 => ⟨S_, .f32⟩
  | 35 => ⟨S_, .f32⟩
  | 36 => ⟨S_, .f32⟩
  | 37 => ⟨S_, .f32⟩
  | 38 => ⟨S4x8192x8x64, .f32⟩
  | 39 => ⟨S4x8192x8x64, .f32⟩
  | 40 => ⟨S4x8x64x8192, .f32⟩
  | 41 => ⟨S4x8x64x8192, .bf16⟩
  | 42 => ⟨S4x8192x128, .f32⟩
  | 43 => ⟨S4x8192x128, .bf16⟩
  | 44 => ⟨S4x64x128x128, .f32⟩
  | 45 => ⟨S4x64x128x128, .f32⟩
  | 46 => ⟨S4x64x128x128, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_3 : Ref sig .tc := ⟨.hbm, 55, rfl⟩
abbrev main_v39 : Ref sig .tc := ⟨.hbm, 56, rfl⟩
abbrev main_v40 : Ref sig .tc := ⟨.hbm, 57, rfl⟩
abbrev main_cst_4 : Ref sig .tc := ⟨.hbm, 58, rfl⟩
abbrev main_v41 : Ref sig .tc := ⟨.hbm, 59, rfl⟩
abbrev main_v42 : Ref sig .tc := ⟨.hbm, 60, rfl⟩
abbrev main_cst_5 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_6 : Ref sig .tc := ⟨.hbm, 72, rfl⟩
abbrev main_v53 : Ref sig .tc := ⟨.hbm, 73, rfl⟩
abbrev main_v54 : Ref sig .tc := ⟨.hbm, 74, rfl⟩
abbrev main_cst_7 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_8 : Ref sig .tc := ⟨.hbm, 79, rfl⟩
abbrev main_v58 : Ref sig .tc := ⟨.hbm, 80, rfl⟩
abbrev main_v59 : Ref sig .tc := ⟨.hbm, 81, rfl⟩
abbrev main_cst_9 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_cst_10 : Ref sig .tc := ⟨.hbm, 110, rfl⟩
abbrev main_v87 : Ref sig .tc := ⟨.hbm, 111, rfl⟩
abbrev main_v88 : Ref sig .tc := ⟨.hbm, 112, rfl⟩
abbrev main_cst_11 : Ref sig .tc := ⟨.hbm, 113, rfl⟩
abbrev main_v89 : Ref sig .tc := ⟨.hbm, 114, rfl⟩
abbrev main_v90 : Ref sig .tc := ⟨.hbm, 115, rfl⟩
abbrev main_cst_12 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_cst_13 : Ref sig .tc := ⟨.hbm, 127, rfl⟩
abbrev main_v101 : Ref sig .tc := ⟨.hbm, 128, rfl⟩
abbrev main_v102 : Ref sig .tc := ⟨.hbm, 129, rfl⟩
abbrev main_cst_14 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_cst_15 : Ref sig .tc := ⟨.hbm, 134, rfl⟩
abbrev main_v106 : Ref sig .tc := ⟨.hbm, 135, rfl⟩
abbrev main_v107 : Ref sig .tc := ⟨.hbm, 136, rfl⟩
abbrev main_cst_16 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_cst_17 : Ref sig .tc := ⟨.hbm, 162, rfl⟩
abbrev main_v132 : Ref sig .tc := ⟨.hbm, 163, rfl⟩
abbrev main_cst_18 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩

abbrev nD : Nat := 1
abbrev τ : Topo := Topo.v7x

variable {F : FTy → Type} [FloatOps F]
-- ==== Proof.MlaTrip.lean ====
/-
  The attention call's counted loop: one trip's stores in closed form. A trip writes sixteen tiles of exponentials into
  the two slots of the scratch and four blocks of the output; each block is a function of the four tiles read for it.
-/
module

public import proofs.«01_k».proof.Proof.Gen.KernelIdeal.Frame
public import proofs.«01_k».proof.Proof.Gen.KernelIdeal.Loops
public import Idealize.ShloMosaic.Lib.Pipeline.ReadBack

@[expose] public section
set_option maxRecDepth 16384
set_option maxHeartbeats 4000000
noncomputable section
namespace Cert.KernelIdeal.Mla

open Cert.KernelIdeal.Gen
open Idealize.ShloMosaic Idealize.ShloMosaic.TcCoe Idealize.ShloMosaic.Tactic
open Idealize.SL Idealize.SL.RA Idealize.SL.BI
open Idealize.SL.Sem

variable {F : FTy → Type} [FloatOps F] [Named F]

/-- Where step `16 k + r` reads the keys it prepares: chunk `t mod 4` of the next step `t` (the last step stays). -/
theorem off1_eq : ∀ (k : Fin k0_t1_loop.trips) (r : Fin 16),
    k0_off1 k (BitVec.ofNat 32 r.val) = ![0, 0, 2048 * (min (16 * k.val + r.val + 1) 63 % 4), 0] := by decide +kernel

/-- Where it reads the queries: block `t / 4`. -/
theorem off2_eq : ∀ (k : Fin k0_t1_loop.trips) (r : Fin 16),
    k0_off2 k (BitVec.ofNat 32 r.val) = ![0, 0, min (16 * k.val + r.val + 1) 63 / 4, 0, 0] := by decide +kernel

/-- One block of the output from the four chunks of the values and the four tiles of exponentials. -/
def tileOut (v0 v1 v2 v3 : Vec F S1x1x1x64x2048 .bf16) (p0 p1 p2 p3 : Vec F S1x2048x512 .bf16) : FVec F S1x1x1x64x512 .bf16 :=
  k0_pay24 k0_pay1 (k0_pay10 k0_pay1 (k0_pay8 k0_pay1 (k0_pay5 k0_pay1 v0) (k0_pay6 p0) (constant S128x512 .f32 0x00000000#32) v1 p1) v2 p2) v3 p3

section Trip

variable (𝒱 : Variants) (c : Dev nD) (bd : Option 𝒱.V) (i : grid0.Coords) (arg2 : Memref sig .tc .smem S1x1 .f32) (harg2 : arg2.IsWhole) (arg3 : Memref sig .tc .vmem S1x1x16x128x512 .f32) (harg3 : arg3.IsWhole) (arg4 : Memref sig .tc .vmem S1x1x8192x128 .bf16) (harg4 : arg4.IsWhole) (arg5 : Memref sig .tc .vmem S1x1x4x64x2048 .bf16) (harg5 : arg5.IsWhole) (arg6 : Memref sig .tc .vmem S1x1x16x64x512 .bf16) (harg6 : arg6.IsWhole) (arg7 : Memref sig .tc .vmem S2x2048x512 .bf16) (harg7 : arg7.IsWhole) (v0 : Elt F .f32) (X3 : BufTy.Contents (Elt F) arg3.view.ty) (X4 : BufTy.Contents (Elt F) arg4.view.ty) (X5 : BufTy.Contents (Elt F) arg5.view.ty) (k : Fin k0_t1_loop.trips) (f6 : BufTy.Contents (Elt F) arg6.view.ty) (f7 : BufTy.Contents (Elt F) arg7.view.ty)

/-- The tile of exponentials that unrolled step `r` of trip `k` stores. -/
def stepTile (r : Fin 16) : FVec F S1x2048x512 .bf16 :=
  k0_pay2 v0 (View.readAt (Elt F) arg4.view (Rect.unit (s := S1x1x8192x128) (k0_off1 k (BitVec.ofNat 32 r.val)) S1x1x2048x128.size (k0_off1_inb k r)).toLoadRect X4)
    (View.readAt (Elt F) arg3.view (Rect.unit (s := S1x1x16x128x512) (k0_off2 k (BitVec.ofNat 32 r.val)) S1x1x1x128x512.size (k0_off2_inb k r)).toLoadRect X3)

/-- Chunk `j` of the values as the trip loads it. -/
def valChunk (j : Fin 4) : Vec F S1x1x1x64x2048 .bf16 :=
  View.readAt (Elt F) arg5.view (Rect.unit (s := S1x1x4x64x2048) ![0, 0, j.val, 0, 0] S1x1x1x64x2048.size
    (fun a => by revert a; revert j; decide)).toLoadRect X5

/-- A block of the output from four tiles, the values in place. -/
def blockOut (p0 p1 p2 p3 : Vec F S1x2048x512 .bf16) : FVec F S1x1x1x64x512 .bf16 :=
  tileOut (valChunk arg5 X5 0) (valChunk arg5 X5 1) (valChunk arg5 X5 2) (valChunk arg5 X5 3) p0 p1 p2 p3

/-- The scratch's slot 0 as a load. -/
def slot0 (f : BufTy.Contents (Elt F) arg7.view.ty) : Vec F S1x2048x512 .bf16 :=
  View.readAt (Elt F) arg7.view (Rect.unit (s := S2x2048x512) ![0, 0, 0] S1x2048x512.size inb_S2x2048x512_S1x2048x512_0_0_0).toLoadRect f

/-- The last store of a trip to the scratch is step 15's tile, in slot 0. -/
theorem trip_scratch : ∃ rest,
    (trip_k0_t1 (F := F) 𝒱 c bd i arg2 harg2 arg3 harg3 arg4 harg4 arg5 harg5 arg6 harg6 arg7 harg7 v0 X3 X4 X5 k).2.1 f6 f7
      = (⟨Rect.unit (s := S2x2048x512) ![0, 0, 0] S1x2048x512.size inb_S2x2048x512_S1x2048x512_0_0_0, stepTile arg3 arg4 v0 X3 X4 k 15⟩ : View.Piece (Elt F) S2x2048x512 .bf16) :: rest := by
  unfold trip_k0_t1
  exact ⟨_, rfl⟩

/-- A trip's four blocks of the output. -/
theorem trip_out :
    (trip_k0_t1 (F := F) 𝒱 c bd i arg2 harg2 arg3 harg3 arg4 harg4 arg5 harg5 arg6 harg6 arg7 harg7 v0 X3 X4 X5 k).1 f6 f7
      = [(⟨Rect.unit (s := S1x1x16x64x512) (k0_off3 k (BitVec.ofNat 32 (3 : Fin 4).val)) S1x1x1x64x512.size (k0_off3_inb k 3), blockOut arg5 X5 (stepTile arg3 arg4 v0 X3 X4 k 11) (stepTile arg3 arg4 v0 X3 X4 k 12) (stepTile arg3 arg4 v0 X3 X4 k 13) (stepTile arg3 arg4 v0 X3 X4 k 14)⟩ : View.Piece (Elt F) S1x1x16x64x512 .bf16),
        ⟨Rect.unit (s := S1x1x16x64x512) (k0_off3 k (BitVec.ofNat 32 (2 : Fin 4).val)) S1x1x1x64x512.size (k0_off3_inb k 2), blockOut arg5 X5 (stepTile arg3 arg4 v0 X3 X4 k 7) (stepTile arg3 arg4 v0 X3 X4 k 8) (stepTile arg3 arg4 v0 X3 X4 k 9) (stepTile arg3 arg4 v0 X3 X4 k 10)⟩,
        ⟨Rect.unit (s := S1x1x16x64x512) (k0_off3 k (BitVec.ofNat 32 (1 : Fin 4).val)) S1x1x1x64x512.size (k0_off3_inb k 1), blockOut arg5 X5 (stepTile arg3 arg4 v0 X3 X4 k 3) (stepTile arg3 arg4 v0 X3 X4 k 4) (stepTile arg3 arg4 v0 X3 X4 k 5) (stepTile arg3 arg4 v0 X3 X4 k 6)⟩,
        ⟨Rect.unit (s := S1x1x16x64x512) (k0_off3 k (BitVec.ofNat 32 (0 : Fin 4).val)) S1x1x1x64x512.size (k0_off3_inb k 0), blockOut arg5 X5 (slot0 arg7 f7) (stepTile arg3 arg4 v0 X3 X4 k 0) (stepTile arg3 arg4 v0 X3 X4 k 1) (stepTile arg3 arg4 v0 X3 X4 k 2)⟩] := by
  unfold trip_k0_t1
  dsimp only
  sl_unfold_words
  simp (disch := decide) only [↓View.readCov_skip, ↓View.readCov_cons_toLoadRect]
  rfl

end Trip

/-! ## The loop as a whole -/

/-- Step `n`'s tile of exponentials, `n` from 0 to 63, from the shift and the blocks of queries and keys. -/
def tileAt (v0 : Elt F .f32) (x3 : Vec F S1x1x16x128x512 .f32) (x4 : Vec F S1x1x8192x128 .bf16) (n : Fin 64) : FVec F S1x2048x512 .bf16 :=
  k0_pay2 v0 (View.ld x4 (Rect.unit (s := S1x1x8192x128) ![0, 0, 2048 * (n.val % 4), 0] S1x1x2048x128.size (fun a => by revert a; revert n; decide)))
    (View.ld x3 (Rect.unit (s := S1x1x16x128x512) ![0, 0, n.val / 4, 0, 0] S1x1x1x128x512.size (fun a => by revert a; revert n; decide)))

/-- Chunk `j` of the block of values. -/
def chunkAt (x5 : Vec F S1x1x4x64x2048 .bf16) (j : Fin 4) : Vec F S1x1x1x64x2048 .bf16 :=
  View.ld x5 (Rect.unit (s := S1x1x4x64x2048) ![0, 0, j.val, 0, 0] S1x1x1x64x2048.size (fun a => by revert a; revert j; decide))

/-- Output block `b`, from 0 to 15. -/
def outBlk (v0 : Elt F .f32) (x3 : Vec F S1x1x16x128x512 .f32) (x4 : Vec F S1x1x8192x128 .bf16) (x5 : Vec F S1x1x4x64x2048 .bf16) (b : Fin 16) :
    FVec F S1x1x1x64x512 .bf16 :=
  tileOut (chunkAt x5 0) (chunkAt x5 1) (chunkAt x5 2) (chunkAt x5 3)
    (tileAt v0 x3 x4 ⟨4 * b.val, by omega⟩) (tileAt v0 x3 x4 ⟨4 * b.val + 1, by omega⟩)
    (tileAt v0 x3 x4 ⟨4 * b.val + 2, by omega⟩) (tileAt v0 x3 x4 ⟨4 * b.val + 3, by omega⟩)

/-- The index of a block's element in row `a`, column `b`. -/
def blkIdx (a : Fin 64) (b : Fin 512) : S1x1x1x64x512.Idx :=
  fun j => match j with | ⟨0, _⟩ => (0 : Fin 1) | ⟨1, _⟩ => (0 : Fin 1) | ⟨2, _⟩ => (0 : Fin 1) | ⟨3, _⟩ => a | ⟨4, _⟩ => b

/-- What one grid point leaves in the output's buffer. -/
def pointOut (v0 : Elt F .f32) (x3 : Vec F S1x1x16x128x512 .f32) (x4 : Vec F S1x1x8192x128 .bf16) (x5 : Vec F S1x1x4x64x2048 .bf16) :
    Vec F S1x1x16x64x512 .bf16 :=
  fun y => outBlk v0 x3 x4 x5 (y 2) (blkIdx (y 3) (y 4))

theorem ld_unit_congr {s : Shape} {e : EltTy} (x : s.Idx → Elt F e) {off off' size : Fin s.rank → ℕ} (h : off = off')
    (i : ∀ a, off a + size a ≤ s.size a) (i' : ∀ a, off' a + size a ≤ s.size a) :
    View.ld x (Rect.unit off size i) = View.ld x (Rect.unit off' size i') := by
  subst h; rfl

theorem piece_congr {s : Shape} {e : EltTy} {off off' size : Fin s.rank → ℕ} (h : off = off')
    (i : ∀ a, off a + size a ≤ s.size a) (i' : ∀ a, off' a + size a ≤ s.size a) (w w' : (⟨s.rank, size⟩ : Shape).Idx → Elt F e) (hw : w = w') :
    (⟨Rect.unit off size i, w⟩ : View.Piece (Elt F) s e) = ⟨Rect.unit off' size i', w'⟩ := by
  subst h; subst hw; rfl

section Loop

variable (𝒱 : Variants) (c : Dev nD) (bd : Option 𝒱.V) (i : grid0.Coords) (arg2 : Memref sig .tc .smem S1x1 .f32) (harg2 : arg2.IsWhole) (arg3 : Memref sig .tc .vmem S1x1x16x128x512 .f32) (harg3 : arg3.IsWhole) (arg4 : Memref sig .tc .vmem S1x1x8192x128 .bf16) (harg4 : arg4.IsWhole) (arg5 : Memref sig .tc .vmem S1x1x4x64x2048 .bf16) (harg5 : arg5.IsWhole) (arg6 : Memref sig .tc .vmem S1x1x16x64x512 .bf16) (harg6 : arg6.IsWhole) (arg7 : Memref sig .tc .vmem S2x2048x512 .bf16) (harg7 : arg7.IsWhole) (v0 : Elt F .f32) (X3 : BufTy.Contents (Elt F) arg3.view.ty) (X4 : BufTy.Contents (Elt F) arg4.view.ty) (X5 : BufTy.Contents (Elt F) arg5.view.ty)
  (G6 : BufTy.Contents (Elt F) arg6.view.ty) (G7 : BufTy.Contents (Elt F) arg7.view.ty)
  (x3 : Vec F S1x1x16x128x512 .f32) (x4 : Vec F S1x1x8192x128 .bf16) (x5 : Vec F S1x1x4x64x2048 .bf16)

/-- Trip `k`'s unrolled step `r` prepares the tile of step `16 k + r + 1`. -/
theorem stepTile_eq (h3 : arg3.view.read (Elt F) X3 = x3) (h4 : arg4.view.read (Elt F) X4 = x4) (k : Fin k0_t1_loop.trips) (r : Fin 16)
    (n : Fin 64) (hn : n.val = min (16 * k.val + r.val + 1) 63) :
    stepTile arg3 arg4 v0 X3 X4 k r = tileAt v0 x3 x4 n := by
  unfold stepTile tileAt
  rw [View.readAt_eq_ld, View.readAt_eq_ld, h3, h4]
  congr 1
  · exact ld_unit_congr x4 ((off1_eq k r).trans (by rw [hn])) _ _
  · exact ld_unit_congr x3 ((off2_eq k r).trans (by rw [hn])) _ _

theorem valChunk_eq (h5 : arg5.view.read (Elt F) X5 = x5) (j : Fin 4) : valChunk arg5 X5 j = chunkAt x5 j := by
  unfold valChunk chunkAt
  rw [View.readAt_eq_ld, h5]

/-- Before trip `k` the scratch's slot 0 holds the tile of step `16 k`. -/
theorem slot0_pb (h3 : arg3.view.read (Elt F) X3 = x3) (h4 : arg4.view.read (Elt F) X4 = x4)
    (hG : slot0 arg7 G7 = tileAt v0 x3 x4 0) (k : ℕ) (hk : k < k0_t1_loop.trips) (n : Fin 64) (hn : n.val = 16 * k) :
    slot0 arg7 (arg7.view.writes (Elt F) G7 (pb_k0_t1 (F := F) 𝒱 c bd i arg2 harg2 arg3 harg3 arg4 harg4 arg5 harg5 arg6 harg6 arg7 harg7 v0 X3 X4 X5 G6 G7 k).2) = tileAt v0 x3 x4 n := by
  cases k with
  | zero =>
    obtain rfl : n = 0 := Fin.ext (by simpa using hn)
    exact hG
  | succ k =>
    have hk' : k < k0_t1_loop.trips := by omega
    rw [show k + 1 = (⟨k, hk'⟩ : Fin k0_t1_loop.trips).val + 1 from rfl, pb_k0_t1_succ]
    obtain ⟨rest, hr⟩ := trip_scratch 𝒱 c bd i arg2 harg2 arg3 harg3 arg4 harg4 arg5 harg5 arg6 harg6 arg7 harg7 v0 X3 X4 X5 ⟨k, hk'⟩
      (arg6.view.writes (Elt F) G6 (pb_k0_t1 (F := F) 𝒱 c bd i arg2 harg2 arg3 harg3 arg4 harg4 arg5 harg5 arg6 harg6 arg7 harg7 v0 X3 X4 X5 G6 G7 k).1)
      (arg7.view.writes (Elt F) G7 (pb_k0_t1 (F := F) 𝒱 c bd i arg2 harg2 arg3 harg3 arg4 harg4 arg5 harg5 arg6 harg6 arg7 harg7 v0 X3 X4 X5 G6 G7 k).2)
    dsimp only
    rw [hr, List.cons_append, stepTile_eq arg3 arg4 v0 X3 X4 x3 x4 h3 h4 ⟨k, hk'⟩ 15 n (by
      have : k < 4 := Nat.lt_of_lt_of_le hk' k0_t1_abs.2.1
      have : k + 1 < 4 := Nat.lt_of_lt_of_le hk k0_t1_abs.2.1
      simp only [hn]; show _ = min (16 * k + 15 + 1) 63; omega)]
    unfold slot0
    rw [View.readAt_eq_ld]
    funext j
    exact View.read_writes_cons_emb _ _ (Rect.unit (s := S2x2048x512) ![0, 0, 0] S1x2048x512.size inb_S2x2048x512_S1x2048x512_0_0_0) _ _ j

theorem blk_inb (b : Fin 16) : ∀ a, (![0, 0, b.val, 0, 0] : Fin 5 → ℕ) a + S1x1x1x64x512.size a ≤ S1x1x16x64x512.size a :=
  fun a => by revert a; revert b; decide

/-- Output block `b` as a store. -/
def blkPiece (b : Fin 16) : View.Piece (Elt F) S1x1x16x64x512 .bf16 :=
  ⟨Rect.unit (s := S1x1x16x64x512) ![0, 0, b.val, 0, 0] S1x1x1x64x512.size (blk_inb b), outBlk v0 x3 x4 x5 b⟩

/-- The stores to the output before trip `k` are the blocks below `4 k`. -/
theorem mem_pb (h3 : arg3.view.read (Elt F) X3 = x3) (h4 : arg4.view.read (Elt F) X4 = x4) (h5 : arg5.view.read (Elt F) X5 = x5)
    (hG : slot0 arg7 G7 = tileAt v0 x3 x4 0) : ∀ k : ℕ, k ≤ k0_t1_loop.trips → ∀ p,
    p ∈ (pb_k0_t1 (F := F) 𝒱 c bd i arg2 harg2 arg3 harg3 arg4 harg4 arg5 harg5 arg6 harg6 arg7 harg7 v0 X3 X4 X5 G6 G7 k).1
      ↔ ∃ b : Fin 16, b.val < 4 * k ∧ p = blkPiece v0 x3 x4 x5 b
  | 0, _, p => by
    constructor
    · intro h; exact absurd h List.not_mem_nil
    · rintro ⟨b, hb, _⟩; omega
  | k + 1, hk, p => by
    have hk' : k < k0_t1_loop.trips := hk
    have hk4 : k < 4 := Nat.lt_of_lt_of_le hk' k0_t1_abs.2.1
    have ih := mem_pb h3 h4 h5 hG k hk'.le p
    have hs := slot0_pb 𝒱 c bd i arg2 harg2 arg3 harg3 arg4 harg4 arg5 harg5 arg6 harg6 arg7 harg7 v0 X3 X4 X5 G6 G7 x3 x4 h3 h4 hG k hk' ⟨16 * k, by omega⟩ rfl
    have ht : ∀ (r : Fin 16) (n : Fin 64), n.val = min (16 * k + r.val + 1) 63 → stepTile arg3 arg4 v0 X3 X4 ⟨k, hk'⟩ r = tileAt v0 x3 x4 n :=
      fun r n hn => stepTile_eq arg3 arg4 v0 X3 X4 x3 x4 h3 h4 ⟨k, hk'⟩ r n hn
    rw [show k + 1 = (⟨k, hk'⟩ : Fin k0_t1_loop.trips).val + 1 from rfl, pb_k0_t1_succ]
    dsimp only
    rw [trip_out, hs, List.mem_append, ih]
    have hp : ∀ (r : Fin 4) (b : Fin 16), b.val = 4 * k + r.val → ∀ w, w = outBlk v0 x3 x4 x5 b →
        (⟨Rect.unit (s := S1x1x16x64x512) (k0_off3 ⟨k, hk'⟩ (BitVec.ofNat 32 r.val)) S1x1x1x64x512.size (k0_off3_inb ⟨k, hk'⟩ r), w⟩ : View.Piece (Elt F) S1x1x16x64x512 .bf16)
          = blkPiece v0 x3 x4 x5 b :=
      fun r b hb w hw => piece_congr (F := F) (s := S1x1x16x64x512) (e := .bf16) (size := S1x1x1x64x512.size) ((k0_off3_eq ⟨k, hk'⟩ r).trans (by rw [hb] : _ = ![0, 0, b.val, 0, 0])) (k0_off3_inb ⟨k, hk'⟩ r) (blk_inb b) w (outBlk v0 x3 x4 x5 b) hw
    unfold blockOut
    simp only [valChunk_eq arg5 X5 x5 h5]
    rw [hp 3 ⟨4 * k + 3, by omega⟩ rfl _ (by
          unfold outBlk
          rw [ht 11 ⟨4 * (4 * k + 3), by omega⟩ (by simp; omega), ht 12 ⟨4 * (4 * k + 3) + 1, by omega⟩ (by simp; omega),
            ht 13 ⟨4 * (4 * k + 3) + 2, by omega⟩ (by simp; omega), ht 14 ⟨4 * (4 * k + 3) + 3, by omega⟩ (by simp; omega)]),
      hp 2 ⟨4 * k + 2, by omega⟩ rfl _ (by
          unfold outBlk
          rw [ht 7 ⟨4 * (4 * k + 2), by omega⟩ (by simp; omega), ht 8 ⟨4 * (4 * k + 2) + 1, by omega⟩ (by simp; omega),
            ht 9 ⟨4 * (4 * k + 2) + 2, by omega⟩ (by simp; omega), ht 10 ⟨4 * (4 * k + 2) + 3, by omega⟩ (by simp; omega)]),
      hp 1 ⟨4 * k + 1, by omega⟩ rfl _ (by
          unfold outBlk
          rw [ht 3 ⟨4 * (4 * k + 1), by omega⟩ (by simp; omega), ht 4 ⟨4 * (4 * k + 1) + 1, by omega⟩ (by simp; omega),
            ht 5 ⟨4 * (4 * k + 1) + 2, by omega⟩ (by simp; omega), ht 6 ⟨4 * (4 * k + 1) + 3, by omega⟩ (by simp; omega)]),
      hp 0 ⟨4 * k, by omega⟩ rfl _ (by
          unfold outBlk
          rw [show (⟨16 * k, by omega⟩ : Fin 64) = ⟨4 * (4 * k), by omega⟩ from Fin.ext (by simp; omega), ht 0 ⟨4 * (4 * k) + 1, by omega⟩ (by simp; omega),
            ht 1 ⟨4 * (4 * k) + 2, by omega⟩ (by simp; omega), ht 2 ⟨4 * (4 * k) + 3, by omega⟩ (by simp; omega)])]
    simp only [List.mem_cons, List.not_mem_nil, or_false]
    constructor
    · rintro ((rfl | rfl | rfl | rfl) | ⟨b, hb, rfl⟩)
      · exact ⟨_, by simp; omega, rfl⟩
      · exact ⟨_, by simp; omega, rfl⟩
      · exact ⟨_, by simp; omega, rfl⟩
      · exact ⟨_, by simp <;> omega, rfl⟩
      · exact ⟨b, by omega, rfl⟩
    · rintro ⟨b, hb, rfl⟩
      by_cases hb' : b.val < 4 * k
      · exact Or.inr ⟨b, hb', rfl⟩
      · left
        by_cases h0 : b.val = 4 * k
        · exact Or.inr (Or.inr (Or.inr (congrArg _ (Fin.ext h0))))
        by_cases h1 : b.val = 4 * k + 1
        · exact Or.inr (Or.inr (Or.inl (congrArg _ (Fin.ext h1))))
        by_cases h2 : b.val = 4 * k + 2
        · exact Or.inr (Or.inl (congrArg _ (Fin.ext h2)))
        · exact Or.inl (congrArg _ (Fin.ext (by simp; omega)))

/-- After the loop the output's buffer reads `pointOut`, whatever it held before. -/
theorem read_pb (h3 : arg3.view.read (Elt F) X3 = x3) (h4 : arg4.view.read (Elt F) X4 = x4) (h5 : arg5.view.read (Elt F) X5 = x5)
    (hG : slot0 arg7 G7 = tileAt v0 x3 x4 0) :
    arg6.view.read (Elt F) (arg6.view.writes (Elt F) G6 (pb_k0_t1 (F := F) 𝒱 c bd i arg2 harg2 arg3 harg3 arg4 harg4 arg5 harg5 arg6 harg6 arg7 harg7 v0 X3 X4 X5 G6 G7 k0_t1_loop.trips).1)
      = pointOut v0 x3 x4 x5 := by
  have hm := mem_pb 𝒱 c bd i arg2 harg2 arg3 harg3 arg4 harg4 arg5 harg5 arg6 harg6 arg7 harg7 v0 X3 X4 X5 G6 G7 x3 x4 x5 h3 h4 h5 hG _ le_rfl
  have ht : k0_t1_loop.trips = 4 := by decide +kernel
  funext y
  refine View.read_writes_apply_of_pieces _ _ (pointOut v0 x3 x4 x5) _ (fun p hp x => ?_) y ?_
  · obtain ⟨b, -, rfl⟩ := (hm p).mp hp
    have hb : ((blkPiece v0 x3 x4 x5 b).1.emb x) 2 = b := Fin.ext (by
      show b.val + 1 * (x 2).val = b.val
      have : (x 2).val < 1 := (x 2).isLt
      omega)
    show outBlk v0 x3 x4 x5 b x = _
    unfold pointOut
    rw [hb]
    congr 1
    funext a
    have h0 : (x 0).val < 1 := (x 0).isLt
    have h1 : (x 1).val < 1 := (x 1).isLt
    have h2 : (x 2).val < 1 := (x 2).isLt
    match a with
    | ⟨0, _⟩ => exact Fin.ext (by show (x 0).val = 0; omega)
    | ⟨1, _⟩ => exact Fin.ext (by show (x 1).val = 0; omega)
    | ⟨2, _⟩ => exact Fin.ext (by show (x 2).val = 0; omega)
    | ⟨3, _⟩ => exact Fin.ext (by show (x 3).val = 0 + 1 * (x 3).val; omega)
    | ⟨4, _⟩ => exact Fin.ext (by show (x 4).val = 0 + 1 * (x 4).val; omega)
  · refine ⟨blkPiece v0 x3 x4 x5 (y 2), (hm _).mpr ⟨y 2, by have := (y 2).isLt; rw [ht]; exact this, rfl⟩, ?_⟩
    have h0 : (y 0).val < 1 := (y 0).isLt
    have h1 : (y 1).val < 1 := (y 1).isLt
    have h3 : (y 3).val < 64 := (y 3).isLt
    have h4 : (y 4).val < 512 := (y 4).isLt
    show y ∈ (Rect.unit (s := S1x1x16x64x512) ![0, 0, (y 2).val, 0, 0] S1x1x1x64x512.size (blk_inb (y 2))).set
    rw [Rect.mem_set_unit]
    intro a
    match a with
    | ⟨0, _⟩ => exact ⟨Nat.zero_le _, by show (y 0).val < 0 + 1; omega⟩
    | ⟨1, _⟩ => exact ⟨Nat.zero_le _, by show (y 1).val < 0 + 1; omega⟩
    | ⟨2, _⟩ => exact ⟨le_rfl, by show (y 2).val < (y 2).val + 1; omega⟩
    | ⟨3, _⟩ => exact ⟨Nat.zero_le _, by show (y 3).val < 0 + 64; omega⟩
    | ⟨4, _⟩ => exact ⟨Nat.zero_le _, by show (y 4).val < 0 + 512; omega⟩

end Loop
end Cert.KernelIdeal.Mla
end
-- ==== Proof.MlaPay.lean ====
/-
  The attention call's arithmetic at the ideal values: a tile of exponentials and a block of the output, element by
  element, from the loaded blocks.
-/
module

public import proofs.«01_k».proof.Proof.MlaTrip
public import Idealize.ShloMosaic.Lib.Pointwise

@[expose] public section
set_option maxRecDepth 16384
set_option maxHeartbeats 4000000
noncomputable section
namespace Cert.KernelIdeal.Mla

open Cert.KernelIdeal.Gen
open Idealize.ShloMosaic Idealize.ShloMosaic.TcCoe

/-- The factor on the queries, `log 2` and `√96` inverted, exact. -/
def qScale : EReal := (((Real.log 2)⁻¹ * (Real.sqrt 96)⁻¹ : ℝ) : EReal)

/-- The printed constant has the exact value at the ideal values. -/
theorem named_qScale : Named.named (F := Ideal) (φ := .f32) κ "q_scale" (0x3E16C740#32) = qScale :=
  IdealRules.named_const.ideal_named_scalar _ _ _ _ rfl

theorem pay2_apply (v0 : EReal) (k : Vec Ideal S1x1x2048x128 .bf16) (q : Vec Ideal S1x1x1x128x512 .f32) (r : Fin 2048) (l : Fin 512) :
    k0_pay2 (F := Ideal) v0 k q (ix3 0 r l)
      = Ideal.exp2 ((∑ d : Fin 128, k (ix4 0 0 r d) * (q (ix5 0 0 0 d l) * qScale)) - v0) := by
  pointwise [k0_pay2]
  simp only [named_qScale]
  rfl

theorem tileOut_apply (v0 v1 v2 v3 : Vec Ideal S1x1x1x64x2048 .bf16) (p0 p1 p2 p3 : Vec Ideal S1x2048x512 .bf16) (d : Fin 64) (l : Fin 512) :
    tileOut (F := Ideal) v0 v1 v2 v3 p0 p1 p2 p3 (ix5 0 0 0 d l)
      = (∑ x, v0 (ix5 0 0 0 d x) * p0 (ix3 0 x l) + ∑ x, v1 (ix5 0 0 0 d x) * p1 (ix3 0 x l) + ∑ x, v2 (ix5 0 0 0 d x) * p2 (ix3 0 x l)
          + ∑ x, v3 (ix5 0 0 0 d x) * p3 (ix3 0 x l))
        * Ideal.div 1 (∑ x, p0 (ix3 0 x l) + ∑ x, p1 (ix3 0 x l) + ∑ x, p2 (ix3 0 x l) + ∑ x, p3 (ix3 0 x l)) := by
  pointwise [tileOut, k0_pay24, k0_pay10, k0_pay8, k0_pay6, k0_pay5, k0_pay1]

/-- The weight of key `s` for query `l` of query block `b`, before the division. -/
def weight (v0 : EReal) (x3 : Vec Ideal S1x1x16x128x512 .f32) (x4 : Vec Ideal S1x1x8192x128 .bf16) (b : Fin 16) (l : Fin 512) (s : Fin 8192) : EReal :=
  Ideal.exp2 ((∑ d : Fin 128, x4 (ix4 0 0 s d) * (x3 (ix5 0 0 b d l) * qScale)) - v0)

/-- Key `x` of chunk `j`. -/
def key (j : Fin 4) (x : Fin 2048) : Fin 8192 := ⟨2048 * j.val + x.val, by omega⟩

theorem tileAt_apply (v0 : EReal) (x3 : Vec Ideal S1x1x16x128x512 .f32) (x4 : Vec Ideal S1x1x8192x128 .bf16) (b : Fin 16) (j : Fin 4)
    (n : Fin 64) (hn : n.val = 4 * b.val + j.val) (r : Fin 2048) (l : Fin 512) :
    tileAt (F := Ideal) v0 x3 x4 n (ix3 0 r l) = weight v0 x3 x4 b l (key j r) := by
  have h1 : n.val % 4 = j.val := by omega
  have h2 : n.val / 4 = b.val := by omega
  unfold tileAt
  rw [pay2_apply]
  unfold weight
  pointwise [key, h1, h2]

theorem chunkAt_apply (x5 : Vec Ideal S1x1x4x64x2048 .bf16) (j : Fin 4) (d : Fin 64) (x : Fin 2048) :
    chunkAt (F := Ideal) x5 j (ix5 0 0 0 d x) = x5 (ix5 0 0 j d x) := by
  pointwise [chunkAt]

/-- The sum over the keys, chunk by chunk. -/
theorem sum_keys (f : Fin 8192 → EReal) :
    ∑ x, f (key 0 x) + ∑ x, f (key 1 x) + ∑ x, f (key 2 x) + ∑ x, f (key 3 x) = ∑ s, f s := by
  rw [Fin.sum_univ_tiles 4 2048 rfl f, Fin.sum_univ_four]
  have h : ∀ (j : Fin 4) (x : Fin 2048) (p), f ⟨j.val * 2048 + x.val, p⟩ = f (key j x) := fun j x p =>
    congrArg f (Fin.ext (by show j.val * 2048 + x.val = 2048 * j.val + x.val; omega))
  simp only [h]

/-- One block's element: the weighted sum of the values over all keys, divided once by the sum of the weights. -/
theorem pointOut_apply (v0 : EReal) (x3 : Vec Ideal S1x1x16x128x512 .f32) (x4 : Vec Ideal S1x1x8192x128 .bf16) (x5 : Vec Ideal S1x1x4x64x2048 .bf16)
    (b : Fin 16) (d : Fin 64) (l : Fin 512) (vv : Fin 8192 → EReal) (hv : ∀ j x, x5 (ix5 0 0 j d x) = vv (key j x)) :
    pointOut (F := Ideal) v0 x3 x4 x5 (ix5 0 0 b d l)
      = (∑ s, vv s * weight v0 x3 x4 b l s) * Ideal.div 1 (∑ s, weight v0 x3 x4 b l s) := by
  have hi : blkIdx d l = ix5 0 0 0 d l := by
    funext a; match a with | ⟨0, _⟩ => rfl | ⟨1, _⟩ => rfl | ⟨2, _⟩ => rfl | ⟨3, _⟩ => rfl | ⟨4, _⟩ => rfl
  show outBlk v0 x3 x4 x5 b (blkIdx d l) = _
  rw [hi]
  unfold outBlk
  rw [tileOut_apply, ← sum_keys, ← sum_keys (weight v0 x3 x4 b l)]
  have t := fun (j : Fin 4) (n : Fin 64) (hn : n.val = 4 * b.val + j.val) (r : Fin 2048) => tileAt_apply v0 x3 x4 b j n hn r l
  simp only [t 0 ⟨4 * b.val, by omega⟩ rfl, t 1 ⟨4 * b.val + 1, by omega⟩ rfl, t 2 ⟨4 * b.val + 2, by omega⟩ rfl,
    t 3 ⟨4 * b.val + 3, by omega⟩ rfl, chunkAt_apply, hv]

end Cert.KernelIdeal.Mla
end
-- ==== Proof.Softmax.lean ====
/-
  Weighted averages by exponentials over the extended reals: powers of two with any finite shift, divided once at the
  end, against exponentials with another finite shift, divided one by one. The averaged values may be infinite.
-/
module

public import Idealize.ShloMosaic.PureOps.Ideal

@[expose] public section
noncomputable section
namespace Cert.Softmax

open Idealize.ShloMosaic

theorem coe_sum {n : ℕ} (f : Fin n → ℝ) : ((∑ i, f i : ℝ) : EReal) = ∑ i, (f i : EReal) := by
  induction n with
  | zero => simp
  | succ n ih => rw [Fin.sum_univ_succ, Fin.sum_univ_succ, EReal.coe_add, ih]

/-- A positive finite factor distributes over any sum. -/
theorem sum_mul_coe {n : ℕ} (f : Fin n → EReal) (r : ℝ) (hr : 0 ≤ r) : (∑ i, f i) * (r : EReal) = ∑ i, f i * (r : EReal) := by
  induction n with
  | zero => simp
  | succ n ih =>
    rw [Fin.sum_univ_succ, Fin.sum_univ_succ, ← ih,
      EReal.right_distrib_of_nonneg_of_ne_top (EReal.coe_nonneg.mpr hr) (EReal.coe_ne_top r)]

theorem exp2_coe (r : ℝ) : Ideal.exp2 (r : EReal) = ((2 : ℝ) ^ r : ℝ) := rfl
theorem exp_coe (r : ℝ) : Ideal.exp (r : EReal) = (Real.exp r : ℝ) := rfl

theorem div_coe (x y : ℝ) (hy : y ≠ 0) : Ideal.div (x : EReal) (y : EReal) = ((x / y : ℝ) : EReal) := by
  unfold Ideal.div
  rw [if_neg (by exact_mod_cast hy), div_eq_mul_inv, EReal.coe_mul, EReal.coe_inv]

/-- The largest of finitely many finite values is finite. -/
theorem fold_max_coe {n : ℕ} [NeZero n] (f : Fin n → ℝ) :
    ∃ μ : ℝ, Finset.univ.fold max (⊥ : EReal) (fun k => (f k : EReal)) = (μ : EReal) := by
  set M := Finset.univ.fold max (⊥ : EReal) (fun k => (f k : EReal)) with hM
  have h1 : M ≠ ⊤ := by
    refine ne_of_lt ?_
    rw [hM, Finset.fold_max_lt]
    exact ⟨bot_lt_top, fun k _ => EReal.coe_lt_top _⟩
  have h2 : M ≠ ⊥ := by
    refine ne_of_gt ?_
    rw [hM, Finset.lt_fold_max]
    exact .inr ⟨0, Finset.mem_univ _, EReal.bot_lt_coe _⟩
  exact ⟨M.toReal, (EReal.coe_toReal h1 h2).symm⟩

/-- One division of the weighted sum against a division of every weight. -/
theorem average {n : ℕ} [NeZero n] (v : Fin n → EReal) (x y : Fin n → ℝ) (σ μ : ℝ) (hxy : ∀ s, x s * Real.log 2 = y s) :
    (∑ s, v s * Ideal.exp2 ((x s : EReal) - (σ : EReal))) * Ideal.div 1 (∑ s, Ideal.exp2 ((x s : EReal) - (σ : EReal)))
      = ∑ s, v s * Ideal.div (Ideal.exp ((y s : EReal) - (μ : EReal))) (∑ j, Ideal.exp ((y j : EReal) - (μ : EReal))) := by
  set C : ℝ := Real.exp (μ - σ * Real.log 2) with hC
  have hw : ∀ s, Ideal.exp2 ((x s : EReal) - (σ : EReal)) = ((Real.exp (y s - μ) * C : ℝ) : EReal) := fun s => by
    rw [← EReal.coe_sub, exp2_coe, Real.rpow_def_of_pos two_pos, hC, ← Real.exp_add, ← hxy]
    congr 2; ring
  have he : ∀ s, Ideal.exp ((y s : EReal) - (μ : EReal)) = ((Real.exp (y s - μ) : ℝ) : EReal) := fun s => by
    rw [← EReal.coe_sub, exp_coe]
  have hCp : 0 < C := Real.exp_pos _
  have hS : 0 < ∑ s, Real.exp (y s - μ) := Finset.sum_pos (fun s _ => Real.exp_pos _) ⟨0, Finset.mem_univ _⟩
  simp only [hw, he]
  rw [← coe_sum, ← coe_sum, ← Finset.sum_mul, ← EReal.coe_one, div_coe _ _ (mul_pos hS hCp).ne',
    sum_mul_coe _ _ (by positivity)]
  refine Finset.sum_congr rfl fun s _ => ?_
  rw [div_coe _ _ hS.ne', mul_assoc, ← EReal.coe_mul]
  congr 2
  field_simp

/-! What the printed float words denote. -/

theorem word_negInf : Ideal.ofBits .f32 0xFF800000#32 = ⊥ := by
  simp [Ideal.ofBits, Ideal.ieee]
theorem word_inf : Ideal.ofBits .f32 0x7F800000#32 = ⊤ := by
  simp [Ideal.ofBits, Ideal.ieee]
theorem word_96 : Ideal.ofBits .f32 0x42C00000#32 = ((96 : ℝ) : EReal) := by
  simp [Ideal.ofBits, Ideal.ieee, -EReal.coe_mul]; norm_num
theorem word_shift : ∃ r : ℝ, Ideal.ofBits .f32 0x4166B0D9#32 = (r : EReal) := by
  refine ⟨15118553 / 1048576, ?_⟩
  simp [Ideal.ofBits, Ideal.ieee, -EReal.coe_mul]; norm_num

theorem abs_coe (r : ℝ) : max (r : EReal) (-(r : EReal)) = ((|r| : ℝ) : EReal) := by
  rcases le_total 0 r with h | h
  · rw [abs_of_nonneg h, max_eq_left]; rw [← EReal.coe_neg]; exact_mod_cast (by linarith)
  · rw [abs_of_nonpos h, max_eq_right, EReal.coe_neg]; rw [← EReal.coe_neg]; exact_mod_cast (by linarith)

/-- Below infinity in absolute value is finite. -/
theorem coe_of_abs_lt (x : EReal) (h : max x (-x) < ⊤) : ∃ r : ℝ, x = (r : EReal) := by
  have h1 : x ≠ ⊤ := fun e => by simp [e] at h
  have h2 : x ≠ ⊥ := fun e => by simp [e] at h
  exact ⟨x.toReal, (EReal.coe_toReal h1 h2).symm⟩

end Cert.Softmax
end
-- ==== Proof.MlaEntry.lean ====
/-
  What the attention call's pipeline finds in its arrays: the host operations before it, read at an index.
-/
module

public import proofs.«01_k».proof.Proof.MlaPay
public import proofs.«01_k».proof.Proof.Softmax
public import Idealize.ShloMosaic.Lib.StableHlo.RunRead

@[expose] public section
set_option maxRecDepth 16384
set_option maxHeartbeats 4000000
noncomputable section
namespace Cert.KernelIdeal.Mla

open Cert.KernelIdeal.Gen
open Idealize.ShloMosaic Idealize.ShloMosaic.TcCoe Idealize.ShloMosaic.StableHlo

variable (m : (ℓ : Loc nD τ sig) → Buf (Elt Ideal) ℓ) (c : Dev nD)

def qOf (x : FVec Ideal S4x8192x8x96 .f32) : FVec Ideal S4x8x16x128x512 .f32 :=
  transpose S4x8x16x128x512 [0, 3, 1, 4, 2] (shapeCast S4x16x512x8x128 (pad S4x8192x8x128 ![0, 0, 0, 0] ![0, 0, 0, 32] ![0, 0, 0, 0] x
    (sitofp .f32 (constantI S_ 32 0#32)) pads_S4x8192x8x96_S4x8192x8x128_000_000_000_0320 h_S_) shapeCasts_S4x8192x8x128_S4x16x512x8x128)
    transposes_S4x16x512x8x128_S4x8x16x128x512_0_3_1_4_2

def kOf (x : FVec Ideal S4x8192x8x96 .f32) : FVec Ideal S4x8x8192x128 .bf16 :=
  transpose S4x8x8192x128 [0, 2, 1, 3] (pad S4x8192x8x128 ![0, 0, 0, 0] ![0, 0, 0, 32] ![0, 0, 0, 0] (truncf .bf16 x bitsLt_bf16_f32 : FVec Ideal S4x8192x8x96 .bf16)
    (sitofp .bf16 (constantI S_ 32 0#32)) pads_S4x8192x8x96_S4x8192x8x128_000_000_000_0320 h_S_) transposes_S4x8192x8x128_S4x8x8192x128_0_2_1_3

def vOf (x : FVec Ideal S4x8192x8x64 .f32) : FVec Ideal S4x8x4x64x2048 .bf16 :=
  transpose S4x8x4x64x2048 [0, 3, 1, 4, 2] (shapeCast S4x4x2048x8x64 (truncf .bf16 x bitsLt_bf16_f32 : FVec Ideal S4x8192x8x64 .bf16) shapeCasts_S4x8192x8x64_S4x4x2048x8x64)
    transposes_S4x4x2048x8x64_S4x8x4x64x2048_0_3_1_4_2

def shift (x y : FVec Ideal S96 .f32) : FVec Ideal S1x1 .f32 :=
  shapeCast S1x1 (mulf (mulf (constant S_ .f32 0x4166B0D9#32) (Host.reduce FloatOps.maximumf (Host.absf x) (constant S_ .f32 0xFF800000#32) reducesTo_S96_S_d0 h_S_))
    (Host.reduce FloatOps.maximumf (Host.absf y) (constant S_ .f32 0xFF800000#32) reducesTo_S96_S_d0 h_S_)) shapeCasts_S_S1x1

/-! What a called function reads and writes is the named buffer itself. -/

theorem put_v0 (h1 h2 h3) (v : (⟨S4x8192x8x128, .f32⟩ : BufTy).Contents (Elt Ideal)) : (TRef.of (T := ⟨S4x8192x8x128, .f32⟩) main_v0 h1 h2 h3).toBuf v = v := rfl
theorem put_v4 (h1 h2 h3) (v : (⟨S4x8192x8x128, .bf16⟩ : BufTy).Contents (Elt Ideal)) : (TRef.of (T := ⟨S4x8192x8x128, .bf16⟩) main_v4 h1 h2 h3).toBuf v = v := rfl
theorem get_arg0 (h1 h2 h3) (v : main_arg0.ty.Contents (Elt Ideal)) : (TRef.of (T := ⟨S4x8192x8x96, .f32⟩) main_arg0 h1 h2 h3).ofBuf v = v := rfl
theorem get_v3 (h1 h2 h3) (v : main_v3.ty.Contents (Elt Ideal)) : (TRef.of (T := ⟨S4x8192x8x96, .bf16⟩) main_v3 h1 h2 h3).ofBuf v = v := rfl
theorem get_c (h1 h2 h3) (v : main_c.ty.Contents (Elt Ideal)) : (TRef.of (T := ⟨S_, .i32⟩) main_c h1 h2 h3).ofBuf v = v := rfl
theorem get_c_0 (h1 h2 h3) (v : main_c_0.ty.Contents (Elt Ideal)) : (TRef.of (T := ⟨S_, .i32⟩) main_c_0 h1 h2 h3).ofBuf v = v := rfl

theorem V_q : V m c main_v2 = qOf (m ((c.tc : Thread nD τ).loc main_arg0)) := by
  dsimp only [V, hostOps0, hostOps0_1, hostOps0_2, hostOps0_3, hostOps0_4, List.flatten_cons, List.flatten_nil, List.append_nil, List.cons_append, List.nil_append]
  after_reads_simp
  try simp only [TRef.ofBuf_toBuf, put_v0, put_v4, get_arg0, get_v3, get_c, get_c_0]
  rfl

theorem V_k : V m c main_v5 = kOf (m ((c.tc : Thread nD τ).loc main_arg1)) := by
  dsimp only [V, hostOps0, hostOps0_1, hostOps0_2, hostOps0_3, hostOps0_4, List.flatten_cons, List.flatten_nil, List.append_nil, List.cons_append, List.nil_append]
  after_reads_simp
  try simp only [TRef.ofBuf_toBuf, put_v0, put_v4, get_arg0, get_v3, get_c, get_c_0]
  rfl

theorem V_v : V m c main_v8 = vOf (m ((c.tc : Thread nD τ).loc main_arg2)) := by
  dsimp only [V, hostOps0, hostOps0_1, hostOps0_2, hostOps0_3, hostOps0_4, List.flatten_cons, List.flatten_nil, List.append_nil, List.cons_append, List.nil_append]
  after_reads_simp
  try simp only [TRef.ofBuf_toBuf, put_v0, put_v4, get_arg0, get_v3, get_c, get_c_0]
  rfl

theorem V_shift : V m c main_v15 = shift (m ((c.tc : Thread nD τ).loc main_arg3)) (m ((c.tc : Thread nD τ).loc main_arg4)) := by
  dsimp only [V, hostOps0, hostOps0_1, hostOps0_2, hostOps0_3, hostOps0_4, List.flatten_cons, List.flatten_nil, List.append_nil, List.cons_append, List.nil_append]
  after_reads_simp
  try simp only [TRef.ofBuf_toBuf, put_v0, put_v4, get_arg0, get_v3, get_c, get_c_0]
  rfl

theorem zero_f32 : FloatOps.sitofp (F := Ideal) .f32 (0#32) = 0 := by
  show (((0#32 : BitVec 32).toInt : ℝ) : EReal) = 0
  simp
theorem zero_bf16 : FloatOps.sitofp (F := Ideal) .bf16 (0#32) = 0 := by
  show (((0#32 : BitVec 32).toInt : ℝ) : EReal) = 0
  simp

/-- Query `l` of block `b`: the argument's row, zero past its 96 columns. -/
theorem qOf_apply (x : FVec Ideal S4x8192x8x96 .f32) (B : Fin 4) (H : Fin 8) (b : Fin 16) (d : Fin 128) (l : Fin 512) :
    qOf x (ix5 B H b d l) = if h : d.val < 96 then x (ix4 B ⟨512 * b.val + l.val, by omega⟩ H ⟨d.val, h⟩) else 0 := by
  pointwise [qOf]
  rw [zero_f32]
  have e : b.val * 512 + l.val = 512 * b.val + l.val := by omega
  by_cases h : d.val < 96
  · rw [dif_pos ⟨by omega, h⟩, dif_pos h]
    simp only [e]
  · rw [dif_neg (fun h' => h h'.2), dif_neg h]

/-- Key `s`: the argument's row, zero past its 96 columns. -/
theorem kOf_apply (x : FVec Ideal S4x8192x8x96 .f32) (B : Fin 4) (H : Fin 8) (s : Fin 8192) (d : Fin 128) :
    kOf x (ix4 B H s d) = if h : d.val < 96 then x (ix4 B s H ⟨d.val, h⟩) else 0 := by
  pointwise [kOf]
  rw [zero_bf16]

theorem vOf_apply (x : FVec Ideal S4x8192x8x64 .f32) (B : Fin 4) (H : Fin 8) (j : Fin 4) (d : Fin 64) (r : Fin 2048) :
    vOf x (ix5 B H j d r) = x (ix4 B (key j r) H d) := by
  pointwise [vOf]
  have e : j.val * 2048 + r.val = 2048 * j.val + r.val := by omega
  simp only [key, e]

/-- The shift is finite where both gains are. -/
theorem shift_coe (x y : FVec Ideal S96 .f32) (hx : ∀ i, ∃ r : ℝ, x i = (r : EReal)) (hy : ∀ i, ∃ r : ℝ, y i = (r : EReal)) :
    ∃ σ : ℝ, shift x y (ix2 0 0) = (σ : EReal) := by
  pointwise [shift]
  have hmax : ∀ x : FVec Ideal S96 .f32, (∀ i, ∃ r : ℝ, x i = (r : EReal)) →
      ∃ μ : ℝ, Finset.fold max (⊥ : EReal) (fun k => FloatOps.absf (F := Ideal) (φ := .f32) (x (ix1 k))) Finset.univ = (μ : EReal) := by
    intro x hx
    choose f hf using hx
    obtain ⟨μ, hμ⟩ := Cert.Softmax.fold_max_coe (fun k : Fin 96 => |f (ix1 k)|)
    refine ⟨μ, hμ ▸ ?_⟩
    congr 1
    funext k
    rw [hf]
    exact (Cert.Softmax.abs_coe _).symm
  obtain ⟨a, ha⟩ := hmax x hx
  obtain ⟨b, hb⟩ := hmax y hy
  obtain ⟨l, hl⟩ := Cert.Softmax.word_shift
  exact ⟨l * a * b, by rw [Cert.Softmax.word_negInf, hl, ha, hb, EReal.coe_mul, EReal.coe_mul]⟩

end Cert.KernelIdeal.Mla
end
-- ==== Proof.MlaFrame.lean ====
/-
  The attention call's frame: the body's run at any grid point with the output it leaves, the proof data of the
  pipeline, the launch, and the frame.
-/
module

public import proofs.«01_k».proof.Proof.MlaTrip
public import Idealize.ShloMosaic.Lib.Claim

@[expose] public section
set_option maxRecDepth 16384
set_option maxHeartbeats 4000000
noncomputable section
namespace Cert.KernelIdeal.Mla

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The shift, the one word of its block. -/
def shiftOf (x2 : Vec F S1x1 .f32) : Elt F .f32 := x2 (fun a => match a with | ⟨0, _⟩ => (0 : Fin 1) | ⟨1, _⟩ => (0 : Fin 1))

/-- The store before the loop puts step 0's tile in the scratch's slot 0. -/
theorem entry_slot0 (arg3 : Memref sig .tc .vmem S1x1x16x128x512 .f32) (arg4 : Memref sig .tc .vmem S1x1x8192x128 .bf16) (arg7 : Memref sig .tc .vmem S2x2048x512 .bf16)
    (v0 : Elt F .f32) (X3 : BufTy.Contents (Elt F) arg3.view.ty) (X4 : BufTy.Contents (Elt F) arg4.view.ty) (X7 : BufTy.Contents (Elt F) arg7.view.ty)
    (x3 : Vec F S1x1x16x128x512 .f32) (x4 : Vec F S1x1x8192x128 .bf16) (h3 : arg3.view.read (Elt F) X3 = x3) (h4 : arg4.view.read (Elt F) X4 = x4) :
    slot0 arg7 (arg7.view.writes (Elt F) X7
      [⟨Rect.unit (s := S2x2048x512) ![0, 0, 0] S1x2048x512.size inb_S2x2048x512_S1x2048x512_0_0_0,
        k0_pay2 v0
          (View.readAt (Elt F) arg4.view (Rect.unit (s := S1x1x8192x128) ![0, 0, 0, 0] S1x1x2048x128.size inb_S1x1x8192x128_S1x1x2048x128_0_0_0_0).toLoadRect X4)
          (View.readAt (Elt F) arg3.view (Rect.unit (s := S1x1x16x128x512) ![0, 0, 0, 0, 0] S1x1x1x128x512.size inb_S1x1x16x128x512_S1x1x1x128x512_0_0_0_0_0).toLoadRect X3)⟩])
      = tileAt v0 x3 x4 0 := by
  subst h3 h4
  unfold slot0
  rw [View.readAt_eq_ld]
  funext j
  exact View.read_writes_cons_emb _ _ (Rect.unit (s := S2x2048x512) ![0, 0, 0] S1x2048x512.size inb_S2x2048x512_S1x2048x512_0_0_0) _ _ j

/-- The body at any grid point: the inputs' buffers stay, the output's ends at `pointOut`, the scratch at some contents. -/
theorem body_run (c : Dev nD) (i : grid0.Coords) (arg2 : Memref sig .tc .smem S1x1 .f32) (harg2 : arg2.IsWhole) (arg3 : Memref sig .tc .vmem S1x1x16x128x512 .f32) (harg3 : arg3.IsWhole) (arg4 : Memref sig .tc .vmem S1x1x8192x128 .bf16) (harg4 : arg4.IsWhole) (arg5 : Memref sig .tc .vmem S1x1x4x64x2048 .bf16) (harg5 : arg5.IsWhole) (arg6 : Memref sig .tc .vmem S1x1x16x64x512 .bf16) (harg6 : arg6.IsWhole) (arg7 : Memref sig .tc .vmem S2x2048x512 .bf16) (harg7 : arg7.IsWhole)
    (x2 : Vec F S1x1 .f32) (x3 : Vec F S1x1x16x128x512 .f32) (x4 : Vec F S1x1x8192x128 .bf16) (x5 : Vec F S1x1x4x64x2048 .bf16) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (pointOut (shiftOf x2) x3 x4 x5) ∗ (∃ d, owns (c : Thread nD τ) arg7 fullShare d)) -∗ K ⟨⟩))
      ⊢ wp frame (wpE (defs₀ (F := F)) Variants.none c none) E (cc0_mla_bounded i arg2 harg2 arg3 harg3 arg4 harg4 arg5 harg5 arg6 harg6 arg7 harg7) K := by
  simp only [cc0_mla_bounded_eq_skeleton]; unfold cc0_mla_bounded_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, Hk⟩
  sl_exec
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    refine (read_pb Variants.none c none i arg2 harg2 arg3 harg3 arg4 harg4 arg5 harg5 arg6 harg6 arg7 harg7 _ f3 f4 f5 f6 _ x3 x4 x5 hf3 hf4 hf5 (entry_slot0 arg3 arg4 arg7 _ f3 f4 f7 x3 x4 hf3 hf4)).trans ?_
    congr 1
    sl_unfold_words
    subst hf2
    rw [View.readAt_eq_ld]
    unfold shiftOf View.ld
    congr 1
    funext a
    match a with
    | ⟨0, _⟩ => exact Subsingleton.elim (α := Fin 1) _ _
    | ⟨1, _⟩ => exact Subsingleton.elim (α := Fin 1) _ _
  iexists _; iexists _; isplitr
  swap; · iexact H7
  ipureintro; rfl

/-! ## The pipeline's proof data -/

variable (m : (ℓ : Loc nD τ sig) → Buf (Elt F) ℓ) (ρ : Dev nD → PrngReg)

/-- What the output's staging buffer holds after the body at point `t`. -/
def outAt (c : Dev nD) (t : Fin cfg0.N) : Vec F S1x1x16x64x512 .bf16 :=
  pointOut (shiftOf (iblk m c 0 t)) (iblk m c 1 t) (iblk m c 2 t) (iblk m c 3 t)

/-- The arrays as the region finds them; after a point each input's buffer at its block, the output's at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-! ## The body at a point -/

abbrev stg0 (t : Fin cfg0.N) : Memref sig .tc .smem S1x1 .f32 := win0_0.stage (cfg0.slots t 0)
abbrev stg1 (t : Fin cfg0.N) : Memref sig .tc .vmem S1x1x16x128x512 .f32 := win0_1.stage (cfg0.slots t 1)
abbrev stg2 (t : Fin cfg0.N) : Memref sig .tc .vmem S1x1x8192x128 .bf16 := win0_2.stage (cfg0.slots t 2)
abbrev stg3 (t : Fin cfg0.N) : Memref sig .tc .vmem S1x1x4x64x2048 .bf16 := win0_3.stage (cfg0.slots t 3)
abbrev stg4 (t : Fin cfg0.N) : Memref sig .tc .vmem S1x1x16x64x512 .bf16 := win0_4.stage (cfg0.slots t 4)
abbrev scr : Memref sig .tc .vmem S2x2048x512 .bf16 := Memref.whole cc0_scratch0

/-- The region's invariant: the scratch at some contents and the generator register. -/
theorem inv_eq (c : Dev nD) :
    (Pipeline.ΦA spec0 c : sProp 𝕄) = iprop((∃ d, owns (c : Thread nD τ) scr fullShare d) ∗ (∃ r, prngReg c r)) := by
  unfold Pipeline.ΦA; rw [scopedRest0_eq]; simp only [scr, owns_whole]; try rfl

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t))

theorem body_sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0, after1, after2, after3, after4, inv_eq]
  unfold outAt
  iintro ⟨⟨HS, Hg⟩, Ho, ⟨%d0, H0⟩, ⟨%d1, H1⟩, ⟨%d2, H2⟩, ⟨%d3, H3⟩, ⟨%d4, H4⟩⟩
  iapply (body_run c (grid0.coords t) _ _ _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [HS]; · iexact HS
  iintro ⟨H0, H1, H2, H3, H4, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  iexact H4

theorem row_eq (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_eq]
  exact triple_restated (body_sound m c t) rfl .rfl fun _ => .rfl

/-! ## The launch and the frame -/

set_option backward.isDefEq.respectTransparency.types false in
/-- Every fair execution ends with the pipeline's arrays at what the proof data says and every counter at zero. -/
theorem launch_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

theorem launch : θ_run defs (onTc (τ := τ) (main (F := F))) (s₀ m ρ) (Pipeline.FramePost cfgs (dats m) 0 (V m)) :=
  (θ_run defs _ _).mono (fun _ h => h.1) (launch_quiescent m ρ)

/-- The frame: the arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (launch m ρ)) ((θ_run defs _ _).mono (fun _ h => h.2) (launch_quiescent m ρ))

end Cert.KernelIdeal.Mla
end
-- ==== Proof.MlaValue.lean ====
/-
  The attention call's result array: for every batch, head and query the average of the values, weighted by powers of two
  of the scaled scores less one shift.
-/
module

public import proofs.«01_k».proof.Proof.MlaEntry
public import proofs.«01_k».proof.Proof.MlaFrame
public import Idealize.ShloMosaic.Lib.Pipeline.Value

@[expose] public section
set_option maxRecDepth 16384
set_option maxHeartbeats 4000000
noncomputable section
namespace Cert.KernelIdeal.Mla

open Cert.KernelIdeal.Gen
open Idealize.ShloMosaic Idealize.ShloMosaic.TcCoe Idealize.SL.Sem
open Idealize.ShloMosaic.Pipeline (Dat)

/-- The scaled score of key `s` for query `n`. -/
def score (q k : FVec Ideal S4x8192x8x96 .f32) (B : Fin 4) (H : Fin 8) (n s : Fin 8192) : EReal :=
  ∑ d : Fin 96, k (ix4 B s H d) * (q (ix4 B n H d) * qScale)

/-- Query `l` of block `b`. -/
def query (b : Fin 16) (l : Fin 512) : Fin 8192 := ⟨512 * b.val + l.val, by omega⟩

/-- The result as a function of the arguments. -/
def attn (σ : EReal) (q k : FVec Ideal S4x8192x8x96 .f32) (v : FVec Ideal S4x8192x8x64 .f32) : FVec Ideal S4x8x16x64x512 .bf16 := fun i =>
  (∑ s : Fin 8192, v (ix4 (i 0) s (i 1) (i 3)) * Ideal.exp2 (score q k (i 0) (i 1) (query (i 2) (i 4)) s - σ))
    * Ideal.div 1 (∑ s : Fin 8192, Ideal.exp2 (score q k (i 0) (i 1) (query (i 2) (i 4)) s - σ))

/-- The columns past 96 add nothing to a score. -/
theorem sum_pad (q k : FVec Ideal S4x8192x8x96 .f32) (B : Fin 4) (H : Fin 8) (b : Fin 16) (l : Fin 512) (s : Fin 8192) :
    ∑ d : Fin 128, kOf k (ix4 B H s d) * (qOf q (ix5 B H b d l) * qScale) = score q k B H (query b l) s := by
  rw [Fin.sum_univ_two_halves 96 32 rfl]
  simp only [kOf_apply, qOf_apply]
  rw [Finset.sum_eq_zero (s := (Finset.univ : Finset (Fin 32))), add_zero]
  · unfold score
    refine Finset.sum_congr rfl fun d _ => ?_
    rw [dif_pos d.isLt, dif_pos d.isLt]
    rfl
  · intro d _
    rw [dif_neg (by simp), zero_mul]

variable (m : (ℓ : Loc nD τ sig) → Buf (Elt Ideal) ℓ) (ρ : Dev nD → PrngReg) (c : Dev nD)

/-- Where the windows' blocks lie: point `t` takes batch `t / 8` and head `t mod 8`. -/
theorem idx4 : ∀ t : Fin cfg0.N, win0_4.index t = ![t.val / 8, t.val % 8, 0, 0, 0] :=
  (by decide +kernel : ∀ t : Fin grid0.N, win0_4.index t = ![t.val / 8, t.val % 8, 0, 0, 0])
theorem idx1 : ∀ t : Fin cfg0.N, win0_1.index t = ![t.val / 8, t.val % 8, 0, 0, 0] :=
  (by decide +kernel : ∀ t : Fin grid0.N, win0_1.index t = ![t.val / 8, t.val % 8, 0, 0, 0])
theorem idx2 : ∀ t : Fin cfg0.N, win0_2.index t = ![t.val / 8, t.val % 8, 0, 0] :=
  (by decide +kernel : ∀ t : Fin grid0.N, win0_2.index t = ![t.val / 8, t.val % 8, 0, 0])
theorem idx3 : ∀ t : Fin cfg0.N, win0_3.index t = ![t.val / 8, t.val % 8, 0, 0, 0] :=
  (by decide +kernel : ∀ t : Fin grid0.N, win0_3.index t = ![t.val / 8, t.val % 8, 0, 0, 0])

theorem lt_N (t : Fin cfg0.N) : t.val < 32 := t.isLt

def bat (t : Fin cfg0.N) : Fin 4 := ⟨t.val / 8, by have := lt_N t; omega⟩
def head (t : Fin cfg0.N) : Fin 8 := ⟨t.val % 8, by omega⟩

theorem read1 (f : FVec Ideal S4x8x16x128x512 .bf16) (t : Fin cfg0.N) (b : Fin 16) (d : Fin 128) (l : Fin 512) :
    ((cfg0.win 1).blk t).view.read (Elt Ideal) f (ix5 0 0 b d l) = f (ix5 (bat t) (head t) b d l) := by
  rw [View.read_apply]
  show f _ = _
  congr 1
  funext a
  apply Fin.ext
  match a with
  | ⟨0, _⟩ => show win0_1.index t 0 * 1 + 1 * 0 = t.val / 8; rw [idx1]; simp
  | ⟨1, _⟩ => show win0_1.index t 1 * 1 + 1 * 0 = t.val % 8; rw [idx1]; simp
  | ⟨2, _⟩ => show win0_1.index t 2 * 16 + 1 * b.val = b.val; rw [idx1]; simp
  | ⟨3, _⟩ => show win0_1.index t 3 * 128 + 1 * d.val = d.val; rw [idx1]; simp
  | ⟨4, _⟩ => show win0_1.index t 4 * 512 + 1 * l.val = l.val; rw [idx1]; simp

theorem read2 (f : FVec Ideal S4x8x8192x128 .bf16) (t : Fin cfg0.N) (s : Fin 8192) (d : Fin 128) :
    ((cfg0.win 2).blk t).view.read (Elt Ideal) f (ix4 0 0 s d) = f (ix4 (bat t) (head t) s d) := by
  rw [View.read_apply]
  show f _ = _
  congr 1
  funext a
  apply Fin.ext
  match a with
  | ⟨0, _⟩ => show win0_2.index t 0 * 1 + 1 * 0 = t.val / 8; rw [idx2]; simp
  | ⟨1, _⟩ => show win0_2.index t 1 * 1 + 1 * 0 = t.val % 8; rw [idx2]; simp
  | ⟨2, _⟩ => show win0_2.index t 2 * 8192 + 1 * s.val = s.val; rw [idx2]; simp
  | ⟨3, _⟩ => show win0_2.index t 3 * 128 + 1 * d.val = d.val; rw [idx2]; simp

theorem read3 (f : FVec Ideal S4x8x4x64x2048 .bf16) (t : Fin cfg0.N) (j : Fin 4) (d : Fin 64) (r : Fin 2048) :
    ((cfg0.win 3).blk t).view.read (Elt Ideal) f (ix5 0 0 j d r) = f (ix5 (bat t) (head t) j d r) := by
  rw [View.read_apply]
  show f _ = _
  congr 1
  funext a
  apply Fin.ext
  match a with
  | ⟨0, _⟩ => show win0_3.index t 0 * 1 + 1 * 0 = t.val / 8; rw [idx3]; simp
  | ⟨1, _⟩ => show win0_3.index t 1 * 1 + 1 * 0 = t.val % 8; rw [idx3]; simp
  | ⟨2, _⟩ => show win0_3.index t 2 * 4 + 1 * j.val = j.val; rw [idx3]; simp
  | ⟨3, _⟩ => show win0_3.index t 3 * 64 + 1 * d.val = d.val; rw [idx3]; simp
  | ⟨4, _⟩ => show win0_3.index t 4 * 2048 + 1 * r.val = r.val; rw [idx3]; simp

abbrev A0 : FVec Ideal S4x8192x8x96 .f32 := m ((c.tc : Thread nD τ).loc main_arg0)
abbrev A1 : FVec Ideal S4x8192x8x96 .f32 := m ((c.tc : Thread nD τ).loc main_arg1)
abbrev A2 : FVec Ideal S4x8192x8x64 .f32 := m ((c.tc : Thread nD τ).loc main_arg2)
abbrev A3 : FVec Ideal S96 .f32 := m ((c.tc : Thread nD τ).loc main_arg3)
abbrev A4 : FVec Ideal S96 .f32 := m ((c.tc : Thread nD τ).loc main_arg4)

/-- The shift the kernel subtracts. -/
def sig0 : EReal := shift (A3 m c) (A4 m c) (ix2 0 0)

theorem shiftOf_blk (t : Fin cfg0.N) : shiftOf (F := Ideal) (iblk m c 0 t) = sig0 m c := by
  unfold shiftOf sig0 iblk
  rw [View.read_apply]
  show V m c main_v15 _ = _
  rw [V_shift]
  congr 1
  funext a
  apply Fin.ext
  match a with
  | ⟨0, _⟩ => exact Nat.lt_one_iff.mp (Fin.isLt _)
  | ⟨1, _⟩ => exact Nat.lt_one_iff.mp (Fin.isLt _)

/-- What a point leaves in its block, at an index. -/
theorem outAt_apply (t : Fin cfg0.N) (b : Fin 16) (d : Fin 64) (l : Fin 512) :
    outAt (F := Ideal) m c t (ix5 0 0 b d l) = attn (sig0 m c) (A0 m c) (A1 m c) (A2 m c) (ix5 (bat t) (head t) b d l) := by
  unfold outAt
  rw [pointOut_apply _ _ _ _ b d l (fun s => A2 m c (ix4 (bat t) s (head t) d)) (fun j x => by
    refine (read3 (V m c main_v8) t j d x).trans ?_
    rw [V_v]
    exact vOf_apply _ _ _ _ _ _)]
  have hw : ∀ s, weight (shiftOf (F := Ideal) (iblk m c 0 t)) (iblk m c 1 t) (iblk m c 2 t) b l s
      = Ideal.exp2 (score (A0 m c) (A1 m c) (bat t) (head t) (query b l) s - sig0 m c) := fun s => by
    unfold weight
    rw [shiftOf_blk, ← sum_pad]
    congr 2
    refine Finset.sum_congr rfl fun x _ => ?_
    refine congrArg₂ (· * ·) ((read2 (V m c main_v5) t s x).trans (by rw [V_k])) (congrArg (· * qScale) ((read1 (V m c main_v2) t b x l).trans (by rw [V_q])))
  simp only [hw]
  rfl

/-- The same at any index of the block, against the array's index it stands for. -/
theorem outAt_emb (t : Fin cfg0.N) (y : S1x1x16x64x512.Idx) :
    outAt (F := Ideal) m c t y = attn (sig0 m c) (A0 m c) (A1 m c) (A2 m c) (((cfg0.win 4).blk t).view.emb y) := by
  obtain ⟨p, r, b, d, l, rfl⟩ : ∃ p r b d l, y = ix5 p r b d l := ⟨y 0, y 1, y 2, y 3, y 4, by
    funext a
    match a with
    | ⟨0, _⟩ => rfl
    | ⟨1, _⟩ => rfl
    | ⟨2, _⟩ => rfl
    | ⟨3, _⟩ => rfl
    | ⟨4, _⟩ => rfl⟩
  obtain rfl : p = 0 := Subsingleton.elim _ _
  obtain rfl : r = 0 := Subsingleton.elim _ _
  rw [outAt_apply]
  congr 1
  funext a
  apply Fin.ext
  match a with
  | ⟨0, _⟩ => show t.val / 8 = win0_4.index t 0 * 1 + 1 * 0; rw [idx4]; simp
  | ⟨1, _⟩ => show t.val % 8 = win0_4.index t 1 * 1 + 1 * 0; rw [idx4]; simp
  | ⟨2, _⟩ => show b.val = win0_4.index t 2 * 16 + 1 * b.val; rw [idx4]; simp
  | ⟨3, _⟩ => show d.val = win0_4.index t 3 * 64 + 1 * d.val; rw [idx4]; simp
  | ⟨4, _⟩ => show l.val = win0_4.index t 4 * 512 + 1 * l.val; rw [idx4]; simp

/-- What a point writes back is its block of the result. -/
theorem flushed_eq (t : Fin cfg0.N) :
    (dats (F := Ideal) m 0 c).flushed 4 t = ((cfg0.win 4).blk t).view.read (Elt Ideal) (attn (sig0 m c) (A0 m c) (A1 m c) (A2 m c)) := by
  show (cfg0.win 4).cut (grid0.coords t) ((dats (F := Ideal) m 0 c).after 4 t) = _
  rw [after4]
  funext y
  rw [View.read_apply]
  exact outAt_emb m c t y

theorem flush4 : ∀ t : Fin cfg0.N, (cfg0.win 4).flush t = true :=
  (by decide +kernel : ∀ t : Fin grid0.N, win0_4.flush t = true)

theorem xsize4 : ∀ t : Fin cfg0.N, win0_4.xsize (grid0.coords t) = ![1, 1, 16, 64, 512] :=
  (by decide +kernel : ∀ t : Fin grid0.N, win0_4.xsize (grid0.coords t) = ![1, 1, 16, 64, 512])

theorem cover (i : S4x8x16x64x512.Idx) : ∃ t : Fin cfg0.N, (cfg0.win 4).flush t = true ∧ i ∈ ((cfg0.win 4).blk t).view.set := by
  have h0 : (i 0).val < 4 := (i 0).isLt
  have h1 : (i 1).val < 8 := (i 1).isLt
  have h2 : (i 2).val < 16 := (i 2).isLt
  have h3 : (i 3).val < 64 := (i 3).isLt
  have h4 : (i 4).val < 512 := (i 4).isLt
  refine ⟨⟨8 * (i 0).val + (i 1).val, (by omega : _ < 32)⟩, flush4 _, ?_⟩
  set t : Fin cfg0.N := ⟨8 * (i 0).val + (i 1).val, (by omega : _ < 32)⟩ with ht
  show i ∈ ((View.whole main_v16).slice (win0_4.rect t)).set
  rw [View.set_slice_whole, Rect.mem_set_unit]
  have e0 : t.val / 8 = (i 0).val := by show (8 * (i 0).val + (i 1).val) / 8 = _; omega
  have e1 : t.val % 8 = (i 1).val := by show (8 * (i 0).val + (i 1).val) % 8 = _; omega
  intro a
  match a with
  | ⟨0, _⟩ => show win0_4.index t 0 * 1 ≤ (i 0).val ∧ (i 0).val < win0_4.index t 0 * 1 + win0_4.xsize (grid0.coords t) 0
              rw [idx4, xsize4]; show t.val / 8 * 1 ≤ _ ∧ _ < t.val / 8 * 1 + 1; omega
  | ⟨1, _⟩ => show win0_4.index t 1 * 1 ≤ (i 1).val ∧ (i 1).val < win0_4.index t 1 * 1 + win0_4.xsize (grid0.coords t) 1
              rw [idx4, xsize4]; show t.val % 8 * 1 ≤ _ ∧ _ < t.val % 8 * 1 + 1; omega
  | ⟨2, _⟩ => show win0_4.index t 2 * 16 ≤ (i 2).val ∧ (i 2).val < win0_4.index t 2 * 16 + win0_4.xsize (grid0.coords t) 2
              rw [idx4, xsize4]; show 0 * 16 ≤ _ ∧ _ < 0 * 16 + 16; omega
  | ⟨3, _⟩ => show win0_4.index t 3 * 64 ≤ (i 3).val ∧ (i 3).val < win0_4.index t 3 * 64 + win0_4.xsize (grid0.coords t) 3
              rw [idx4, xsize4]; show 0 * 64 ≤ _ ∧ _ < 0 * 64 + 64; omega
  | ⟨4, _⟩ => show win0_4.index t 4 * 512 ≤ (i 4).val ∧ (i 4).val < win0_4.index t 4 * 512 + win0_4.xsize (grid0.coords t) 4
              rw [idx4, xsize4]; show 0 * 512 ≤ _ ∧ _ < 0 * 512 + 512; omega

/-- The result array after the run. -/
theorem final : (dats (F := Ideal) m 0 c).arrAt 4 cfg0.N = attn (sig0 m c) (A0 m c) (A1 m c) (A2 m c) :=
  (dats (F := Ideal) m 0 c).arrAt_eq_of_cover 4 _ (fun t _ => flushed_eq m c t) cover

/-- The run: the result at the weighted averages, the arguments as launched. -/
theorem run : θ_run defs (onTc (τ := τ) (main (F := Ideal))) ⟨m, fun _ => 0, ρ⟩ (fun r => (∀ c : Dev nD,
      r.2.mem ((c.tc : Thread nD τ).loc main_v16) = attn (sig0 m c) (A0 m c) (A1 m c) (A2 m c))
      ∧ ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)) :=
  θ_run_and ((θ_run defs _ _).mono (fun _ h c => ((h c).1 4).trans (final m c)) (launch m ρ)) (frame m ρ)

end Cert.KernelIdeal.Mla
end
-- ==== Proof.MlaRef.lean ====
/-
  The attention's reference at an index.
-/
module

public import proofs.«01_k».proof.Proof.MlaValue
public import proofs.«01_k».proof.Proof.Gen.ReferenceIdeal.Read
public import Idealize.ShloMosaic.Lib.Pointwise

@[expose] public section
set_option maxRecDepth 16384
set_option maxHeartbeats 4000000
noncomputable section
namespace Cert.ReferenceIdeal.Mla

open Cert.ReferenceIdeal.Read
open Idealize.ShloMosaic

def sc (q k : FVec Ideal S4x8192x8x96 .f32) (B : Fin 4) (H : Fin 8) (n s : Fin 8192) : EReal :=
  Ideal.div (∑ d : Fin 96, q (ix4 B n H d) * k (ix4 B s H d)) (Ideal.sqrt (Ideal.ofBits .f32 0x42C00000#32))

theorem ref_sc (q k : FVec Ideal S4x8192x8x96 .f32) (B : Fin 4) (H : Fin 8) (n s : Fin 8192) :
    val_main_v3 (F := Ideal) q k (ix4 B H n s) = sc q k B H n s := by
  unfold sc
  pointwise [val_main_v3, val_main_v2, val_main_v1, val_main_v0, val_main_cst]

/-- A row's maximum, as a fold over its columns. -/
theorem max_apply (y : FVec Ideal S4x8x8192x8192 .f32) (z : FVec Ideal S_ .f32) (B : Fin 4) (H : Fin 8) (n : Fin 8192) :
    Host.reduce FloatOps.maximumf y z Gen.reducesTo_S4x8x8192x8192_S4x8x8192_d3 Gen.h_S_ (ix3 B H n)
      = Finset.univ.fold max (z (Shape.Idx.first Gen.h_S_)) (fun s : Fin 8192 => y (ix4 B H n s)) := by
  pointwise

theorem ref_max (q k : FVec Ideal S4x8192x8x96 .f32) (B : Fin 4) (H : Fin 8) (n : Fin 8192) :
    val_main_v6 (F := Ideal) q k (ix3 B H n) = max (Ideal.ofBits .f32 0xFF800000#32) (Finset.univ.fold max (Ideal.ofBits .f32 0xFF800000#32) (fun s => sc q k B H n s)) := by
  rw [val_main_v6_apply, val_main_v5_apply, val_main_cst_1_apply]
  unfold val_main_v4
  rw [max_apply, val_main_cst_0_apply]
  simp only [ref_sc]
  rfl

/-- The reference's result, from its scores and their rows' maxima. -/
theorem ref_apply (q k : FVec Ideal S4x8192x8x96 .f32) (v : FVec Ideal S4x8192x8x64 .f32) (B : Fin 4) (H : Fin 8) (b : Fin 16) (d : Fin 64) (l : Fin 512) :
    val_main_v19 (F := Ideal) q k v (ix5 B H b d l) = ∑ s : Fin 8192, v (ix4 B s H d) *
      Ideal.div (Ideal.exp (val_main_v3 (F := Ideal) q k (ix4 B H (Cert.KernelIdeal.Mla.query b l) s) - val_main_v6 (F := Ideal) q k (ix3 B H (Cert.KernelIdeal.Mla.query b l))))
        (∑ j : Fin 8192, Ideal.exp (val_main_v3 (F := Ideal) q k (ix4 B H (Cert.KernelIdeal.Mla.query b l) j) - val_main_v6 (F := Ideal) q k (ix3 B H (Cert.KernelIdeal.Mla.query b l)))) := by
  unfold val_main_v19 val_main_v18 val_main_v17 val_main_v16 val_main_v15 val_main_v14 val_main_v13 val_main_v12 val_main_v11 val_main_v10 val_main_v9 val_main_v8 val_main_v7
  generalize val_main_v6 (F := Ideal) q k = M
  generalize val_main_v3 (F := Ideal) q k = y
  have e : Cert.KernelIdeal.Mla.query b l = ⟨b.val * 512 + l.val, by omega⟩ := Fin.ext (by show 512 * b.val + l.val = b.val * 512 + l.val; omega)
  rw [e]
  pointwise [val_main_cst_2]

/-- With finite queries and keys the reference is the kernel's average, whatever finite shift it subtracts. -/
theorem ref_eq (σ : ℝ) (q k : FVec Ideal S4x8192x8x96 .f32) (v : FVec Ideal S4x8192x8x64 .f32)
    (hq : ∀ i, ∃ r : ℝ, q i = (r : EReal)) (hk : ∀ i, ∃ r : ℝ, k i = (r : EReal)) :
    Cert.KernelIdeal.Mla.attn (σ : EReal) q k v = val_main_v19 (F := Ideal) q k v := by
  choose q' hq using hq
  choose k' hk using hk
  have h96 : Real.sqrt 96 ≠ 0 := by positivity
  have hlog : Real.log 2 ≠ 0 := (Real.log_pos (by norm_num)).ne'
  have hsc : ∀ B H n s, sc q k B H n s = (((∑ d : Fin 96, q' (ix4 B n H d) * k' (ix4 B s H d)) / Real.sqrt 96 : ℝ) : EReal) := fun B H n s => by
    unfold sc
    simp only [hq, hk, ← EReal.coe_mul]
    rw [← Cert.Softmax.coe_sum, Cert.Softmax.word_96]
    have : Ideal.sqrt ((96 : ℝ) : EReal) = ((Real.sqrt 96 : ℝ) : EReal) := by
      show (if (96 : ℝ) < 0 then (⊥ : EReal) else ((Real.sqrt 96 : ℝ) : EReal)) = _
      rw [if_neg (by norm_num)]
    rw [this, Cert.Softmax.div_coe _ _ h96]
  have hscore : ∀ B H n s, Cert.KernelIdeal.Mla.score q k B H n s
      = (((∑ d : Fin 96, q' (ix4 B n H d) * k' (ix4 B s H d)) / Real.sqrt 96 / Real.log 2 : ℝ) : EReal) := fun B H n s => by
    unfold Cert.KernelIdeal.Mla.score Cert.KernelIdeal.Mla.qScale
    simp only [hq, hk, ← EReal.coe_mul]
    rw [← Cert.Softmax.coe_sum]
    congr 1
    rw [div_div, div_eq_mul_inv, Finset.sum_mul]
    refine Finset.sum_congr rfl fun d _ => ?_
    rw [mul_inv]; ring
  funext i
  obtain ⟨B, H, b, d, l, rfl⟩ : ∃ B H b d l, i = ix5 B H b d l := ⟨i 0, i 1, i 2, i 3, i 4, by
    funext a
    match a with
    | ⟨0, _⟩ => rfl
    | ⟨1, _⟩ => rfl
    | ⟨2, _⟩ => rfl
    | ⟨3, _⟩ => rfl
    | ⟨4, _⟩ => rfl⟩
  rw [ref_apply]
  simp only [ref_sc, ref_max]
  obtain ⟨μ, hμ⟩ := Cert.Softmax.fold_max_coe (fun s : Fin 8192 =>
    (∑ x : Fin 96, q' (ix4 B (Cert.KernelIdeal.Mla.query b l) H x) * k' (ix4 B s H x)) / Real.sqrt 96)
  simp only [hsc, Cert.Softmax.word_negInf]
  rw [hμ, max_eq_right bot_le]
  show (∑ s : Fin 8192, v (ix4 B s H d) * Ideal.exp2 (Cert.KernelIdeal.Mla.score q k B H (Cert.KernelIdeal.Mla.query b l) s - (σ : EReal)))
    * Ideal.div 1 (∑ s : Fin 8192, Ideal.exp2 (Cert.KernelIdeal.Mla.score q k B H (Cert.KernelIdeal.Mla.query b l) s - (σ : EReal))) = _
  simp only [hscore]
  exact Cert.Softmax.average _ _ _ σ μ fun s => div_mul_cancel₀ _ hlog

end Cert.ReferenceIdeal.Mla
end
-- ==== Proof.MlaClaim.lean ====
/-
  The attention's claims.
-/
module

public import proofs.«01_k».proof.Defs
public import proofs.«01_k».proof.Proof.MlaRef
public import proofs.«01_k».proof.Proof.MlaFrameBits
public import proofs.«01_k».proof.Proof.Gen.Pre_finite
public import Idealize.ShloMosaic.Lib.ReduceAll

@[expose] public section
set_option maxRecDepth 16384
set_option maxHeartbeats 4000000
noncomputable section
namespace Cert.Proof.Mla

open Idealize.ShloMosaic Idealize.SL.Sem

theorem frame_p : Cert.quiescent_Kernel := fun m ρ _ => Cert.Kernel.Mla.frame m ρ
theorem frame_pi : Cert.quiescent_KernelIdeal := fun m ρ _ => Cert.KernelIdeal.Mla.frame m ρ
theorem frame_pi_pre : Cert.quiescent_KernelIdeal_pre_finite := fun m ρ _ => Cert.KernelIdeal.Mla.frame m ρ
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
theorem frame_ri_pre : Cert.quiescent_ReferenceIdeal_pre_finite := fun m ρ _ => frame_ri m ρ trivial

theorem preserves : Cert.preserves_Kernel_KernelIdeal :=
  IdealRules.named_const.statement Cert.KernelIdeal.κ "q_scale" .f32 0x3E16C740#32 (((Real.log 2)⁻¹ * (Real.sqrt 96)⁻¹ : ℝ) : EReal) rfl

/-- The comparison the precondition makes of an element says that it is finite. -/
theorem coe_of_cmp (x : EReal) (h : Ideal.cmp .olt (max x (-x)) (Ideal.ofBits .f32 0x7F800000#32) = 1#1) : ∃ r : ℝ, x = (r : EReal) := by
  rw [Cert.Softmax.word_inf] at h
  refine Cert.Softmax.coe_of_abs_lt x ?_
  by_contra hn
  have : Ideal.cmp .olt (max x (-x)) ⊤ = 0#1 := by
    show BitVec.ofBool (decide (max x (-x) < ⊤)) = 0#1
    rw [decide_eq_false hn]; rfl
  rw [this] at h
  exact absurd h (by decide)

/-- The precondition, read: every query, key and gain is finite. -/
theorem finite_of (x0 x1 : FVec Ideal Cert.Pre_finite.S4x8192x8x96 .f32) (x2 : FVec Ideal Cert.Pre_finite.S4x8192x8x64 .f32) (x3 x4 : FVec Ideal Cert.Pre_finite.S96 .f32)
    (h : Cert.Pre_finite.fn (F := Ideal) x0 x1 x2 x3 x4 = fun _ => 1#1) :
    ((∀ i, ∃ r : ℝ, x0 i = (r : EReal)) ∧ (∀ i, ∃ r : ℝ, x1 i = (r : EReal)))
      ∧ ((∀ i, ∃ r : ℝ, x3 i = (r : EReal)) ∧ ∀ i, ∃ r : ℝ, x4 i = (r : EReal)) := by
  have e := congrFun h (fun a => a.elim0)
  haveI : Subsingleton Cert.Pre_finite.S_.Idx := ⟨fun a b => funext fun x => x.elim0⟩
  obtain ⟨e, e4⟩ := IntOp.andi_eq_one.1 e
  obtain ⟨e, e3⟩ := IntOp.andi_eq_one.1 e
  obtain ⟨e0, e1⟩ := IntOp.andi_eq_one.1 e
  exact ⟨⟨fun i => coe_of_cmp _ (Host.reduce_andi_all _ _ _ _ _ e0 i), fun i => coe_of_cmp _ (Host.reduce_andi_all _ _ _ _ _ e1 i)⟩,
    fun i => coe_of_cmp _ (Host.reduce_andi_all _ _ _ _ _ e3 i), fun i => coe_of_cmp _ (Host.reduce_andi_all _ _ _ _ _ e4 i)⟩

theorem algebraic : Cert.algebraic_KernelIdeal_ReferenceIdeal_pre_finite := by
  intro m g m' g' hpre hag
  refine ⟨fun c => Cert.KernelIdeal.Mla.attn (Cert.KernelIdeal.Mla.sig0 m c) (Cert.KernelIdeal.Mla.A0 m c) (Cert.KernelIdeal.Mla.A1 m c) (Cert.KernelIdeal.Mla.A2 m c),
    (θ_run Cert.KernelIdeal.defs _ _).mono (fun r h c => ⟨h.1 c, h.2.1 c⟩) (Cert.KernelIdeal.Mla.run m g),
    (θ_run Cert.ReferenceIdeal.defs _ _).mono (fun r h c => ⟨(h c).1.trans ?_, (h c).2⟩) (Cert.ReferenceIdeal.Value.run (F := Ideal) m' g')⟩
  obtain ⟨a0, a1, a2, -, -⟩ := hag c
  obtain ⟨⟨hq, hk⟩, h3, h4⟩ := finite_of _ _ _ _ _ (hpre c)
  obtain ⟨σ, hσ⟩ := Cert.KernelIdeal.Mla.shift_coe _ _ h3 h4
  refine (Cert.ReferenceIdeal.Read.val_main_v19_eq (F := Ideal) _ _ _).trans ?_
  rw [a0, a1, a2]
  refine (Cert.ReferenceIdeal.Mla.ref_eq σ _ _ _ hq hk).symm.trans ?_
  show _ = Cert.KernelIdeal.Mla.attn (Cert.KernelIdeal.Mla.shift _ _ _) _ _ _
  exact congrArg (fun s => Cert.KernelIdeal.Mla.attn s _ _ _) hσ.symm

end Cert.Proof.Mla
end
-- ==== Proof.FfnSum.lean ====
/-
  A gated feed-forward layer's sums: one hidden column's gate, a row's sum over the hidden columns, and that sum in eleven pieces of 256.
-/
module

public import Idealize.ShloMosaic.Lib.Pointwise
public import Idealize.ShloMosaic.Lib.Pipeline.Value
public import Idealize.ShloMosaic.PureOps.Ideal.Laws

@[expose] public section
set_option maxRecDepth 16384
set_option maxHeartbeats 4000000
noncomputable section
namespace Cert.Ffn

open Idealize.ShloMosaic

/-- The gate of one hidden column: `g / (1 + exp (0 - g))` times the other product. -/
def swish (g u : EReal) : EReal := g * Ideal.div 1 (1 + Ideal.exp (0 - g)) * u

/-- A row's product with the layer's third matrix, summed over `N` hidden columns. -/
def down {N : ℕ} (h : Fin 1024 → EReal) (wg wu : FVec Ideal ⟨2, ![1024, N]⟩ .bf16) (wd : FVec Ideal ⟨2, ![N, 1024]⟩ .bf16) (n : Fin 1024) : EReal :=
  ∑ p : Fin N, swish (∑ k : Fin 1024, h k * wg (ix2 k p)) (∑ k : Fin 1024, h k * wu (ix2 k p)) * wd (ix2 p n)

/-- Hidden column `p` of piece `j`. -/
def col (j : Fin 11) (p : Fin 256) : Fin 2816 := ⟨256 * j.val + p.val, by omega⟩

/-- The sum over all hidden columns is the pieces' sums, added in order. -/
theorem down_pieces (h : Fin 1024 → EReal) (wg wu : FVec Ideal ⟨2, ![1024, 2816]⟩ .bf16) (wd : FVec Ideal ⟨2, ![2816, 1024]⟩ .bf16) (n : Fin 1024)
    (g u : Fin 11 → FVec Ideal ⟨2, ![1024, 256]⟩ .bf16) (d : Fin 11 → FVec Ideal ⟨2, ![256, 1024]⟩ .bf16)
    (hg : ∀ j k p, g j (ix2 k p) = wg (ix2 k (col j p))) (hu : ∀ j k p, u j (ix2 k p) = wu (ix2 k (col j p)))
    (hd : ∀ j p n, d j (ix2 p n) = wd (ix2 (col j p) n)) :
    down h (g 0) (u 0) (d 0) n + down h (g 1) (u 1) (d 1) n + down h (g 2) (u 2) (d 2) n + down h (g 3) (u 3) (d 3) n + down h (g 4) (u 4) (d 4) n
      + down h (g 5) (u 5) (d 5) n + down h (g 6) (u 6) (d 6) n + down h (g 7) (u 7) (d 7) n + down h (g 8) (u 8) (d 8) n + down h (g 9) (u 9) (d 9) n
      + down h (g 10) (u 10) (d 10) n = down h wg wu wd n := by
  have e : ∀ j, down h (g j) (u j) (d j) n = ∑ p : Fin 256, swish (∑ k : Fin 1024, h k * wg (ix2 k (col j p))) (∑ k : Fin 1024, h k * wu (ix2 k (col j p))) * wd (ix2 (col j p) n) :=
    fun j => by unfold down; simp only [hg, hu, hd]
  have hc : ∀ (j : Fin 11) (p : Fin 256) (q), (⟨j.val * 256 + p.val, q⟩ : Fin 2816) = col j p := fun j p _ =>
    Fin.ext (by show j.val * 256 + p.val = 256 * j.val + p.val; omega)
  have s := Fin.sum_univ_tiles 11 256 rfl (fun p : Fin 2816 => swish (∑ k : Fin 1024, h k * wg (ix2 k p)) (∑ k : Fin 1024, h k * wu (ix2 k p)) * wd (ix2 p n))
  simp only [hc, ← e] at s
  refine Eq.trans ?_ s.symm
  have key : ∀ T : Fin 11 → EReal, T 0 + T 1 + T 2 + T 3 + T 4 + T 5 + T 6 + T 7 + T 8 + T 9 + T 10 = ∑ j, T j := fun T => by
    simp only [Fin.sum_univ_castSucc, Finset.univ_eq_empty, Finset.sum_empty, zero_add]
    rfl
  exact key fun j => down h (g j) (u j) (d j) n

/-- A row over the root of its mean square, the mean taken with a small summand. -/
def rnorm (x : Fin 1024 → EReal) (k : Fin 1024) : EReal :=
  x k * Ideal.rsqrt (Ideal.div (∑ i : Fin 1024, x i * x i) (Ideal.ofBits .f32 0x44800000#32) + Ideal.ofBits .f32 0x358637BD#32)

/-- Column `k` of the modulation's piece `g`. -/
def piece (g : Fin 9) (k : Fin 1024) : Fin 9216 := ⟨1024 * g.val + k.val, by omega⟩

/-- A weight array without its leading unit axis. -/
def flat {a b : ℕ} (w : FVec Ideal ⟨3, ![1, a, b]⟩ .f32) : FVec Ideal ⟨2, ![a, b]⟩ .bf16 := fun j => w (ix3 0 (j 0) (j 1))

end Cert.Ffn
end
-- ==== Proof.FfnOnePay.lean ====
/-
  The first feed-forward call: what one grid point stores, read at an index.
-/
module

public import proofs.«01_k».proof.Proof.FfnSum
public import proofs.«01_k».proof.Proof.Gen.FfnOneIdeal.Value

@[expose] public section
set_option maxRecDepth 16384
set_option maxHeartbeats 4000000
noncomputable section
namespace Cert.FfnOneIdeal.Ffn

open Cert.FfnOneIdeal.Gen
open Idealize.ShloMosaic Idealize.ShloMosaic.TcCoe Idealize.SL.Sem Idealize.ShloMosaic.Tactic
open Cert.Ffn

section
variable (h : FVec Ideal S1024x1024 .bf16) (wg wu : FVec Ideal S1024x256 .bf16) (wd : FVec Ideal S256x1024 .bf16) (a : FVec Ideal S1024x1024 .f32) (r n : Fin 1024)

theorem step0 : k0_pay4 (F := Ideal) h (k0_pay3 h wg) wu wd (ix2 r n) = down (fun k => h (ix2 r k)) wg wu wd n := by
  unfold down swish
  pointwise [k0_pay3, k0_pay4]
theorem step1 : k0_pay6 (F := Ideal) (k0_pay5 h wg wu) wd a (ix2 r n) = a (ix2 r n) + down (fun k => h (ix2 r k)) wg wu wd n := by
  unfold down swish
  pointwise [k0_pay5, k0_pay6]
theorem step2 : k0_pay7 (F := Ideal) h wg wu wd a (ix2 r n) = a (ix2 r n) + down (fun k => h (ix2 r k)) wg wu wd n := by
  unfold down swish
  pointwise [k0_pay7]
theorem step3 : k0_pay8 (F := Ideal) h wg wu wd a (ix2 r n) = a (ix2 r n) + down (fun k => h (ix2 r k)) wg wu wd n := by
  unfold down swish
  pointwise [k0_pay8]
theorem step4 : k0_pay12 (F := Ideal) (k0_pay9 h wg) (k0_pay10 h wu) (k0_pay11 h wg) wd a (ix2 r n) = a (ix2 r n) + down (fun k => h (ix2 r k)) wg wu wd n := by
  unfold down swish
  pointwise [k0_pay9, k0_pay10, k0_pay11, k0_pay12]
theorem step5 : k0_pay14 (F := Ideal) (k0_pay13 h wg wu wd) a (ix2 r n) = a (ix2 r n) + down (fun k => h (ix2 r k)) wg wu wd n := by
  unfold down swish
  pointwise [k0_pay13, k0_pay14]
theorem step6 : k0_pay15 (F := Ideal) h wg wu wd a (ix2 r n) = a (ix2 r n) + down (fun k => h (ix2 r k)) wg wu wd n := by
  unfold down swish
  pointwise [k0_pay15]
theorem step7 : k0_pay17 (F := Ideal) h (k0_pay16 wg) wu wd a (ix2 r n) = a (ix2 r n) + down (fun k => h (ix2 r k)) wg wu wd n := by
  unfold down swish
  pointwise [k0_pay16, k0_pay17]
theorem step8 : k0_pay21 (F := Ideal) (k0_pay18 h wg) (k0_pay19 h wu) (k0_pay20 h wg) (FloatOps.ofBits FTy.f32 1065353216#32) wd a (ix2 r n) = a (ix2 r n) + down (fun k => h (ix2 r k)) wg wu wd n := by
  unfold down swish
  pointwise [k0_pay18, k0_pay19, k0_pay20, k0_pay21]
theorem step9 : k0_pay22 (F := Ideal) h wg wu wd a (ix2 r n) = a (ix2 r n) + down (fun k => h (ix2 r k)) wg wu wd n := by
  unfold down swish
  pointwise [k0_pay22]
theorem step10 : k0_pay24 (F := Ideal) h wg wu wd (k0_pay23 a) (ix2 r n) = a (ix2 r n) + down (fun k => h (ix2 r k)) wg wu wd n := by
  unfold down swish
  pointwise [k0_pay23, k0_pay24]
end

/-! The accumulator after each of the eleven pieces. -/

section
variable {F : FTy → Type} [FloatOps F]
def acc0 (h : FVec F S1024x1024 .bf16) (x5 x6 : FVec F S1024x2816 .bf16) (x7 : FVec F S2816x1024 .bf16) : FVec F S1024x1024 .f32 :=
  k0_pay4 h (k0_pay3 h (View.ld x5 (Rect.unit (s := S1024x2816) ![0, 0] ![1024, 256] inb_S1024x2816_S1024x256_0_0))) (View.ld x6 (Rect.unit (s := S1024x2816) ![0, 0] ![1024, 256] inb_S1024x2816_S1024x256_0_0)) (View.ld x7 (Rect.unit (s := S2816x1024) ![0, 0] ![256, 1024] inb_S2816x1024_S256x1024_0_0))
def acc1 (h : FVec F S1024x1024 .bf16) (x5 x6 : FVec F S1024x2816 .bf16) (x7 : FVec F S2816x1024 .bf16) : FVec F S1024x1024 .f32 :=
  k0_pay6 (k0_pay5 h (View.ld x5 (Rect.unit (s := S1024x2816) ![0, 256] ![1024, 256] inb_S1024x2816_S1024x256_0_256)) (View.ld x6 (Rect.unit (s := S1024x2816) ![0, 256] ![1024, 256] inb_S1024x2816_S1024x256_0_256))) (View.ld x7 (Rect.unit (s := S2816x1024) ![256, 0] ![256, 1024] inb_S2816x1024_S256x1024_256_0)) (acc0 h x5 x6 x7)
def acc2 (h : FVec F S1024x1024 .bf16) (x5 x6 : FVec F S1024x2816 .bf16) (x7 : FVec F S2816x1024 .bf16) : FVec F S1024x1024 .f32 :=
  k0_pay7 h (View.ld x5 (Rect.unit (s := S1024x2816) ![0, 512] ![1024, 256] inb_S1024x2816_S1024x256_0_512)) (View.ld x6 (Rect.unit (s := S1024x2816) ![0, 512] ![1024, 256] inb_S1024x2816_S1024x256_0_512)) (View.ld x7 (Rect.unit (s := S2816x1024) ![512, 0] ![256, 1024] inb_S2816x1024_S256x1024_512_0)) (acc1 h x5 x6 x7)
def acc3 (h : FVec F S1024x1024 .bf16) (x5 x6 : FVec F S1024x2816 .bf16) (x7 : FVec F S2816x1024 .bf16) : FVec F S1024x1024 .f32 :=
  k0_pay8 h (View.ld x5 (Rect.unit (s := S1024x2816) ![0, 768] ![1024, 256] inb_S1024x2816_S1024x256_0_768)) (View.ld x6 (Rect.unit (s := S1024x2816) ![0, 768] ![1024, 256] inb_S1024x2816_S1024x256_0_768)) (View.ld x7 (Rect.unit (s := S2816x1024) ![768, 0] ![256, 1024] inb_S2816x1024_S256x1024_768_0)) (acc2 h x5 x6 x7)
def acc4 (h : FVec F S1024x1024 .bf16) (x5 x6 : FVec F S1024x2816 .bf16) (x7 : FVec F S2816x1024 .bf16) : FVec F S1024x1024 .f32 :=
  k0_pay12 (k0_pay9 h (View.ld x5 (Rect.unit (s := S1024x2816) ![0, 1024] ![1024, 256] inb_S1024x2816_S1024x256_0_1024))) (k0_pay10 h (View.ld x6 (Rect.unit (s := S1024x2816) ![0, 1024] ![1024, 256] inb_S1024x2816_S1024x256_0_1024))) (k0_pay11 h (View.ld x5 (Rect.unit (s := S1024x2816) ![0, 1024] ![1024, 256] inb_S1024x2816_S1024x256_0_1024))) (View.ld x7 (Rect.unit (s := S2816x1024) ![1024, 0] ![256, 1024] inb_S2816x1024_S256x1024_1024_0)) (acc3 h x5 x6 x7)
def acc5 (h : FVec F S1024x1024 .bf16) (x5 x6 : FVec F S1024x2816 .bf16) (x7 : FVec F S2816x1024 .bf16) : FVec F S1024x1024 .f32 :=
  k0_pay14 (k0_pay13 h (View.ld x5 (Rect.unit (s := S1024x2816) ![0, 1280] ![1024, 256] inb_S1024x2816_S1024x256_0_1280)) (View.ld x6 (Rect.unit (s := S1024x2816) ![0, 1280] ![1024, 256] inb_S1024x2816_S1024x256_0_1280)) (View.ld x7 (Rect.unit (s := S2816x1024) ![1280, 0] ![256, 1024] inb_S2816x1024_S256x1024_1280_0))) (acc4 h x5 x6 x7)
def acc6 (h : FVec F S1024x1024 .bf16) (x5 x6 : FVec F S1024x2816 .bf16) (x7 : FVec F S2816x1024 .bf16) : FVec F S1024x1024 .f32 :=
  k0_pay15 h (View.ld x5 (Rect.unit (s := S1024x2816) ![0, 1536] ![1024, 256] inb_S1024x2816_S1024x256_0_1536)) (View.ld x6 (Rect.unit (s := S1024x2816) ![0, 1536] ![1024, 256] inb_S1024x2816_S1024x256_0_1536)) (View.ld x7 (Rect.unit (s := S2816x1024) ![1536, 0] ![256, 1024] inb_S2816x1024_S256x1024_1536_0)) (acc5 h x5 x6 x7)
def acc7 (h : FVec F S1024x1024 .bf16) (x5 x6 : FVec F S1024x2816 .bf16) (x7 : FVec F S2816x1024 .bf16) : FVec F S1024x1024 .f32 :=
  k0_pay17 h (k0_pay16 (View.ld x5 (Rect.unit (s := S1024x2816) ![0, 1792] ![1024, 256] inb_S1024x2816_S1024x256_0_1792))) (View.ld x6 (Rect.unit (s := S1024x2816) ![0, 1792] ![1024, 256] inb_S1024x2816_S1024x256_0_1792)) (View.ld x7 (Rect.unit (s := S2816x1024) ![1792, 0] ![256, 1024] inb_S2816x1024_S256x1024_1792_0)) (acc6 h x5 x6 x7)
def acc8 (h : FVec F S1024x1024 .bf16) (x5 x6 : FVec F S1024x2816 .bf16) (x7 : FVec F S2816x1024 .bf16) : FVec F S1024x1024 .f32 :=
  k0_pay21 (k0_pay18 h (View.ld x5 (Rect.unit (s := S1024x2816) ![0, 2048] ![1024, 256] inb_S1024x2816_S1024x256_0_2048))) (k0_pay19 h (View.ld x6 (Rect.unit (s := S1024x2816) ![0, 2048] ![1024, 256] inb_S1024x2816_S1024x256_0_2048))) (k0_pay20 h (View.ld x5 (Rect.unit (s := S1024x2816) ![0, 2048] ![1024, 256] inb_S1024x2816_S1024x256_0_2048))) (FloatOps.ofBits FTy.f32 1065353216#32) (View.ld x7 (Rect.unit (s := S2816x1024) ![2048, 0] ![256, 1024] inb_S2816x1024_S256x1024_2048_0)) (acc7 h x5 x6 x7)
def acc9 (h : FVec F S1024x1024 .bf16) (x5 x6 : FVec F S1024x2816 .bf16) (x7 : FVec F S2816x1024 .bf16) : FVec F S1024x1024 .f32 :=
  k0_pay22 h (View.ld x5 (Rect.unit (s := S1024x2816) ![0, 2304] ![1024, 256] inb_S1024x2816_S1024x256_0_2304)) (View.ld x6 (Rect.unit (s := S1024x2816) ![0, 2304] ![1024, 256] inb_S1024x2816_S1024x256_0_2304)) (View.ld x7 (Rect.unit (s := S2816x1024) ![2304, 0] ![256, 1024] inb_S2816x1024_S256x1024_2304_0)) (acc8 h x5 x6 x7)
def acc10 (h : FVec F S1024x1024 .bf16) (x5 x6 : FVec F S1024x2816 .bf16) (x7 : FVec F S2816x1024 .bf16) : FVec F S1024x1024 .f32 :=
  k0_pay24 h (View.ld x5 (Rect.unit (s := S1024x2816) ![0, 2560] ![1024, 256] inb_S1024x2816_S1024x256_0_2560)) (View.ld x6 (Rect.unit (s := S1024x2816) ![0, 2560] ![1024, 256] inb_S1024x2816_S1024x256_0_2560)) (View.ld x7 (Rect.unit (s := S2816x1024) ![2560, 0] ![256, 1024] inb_S2816x1024_S256x1024_2560_0)) (k0_pay23 (acc9 h x5 x6 x7))

/-- A block of the result, from the point's input blocks. -/
def tower (x0 : FVec F S1x1024x1024 .f32) (x1 x2 x3 : FVec F S1x1x1024 .f32) (x4 : FVec F S1x1024 .f32) (x5 x6 : FVec F S1024x2816 .bf16) (x7 : FVec F S2816x1024 .bf16) : FVec F S1x1024x1024 .f32 :=
  k0_pay1 (k0_pay25 x0) (k0_pay26 x3) (FloatOps.ofBits .f32 1056964608#32) (acc10 (k0_pay2 x0 x4 x2 x1) x5 x6 x7)

theorem hz3 : (![0, 0, 0] : Fin 3 → ℕ) = fun _ => 0 := by decide
theorem hz2 : (![0, 0] : Fin 2 → ℕ) = fun _ => 0 := by decide

variable (m : (ℓ : Loc nD τ sig) → Buf (Elt F) ℓ) (c : Dev nD)

/-- What a point leaves in the result's buffer. -/
theorem out_eq (t : Fin cfg0.N) : outsAt0 m c t = tower (iblk m c 0 t) (iblk m c 1 t) (iblk m c 2 t) (iblk m c 3 t) (iblk m c 4 t) (iblk m c 5 t) (iblk m c 6 t) (iblk m c 7 t) := by
  unfold outsAt0 out0_A_8
  rw [View.read_writes_eq_canon _ _ _ (cover0_A_8 c _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  simp (disch := decide) only [↓View.readCov_cons_toLoadRect]
  rw [View.canon_unit_zero (S := S1x1024x1024) hz3]
  simp only [View.ld_unit_zero (S := S1x1024x1024) hz3, View.ld_unit_zero (S := S1x1x1024) hz3, View.ld_unit_zero (S := S1x1024) hz2]
  unfold tower
  generalize k0_pay2 (F := F) _ _ _ _ = h
  rfl
end

/-- Columns `256 j` to `256 j + 255` of a matrix. -/
theorem ld_cols (x : FVec Ideal S1024x2816 .bf16) (o : ℕ) (inb) (j : Fin 11) (ho : o = 256 * j.val) (k : Fin 1024) (p : Fin 256) :
    View.ld (Val := Elt Ideal) (e' := .bf16) x (Rect.unit (s := S1024x2816) ![0, o] ![1024, 256] inb) (ix2 k p) = x (ix2 k (col j p)) := by
  show x _ = x _
  congr 1
  funext a
  apply Fin.ext
  match a with
  | ⟨0, _⟩ => show 0 + 1 * k.val = k.val; omega
  | ⟨1, _⟩ => show o + 1 * p.val = 256 * j.val + p.val; omega

theorem ld_rows (x : FVec Ideal S2816x1024 .bf16) (o : ℕ) (inb) (j : Fin 11) (ho : o = 256 * j.val) (p : Fin 256) (n : Fin 1024) :
    View.ld (Val := Elt Ideal) (e' := .bf16) x (Rect.unit (s := S2816x1024) ![o, 0] ![256, 1024] inb) (ix2 p n) = x (ix2 (col j p) n) := by
  show x _ = x _
  congr 1
  funext a
  apply Fin.ext
  match a with
  | ⟨0, _⟩ => show o + 1 * p.val = 256 * j.val + p.val; omega
  | ⟨1, _⟩ => show 0 + 1 * n.val = n.val; omega

theorem inb_cols (j : Fin 11) : ∀ a, (![0, 256 * j.val] : Fin 2 → ℕ) a + (![1024, 256] : Fin 2 → ℕ) a ≤ S1024x2816.size a := by revert j; decide
theorem inb_rows (j : Fin 11) : ∀ a, (![256 * j.val, 0] : Fin 2 → ℕ) a + (![256, 1024] : Fin 2 → ℕ) a ≤ S2816x1024.size a := by revert j; decide

/-- The accumulator at the end is the sum over all hidden columns. -/
theorem acc_apply (h : FVec Ideal S1024x1024 .bf16) (x5 x6 : FVec Ideal S1024x2816 .bf16) (x7 : FVec Ideal S2816x1024 .bf16) (r n : Fin 1024) :
    acc10 h x5 x6 x7 (ix2 r n) = down (fun k => h (ix2 r k)) x5 x6 x7 n := by
  rw [← Cert.Ffn.down_pieces (fun k => h (ix2 r k)) x5 x6 x7 n
    (fun j => View.ld (Val := Elt Ideal) (e' := .bf16) x5 (Rect.unit (s := S1024x2816) ![0, 256 * j.val] ![1024, 256] (inb_cols j)))
    (fun j => View.ld (Val := Elt Ideal) (e' := .bf16) x6 (Rect.unit (s := S1024x2816) ![0, 256 * j.val] ![1024, 256] (inb_cols j)))
    (fun j => View.ld (Val := Elt Ideal) (e' := .bf16) x7 (Rect.unit (s := S2816x1024) ![256 * j.val, 0] ![256, 1024] (inb_rows j)))
    (fun j k p => ld_cols x5 _ _ j rfl k p) (fun j k p => ld_cols x6 _ _ j rfl k p) (fun j p n => ld_rows x7 _ _ j rfl p n)]
  unfold acc10; rw [step10]
  unfold acc9; rw [step9]
  unfold acc8; rw [step8]
  unfold acc7; rw [step7]
  unfold acc6; rw [step6]
  unfold acc5; rw [step5]
  unfold acc4; rw [step4]
  unfold acc3; rw [step3]
  unfold acc2; rw [step2]
  unfold acc1; rw [step1]
  unfold acc0; rw [step0]
  rfl

theorem hidden_apply (x0 : FVec Ideal S1x1024x1024 .f32) (x4 : FVec Ideal S1x1024 .f32) (x2 x1 : FVec Ideal S1x1x1024 .f32) (r k : Fin 1024) :
    k0_pay2 (F := Ideal) x0 x4 x2 x1 (ix2 r k) = rnorm (fun i => x0 (ix3 0 r i)) k * (x4 (ix2 0 k) * (1 + x2 (ix3 0 0 k))) + x1 (ix3 0 0 k) := by
  unfold rnorm
  pointwise [k0_pay2]

theorem tower_apply (x0 : FVec Ideal S1x1024x1024 .f32) (x1 x2 x3 : FVec Ideal S1x1x1024 .f32) (x4 : FVec Ideal S1x1024 .f32) (x5 x6 : FVec Ideal S1024x2816 .bf16) (x7 : FVec Ideal S2816x1024 .bf16) (r n : Fin 1024) :
    tower x0 x1 x2 x3 x4 x5 x6 x7 (ix3 0 r n) = x0 (ix3 0 r n) + Ideal.ofBits .f32 1056964608#32 * x3 (ix3 0 0 n) *
      down (fun k => rnorm (fun i => x0 (ix3 0 r i)) k * (x4 (ix2 0 k) * (1 + x2 (ix3 0 0 k))) + x1 (ix3 0 0 k)) x5 x6 x7 n := by
  unfold tower
  have e := acc_apply (k0_pay2 x0 x4 x2 x1) x5 x6 x7 r n
  simp only [hidden_apply] at e
  rw [← e]
  generalize acc10 (F := Ideal) _ x5 x6 x7 = a
  pointwise [k0_pay1, k0_pay25, k0_pay26]

end Cert.FfnOneIdeal.Ffn
end
-- ==== Proof.FfnOneValue.lean ====
/-
  The first feed-forward call's result array: for every batch and row the feed-forward block of the row.
-/
module

public import proofs.«01_k».proof.Proof.FfnOnePay
public import Idealize.ShloMosaic.Lib.StableHlo.RunRead
public import Idealize.ShloMosaic.Lib.Pipeline.Value

@[expose] public section
set_option maxRecDepth 16384
set_option maxHeartbeats 800000
noncomputable section
namespace Cert.FfnOneIdeal.Ffn

open Cert.FfnOneIdeal.Gen Cert.Ffn
open Idealize.ShloMosaic Idealize.ShloMosaic.TcCoe Idealize.ShloMosaic.StableHlo Idealize.SL.Sem
open Idealize.ShloMosaic.Pipeline (Dat)

/-- The feed-forward block of one row: normalise, scale and shift, three matrices with the gate between, and the row added. -/
def ffn (x : FVec Ideal S4x8192x1024 .f32) (md : FVec Ideal S4x9216 .f32) (nw : FVec Ideal S1x1024 .f32) (wg wu : FVec Ideal S1x1024x2816 .f32)
    (wd : FVec Ideal S1x2816x1024 .f32) : FVec Ideal S4x8192x1024 .f32 := fun i =>
  x (ix3 (i 0) (i 1) (i 2)) + Ideal.ofBits .f32 0x3F000000#32 * md (ix2 (i 0) (piece 2 (i 2))) *
    down (fun k => rnorm (fun l => x (ix3 (i 0) (i 1) l)) k * (nw (ix2 0 k) * (1 + md (ix2 (i 0) (piece 1 k)))) + md (ix2 (i 0) (piece 0 k)))
      (flat wg) (flat wu) (flat wd) (i 2)

variable (m : (ℓ : Loc nD τ sig) → Buf (Elt Ideal) ℓ) (ρ : Dev nD → PrngReg) (c : Dev nD)

/-! What the pipeline finds in its arrays. -/

theorem V_2 (b : Fin 4) (k : Fin 1024) : V m c main_v2 (ix3 b 0 k) = (m ((c.tc : Thread nD τ).loc main_arg1) : FVec Ideal S4x9216 .f32) (ix2 b (piece 0 k)) := by
  have e : V m c main_v2 = shapeCast S4x1x1024 (extractStridedSlice S4x1x1x1024 ![0, 0, 0, 0] (shapeCast S4x9x1x1024 (m ((c.tc : Thread nD τ).loc main_arg1) : FVec Ideal S4x9216 .f32) shapeCasts_S4x9216_S4x9x1x1024)
      slices_S4x9x1x1024_S4x1x1x1024_0_0_0_0) shapeCasts_S4x1x1x1024_S4x1x1024 := by
    dsimp only [V, hostOps0, List.flatten_cons, List.flatten_nil, List.append_nil, List.cons_append, List.nil_append]
    after_reads_simp
    rfl
  rw [e]
  generalize (m ((c.tc : Thread nD τ).loc main_arg1) : FVec Ideal S4x9216 .f32) = x
  pointwise []
  exact congrArg (fun q => x (ix2 b q)) (Fin.ext (by show k.val = 1024 * 0 + k.val; omega))

theorem V_4 (b : Fin 4) (k : Fin 1024) : V m c main_v4 (ix3 b 0 k) = (m ((c.tc : Thread nD τ).loc main_arg1) : FVec Ideal S4x9216 .f32) (ix2 b (piece 1 k)) := by
  have e : V m c main_v4 = shapeCast S4x1x1024 (extractStridedSlice S4x1x1x1024 ![0, 1, 0, 0] (shapeCast S4x9x1x1024 (m ((c.tc : Thread nD τ).loc main_arg1) : FVec Ideal S4x9216 .f32) shapeCasts_S4x9216_S4x9x1x1024)
      slices_S4x9x1x1024_S4x1x1x1024_0_1_0_0) shapeCasts_S4x1x1x1024_S4x1x1024 := by
    dsimp only [V, hostOps0, List.flatten_cons, List.flatten_nil, List.append_nil, List.cons_append, List.nil_append]
    after_reads_simp
    rfl
  rw [e]
  generalize (m ((c.tc : Thread nD τ).loc main_arg1) : FVec Ideal S4x9216 .f32) = x
  pointwise []
  exact congrArg (fun q => x (ix2 b q)) (Fin.ext (by show 1024 + k.val = 1024 * 1 + k.val; omega))

theorem V_6 (b : Fin 4) (k : Fin 1024) : V m c main_v6 (ix3 b 0 k) = (m ((c.tc : Thread nD τ).loc main_arg1) : FVec Ideal S4x9216 .f32) (ix2 b (piece 2 k)) := by
  have e : V m c main_v6 = shapeCast S4x1x1024 (extractStridedSlice S4x1x1x1024 ![0, 2, 0, 0] (shapeCast S4x9x1x1024 (m ((c.tc : Thread nD τ).loc main_arg1) : FVec Ideal S4x9216 .f32) shapeCasts_S4x9216_S4x9x1x1024)
      slices_S4x9x1x1024_S4x1x1x1024_0_2_0_0) shapeCasts_S4x1x1x1024_S4x1x1024 := by
    dsimp only [V, hostOps0, List.flatten_cons, List.flatten_nil, List.append_nil, List.cons_append, List.nil_append]
    after_reads_simp
    rfl
  rw [e]
  generalize (m ((c.tc : Thread nD τ).loc main_arg1) : FVec Ideal S4x9216 .f32) = x
  pointwise []
  exact congrArg (fun q => x (ix2 b q)) (Fin.ext (by show 2048 + k.val = 1024 * 2 + k.val; omega))

theorem flat_1024_at (x : FVec Ideal S1x1024x2816 .f32) (p : Fin 1024) (r : Fin 2816) :
    (truncf .bf16 (shapeCast S1024x2816 x shapeCasts_S1x1024x2816_S1024x2816) bitsLt_bf16_f32 : FVec Ideal S1024x2816 .bf16) (ix2 p r) = x (ix3 0 p r) := by
  pointwise []

theorem flat_1024 (x : FVec Ideal S1x1024x2816 .f32) :
    (truncf .bf16 (shapeCast S1024x2816 x shapeCasts_S1x1024x2816_S1024x2816) bitsLt_bf16_f32 : FVec Ideal S1024x2816 .bf16) = flat x := by
  funext j
  rw [← ix2_eta j]
  exact flat_1024_at x _ _

theorem flat_2816_at (x : FVec Ideal S1x2816x1024 .f32) (p : Fin 2816) (r : Fin 1024) :
    (truncf .bf16 (shapeCast S2816x1024 x shapeCasts_S1x2816x1024_S2816x1024) bitsLt_bf16_f32 : FVec Ideal S2816x1024 .bf16) (ix2 p r) = x (ix3 0 p r) := by
  pointwise []

theorem flat_2816 (x : FVec Ideal S1x2816x1024 .f32) :
    (truncf .bf16 (shapeCast S2816x1024 x shapeCasts_S1x2816x1024_S2816x1024) bitsLt_bf16_f32 : FVec Ideal S2816x1024 .bf16) = flat x := by
  funext j
  rw [← ix2_eta j]
  exact flat_2816_at x _ _

theorem V_8 : (V m c main_v8 : FVec Ideal S1024x2816 .bf16) = flat (m ((c.tc : Thread nD τ).loc main_arg3) : FVec Ideal S1x1024x2816 .f32) := by
  have e : (V m c main_v8 : FVec Ideal S1024x2816 .bf16) = (truncf .bf16 (shapeCast S1024x2816 (m ((c.tc : Thread nD τ).loc main_arg3) : FVec Ideal S1x1024x2816 .f32) shapeCasts_S1x1024x2816_S1024x2816) bitsLt_bf16_f32 : FVec Ideal S1024x2816 .bf16) := by
    dsimp only [V, hostOps0, List.flatten_cons, List.flatten_nil, List.append_nil, List.cons_append, List.nil_append]
    after_reads_simp
    rfl
  exact e.trans (flat_1024 _)

theorem V_10 : (V m c main_v10 : FVec Ideal S1024x2816 .bf16) = flat (m ((c.tc : Thread nD τ).loc main_arg4) : FVec Ideal S1x1024x2816 .f32) := by
  have e : (V m c main_v10 : FVec Ideal S1024x2816 .bf16) = (truncf .bf16 (shapeCast S1024x2816 (m ((c.tc : Thread nD τ).loc main_arg4) : FVec Ideal S1x1024x2816 .f32) shapeCasts_S1x1024x2816_S1024x2816) bitsLt_bf16_f32 : FVec Ideal S1024x2816 .bf16) := by
    dsimp only [V, hostOps0, List.flatten_cons, List.flatten_nil, List.append_nil, List.cons_append, List.nil_append]
    after_reads_simp
    rfl
  exact e.trans (flat_1024 _)

theorem V_12 : (V m c main_v12 : FVec Ideal S2816x1024 .bf16) = flat (m ((c.tc : Thread nD τ).loc main_arg5) : FVec Ideal S1x2816x1024 .f32) := by
  have e : (V m c main_v12 : FVec Ideal S2816x1024 .bf16) = (truncf .bf16 (shapeCast S2816x1024 (m ((c.tc : Thread nD τ).loc main_arg5) : FVec Ideal S1x2816x1024 .f32) shapeCasts_S1x2816x1024_S2816x1024) bitsLt_bf16_f32 : FVec Ideal S2816x1024 .bf16) := by
    dsimp only [V, hostOps0, List.flatten_cons, List.flatten_nil, List.append_nil, List.cons_append, List.nil_append]
    after_reads_simp
    rfl
  exact e.trans (flat_2816 _)

theorem V_14 (k : Fin 1024) : V m c main_v14 (ix2 0 k) = (m ((c.tc : Thread nD τ).loc main_arg2) : FVec Ideal S1x1024 .f32) (ix2 0 k) := by
  have e : V m c main_v14 = shapeCast S1x1024 (shapeCast S1024 (m ((c.tc : Thread nD τ).loc main_arg2) : FVec Ideal S1x1024 .f32) shapeCasts_S1x1024_S1024) shapeCasts_S1024_S1x1024 := by
    dsimp only [V, hostOps0, List.flatten_cons, List.flatten_nil, List.append_nil, List.cons_append, List.nil_append]
    after_reads_simp
    rfl
  rw [e]
  generalize (m ((c.tc : Thread nD τ).loc main_arg2) : FVec Ideal S1x1024 .f32) = x
  pointwise []

/-! Where the windows' blocks lie: point `t` takes batch `t / 8` and rows `1024 (t mod 8)` on. -/

theorem idx0 : ∀ t : Fin cfg0.N, win0_0.index t = ![t.val / 8, t.val % 8, 0] :=
  (by decide +kernel : ∀ t : Fin grid0.N, win0_0.index t = ![t.val / 8, t.val % 8, 0])
theorem idx1 : ∀ t : Fin cfg0.N, win0_1.index t = ![t.val / 8, 0, 0] :=
  (by decide +kernel : ∀ t : Fin grid0.N, win0_1.index t = ![t.val / 8, 0, 0])
theorem idx2 : ∀ t : Fin cfg0.N, win0_2.index t = ![t.val / 8, 0, 0] :=
  (by decide +kernel : ∀ t : Fin grid0.N, win0_2.index t = ![t.val / 8, 0, 0])
theorem idx3 : ∀ t : Fin cfg0.N, win0_3.index t = ![t.val / 8, 0, 0] :=
  (by decide +kernel : ∀ t : Fin grid0.N, win0_3.index t = ![t.val / 8, 0, 0])
theorem idx4 : ∀ t : Fin cfg0.N, win0_4.index t = ![0, 0] :=
  (by decide +kernel : ∀ t : Fin grid0.N, win0_4.index t = ![0, 0])
theorem idx5 : ∀ t : Fin cfg0.N, win0_5.index t = ![0, 0] :=
  (by decide +kernel : ∀ t : Fin grid0.N, win0_5.index t = ![0, 0])
theorem idx6 : ∀ t : Fin cfg0.N, win0_6.index t = ![0, 0] :=
  (by decide +kernel : ∀ t : Fin grid0.N, win0_6.index t = ![0, 0])
theorem idx7 : ∀ t : Fin cfg0.N, win0_7.index t = ![0, 0] :=
  (by decide +kernel : ∀ t : Fin grid0.N, win0_7.index t = ![0, 0])
theorem idx8 : ∀ t : Fin cfg0.N, win0_8.index t = ![t.val / 8, t.val % 8, 0] :=
  (by decide +kernel : ∀ t : Fin grid0.N, win0_8.index t = ![t.val / 8, t.val % 8, 0])

theorem lt_N (t : Fin cfg0.N) : t.val < 32 := t.isLt

def bat (t : Fin cfg0.N) : Fin 4 := ⟨t.val / 8, by have := lt_N t; omega⟩
def row (t : Fin cfg0.N) (r : Fin 1024) : Fin 8192 := ⟨1024 * (t.val % 8) + r.val, by omega⟩

theorem read0 (f : FVec Ideal S4x8192x1024 .f32) (t : Fin cfg0.N) (r n : Fin 1024) :
    ((cfg0.win 0).blk t).view.read (Elt Ideal) f (ix3 0 r n) = f (ix3 (bat t) (row t r) n) := by
  rw [View.read_apply]
  show f _ = _
  congr 1
  funext a
  apply Fin.ext
  match a with
  | ⟨0, _⟩ => show win0_0.index t 0 * 1 + 1 * 0 = t.val / 8; rw [idx0]; simp
  | ⟨1, _⟩ => show win0_0.index t 1 * 1024 + 1 * r.val = 1024 * (t.val % 8) + r.val; rw [idx0]; show t.val % 8 * 1024 + 1 * r.val = _; omega
  | ⟨2, _⟩ => show win0_0.index t 2 * 1024 + 1 * n.val = n.val; rw [idx0]; simp

theorem read1 (f : FVec Ideal S4x1x1024 .f32) (t : Fin cfg0.N) (n : Fin 1024) :
    ((cfg0.win 1).blk t).view.read (Elt Ideal) f (ix3 0 0 n) = f (ix3 (bat t) 0 n) := by
  rw [View.read_apply]
  show f _ = _
  congr 1
  funext a
  apply Fin.ext
  match a with
  | ⟨0, _⟩ => show win0_1.index t 0 * 1 + 1 * 0 = t.val / 8; rw [idx1]; simp
  | ⟨1, _⟩ => show win0_1.index t 1 * 1 + 1 * 0 = 0; rw [idx1]; simp
  | ⟨2, _⟩ => show win0_1.index t 2 * 1024 + 1 * n.val = n.val; rw [idx1]; simp

theorem read2 (f : FVec Ideal S4x1x1024 .f32) (t : Fin cfg0.N) (n : Fin 1024) :
    ((cfg0.win 2).blk t).view.read (Elt Ideal) f (ix3 0 0 n) = f (ix3 (bat t) 0 n) := by
  rw [View.read_apply]
  show f _ = _
  congr 1
  funext a
  apply Fin.ext
  match a with
  | ⟨0, _⟩ => show win0_2.index t 0 * 1 + 1 * 0 = t.val / 8; rw [idx2]; simp
  | ⟨1, _⟩ => show win0_2.index t 1 * 1 + 1 * 0 = 0; rw [idx2]; simp
  | ⟨2, _⟩ => show win0_2.index t 2 * 1024 + 1 * n.val = n.val; rw [idx2]; simp

theorem read3 (f : FVec Ideal S4x1x1024 .f32) (t : Fin cfg0.N) (n : Fin 1024) :
    ((cfg0.win 3).blk t).view.read (Elt Ideal) f (ix3 0 0 n) = f (ix3 (bat t) 0 n) := by
  rw [View.read_apply]
  show f _ = _
  congr 1
  funext a
  apply Fin.ext
  match a with
  | ⟨0, _⟩ => show win0_3.index t 0 * 1 + 1 * 0 = t.val / 8; rw [idx3]; simp
  | ⟨1, _⟩ => show win0_3.index t 1 * 1 + 1 * 0 = 0; rw [idx3]; simp
  | ⟨2, _⟩ => show win0_3.index t 2 * 1024 + 1 * n.val = n.val; rw [idx3]; simp

theorem read4 (f : FVec Ideal S1x1024 .f32) (t : Fin cfg0.N) : ((cfg0.win 4).blk t).view.read (Elt Ideal) f = f := by
  funext j
  rw [View.read_apply]
  show f _ = _
  congr 1
  funext a
  apply Fin.ext
  match a with
  | ⟨0, _⟩ => show win0_4.index t 0 * 1 + 1 * (j 0).val = (j 0).val; rw [idx4]; simp
  | ⟨1, _⟩ => show win0_4.index t 1 * 1024 + 1 * (j 1).val = (j 1).val; rw [idx4]; simp

theorem read5 (f : FVec Ideal S1024x2816 .bf16) (t : Fin cfg0.N) : ((cfg0.win 5).blk t).view.read (Elt Ideal) f = f := by
  funext j
  rw [View.read_apply]
  show f _ = _
  congr 1
  funext a
  apply Fin.ext
  match a with
  | ⟨0, _⟩ => show win0_5.index t 0 * 1024 + 1 * (j 0).val = (j 0).val; rw [idx5]; simp
  | ⟨1, _⟩ => show win0_5.index t 1 * 2816 + 1 * (j 1).val = (j 1).val; rw [idx5]; simp

theorem read6 (f : FVec Ideal S1024x2816 .bf16) (t : Fin cfg0.N) : ((cfg0.win 6).blk t).view.read (Elt Ideal) f = f := by
  funext j
  rw [View.read_apply]
  show f _ = _
  congr 1
  funext a
  apply Fin.ext
  match a with
  | ⟨0, _⟩ => show win0_6.index t 0 * 1024 + 1 * (j 0).val = (j 0).val; rw [idx6]; simp
  | ⟨1, _⟩ => show win0_6.index t 1 * 2816 + 1 * (j 1).val = (j 1).val; rw [idx6]; simp

theorem read7 (f : FVec Ideal S2816x1024 .bf16) (t : Fin cfg0.N) : ((cfg0.win 7).blk t).view.read (Elt Ideal) f = f := by
  funext j
  rw [View.read_apply]
  show f _ = _
  congr 1
  funext a
  apply Fin.ext
  match a with
  | ⟨0, _⟩ => show win0_7.index t 0 * 2816 + 1 * (j 0).val = (j 0).val; rw [idx7]; simp
  | ⟨1, _⟩ => show win0_7.index t 1 * 1024 + 1 * (j 1).val = (j 1).val; rw [idx7]; simp

/-! The arguments. -/

abbrev A0 : FVec Ideal S4x8192x1024 .f32 := m ((c.tc : Thread nD τ).loc main_arg0)
abbrev A1 : FVec Ideal S4x9216 .f32 := m ((c.tc : Thread nD τ).loc main_arg1)
abbrev A2 : FVec Ideal S1x1024 .f32 := m ((c.tc : Thread nD τ).loc main_arg2)
abbrev A3 : FVec Ideal S1x1024x2816 .f32 := m ((c.tc : Thread nD τ).loc main_arg3)
abbrev A4 : FVec Ideal S1x1024x2816 .f32 := m ((c.tc : Thread nD τ).loc main_arg4)
abbrev A5 : FVec Ideal S1x2816x1024 .f32 := m ((c.tc : Thread nD τ).loc main_arg5)

/-- The result as a function of the arguments. -/
def res : FVec Ideal S4x8192x1024 .f32 := ffn (A0 m c) (A1 m c) (A2 m c) (A3 m c) (A4 m c) (A5 m c)

theorem blk0 (t : Fin cfg0.N) (r n : Fin 1024) : iblk m c 0 t (ix3 0 r n) = A0 m c (ix3 (bat t) (row t r) n) :=
  (read0 (V m c main_arg0) t r n).trans (by rw [V_main_arg0])
theorem blk1 (t : Fin cfg0.N) (n : Fin 1024) : iblk m c 1 t (ix3 0 0 n) = A1 m c (ix2 (bat t) (piece 0 n)) :=
  (read1 (V m c main_v2) t n).trans (V_2 m c _ _)
theorem blk2 (t : Fin cfg0.N) (n : Fin 1024) : iblk m c 2 t (ix3 0 0 n) = A1 m c (ix2 (bat t) (piece 1 n)) :=
  (read2 (V m c main_v4) t n).trans (V_4 m c _ _)
theorem blk3 (t : Fin cfg0.N) (n : Fin 1024) : iblk m c 3 t (ix3 0 0 n) = A1 m c (ix2 (bat t) (piece 2 n)) :=
  (read3 (V m c main_v6) t n).trans (V_6 m c _ _)
theorem blk4 (t : Fin cfg0.N) (n : Fin 1024) : iblk m c 4 t (ix2 0 n) = A2 m c (ix2 0 n) :=
  (congrFun (read4 (V m c main_v14) t) _).trans (V_14 m c _)
theorem blk5 (t : Fin cfg0.N) : (iblk m c 5 t : FVec Ideal S1024x2816 .bf16) = flat (A3 m c) :=
  (read5 (V m c main_v8) t).trans (V_8 m c)
theorem blk6 (t : Fin cfg0.N) : (iblk m c 6 t : FVec Ideal S1024x2816 .bf16) = flat (A4 m c) :=
  (read6 (V m c main_v10) t).trans (V_10 m c)
theorem blk7 (t : Fin cfg0.N) : (iblk m c 7 t : FVec Ideal S2816x1024 .bf16) = flat (A5 m c) :=
  (read7 (V m c main_v12) t).trans (V_12 m c)

/-- What a point leaves in its block, at an index. -/
theorem out_apply (t : Fin cfg0.N) (r n : Fin 1024) : outsAt0 (F := Ideal) m c t (ix3 0 r n) = res m c (ix3 (bat t) (row t r) n) := by
  rw [out_eq, tower_apply, blk5, blk6, blk7]
  simp only [blk0, blk1, blk2, blk3, blk4]
  rfl

theorem out_emb (t : Fin cfg0.N) (y : S1x1024x1024.Idx) :
    outsAt0 (F := Ideal) m c t y = res m c (((cfg0.win 8).blk t).view.emb y) := by
  obtain ⟨p, r, n, rfl⟩ : ∃ p r n, y = ix3 p r n := ⟨y 0, y 1, y 2, (ix3_eta y).symm⟩
  obtain rfl : p = 0 := Subsingleton.elim _ _
  rw [out_apply]
  congr 1
  funext a
  apply Fin.ext
  match a with
  | ⟨0, _⟩ => show t.val / 8 = win0_8.index t 0 * 1 + 1 * 0; rw [idx8]; simp
  | ⟨1, _⟩ => show 1024 * (t.val % 8) + r.val = win0_8.index t 1 * 1024 + 1 * r.val; rw [idx8]; show _ = t.val % 8 * 1024 + 1 * r.val; omega
  | ⟨2, _⟩ => show n.val = win0_8.index t 2 * 1024 + 1 * n.val; rw [idx8]; simp

/-- What a point writes back is its block of the result. -/
theorem flushed_eq (t : Fin cfg0.N) :
    (dats (F := Ideal) m 0 c).flushed 8 t = ((cfg0.win 8).blk t).view.read (Elt Ideal) (res m c) := by
  show (cfg0.win 8).cut (grid0.coords t) ((dats (F := Ideal) m 0 c).after 8 t) = _
  rw [after0_8]
  funext y
  rw [View.read_apply]
  exact out_emb m c t y

theorem xsize8 : ∀ t : Fin cfg0.N, win0_8.xsize (grid0.coords t) = ![1, 1024, 1024] :=
  (by decide +kernel : ∀ t : Fin grid0.N, win0_8.xsize (grid0.coords t) = ![1, 1024, 1024])
theorem flush8 : ∀ t : Fin cfg0.N, (cfg0.win 8).flush t = true :=
  (by decide +kernel : ∀ t : Fin grid0.N, win0_8.flush t = true)

theorem cover (i : S4x8192x1024.Idx) : ∃ t : Fin cfg0.N, (cfg0.win 8).flush t = true ∧ i ∈ ((cfg0.win 8).blk t).view.set := by
  have h0 : (i 0).val < 4 := (i 0).isLt
  have h1 : (i 1).val < 8192 := (i 1).isLt
  have h2 : (i 2).val < 1024 := (i 2).isLt
  refine ⟨⟨8 * (i 0).val + (i 1).val / 1024, (by omega : _ < 32)⟩, flush8 _, ?_⟩
  set t : Fin cfg0.N := ⟨8 * (i 0).val + (i 1).val / 1024, (by omega : _ < 32)⟩ with ht
  show i ∈ ((View.whole main_v15).slice (win0_8.rect t)).set
  rw [View.set_slice_whole, Rect.mem_set_unit]
  have e0 : t.val / 8 = (i 0).val := by show (8 * (i 0).val + (i 1).val / 1024) / 8 = _; omega
  have e1 : t.val % 8 = (i 1).val / 1024 := by show (8 * (i 0).val + (i 1).val / 1024) % 8 = _; omega
  intro a
  match a with
  | ⟨0, _⟩ => show win0_8.index t 0 * 1 ≤ (i 0).val ∧ (i 0).val < win0_8.index t 0 * 1 + win0_8.xsize (grid0.coords t) 0
              rw [idx8, xsize8]; show t.val / 8 * 1 ≤ _ ∧ _ < t.val / 8 * 1 + 1; omega
  | ⟨1, _⟩ => show win0_8.index t 1 * 1024 ≤ (i 1).val ∧ (i 1).val < win0_8.index t 1 * 1024 + win0_8.xsize (grid0.coords t) 1
              rw [idx8, xsize8]; show t.val % 8 * 1024 ≤ _ ∧ _ < t.val % 8 * 1024 + 1024; omega
  | ⟨2, _⟩ => show win0_8.index t 2 * 1024 ≤ (i 2).val ∧ (i 2).val < win0_8.index t 2 * 1024 + win0_8.xsize (grid0.coords t) 2
              rw [idx8, xsize8]; show 0 * 1024 ≤ _ ∧ _ < 0 * 1024 + 1024; omega

/-- The result array after the run. -/
theorem final : (dats (F := Ideal) m 0 c).arrAt 8 cfg0.N = res m c :=
  (dats (F := Ideal) m 0 c).arrAt_eq_of_cover 8 _ (fun t _ => flushed_eq m c t) cover

end Cert.FfnOneIdeal.Ffn
end
-- ==== Proof.FfnOneRef.lean ====
/-
  The first feed-forward call's reference, read at an index, is the kernel's array.
-/
module

public import proofs.«01_k».proof.Proof.FfnOneValue
public import proofs.«01_k».proof.Proof.Gen.FfnOneRefIdeal.Read

@[expose] public section
set_option maxRecDepth 16384
set_option maxHeartbeats 800000
noncomputable section
namespace Cert.FfnOneRefIdeal.Ffn

open Cert.FfnOneRefIdeal.Gen Cert.FfnOneRefIdeal.Read Cert.Ffn
open Idealize.ShloMosaic Idealize.ShloMosaic.TcCoe Idealize.ShloMosaic.StableHlo

variable (x0 : FVec Ideal S4x8192x1024 .f32) (x1 : FVec Ideal S4x9216 .f32) (x2 : FVec Ideal S1x1024 .f32)
  (x3 x4 : FVec Ideal S1x1024x2816 .f32) (x5 : FVec Ideal S1x2816x1024 .f32) (b : Fin 4) (n : Fin 8192)

/-- The normalised, scaled and shifted row. -/
theorem hid_apply (k : Fin 1024) : val_main_v30 (F := Ideal) x0 x1 x2 (ix3 b n k)
    = rnorm (fun l => x0 (ix3 b n l)) k * (x2 (ix2 0 k) * (1 + x1 (ix2 b (piece 1 k)))) + x1 (ix2 b (piece 0 k)) := by
  have e0 : piece 0 k = ⟨k.val, by omega⟩ := Fin.ext (by show 1024 * 0 + k.val = k.val; omega)
  have e1 : piece 1 k = ⟨1024 + k.val, by omega⟩ := Fin.ext (by show 1024 * 1 + k.val = 1024 + k.val; omega)
  rw [e0, e1, ← mul_assoc]
  unfold rnorm
  pointwise [val_main_v30, val_main_v29, val_main_v28, val_main_v27, val_main_v26, val_main_v25, val_main_v24, val_main_v23, val_main_v22, val_main_v21, val_main_v20, val_main_v19, val_main_v18,
    val_main_v17, val_main_v16, val_main_v15, val_main_v14, val_main_v13, val_main_v12, val_main_v11, val_main_v10, val_main_v9, val_main_v1, val_main_v0, val_main_cst, val_main_cst_0, val_main_cst_1, val_main_cst_2]

theorem gate_apply (p : Fin 2816) : val_main_v37 (F := Ideal) x0 x1 x2 x3 (ix3 b n p)
    = ∑ k : Fin 1024, val_main_v30 (F := Ideal) x0 x1 x2 (ix3 b n k) * flat x3 (ix2 k p) := by
  unfold val_main_v37
  generalize val_main_v30 (F := Ideal) x0 x1 x2 = h
  pointwise [val_main_v34, flat]

theorem up_apply (p : Fin 2816) : val_main_v39 (F := Ideal) x0 x1 x2 x4 (ix3 b n p)
    = ∑ k : Fin 1024, val_main_v30 (F := Ideal) x0 x1 x2 (ix3 b n k) * flat x4 (ix2 k p) := by
  unfold val_main_v39
  generalize val_main_v30 (F := Ideal) x0 x1 x2 = h
  pointwise [val_main_v35, flat]

theorem act_apply (p : Fin 2816) : val_main_v40 (F := Ideal) x0 x1 x2 x3 x4 (ix3 b n p)
    = swish (val_main_v37 (F := Ideal) x0 x1 x2 x3 (ix3 b n p)) (val_main_v39 (F := Ideal) x0 x1 x2 x4 (ix3 b n p)) := by
  unfold val_main_v40 val_main_v38 val_main_call0_v5 val_main_call0_v3 val_main_call0_v1 val_main_call0_v0 swish
  generalize val_main_v37 (F := Ideal) x0 x1 x2 x3 = g
  generalize val_main_v39 (F := Ideal) x0 x1 x2 x4 = u
  rw [zero_sub]
  pointwise [val_main_call0_v4, val_main_call0_v2, val_main_call0_cst, val_main_call0_cst_0]

theorem down_apply (q : Fin 1024) : val_main_v41 (F := Ideal) x0 x1 x2 x3 x4 x5 (ix3 b n q)
    = ∑ p : Fin 2816, val_main_v40 (F := Ideal) x0 x1 x2 x3 x4 (ix3 b n p) * flat x5 (ix2 p q) := by
  unfold val_main_v41
  generalize val_main_v40 (F := Ideal) x0 x1 x2 x3 x4 = a
  pointwise [val_main_v36, flat]

theorem out_apply (q : Fin 1024) : val_main_v44 (F := Ideal) x0 x1 x2 x3 x4 x5 (ix3 b n q)
    = x0 (ix3 b n q) + Ideal.ofBits .f32 0x3F000000#32 * x1 (ix2 b (piece 2 q)) * val_main_v41 (F := Ideal) x0 x1 x2 x3 x4 x5 (ix3 b n q) := by
  have e2 : piece 2 q = ⟨2048 + q.val, by omega⟩ := Fin.ext (by show 1024 * 2 + q.val = 2048 + q.val; omega)
  rw [e2]
  unfold val_main_v44 val_main_v43
  generalize val_main_v41 (F := Ideal) x0 x1 x2 x3 x4 x5 = a
  pointwise [val_main_v42, val_main_v33, val_main_v32, val_main_v31, val_main_v2, val_main_cst_3]

theorem ref_eq : val_main_v44 (F := Ideal) x0 x1 x2 x3 x4 x5 = Cert.FfnOneIdeal.Ffn.ffn x0 x1 x2 x3 x4 x5 := by
  funext i
  obtain ⟨b, n, q, rfl⟩ : ∃ (b : Fin 4) (n : Fin 8192) (q : Fin 1024), i = ix3 b n q := ⟨i 0, i 1, i 2, (ix3_eta i).symm⟩
  rw [out_apply, down_apply]
  simp only [act_apply, gate_apply, up_apply, hid_apply]
  rfl

end Cert.FfnOneRefIdeal.Ffn
end
-- ==== Proof.FfnOneClaim.lean ====
/-
  The first feed-forward call's claims.
-/
module

public import proofs.«01_k».proof.Defs
public import proofs.«01_k».proof.Proof.FfnOneRef
public import proofs.«01_k».proof.Proof.Gen.FfnOne.Frame

@[expose] public section
set_option maxRecDepth 16384
set_option maxHeartbeats 800000
noncomputable section
namespace Cert.Proof.FfnOne

open Idealize.ShloMosaic Idealize.SL.Sem

theorem frame_p : Cert.quiescent_FfnOne := fun m ρ _ => Cert.FfnOne.Gen.frame m ρ
theorem frame_pi : Cert.quiescent_FfnOneIdeal := fun m ρ _ => Cert.FfnOneIdeal.Gen.frame m ρ
theorem frame_ri : Cert.quiescent_FfnOneRefIdeal := fun m ρ _ =>
  (θ_run Cert.FfnOneRefIdeal.defs _ _).mono (fun r h => ⟨fun c => (h c).2, sem_eq_zero_of_no_sems (by decide) r.2⟩)
    (Cert.FfnOneRefIdeal.Value.run (F := Ideal) m ρ)

theorem preserves : Cert.preserves_FfnOne_FfnOneIdeal := trivial

theorem algebraic : Cert.algebraic_FfnOneIdeal_FfnOneRefIdeal := by
  intro m g m' g' hpre hag
  refine ⟨fun c => Cert.FfnOneIdeal.Ffn.res m c,
    (θ_run Cert.FfnOneIdeal.defs _ _).mono (fun r h c => ⟨(h c).1.trans (Cert.FfnOneIdeal.Ffn.final m c), (h c).2⟩) (Cert.FfnOneIdeal.Value.run_blocks (F := Ideal) m g),
    (θ_run Cert.FfnOneRefIdeal.defs _ _).mono (fun r h c => ⟨(h c).1.trans ?_, (h c).2⟩) (Cert.FfnOneRefIdeal.Value.run (F := Ideal) m' g')⟩
  obtain ⟨a0, a1, a2, a3, a4, a5⟩ := hag c
  refine (Cert.FfnOneRefIdeal.Read.val_main_v44_eq (F := Ideal) _ _).trans ?_
  rw [a0, a1, a2, a3, a4, a5]
  exact Cert.FfnOneRefIdeal.Ffn.ref_eq _ _ _ _ _ _

end Cert.Proof.FfnOne
end
-- ==== Proof.FfnTwoPay.lean ====
/-
  The second feed-forward call: what one grid point stores, read at an index.
-/
module

public import proofs.«01_k».proof.Proof.FfnSum
public import proofs.«01_k».proof.Proof.Gen.FfnTwoIdeal.Value
public import Idealize.ShloMosaic.Lib.Pipeline.ReadBack

@[expose] public section
set_option maxRecDepth 16384
set_option maxHeartbeats 800000
noncomputable section
namespace Cert.FfnTwoIdeal.Ffn

open Cert.FfnTwoIdeal.Gen
open Idealize.ShloMosaic Idealize.ShloMosaic.TcCoe Idealize.SL.Sem Idealize.ShloMosaic.Tactic
open Cert.Ffn

section
variable (h : FVec Ideal S1024x1024 .bf16) (wg wu : FVec Ideal S1024x256 .bf16) (wd : FVec Ideal S256x1024 .bf16) (a : FVec Ideal S1024x1024 .f32) (r n : Fin 1024)

theorem step0 : k0_pay8 (F := Ideal) h wg wu wd (ix2 r n) = down (fun k => h (ix2 r k)) wg wu wd n := by
  unfold down swish
  pointwise [k0_pay8]
theorem step1 : k0_pay9 (F := Ideal) h wg wu wd a (ix2 r n) = a (ix2 r n) + down (fun k => h (ix2 r k)) wg wu wd n := by
  unfold down swish
  pointwise [k0_pay9]
theorem step2 : k0_pay13 (F := Ideal) (k0_pay10 h wg) (k0_pay11 h wu) (k0_pay12 h wg) wd a (ix2 r n) = a (ix2 r n) + down (fun k => h (ix2 r k)) wg wu wd n := by
  unfold down swish
  pointwise [k0_pay10, k0_pay11, k0_pay12, k0_pay13]
theorem step3 : k0_pay15 (F := Ideal) (k0_pay14 h wg wu wd) a (ix2 r n) = a (ix2 r n) + down (fun k => h (ix2 r k)) wg wu wd n := by
  unfold down swish
  pointwise [k0_pay14, k0_pay15]
theorem step4 : k0_pay16 (F := Ideal) h wg wu wd a (ix2 r n) = a (ix2 r n) + down (fun k => h (ix2 r k)) wg wu wd n := by
  unfold down swish
  pointwise [k0_pay16]
theorem step5 : k0_pay18 (F := Ideal) h (k0_pay17 wg) wu wd a (ix2 r n) = a (ix2 r n) + down (fun k => h (ix2 r k)) wg wu wd n := by
  unfold down swish
  pointwise [k0_pay17, k0_pay18]
theorem step6 : k0_pay22 (F := Ideal) (k0_pay19 h wg) (k0_pay20 h wu) (k0_pay21 h wg) (FloatOps.ofBits FTy.f32 1065353216#32) wd a (ix2 r n) = a (ix2 r n) + down (fun k => h (ix2 r k)) wg wu wd n := by
  unfold down swish
  pointwise [k0_pay19, k0_pay20, k0_pay21, k0_pay22]
theorem step7 : k0_pay24 (F := Ideal) (k0_pay23 h wg wu wd a) (ix2 r n) = a (ix2 r n) + down (fun k => h (ix2 r k)) wg wu wd n := by
  unfold down swish
  pointwise [k0_pay23, k0_pay24]
theorem step8 : k0_pay25 (F := Ideal) h wg wu wd a (ix2 r n) = a (ix2 r n) + down (fun k => h (ix2 r k)) wg wu wd n := by
  unfold down swish
  pointwise [k0_pay25]
theorem step9 : k0_pay27 (F := Ideal) h (k0_pay26 h wg) wu wd a (ix2 r n) = a (ix2 r n) + down (fun k => h (ix2 r k)) wg wu wd n := by
  unfold down swish
  pointwise [k0_pay26, k0_pay27]
theorem step10 : k0_pay29 (F := Ideal) (k0_pay28 h wg wu) wd a (ix2 r n) = a (ix2 r n) + down (fun k => h (ix2 r k)) wg wu wd n := by
  unfold down swish
  pointwise [k0_pay28, k0_pay29]
end

/-! The accumulator after each of the eleven pieces. -/

section
variable {F : FTy → Type} [FloatOps F]
def acc0 (h : FVec F S1024x1024 .bf16) (x10 x11 : FVec F S1024x2816 .bf16) (x12 : FVec F S2816x1024 .bf16) : FVec F S1024x1024 .f32 :=
  k0_pay8 h (View.ld x10 (Rect.unit (s := S1024x2816) ![0, 0] ![1024, 256] inb_S1024x2816_S1024x256_0_0)) (View.ld x11 (Rect.unit (s := S1024x2816) ![0, 0] ![1024, 256] inb_S1024x2816_S1024x256_0_0)) (View.ld x12 (Rect.unit (s := S2816x1024) ![0, 0] ![256, 1024] inb_S2816x1024_S256x1024_0_0))
def acc1 (h : FVec F S1024x1024 .bf16) (x10 x11 : FVec F S1024x2816 .bf16) (x12 : FVec F S2816x1024 .bf16) : FVec F S1024x1024 .f32 :=
  k0_pay9 h (View.ld x10 (Rect.unit (s := S1024x2816) ![0, 256] ![1024, 256] inb_S1024x2816_S1024x256_0_256)) (View.ld x11 (Rect.unit (s := S1024x2816) ![0, 256] ![1024, 256] inb_S1024x2816_S1024x256_0_256)) (View.ld x12 (Rect.unit (s := S2816x1024) ![256, 0] ![256, 1024] inb_S2816x1024_S256x1024_256_0)) (acc0 h x10 x11 x12)
def acc2 (h : FVec F S1024x1024 .bf16) (x10 x11 : FVec F S1024x2816 .bf16) (x12 : FVec F S2816x1024 .bf16) : FVec F S1024x1024 .f32 :=
  k0_pay13 (k0_pay10 h (View.ld x10 (Rect.unit (s := S1024x2816) ![0, 512] ![1024, 256] inb_S1024x2816_S1024x256_0_512))) (k0_pay11 h (View.ld x11 (Rect.unit (s := S1024x2816) ![0, 512] ![1024, 256] inb_S1024x2816_S1024x256_0_512))) (k0_pay12 h (View.ld x10 (Rect.unit (s := S1024x2816) ![0, 512] ![1024, 256] inb_S1024x2816_S1024x256_0_512))) (View.ld x12 (Rect.unit (s := S2816x1024) ![512, 0] ![256, 1024] inb_S2816x1024_S256x1024_512_0)) (acc1 h x10 x11 x12)
def acc3 (h : FVec F S1024x1024 .bf16) (x10 x11 : FVec F S1024x2816 .bf16) (x12 : FVec F S2816x1024 .bf16) : FVec F S1024x1024 .f32 :=
  k0_pay15 (k0_pay14 h (View.ld x10 (Rect.unit (s := S1024x2816) ![0, 768] ![1024, 256] inb_S1024x2816_S1024x256_0_768)) (View.ld x11 (Rect.unit (s := S1024x2816) ![0, 768] ![1024, 256] inb_S1024x2816_S1024x256_0_768)) (View.ld x12 (Rect.unit (s := S2816x1024) ![768, 0] ![256, 1024] inb_S2816x1024_S256x1024_768_0))) (acc2 h x10 x11 x12)
def acc4 (h : FVec F S1024x1024 .bf16) (x10 x11 : FVec F S1024x2816 .bf16) (x12 : FVec F S2816x1024 .bf16) : FVec F S1024x1024 .f32 :=
  k0_pay16 h (View.ld x10 (Rect.unit (s := S1024x2816) ![0, 1024] ![1024, 256] inb_S1024x2816_S1024x256_0_1024)) (View.ld x11 (Rect.unit (s := S1024x2816) ![0, 1024] ![1024, 256] inb_S1024x2816_S1024x256_0_1024)) (View.ld x12 (Rect.unit (s := S2816x1024) ![1024, 0] ![256, 1024] inb_S2816x1024_S256x1024_1024_0)) (acc3 h x10 x11 x12)
def acc5 (h : FVec F S1024x1024 .bf16) (x10 x11 : FVec F S1024x2816 .bf16) (x12 : FVec F S2816x1024 .bf16) : FVec F S1024x1024 .f32 :=
  k0_pay18 h (k0_pay17 (View.ld x10 (Rect.unit (s := S1024x2816) ![0, 1280] ![1024, 256] inb_S1024x2816_S1024x256_0_1280))) (View.ld x11 (Rect.unit (s := S1024x2816) ![0, 1280] ![1024, 256] inb_S1024x2816_S1024x256_0_1280)) (View.ld x12 (Rect.unit (s := S2816x1024) ![1280, 0] ![256, 1024] inb_S2816x1024_S256x1024_1280_0)) (acc4 h x10 x11 x12)
def acc6 (h : FVec F S1024x1024 .bf16) (x10 x11 : FVec F S1024x2816 .bf16) (x12 : FVec F S2816x1024 .bf16) : FVec F S1024x1024 .f32 :=
  k0_pay22 (k0_pay19 h (View.ld x10 (Rect.unit (s := S1024x2816) ![0, 1536] ![1024, 256] inb_S1024x2816_S1024x256_0_1536))) (k0_pay20 h (View.ld x11 (Rect.unit (s := S1024x2816) ![0, 1536] ![1024, 256] inb_S1024x2816_S1024x256_0_1536))) (k0_pay21 h (View.ld x10 (Rect.unit (s := S1024x2816) ![0, 1536] ![1024, 256] inb_S1024x2816_S1024x256_0_1536))) (FloatOps.ofBits FTy.f32 1065353216#32) (View.ld x12 (Rect.unit (s := S2816x1024) ![1536, 0] ![256, 1024] inb_S2816x1024_S256x1024_1536_0)) (acc5 h x10 x11 x12)
def acc7 (h : FVec F S1024x1024 .bf16) (x10 x11 : FVec F S1024x2816 .bf16) (x12 : FVec F S2816x1024 .bf16) : FVec F S1024x1024 .f32 :=
  k0_pay24 (k0_pay23 h (View.ld x10 (Rect.unit (s := S1024x2816) ![0, 1792] ![1024, 256] inb_S1024x2816_S1024x256_0_1792)) (View.ld x11 (Rect.unit (s := S1024x2816) ![0, 1792] ![1024, 256] inb_S1024x2816_S1024x256_0_1792)) (View.ld x12 (Rect.unit (s := S2816x1024) ![1792, 0] ![256, 1024] inb_S2816x1024_S256x1024_1792_0)) (acc6 h x10 x11 x12))
def acc8 (h : FVec F S1024x1024 .bf16) (x10 x11 : FVec F S1024x2816 .bf16) (x12 : FVec F S2816x1024 .bf16) : FVec F S1024x1024 .f32 :=
  k0_pay25 h (View.ld x10 (Rect.unit (s := S1024x2816) ![0, 2048] ![1024, 256] inb_S1024x2816_S1024x256_0_2048)) (View.ld x11 (Rect.unit (s := S1024x2816) ![0, 2048] ![1024, 256] inb_S1024x2816_S1024x256_0_2048)) (View.ld x12 (Rect.unit (s := S2816x1024) ![2048, 0] ![256, 1024] inb_S2816x1024_S256x1024_2048_0)) (acc7 h x10 x11 x12)
def acc9 (h : FVec F S1024x1024 .bf16) (x10 x11 : FVec F S1024x2816 .bf16) (x12 : FVec F S2816x1024 .bf16) : FVec F S1024x1024 .f32 :=
  k0_pay27 h (k0_pay26 h (View.ld x10 (Rect.unit (s := S1024x2816) ![0, 2304] ![1024, 256] inb_S1024x2816_S1024x256_0_2304))) (View.ld x11 (Rect.unit (s := S1024x2816) ![0, 2304] ![1024, 256] inb_S1024x2816_S1024x256_0_2304)) (View.ld x12 (Rect.unit (s := S2816x1024) ![2304, 0] ![256, 1024] inb_S2816x1024_S256x1024_2304_0)) (acc8 h x10 x11 x12)
def acc10 (h : FVec F S1024x1024 .bf16) (x10 x11 : FVec F S1024x2816 .bf16) (x12 : FVec F S2816x1024 .bf16) : FVec F S1024x1024 .f32 :=
  k0_pay29 (k0_pay28 h (View.ld x10 (Rect.unit (s := S1024x2816) ![0, 2560] ![1024, 256] inb_S1024x2816_S1024x256_0_2560)) (View.ld x11 (Rect.unit (s := S1024x2816) ![0, 2560] ![1024, 256] inb_S1024x2816_S1024x256_0_2560))) (View.ld x12 (Rect.unit (s := S2816x1024) ![2560, 0] ![256, 1024] inb_S2816x1024_S256x1024_2560_0)) (acc9 h x10 x11 x12)

/-- The two stores of 512 rows each that make the row block with the attention's output added. -/
def halves (x0 : FVec F S1x1024x1024 .f32) (x1 : FVec F S1x512x1024 .bf16) (x2 : FVec F S1x8x2x64x512 .bf16) (x3 x4 : FVec F S512x1024 .bf16) (x5 : FVec F S1x1x1024 .f32) : List (View.Piece (Elt F) S1024x1024 .f32) :=
  [⟨Rect.unit (s := S1024x1024) ![512, 0] ![512, 1024] inb_S1024x1024_S512x1024_512_0,
      k0_pay3 (k0_pay2 (View.ld x1 (Rect.unit (s := S1x512x1024) ![0, 0, 512] ![1, 512, 512] inb_S1x512x1024_S1x512x512_0_0_512)) x3)
        (View.ld x2 (Rect.unit (s := S1x8x2x64x512) ![0, 0, 1, 0, 0] ![1, 8, 1, 64, 512] inb_S1x8x2x64x512_S1x8x1x64x512_0_0_1_0_0)) x4
        (View.ld x0 (Rect.unit (s := S1x1024x1024) ![0, 512, 0] ![1, 512, 1024] inb_S1x1024x1024_S1x512x1024_0_512_0)) x5⟩,
    ⟨Rect.unit (s := S1024x1024) ![0, 0] ![512, 1024] inb_S1024x1024_S512x1024_0_0,
      k0_pay1 (View.ld x1 (Rect.unit (s := S1x512x1024) ![0, 0, 0] ![1, 512, 512] inb_S1x512x1024_S1x512x512_0_0_0)) x3
        (View.ld x2 (Rect.unit (s := S1x8x2x64x512) ![0, 0, 0, 0, 0] ![1, 8, 1, 64, 512] inb_S1x8x2x64x512_S1x8x1x64x512_0_0_0_0_0)) x4
        (View.ld x0 (Rect.unit (s := S1x1024x1024) ![0, 0, 0] ![1, 512, 1024] inb_S1x1024x1024_S1x512x1024_0_0_0)) x5⟩]

/-- The row block with the attention's output added. -/
def mid (x0 : FVec F S1x1024x1024 .f32) (x1 : FVec F S1x512x1024 .bf16) (x2 : FVec F S1x8x2x64x512 .bf16) (x3 x4 : FVec F S512x1024 .bf16) (x5 : FVec F S1x1x1024 .f32) : FVec F S1024x1024 .f32 := fun j =>
  View.canon (halves x0 x1 x2 x3 x4 x5) ((Rect.unit (s := S1024x1024) ![0, 0] ![1024, 1024] inb_S1024x1024_S1024x1024_0_0).toLoadRect.idx j)

/-- A block of the result, from the added row block and the point's other input blocks. -/
def tower (X : FVec F S1024x1024 .f32) (x6 x7 x8 : FVec F S1x1x1024 .f32) (x9 : FVec F S1x1024 .f32) (x10 x11 : FVec F S1024x2816 .bf16) (x12 : FVec F S2816x1024 .bf16) (x13 : FVec F S1x1024 .f32) : FVec F S1x1024x1024 .f32 :=
  k0_pay30 X x8 (acc10 (k0_pay7 (k0_pay4 X) (k0_pay5 x9) (k0_pay6 x7) x6) x10 x11 x12) x13

theorem hz3 : (![0, 0, 0] : Fin 3 → ℕ) = fun _ => 0 := by decide
theorem hz2 : (![0, 0] : Fin 2 → ℕ) = fun _ => 0 := by decide

variable (m : (ℓ : Loc nD τ sig) → Buf (Elt F) ℓ) (c : Dev nD)

/-- What a point leaves in the result's buffer. -/
theorem out_eq (t : Fin cfg0.N) : outsAt0 m c t = tower (mid (iblk m c 0 t) (iblk m c 1 t) (iblk m c 2 t) (iblk m c 3 t) (iblk m c 4 t) (iblk m c 5 t)) (iblk m c 6 t) (iblk m c 7 t) (iblk m c 8 t) (iblk m c 9 t) (iblk m c 10 t) (iblk m c 11 t) (iblk m c 12 t) (iblk m c 13 t) := by
  unfold outsAt0 out0_A_14
  rw [View.read_writes_eq_canon _ _ _ (cover0_A_14 c _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread]
  simp (disch := decide) only [↓View.readCov_cons_toLoadRect]
  rw [View.canon_unit_zero (S := S1x1024x1024) hz3]
  simp only [View.ld_unit_zero (S := S1x1024x1024) hz3, View.ld_unit_zero (S := S1x1x1024) hz3, View.ld_unit_zero (S := S1x1024) hz2, View.ld_unit_zero (S := S512x1024) hz2]
  generalize hX : View.readCov (Val := Elt F) _ _ _ = X
  have hm : X = mid (iblk m c 0 t) (iblk m c 1 t) (iblk m c 2 t) (iblk m c 3 t) (iblk m c 4 t) (iblk m c 5 t) := hX.symm.trans (View.readCov_eq_canon' _ _ _)
  clear hX
  subst hm
  unfold tower
  generalize mid (iblk m c 0 t) (iblk m c 1 t) (iblk m c 2 t) (iblk m c 3 t) (iblk m c 4 t) (iblk m c 5 t) = X
  generalize k0_pay7 (F := F) _ _ _ _ = h
  rfl
end

/-- Columns `256 j` to `256 j + 255` of a matrix. -/
theorem ld_cols (x : FVec Ideal S1024x2816 .bf16) (o : ℕ) (inb) (j : Fin 11) (ho : o = 256 * j.val) (k : Fin 1024) (p : Fin 256) :
    View.ld (Val := Elt Ideal) (e' := .bf16) x (Rect.unit (s := S1024x2816) ![0, o] ![1024, 256] inb) (ix2 k p) = x (ix2 k (col j p)) := by
  show x _ = x _
  congr 1
  funext a
  apply Fin.ext
  match a with
  | ⟨0, _⟩ => show 0 + 1 * k.val = k.val; omega
  | ⟨1, _⟩ => show o + 1 * p.val = 256 * j.val + p.val; omega

theorem ld_rows (x : FVec Ideal S2816x1024 .bf16) (o : ℕ) (inb) (j : Fin 11) (ho : o = 256 * j.val) (p : Fin 256) (n : Fin 1024) :
    View.ld (Val := Elt Ideal) (e' := .bf16) x (Rect.unit (s := S2816x1024) ![o, 0] ![256, 1024] inb) (ix2 p n) = x (ix2 (col j p) n) := by
  show x _ = x _
  congr 1
  funext a
  apply Fin.ext
  match a with
  | ⟨0, _⟩ => show o + 1 * p.val = 256 * j.val + p.val; omega
  | ⟨1, _⟩ => show 0 + 1 * n.val = n.val; omega

theorem inb_cols (j : Fin 11) : ∀ a, (![0, 256 * j.val] : Fin 2 → ℕ) a + (![1024, 256] : Fin 2 → ℕ) a ≤ S1024x2816.size a := by revert j; decide
theorem inb_rows (j : Fin 11) : ∀ a, (![256 * j.val, 0] : Fin 2 → ℕ) a + (![256, 1024] : Fin 2 → ℕ) a ≤ S2816x1024.size a := by revert j; decide

/-- The accumulator at the end is the sum over all hidden columns. -/
theorem acc_apply (h : FVec Ideal S1024x1024 .bf16) (x10 x11 : FVec Ideal S1024x2816 .bf16) (x12 : FVec Ideal S2816x1024 .bf16) (r n : Fin 1024) :
    acc10 h x10 x11 x12 (ix2 r n) = down (fun k => h (ix2 r k)) x10 x11 x12 n := by
  rw [← Cert.Ffn.down_pieces (fun k => h (ix2 r k)) x10 x11 x12 n
    (fun j => View.ld (Val := Elt Ideal) (e' := .bf16) x10 (Rect.unit (s := S1024x2816) ![0, 256 * j.val] ![1024, 256] (inb_cols j)))
    (fun j => View.ld (Val := Elt Ideal) (e' := .bf16) x11 (Rect.unit (s := S1024x2816) ![0, 256 * j.val] ![1024, 256] (inb_cols j)))
    (fun j => View.ld (Val := Elt Ideal) (e' := .bf16) x12 (Rect.unit (s := S2816x1024) ![256 * j.val, 0] ![256, 1024] (inb_rows j)))
    (fun j k p => ld_cols x10 _ _ j rfl k p) (fun j k p => ld_cols x11 _ _ j rfl k p) (fun j p n => ld_rows x12 _ _ j rfl p n)]
  unfold acc10; rw [step10]
  unfold acc9; rw [step9]
  unfold acc8; rw [step8]
  unfold acc7; rw [step7]
  unfold acc6; rw [step6]
  unfold acc5; rw [step5]
  unfold acc4; rw [step4]
  unfold acc3; rw [step3]
  unfold acc2; rw [step2]
  unfold acc1; rw [step1]
  unfold acc0; rw [step0]
  rfl

/-- The added row block at an index: the row, and the two attention outputs' products with the two halves of the output matrix. -/
def mix (x0 : FVec Ideal S1x1024x1024 .f32) (x1 : FVec Ideal S1x512x1024 .bf16) (x2 : FVec Ideal S1x8x2x64x512 .bf16) (x3 x4 : FVec Ideal S512x1024 .bf16) (x5 : FVec Ideal S1x1x1024 .f32) (r n : Fin 1024) : EReal :=
  x0 (ix3 0 r n) + x5 (ix3 0 0 n) * ((∑ a : Fin 512, x1 (ix3 0 a r) * x3 (ix2 a n))
    + ∑ a : Fin 512, x2 (ix5 0 ⟨a.val / 64, by omega⟩ ⟨r.val / 512, by omega⟩ ⟨a.val % 64, by omega⟩ ⟨r.val % 512, by omega⟩) * x4 (ix2 a n))

theorem half0_apply (x0 : FVec Ideal S1x512x1024 .f32) (x1 : FVec Ideal S1x512x512 .bf16) (x2 : FVec Ideal S1x8x1x64x512 .bf16) (x3 x4 : FVec Ideal S512x1024 .bf16) (x5 : FVec Ideal S1x1x1024 .f32)
    (r : Fin 512) (n : Fin 1024) : k0_pay1 (F := Ideal) x1 x3 x2 x4 x0 x5 (ix2 r n)
      = x0 (ix3 0 r n) + x5 (ix3 0 0 n) * ((∑ a : Fin 512, x1 (ix3 0 a r) * x3 (ix2 a n))
        + ∑ a : Fin 512, x2 (ix5 0 ⟨a.val / 64, by omega⟩ 0 ⟨a.val % 64, by omega⟩ r) * x4 (ix2 a n)) := by
  pointwise [k0_pay1]

theorem half1_apply (x0 : FVec Ideal S1x512x1024 .f32) (x1 : FVec Ideal S1x512x512 .bf16) (x2 : FVec Ideal S1x8x1x64x512 .bf16) (x3 x4 : FVec Ideal S512x1024 .bf16) (x5 : FVec Ideal S1x1x1024 .f32)
    (r : Fin 512) (n : Fin 1024) : k0_pay3 (F := Ideal) (k0_pay2 x1 x3) x2 x4 x0 x5 (ix2 r n)
      = x0 (ix3 0 r n) + x5 (ix3 0 0 n) * ((∑ a : Fin 512, x1 (ix3 0 a r) * x3 (ix2 a n))
        + ∑ a : Fin 512, x2 (ix5 0 ⟨a.val / 64, by omega⟩ 0 ⟨a.val % 64, by omega⟩ r) * x4 (ix2 a n)) := by
  pointwise [k0_pay2, k0_pay3]

theorem hidden_apply (X : FVec Ideal S1024x1024 .f32) (x9 : FVec Ideal S1x1024 .f32) (x7 x6 : FVec Ideal S1x1x1024 .f32) (r k : Fin 1024) :
    k0_pay7 (F := Ideal) (k0_pay4 X) (k0_pay5 x9) (k0_pay6 x7) x6 (ix2 r k) = rnorm (fun i => X (ix2 r i)) k * (x9 (ix2 0 k) * (1 + x7 (ix3 0 0 k))) + x6 (ix3 0 0 k) := by
  unfold rnorm
  pointwise [k0_pay4, k0_pay5, k0_pay6, k0_pay7]

theorem last_apply (X a : FVec Ideal S1024x1024 .f32) (x8 : FVec Ideal S1x1x1024 .f32) (x13 : FVec Ideal S1x1024 .f32) (r n : Fin 1024) :
    k0_pay30 (F := Ideal) X x8 a x13 (ix3 0 r n) = rnorm (fun i => X (ix2 r i) + Ideal.ofBits .f32 1056964608#32 * x8 (ix3 0 0 i) * a (ix2 r i)) n * x13 (ix2 0 n) := by
  unfold rnorm
  pointwise [k0_pay30]

theorem tower_apply (X : FVec Ideal S1024x1024 .f32) (x6 x7 x8 : FVec Ideal S1x1x1024 .f32) (x9 : FVec Ideal S1x1024 .f32) (x10 x11 : FVec Ideal S1024x2816 .bf16) (x12 : FVec Ideal S2816x1024 .bf16) (x13 : FVec Ideal S1x1024 .f32) (r n : Fin 1024) :
    tower X x6 x7 x8 x9 x10 x11 x12 x13 (ix3 0 r n) = rnorm (fun q => X (ix2 r q) + Ideal.ofBits .f32 1056964608#32 * x8 (ix3 0 0 q) *
      down (fun k => rnorm (fun i => X (ix2 r i)) k * (x9 (ix2 0 k) * (1 + x7 (ix3 0 0 k))) + x6 (ix3 0 0 k)) x10 x11 x12 q) n * x13 (ix2 0 n) := by
  unfold tower
  rw [last_apply]
  simp only [acc_apply, hidden_apply]

/-! The loads of one of the two halves, at an index. -/

theorem ld_x0 (x : FVec Ideal S1x1024x1024 .f32) (o : ℕ) (inb) (r : Fin 512) (row n : Fin 1024) (hr : row.val = o + r.val) :
    View.ld (Val := Elt Ideal) (e' := .f32) x (Rect.unit (s := S1x1024x1024) ![0, o, 0] ![1, 512, 1024] inb) (ix3 0 r n) = x (ix3 0 row n) := by
  show x _ = x _
  congr 1
  funext a
  apply Fin.ext
  match a with
  | ⟨0, _⟩ => rfl
  | ⟨1, _⟩ => show o + 1 * r.val = row.val; omega
  | ⟨2, _⟩ => show 0 + 1 * n.val = n.val; omega

theorem ld_x1 (x : FVec Ideal S1x512x1024 .bf16) (o : ℕ) (inb) (k r : Fin 512) (row : Fin 1024) (hr : row.val = o + r.val) :
    View.ld (Val := Elt Ideal) (e' := .bf16) x (Rect.unit (s := S1x512x1024) ![0, 0, o] ![1, 512, 512] inb) (ix3 0 k r) = x (ix3 0 k row) := by
  show x _ = x _
  congr 1
  funext a
  apply Fin.ext
  match a with
  | ⟨0, _⟩ => rfl
  | ⟨1, _⟩ => show 0 + 1 * k.val = k.val; omega
  | ⟨2, _⟩ => show o + 1 * r.val = row.val; omega

theorem ld_x2 (x : FVec Ideal S1x8x2x64x512 .bf16) (j : ℕ) (inb) (h : Fin 8) (d : Fin 64) (r : Fin 512) (j' : Fin 2) (r' : Fin 512) (hj : j'.val = j) (hr : r'.val = r.val) :
    View.ld (Val := Elt Ideal) (e' := .bf16) x (Rect.unit (s := S1x8x2x64x512) ![0, 0, j, 0, 0] ![1, 8, 1, 64, 512] inb) (ix5 0 h 0 d r) = x (ix5 0 h j' d r') := by
  show x _ = x _
  congr 1
  funext a
  apply Fin.ext
  match a with
  | ⟨0, _⟩ => rfl
  | ⟨1, _⟩ => show 0 + 1 * h.val = h.val; omega
  | ⟨2, _⟩ => show j + 1 * 0 = j'.val; omega
  | ⟨3, _⟩ => show 0 + 1 * d.val = d.val; omega
  | ⟨4, _⟩ => show 0 + 1 * r.val = r'.val; omega

theorem load_mix (x0 : FVec Ideal S1x1024x1024 .f32) (x1 : FVec Ideal S1x512x1024 .bf16) (x2 : FVec Ideal S1x8x2x64x512 .bf16) (x3 x4 : FVec Ideal S512x1024 .bf16) (x5 : FVec Ideal S1x1x1024 .f32) (o j : ℕ) (i0 i1 i2) (r : Fin 512) (row n : Fin 1024) (hrow : row.val = o + r.val) (ho : o = 512 * j) (hj : j < 2) :
    View.ld (Val := Elt Ideal) (e' := .f32) x0 (Rect.unit (s := S1x1024x1024) ![0, o, 0] ![1, 512, 1024] i0) (ix3 0 r n)
      + x5 (ix3 0 0 n) * ((∑ a : Fin 512, View.ld (Val := Elt Ideal) (e' := .bf16) x1 (Rect.unit (s := S1x512x1024) ![0, 0, o] ![1, 512, 512] i1) (ix3 0 a r) * x3 (ix2 a n))
        + ∑ a : Fin 512, View.ld (Val := Elt Ideal) (e' := .bf16) x2 (Rect.unit (s := S1x8x2x64x512) ![0, 0, j, 0, 0] ![1, 8, 1, 64, 512] i2)
            (ix5 0 ⟨a.val / 64, by omega⟩ 0 ⟨a.val % 64, by omega⟩ r) * x4 (ix2 a n))
      = mix x0 x1 x2 x3 x4 x5 row n := by
  have e1 : ∀ a : Fin 512, _ := fun a => ld_x1 x1 o i1 a r row hrow
  have e2 : ∀ a : Fin 512, _ := fun a => ld_x2 x2 j i2 ⟨a.val / 64, by omega⟩ ⟨a.val % 64, by omega⟩ r ⟨row.val / 512, by omega⟩ ⟨row.val % 512, by omega⟩
    (by show row.val / 512 = j; omega) (by show row.val % 512 = r.val; omega)
  rw [ld_x0 x0 o i0 r row n hrow]
  simp only [e1, e2]
  rfl

theorem mid_apply (x0 : FVec Ideal S1x1024x1024 .f32) (x1 : FVec Ideal S1x512x1024 .bf16) (x2 : FVec Ideal S1x8x2x64x512 .bf16) (x3 x4 : FVec Ideal S512x1024 .bf16) (x5 : FVec Ideal S1x1x1024 .f32) (r n : Fin 1024) : mid x0 x1 x2 x3 x4 x5 (ix2 r n) = mix x0 x1 x2 x3 x4 x5 r n := by
  have hp : View.PiecesOf (Val := Elt Ideal) (e := .f32) (fun j : S1024x1024.Idx => mix x0 x1 x2 x3 x4 x5 (j 0) (j 1)) (halves x0 x1 x2 x3 x4 x5) := by
    refine ⟨fun y => ?_, fun y => ?_, trivial⟩
    · obtain ⟨r, n, rfl⟩ : ∃ (r : Fin 512) (n : Fin 1024), y = ix2 r n := ⟨y 0, y 1, (ix2_eta y).symm⟩
      refine (half1_apply _ _ _ _ _ _ r n).trans ((load_mix x0 x1 x2 x3 x4 x5 512 1 _ _ _ r ⟨512 + r.val, by omega⟩ n rfl rfl (by omega)).trans ?_)
      show _ = mix x0 x1 x2 x3 x4 x5 _ _
      congr 1
      · exact Fin.ext (by show 512 + r.val = 512 + 1 * r.val; omega)
      · exact Fin.ext (by show n.val = 0 + 1 * n.val; omega)
    · obtain ⟨r, n, rfl⟩ : ∃ (r : Fin 512) (n : Fin 1024), y = ix2 r n := ⟨y 0, y 1, (ix2_eta y).symm⟩
      refine (half0_apply _ _ _ _ _ _ r n).trans ((load_mix x0 x1 x2 x3 x4 x5 0 0 _ _ _ r ⟨0 + r.val, by omega⟩ n rfl rfl (by omega)).trans ?_)
      show _ = mix x0 x1 x2 x3 x4 x5 _ _
      congr 1
      · exact Fin.ext (by show 0 + r.val = 0 + 1 * r.val; omega)
      · exact Fin.ext (by show n.val = 0 + 1 * n.val; omega)
  have hc := View.cover_of_tiledL (halves x0 x1 x2 x3 x4 x5) ![512, 1024] rfl
  refine (View.canon_append_of_piecesOf _ [] _ hp _ (hc _)).trans ?_
  show mix x0 x1 x2 x3 x4 x5 _ _ = _
  congr 1
  · exact Fin.ext (by show 0 + 1 * r.val = r.val; omega)
  · exact Fin.ext (by show 0 + 1 * n.val = n.val; omega)

end Cert.FfnTwoIdeal.Ffn
end
-- ==== Proof.FfnTwoValue.lean ====
/-
  The second feed-forward call's result array: for every batch and row the attention's output added, the feed-forward block and the last normalisation.
-/
module

public import proofs.«01_k».proof.Proof.FfnTwoPay
public import Idealize.ShloMosaic.Lib.StableHlo.RunRead
public import Idealize.ShloMosaic.Lib.Pipeline.Value

@[expose] public section
set_option maxRecDepth 16384
set_option maxHeartbeats 800000
noncomputable section
namespace Cert.FfnTwoIdeal.Ffn

open Cert.FfnTwoIdeal.Gen Cert.Ffn
open Idealize.ShloMosaic Idealize.ShloMosaic.TcCoe Idealize.ShloMosaic.StableHlo Idealize.SL.Sem
open Idealize.ShloMosaic.Pipeline (Dat)

/-- A row with the attentions' outputs added, each by its half of the output matrix. -/
def added (x : FVec Ideal S4x8192x1024 .f32) (oa ob : FVec Ideal S4x8192x512 .f32) (md : FVec Ideal S4x9216 .f32) (wo : FVec Ideal S1x1024x1024 .f32)
    (b : Fin 4) (s : Fin 8192) (n : Fin 1024) : EReal :=
  x (ix3 b s n) + md (ix2 b (piece 5 n)) * ((∑ a : Fin 512, oa (ix3 b s a) * wo (ix3 0 ⟨a.val, by omega⟩ n))
    + ∑ a : Fin 512, ob (ix3 b s a) * wo (ix3 0 ⟨512 + a.val, by omega⟩ n))

/-- The layer's last part for one row: the attentions added, the feed-forward block, and the last normalisation. -/
def ffn (x : FVec Ideal S4x8192x1024 .f32) (oa ob : FVec Ideal S4x8192x512 .f32) (md : FVec Ideal S4x9216 .f32) (wo : FVec Ideal S1x1024x1024 .f32)
    (nw : FVec Ideal S1x1024 .f32) (wg wu : FVec Ideal S1x1024x2816 .f32) (wd : FVec Ideal S1x2816x1024 .f32) (fw : FVec Ideal S1x1024 .f32) :
    FVec Ideal S4x8192x1024 .f32 := fun i =>
  rnorm (fun q => added x oa ob md wo (i 0) (i 1) q + Ideal.ofBits .f32 0x3F000000#32 * md (ix2 (i 0) (piece 8 q)) *
    down (fun k => rnorm (fun l => added x oa ob md wo (i 0) (i 1) l) k * (nw (ix2 0 k) * (1 + md (ix2 (i 0) (piece 7 k)))) + md (ix2 (i 0) (piece 6 k)))
      (flat wg) (flat wu) (flat wd) q) (i 2) * fw (ix2 0 (i 2))

variable (m : (ℓ : Loc nD τ sig) → Buf (Elt Ideal) ℓ) (ρ : Dev nD → PrngReg) (c : Dev nD)

/-! What the pipeline finds in its arrays. -/

theorem V_2 (b : Fin 4) (k : Fin 1024) : V m c main_v2 (ix3 b 0 k) = (m ((c.tc : Thread nD τ).loc main_arg3) : FVec Ideal S4x9216 .f32) (ix2 b (piece 5 k)) := by
  have e : V m c main_v2 = shapeCast S4x1x1024 (extractStridedSlice S4x1x1x1024 ![0, 5, 0, 0] (shapeCast S4x9x1x1024 (m ((c.tc : Thread nD τ).loc main_arg3) : FVec Ideal S4x9216 .f32) shapeCasts_S4x9216_S4x9x1x1024)
      slices_S4x9x1x1024_S4x1x1x1024_0_5_0_0) shapeCasts_S4x1x1x1024_S4x1x1024 := by
    dsimp only [V, hostOps0, List.flatten_cons, List.flatten_nil, List.append_nil, List.cons_append, List.nil_append]
    after_reads_simp
    rfl
  rw [e]
  generalize (m ((c.tc : Thread nD τ).loc main_arg3) : FVec Ideal S4x9216 .f32) = x
  pointwise []
  exact congrArg (fun q => x (ix2 b q)) (Fin.ext (by show 5120 + k.val = 1024 * 5 + k.val; omega))

theorem V_4 (b : Fin 4) (k : Fin 1024) : V m c main_v4 (ix3 b 0 k) = (m ((c.tc : Thread nD τ).loc main_arg3) : FVec Ideal S4x9216 .f32) (ix2 b (piece 6 k)) := by
  have e : V m c main_v4 = shapeCast S4x1x1024 (extractStridedSlice S4x1x1x1024 ![0, 6, 0, 0] (shapeCast S4x9x1x1024 (m ((c.tc : Thread nD τ).loc main_arg3) : FVec Ideal S4x9216 .f32) shapeCasts_S4x9216_S4x9x1x1024)
      slices_S4x9x1x1024_S4x1x1x1024_0_6_0_0) shapeCasts_S4x1x1x1024_S4x1x1024 := by
    dsimp only [V, hostOps0, List.flatten_cons, List.flatten_nil, List.append_nil, List.cons_append, List.nil_append]
    after_reads_simp
    rfl
  rw [e]
  generalize (m ((c.tc : Thread nD τ).loc main_arg3) : FVec Ideal S4x9216 .f32) = x
  pointwise []
  exact congrArg (fun q => x (ix2 b q)) (Fin.ext (by show 6144 + k.val = 1024 * 6 + k.val; omega))

theorem V_6 (b : Fin 4) (k : Fin 1024) : V m c main_v6 (ix3 b 0 k) = (m ((c.tc : Thread nD τ).loc main_arg3) : FVec Ideal S4x9216 .f32) (ix2 b (piece 7 k)) := by
  have e : V m c main_v6 = shapeCast S4x1x1024 (extractStridedSlice S4x1x1x1024 ![0, 7, 0, 0] (shapeCast S4x9x1x1024 (m ((c.tc : Thread nD τ).loc main_arg3) : FVec Ideal S4x9216 .f32) shapeCasts_S4x9216_S4x9x1x1024)
      slices_S4x9x1x1024_S4x1x1x1024_0_7_0_0) shapeCasts_S4x1x1x1024_S4x1x1024 := by
    dsimp only [V, hostOps0, List.flatten_cons, List.flatten_nil, List.append_nil, List.cons_append, List.nil_append]
    after_reads_simp
    rfl
  rw [e]
  generalize (m ((c.tc : Thread nD τ).loc main_arg3) : FVec Ideal S4x9216 .f32) = x
  pointwise []
  exact congrArg (fun q => x (ix2 b q)) (Fin.ext (by show 7168 + k.val = 1024 * 7 + k.val; omega))

theorem V_8 (b : Fin 4) (k : Fin 1024) : V m c main_v8 (ix3 b 0 k) = (m ((c.tc : Thread nD τ).loc main_arg3) : FVec Ideal S4x9216 .f32) (ix2 b (piece 8 k)) := by
  have e : V m c main_v8 = shapeCast S4x1x1024 (extractStridedSlice S4x1x1x1024 ![0, 8, 0, 0] (shapeCast S4x9x1x1024 (m ((c.tc : Thread nD τ).loc main_arg3) : FVec Ideal S4x9216 .f32) shapeCasts_S4x9216_S4x9x1x1024)
      slices_S4x9x1x1024_S4x1x1x1024_0_8_0_0) shapeCasts_S4x1x1x1024_S4x1x1024 := by
    dsimp only [V, hostOps0, List.flatten_cons, List.flatten_nil, List.append_nil, List.cons_append, List.nil_append]
    after_reads_simp
    rfl
  rw [e]
  generalize (m ((c.tc : Thread nD τ).loc main_arg3) : FVec Ideal S4x9216 .f32) = x
  pointwise []
  exact congrArg (fun q => x (ix2 b q)) (Fin.ext (by show 8192 + k.val = 1024 * 8 + k.val; omega))

theorem flat_1024_at (x : FVec Ideal S1x1024x2816 .f32) (p : Fin 1024) (r : Fin 2816) :
    (truncf .bf16 (shapeCast S1024x2816 x shapeCasts_S1x1024x2816_S1024x2816) bitsLt_bf16_f32 : FVec Ideal S1024x2816 .bf16) (ix2 p r) = x (ix3 0 p r) := by
  pointwise []

theorem flat_1024 (x : FVec Ideal S1x1024x2816 .f32) :
    (truncf .bf16 (shapeCast S1024x2816 x shapeCasts_S1x1024x2816_S1024x2816) bitsLt_bf16_f32 : FVec Ideal S1024x2816 .bf16) = flat x := by
  funext j
  rw [← ix2_eta j]
  exact flat_1024_at x _ _

theorem flat_2816_at (x : FVec Ideal S1x2816x1024 .f32) (p : Fin 2816) (r : Fin 1024) :
    (truncf .bf16 (shapeCast S2816x1024 x shapeCasts_S1x2816x1024_S2816x1024) bitsLt_bf16_f32 : FVec Ideal S2816x1024 .bf16) (ix2 p r) = x (ix3 0 p r) := by
  pointwise []

theorem flat_2816 (x : FVec Ideal S1x2816x1024 .f32) :
    (truncf .bf16 (shapeCast S2816x1024 x shapeCasts_S1x2816x1024_S2816x1024) bitsLt_bf16_f32 : FVec Ideal S2816x1024 .bf16) = flat x := by
  funext j
  rw [← ix2_eta j]
  exact flat_2816_at x _ _

theorem V_10 : (V m c main_v10 : FVec Ideal S1024x2816 .bf16) = flat (m ((c.tc : Thread nD τ).loc main_arg6) : FVec Ideal S1x1024x2816 .f32) := by
  have e : (V m c main_v10 : FVec Ideal S1024x2816 .bf16) = (truncf .bf16 (shapeCast S1024x2816 (m ((c.tc : Thread nD τ).loc main_arg6) : FVec Ideal S1x1024x2816 .f32) shapeCasts_S1x1024x2816_S1024x2816) bitsLt_bf16_f32 : FVec Ideal S1024x2816 .bf16) := by
    dsimp only [V, hostOps0, List.flatten_cons, List.flatten_nil, List.append_nil, List.cons_append, List.nil_append]
    after_reads_simp
    rfl
  exact e.trans (flat_1024 _)

theorem V_12 : (V m c main_v12 : FVec Ideal S1024x2816 .bf16) = flat (m ((c.tc : Thread nD τ).loc main_arg7) : FVec Ideal S1x1024x2816 .f32) := by
  have e : (V m c main_v12 : FVec Ideal S1024x2816 .bf16) = (truncf .bf16 (shapeCast S1024x2816 (m ((c.tc : Thread nD τ).loc main_arg7) : FVec Ideal S1x1024x2816 .f32) shapeCasts_S1x1024x2816_S1024x2816) bitsLt_bf16_f32 : FVec Ideal S1024x2816 .bf16) := by
    dsimp only [V, hostOps0, List.flatten_cons, List.flatten_nil, List.append_nil, List.cons_append, List.nil_append]
    after_reads_simp
    rfl
  exact e.trans (flat_1024 _)

theorem V_14 : (V m c main_v14 : FVec Ideal S2816x1024 .bf16) = flat (m ((c.tc : Thread nD τ).loc main_arg8) : FVec Ideal S1x2816x1024 .f32) := by
  have e : (V m c main_v14 : FVec Ideal S2816x1024 .bf16) = (truncf .bf16 (shapeCast S2816x1024 (m ((c.tc : Thread nD τ).loc main_arg8) : FVec Ideal S1x2816x1024 .f32) shapeCasts_S1x2816x1024_S2816x1024) bitsLt_bf16_f32 : FVec Ideal S2816x1024 .bf16) := by
    dsimp only [V, hostOps0, List.flatten_cons, List.flatten_nil, List.append_nil, List.cons_append, List.nil_append]
    after_reads_simp
    rfl
  exact e.trans (flat_2816 _)

theorem rows_0 (x : FVec Ideal S1x1024x1024 .f32) (p : Fin 512) (n : Fin 1024) :
    (truncf .bf16 (shapeCast S512x1024 (extractStridedSlice S1x512x1024 ![0, 0, 0] x slices_S1x1024x1024_S1x512x1024_0_0_0) shapeCasts_S1x512x1024_S512x1024) bitsLt_bf16_f32 : FVec Ideal S512x1024 .bf16) (ix2 p n) = x (ix3 0 ⟨p.val, by omega⟩ n) := by
  pointwise []

theorem V_17 (p : Fin 512) (n : Fin 1024) : (V m c main_v17 : FVec Ideal S512x1024 .bf16) (ix2 p n) = (m ((c.tc : Thread nD τ).loc main_arg4) : FVec Ideal S1x1024x1024 .f32) (ix3 0 ⟨p.val, by omega⟩ n) := by
  have e : (V m c main_v17 : FVec Ideal S512x1024 .bf16) = (truncf .bf16 (shapeCast S512x1024 (extractStridedSlice S1x512x1024 ![0, 0, 0] (m ((c.tc : Thread nD τ).loc main_arg4) : FVec Ideal S1x1024x1024 .f32) slices_S1x1024x1024_S1x512x1024_0_0_0) shapeCasts_S1x512x1024_S512x1024) bitsLt_bf16_f32 : FVec Ideal S512x1024 .bf16) := by
    dsimp only [V, hostOps0, List.flatten_cons, List.flatten_nil, List.append_nil, List.cons_append, List.nil_append]
    after_reads_simp
    rfl
  exact (congrFun e _).trans (rows_0 _ p n)

theorem rows_512 (x : FVec Ideal S1x1024x1024 .f32) (p : Fin 512) (n : Fin 1024) :
    (truncf .bf16 (shapeCast S512x1024 (extractStridedSlice S1x512x1024 ![0, 512, 0] x slices_S1x1024x1024_S1x512x1024_0_512_0) shapeCasts_S1x512x1024_S512x1024) bitsLt_bf16_f32 : FVec Ideal S512x1024 .bf16) (ix2 p n) = x (ix3 0 ⟨512 + p.val, by omega⟩ n) := by
  pointwise []

theorem V_20 (p : Fin 512) (n : Fin 1024) : (V m c main_v20 : FVec Ideal S512x1024 .bf16) (ix2 p n) = (m ((c.tc : Thread nD τ).loc main_arg4) : FVec Ideal S1x1024x1024 .f32) (ix3 0 ⟨512 + p.val, by omega⟩ n) := by
  have e : (V m c main_v20 : FVec Ideal S512x1024 .bf16) = (truncf .bf16 (shapeCast S512x1024 (extractStridedSlice S1x512x1024 ![0, 512, 0] (m ((c.tc : Thread nD τ).loc main_arg4) : FVec Ideal S1x1024x1024 .f32) slices_S1x1024x1024_S1x512x1024_0_512_0) shapeCasts_S1x512x1024_S512x1024) bitsLt_bf16_f32 : FVec Ideal S512x1024 .bf16) := by
    dsimp only [V, hostOps0, List.flatten_cons, List.flatten_nil, List.append_nil, List.cons_append, List.nil_append]
    after_reads_simp
    rfl
  exact (congrFun e _).trans (rows_512 _ p n)

theorem turn_oa (x : FVec Ideal S4x8192x512 .f32) (b : Fin 4) (a : Fin 512) (s : Fin 8192) :
    (transpose S4x512x8192 [0, 2, 1] (truncf .bf16 x bitsLt_bf16_f32 : FVec Ideal S4x8192x512 .bf16) transposes_S4x8192x512_S4x512x8192_0_2_1 : FVec Ideal S4x512x8192 .bf16) (ix3 b a s) = x (ix3 b s a) := by
  pointwise []

theorem V_22 (b : Fin 4) (a : Fin 512) (s : Fin 8192) : (V m c main_v22 : FVec Ideal S4x512x8192 .bf16) (ix3 b a s) = (m ((c.tc : Thread nD τ).loc main_arg1) : FVec Ideal S4x8192x512 .f32) (ix3 b s a) := by
  have e : (V m c main_v22 : FVec Ideal S4x512x8192 .bf16) = (transpose S4x512x8192 [0, 2, 1] (truncf .bf16 (m ((c.tc : Thread nD τ).loc main_arg1) : FVec Ideal S4x8192x512 .f32) bitsLt_bf16_f32 : FVec Ideal S4x8192x512 .bf16) transposes_S4x8192x512_S4x512x8192_0_2_1 : FVec Ideal S4x512x8192 .bf16) := by
    dsimp only [V, hostOps0, List.flatten_cons, List.flatten_nil, List.append_nil, List.cons_append, List.nil_append]
    after_reads_simp
  exact (congrFun e _).trans (turn_oa _ b a s)

theorem turn_ob (x : FVec Ideal S4x8192x512 .f32) (b : Fin 4) (h : Fin 8) (j : Fin 16) (d : Fin 64) (l : Fin 512) :
    (transpose S4x8x16x64x512 [0, 3, 1, 4, 2] (shapeCast S4x16x512x8x64 (truncf .bf16 x bitsLt_bf16_f32 : FVec Ideal S4x8192x512 .bf16) shapeCasts_S4x8192x512_S4x16x512x8x64) transposes_S4x16x512x8x64_S4x8x16x64x512_0_3_1_4_2 : FVec Ideal S4x8x16x64x512 .bf16) (ix5 b h j d l) = x (ix3 b ⟨j.val * 512 + l.val, by omega⟩ ⟨h.val * 64 + d.val, by omega⟩) := by
  pointwise []

theorem V_25 (b : Fin 4) (h : Fin 8) (j : Fin 16) (d : Fin 64) (l : Fin 512) : (V m c main_v25 : FVec Ideal S4x8x16x64x512 .bf16) (ix5 b h j d l)
    = (m ((c.tc : Thread nD τ).loc main_arg2) : FVec Ideal S4x8192x512 .f32) (ix3 b ⟨j.val * 512 + l.val, by omega⟩ ⟨h.val * 64 + d.val, by omega⟩) := by
  have e : (V m c main_v25 : FVec Ideal S4x8x16x64x512 .bf16) = (transpose S4x8x16x64x512 [0, 3, 1, 4, 2] (shapeCast S4x16x512x8x64 (truncf .bf16 (m ((c.tc : Thread nD τ).loc main_arg2) : FVec Ideal S4x8192x512 .f32) bitsLt_bf16_f32 : FVec Ideal S4x8192x512 .bf16) shapeCasts_S4x8192x512_S4x16x512x8x64) transposes_S4x16x512x8x64_S4x8x16x64x512_0_3_1_4_2 : FVec Ideal S4x8x16x64x512 .bf16) := by
    dsimp only [V, hostOps0, List.flatten_cons, List.flatten_nil, List.append_nil, List.cons_append, List.nil_append]
    after_reads_simp
    rfl
  exact (congrFun e _).trans (turn_ob _ b h j d l)

theorem V_27 (k : Fin 1024) : V m c main_v27 (ix2 0 k) = (m ((c.tc : Thread nD τ).loc main_arg5) : FVec Ideal S1x1024 .f32) (ix2 0 k) := by
  have e : V m c main_v27 = shapeCast S1x1024 (shapeCast S1024 (m ((c.tc : Thread nD τ).loc main_arg5) : FVec Ideal S1x1024 .f32) shapeCasts_S1x1024_S1024) shapeCasts_S1024_S1x1024 := by
    dsimp only [V, hostOps0, List.flatten_cons, List.flatten_nil, List.append_nil, List.cons_append, List.nil_append]
    after_reads_simp
    rfl
  rw [e]
  generalize (m ((c.tc : Thread nD τ).loc main_arg5) : FVec Ideal S1x1024 .f32) = x
  pointwise []

theorem V_29 (k : Fin 1024) : V m c main_v29 (ix2 0 k) = (m ((c.tc : Thread nD τ).loc main_arg9) : FVec Ideal S1x1024 .f32) (ix2 0 k) := by
  have e : V m c main_v29 = shapeCast S1x1024 (shapeCast S1024 (m ((c.tc : Thread nD τ).loc main_arg9) : FVec Ideal S1x1024 .f32) shapeCasts_S1x1024_S1024) shapeCasts_S1024_S1x1024 := by
    dsimp only [V, hostOps0, List.flatten_cons, List.flatten_nil, List.append_nil, List.cons_append, List.nil_append]
    after_reads_simp
    rfl
  rw [e]
  generalize (m ((c.tc : Thread nD τ).loc main_arg9) : FVec Ideal S1x1024 .f32) = x
  pointwise []

/-! Where the windows' blocks lie: point `t` takes batch `t / 8` and rows `1024 (t mod 8)` on. -/

theorem idx0 : ∀ t : Fin cfg0.N, win0_0.index t = ![t.val / 8, t.val % 8, 0] :=
  (by decide +kernel : ∀ t : Fin grid0.N, win0_0.index t = ![t.val / 8, t.val % 8, 0])
theorem idx1 : ∀ t : Fin cfg0.N, win0_1.index t = ![t.val / 8, 0, t.val % 8] :=
  (by decide +kernel : ∀ t : Fin grid0.N, win0_1.index t = ![t.val / 8, 0, t.val % 8])
theorem idx2 : ∀ t : Fin cfg0.N, win0_2.index t = ![t.val / 8, 0, t.val % 8, 0, 0] :=
  (by decide +kernel : ∀ t : Fin grid0.N, win0_2.index t = ![t.val / 8, 0, t.val % 8, 0, 0])
theorem idx3 : ∀ t : Fin cfg0.N, win0_3.index t = ![0, 0] :=
  (by decide +kernel : ∀ t : Fin grid0.N, win0_3.index t = ![0, 0])
theorem idx4 : ∀ t : Fin cfg0.N, win0_4.index t = ![0, 0] :=
  (by decide +kernel : ∀ t : Fin grid0.N, win0_4.index t = ![0, 0])
theorem idx5 : ∀ t : Fin cfg0.N, win0_5.index t = ![t.val / 8, 0, 0] :=
  (by decide +kernel : ∀ t : Fin grid0.N, win0_5.index t = ![t.val / 8, 0, 0])
theorem idx6 : ∀ t : Fin cfg0.N, win0_6.index t = ![t.val / 8, 0, 0] :=
  (by decide +kernel : ∀ t : Fin grid0.N, win0_6.index t = ![t.val / 8, 0, 0])
theorem idx7 : ∀ t : Fin cfg0.N, win0_7.index t = ![t.val / 8, 0, 0] :=
  (by decide +kernel : ∀ t : Fin grid0.N, win0_7.index t = ![t.val / 8, 0, 0])
theorem idx8 : ∀ t : Fin cfg0.N, win0_8.index t = ![t.val / 8, 0, 0] :=
  (by decide +kernel : ∀ t : Fin grid0.N, win0_8.index t = ![t.val / 8, 0, 0])
theorem idx9 : ∀ t : Fin cfg0.N, win0_9.index t = ![0, 0] :=
  (by decide +kernel : ∀ t : Fin grid0.N, win0_9.index t = ![0, 0])
theorem idx10 : ∀ t : Fin cfg0.N, win0_10.index t = ![0, 0] :=
  (by decide +kernel : ∀ t : Fin grid0.N, win0_10.index t = ![0, 0])
theorem idx11 : ∀ t : Fin cfg0.N, win0_11.index t = ![0, 0] :=
  (by decide +kernel : ∀ t : Fin grid0.N, win0_11.index t = ![0, 0])
theorem idx12 : ∀ t : Fin cfg0.N, win0_12.index t = ![0, 0] :=
  (by decide +kernel : ∀ t : Fin grid0.N, win0_12.index t = ![0, 0])
theorem idx13 : ∀ t : Fin cfg0.N, win0_13.index t = ![0, 0] :=
  (by decide +kernel : ∀ t : Fin grid0.N, win0_13.index t = ![0, 0])
theorem idx14 : ∀ t : Fin cfg0.N, win0_14.index t = ![t.val / 8, t.val % 8, 0] :=
  (by decide +kernel : ∀ t : Fin grid0.N, win0_14.index t = ![t.val / 8, t.val % 8, 0])

theorem lt_N (t : Fin cfg0.N) : t.val < 32 := t.isLt

def bat (t : Fin cfg0.N) : Fin 4 := ⟨t.val / 8, by have := lt_N t; omega⟩
def row (t : Fin cfg0.N) (r : Fin 1024) : Fin 8192 := ⟨1024 * (t.val % 8) + r.val, by omega⟩

theorem read0 (f : FVec Ideal S4x8192x1024 .f32) (t : Fin cfg0.N) (r n : Fin 1024) :
    ((cfg0.win 0).blk t).view.read (Elt Ideal) f (ix3 0 r n) = f (ix3 (bat t) (row t r) n) := by
  rw [View.read_apply]
  show f _ = _
  congr 1
  funext a
  apply Fin.ext
  match a with
  | ⟨0, _⟩ => show win0_0.index t 0 * 1 + 1 * 0 = t.val / 8; rw [idx0]; simp
  | ⟨1, _⟩ => show win0_0.index t 1 * 1024 + 1 * r.val = 1024 * (t.val % 8) + r.val; rw [idx0]; show t.val % 8 * 1024 + 1 * r.val = _; omega
  | ⟨2, _⟩ => show win0_0.index t 2 * 1024 + 1 * n.val = n.val; rw [idx0]; simp

theorem read1 (f : FVec Ideal S4x512x8192 .bf16) (t : Fin cfg0.N) (a : Fin 512) (r : Fin 1024) :
    ((cfg0.win 1).blk t).view.read (Elt Ideal) f (ix3 0 a r) = f (ix3 (bat t) a (row t r)) := by
  rw [View.read_apply]
  show f _ = _
  congr 1
  funext i
  apply Fin.ext
  match i with
  | ⟨0, _⟩ => show win0_1.index t 0 * 1 + 1 * 0 = t.val / 8; rw [idx1]; simp
  | ⟨1, _⟩ => show win0_1.index t 1 * 512 + 1 * a.val = a.val; rw [idx1]; simp
  | ⟨2, _⟩ => show win0_1.index t 2 * 1024 + 1 * r.val = 1024 * (t.val % 8) + r.val; rw [idx1]; show t.val % 8 * 1024 + 1 * r.val = _; omega

theorem read2 (f : FVec Ideal S4x8x16x64x512 .bf16) (t : Fin cfg0.N) (h : Fin 8) (j : Fin 2) (d : Fin 64) (l : Fin 512) :
    ((cfg0.win 2).blk t).view.read (Elt Ideal) f (ix5 0 h j d l) = f (ix5 (bat t) h ⟨2 * (t.val % 8) + j.val, by omega⟩ d l) := by
  rw [View.read_apply]
  show f _ = _
  congr 1
  funext i
  apply Fin.ext
  match i with
  | ⟨0, _⟩ => show win0_2.index t 0 * 1 + 1 * 0 = t.val / 8; rw [idx2]; simp
  | ⟨1, _⟩ => show win0_2.index t 1 * 8 + 1 * h.val = h.val; rw [idx2]; simp
  | ⟨2, _⟩ => show win0_2.index t 2 * 2 + 1 * j.val = 2 * (t.val % 8) + j.val; rw [idx2]; show t.val % 8 * 2 + 1 * j.val = _; omega
  | ⟨3, _⟩ => show win0_2.index t 3 * 64 + 1 * d.val = d.val; rw [idx2]; simp
  | ⟨4, _⟩ => show win0_2.index t 4 * 512 + 1 * l.val = l.val; rw [idx2]; simp

theorem read5 (f : FVec Ideal S4x1x1024 .f32) (t : Fin cfg0.N) (n : Fin 1024) :
    ((cfg0.win 5).blk t).view.read (Elt Ideal) f (ix3 0 0 n) = f (ix3 (bat t) 0 n) := by
  rw [View.read_apply]
  show f _ = _
  congr 1
  funext a
  apply Fin.ext
  match a with
  | ⟨0, _⟩ => show win0_5.index t 0 * 1 + 1 * 0 = t.val / 8; rw [idx5]; simp
  | ⟨1, _⟩ => show win0_5.index t 1 * 1 + 1 * 0 = 0; rw [idx5]; simp
  | ⟨2, _⟩ => show win0_5.index t 2 * 1024 + 1 * n.val = n.val; rw [idx5]; simp

theorem read6 (f : FVec Ideal S4x1x1024 .f32) (t : Fin cfg0.N) (n : Fin 1024) :
    ((cfg0.win 6).blk t).view.read (Elt Ideal) f (ix3 0 0 n) = f (ix3 (bat t) 0 n) := by
  rw [View.read_apply]
  show f _ = _
  congr 1
  funext a
  apply Fin.ext
  match a with
  | ⟨0, _⟩ => show win0_6.index t 0 * 1 + 1 * 0 = t.val / 8; rw [idx6]; simp
  | ⟨1, _⟩ => show win0_6.index t 1 * 1 + 1 * 0 = 0; rw [idx6]; simp
  | ⟨2, _⟩ => show win0_6.index t 2 * 1024 + 1 * n.val = n.val; rw [idx6]; simp

theorem read7 (f : FVec Ideal S4x1x1024 .f32) (t : Fin cfg0.N) (n : Fin 1024) :
    ((cfg0.win 7).blk t).view.read (Elt Ideal) f (ix3 0 0 n) = f (ix3 (bat t) 0 n) := by
  rw [View.read_apply]
  show f _ = _
  congr 1
  funext a
  apply Fin.ext
  match a with
  | ⟨0, _⟩ => show win0_7.index t 0 * 1 + 1 * 0 = t.val / 8; rw [idx7]; simp
  | ⟨1, _⟩ => show win0_7.index t 1 * 1 + 1 * 0 = 0; rw [idx7]; simp
  | ⟨2, _⟩ => show win0_7.index t 2 * 1024 + 1 * n.val = n.val; rw [idx7]; simp

theorem read8 (f : FVec Ideal S4x1x1024 .f32) (t : Fin cfg0.N) (n : Fin 1024) :
    ((cfg0.win 8).blk t).view.read (Elt Ideal) f (ix3 0 0 n) = f (ix3 (bat t) 0 n) := by
  rw [View.read_apply]
  show f _ = _
  congr 1
  funext a
  apply Fin.ext
  match a with
  | ⟨0, _⟩ => show win0_8.index t 0 * 1 + 1 * 0 = t.val / 8; rw [idx8]; simp
  | ⟨1, _⟩ => show win0_8.index t 1 * 1 + 1 * 0 = 0; rw [idx8]; simp
  | ⟨2, _⟩ => show win0_8.index t 2 * 1024 + 1 * n.val = n.val; rw [idx8]; simp

theorem read3 (f : FVec Ideal S512x1024 .bf16) (t : Fin cfg0.N) : ((cfg0.win 3).blk t).view.read (Elt Ideal) f = f := by
  funext j
  rw [View.read_apply]
  show f _ = _
  congr 1
  funext a
  apply Fin.ext
  match a with
  | ⟨0, _⟩ => show win0_3.index t 0 * 512 + 1 * (j 0).val = (j 0).val; rw [idx3]; simp
  | ⟨1, _⟩ => show win0_3.index t 1 * 1024 + 1 * (j 1).val = (j 1).val; rw [idx3]; simp

theorem read4 (f : FVec Ideal S512x1024 .bf16) (t : Fin cfg0.N) : ((cfg0.win 4).blk t).view.read (Elt Ideal) f = f := by
  funext j
  rw [View.read_apply]
  show f _ = _
  congr 1
  funext a
  apply Fin.ext
  match a with
  | ⟨0, _⟩ => show win0_4.index t 0 * 512 + 1 * (j 0).val = (j 0).val; rw [idx4]; simp
  | ⟨1, _⟩ => show win0_4.index t 1 * 1024 + 1 * (j 1).val = (j 1).val; rw [idx4]; simp

theorem read9 (f : FVec Ideal S1x1024 .f32) (t : Fin cfg0.N) : ((cfg0.win 9).blk t).view.read (Elt Ideal) f = f := by
  funext j
  rw [View.read_apply]
  show f _ = _
  congr 1
  funext a
  apply Fin.ext
  match a with
  | ⟨0, _⟩ => show win0_9.index t 0 * 1 + 1 * (j 0).val = (j 0).val; rw [idx9]; simp
  | ⟨1, _⟩ => show win0_9.index t 1 * 1024 + 1 * (j 1).val = (j 1).val; rw [idx9]; simp

theorem read10 (f : FVec Ideal S1024x2816 .bf16) (t : Fin cfg0.N) : ((cfg0.win 10).blk t).view.read (Elt Ideal) f = f := by
  funext j
  rw [View.read_apply]
  show f _ = _
  congr 1
  funext a
  apply Fin.ext
  match a with
  | ⟨0, _⟩ => show win0_10.index t 0 * 1024 + 1 * (j 0).val = (j 0).val; rw [idx10]; simp
  | ⟨1, _⟩ => show win0_10.index t 1 * 2816 + 1 * (j 1).val = (j 1).val; rw [idx10]; simp

theorem read11 (f : FVec Ideal S1024x2816 .bf16) (t : Fin cfg0.N) : ((cfg0.win 11).blk t).view.read (Elt Ideal) f = f := by
  funext j
  rw [View.read_apply]
  show f _ = _
  congr 1
  funext a
  apply Fin.ext
  match a with
  | ⟨0, _⟩ => show win0_11.index t 0 * 1024 + 1 * (j 0).val = (j 0).val; rw [idx11]; simp
  | ⟨1, _⟩ => show win0_11.index t 1 * 2816 + 1 * (j 1).val = (j 1).val; rw [idx11]; simp

theorem read12 (f : FVec Ideal S2816x1024 .bf16) (t : Fin cfg0.N) : ((cfg0.win 12).blk t).view.read (Elt Ideal) f = f := by
  funext j
  rw [View.read_apply]
  show f _ = _
  congr 1
  funext a
  apply Fin.ext
  match a with
  | ⟨0, _⟩ => show win0_12.index t 0 * 2816 + 1 * (j 0).val = (j 0).val; rw [idx12]; simp
  | ⟨1, _⟩ => show win0_12.index t 1 * 1024 + 1 * (j 1).val = (j 1).val; rw [idx12]; simp

theorem read13 (f : FVec Ideal S1x1024 .f32) (t : Fin cfg0.N) : ((cfg0.win 13).blk t).view.read (Elt Ideal) f = f := by
  funext j
  rw [View.read_apply]
  show f _ = _
  congr 1
  funext a
  apply Fin.ext
  match a with
  | ⟨0, _⟩ => show win0_13.index t 0 * 1 + 1 * (j 0).val = (j 0).val; rw [idx13]; simp
  | ⟨1, _⟩ => show win0_13.index t 1 * 1024 + 1 * (j 1).val = (j 1).val; rw [idx13]; simp

/-! The arguments. -/

abbrev A0 : FVec Ideal S4x8192x1024 .f32 := m ((c.tc : Thread nD τ).loc main_arg0)
abbrev A1 : FVec Ideal S4x8192x512 .f32 := m ((c.tc : Thread nD τ).loc main_arg1)
abbrev A2 : FVec Ideal S4x8192x512 .f32 := m ((c.tc : Thread nD τ).loc main_arg2)
abbrev A3 : FVec Ideal S4x9216 .f32 := m ((c.tc : Thread nD τ).loc main_arg3)
abbrev A4 : FVec Ideal S1x1024x1024 .f32 := m ((c.tc : Thread nD τ).loc main_arg4)
abbrev A5 : FVec Ideal S1x1024 .f32 := m ((c.tc : Thread nD τ).loc main_arg5)
abbrev A6 : FVec Ideal S1x1024x2816 .f32 := m ((c.tc : Thread nD τ).loc main_arg6)
abbrev A7 : FVec Ideal S1x1024x2816 .f32 := m ((c.tc : Thread nD τ).loc main_arg7)
abbrev A8 : FVec Ideal S1x2816x1024 .f32 := m ((c.tc : Thread nD τ).loc main_arg8)
abbrev A9 : FVec Ideal S1x1024 .f32 := m ((c.tc : Thread nD τ).loc main_arg9)

/-- The result as a function of the arguments. -/
def res : FVec Ideal S4x8192x1024 .f32 := ffn (A0 m c) (A1 m c) (A2 m c) (A3 m c) (A4 m c) (A5 m c) (A6 m c) (A7 m c) (A8 m c) (A9 m c)

theorem blk0 (t : Fin cfg0.N) (r n : Fin 1024) : iblk m c 0 t (ix3 0 r n) = A0 m c (ix3 (bat t) (row t r) n) :=
  (read0 (V m c main_arg0) t r n).trans (by rw [V_main_arg0])
theorem blk1 (t : Fin cfg0.N) (a : Fin 512) (r : Fin 1024) : iblk m c 1 t (ix3 0 a r) = A1 m c (ix3 (bat t) (row t r) a) :=
  (read1 (V m c main_v22) t a r).trans (V_22 m c _ _ _)
theorem blk2 (t : Fin cfg0.N) (a : Fin 512) (r : Fin 1024) :
    iblk m c 2 t (ix5 0 ⟨a.val / 64, by omega⟩ ⟨r.val / 512, by omega⟩ ⟨a.val % 64, by omega⟩ ⟨r.val % 512, by omega⟩) = A2 m c (ix3 (bat t) (row t r) a) := by
  refine (read2 (V m c main_v25) t _ _ _ _).trans ((V_25 m c _ _ _ _ _).trans ?_)
  have hr : (⟨(2 * (t.val % 8) + r.val / 512) * 512 + r.val % 512, by omega⟩ : Fin 8192) = row t r := Fin.ext (by show (2 * (t.val % 8) + r.val / 512) * 512 + r.val % 512 = 1024 * (t.val % 8) + r.val; omega)
  have ha : (⟨a.val / 64 * 64 + a.val % 64, by omega⟩ : Fin 512) = a := Fin.ext (by show a.val / 64 * 64 + a.val % 64 = a.val; omega)
  show A2 m c (ix3 (bat t) ⟨(2 * (t.val % 8) + r.val / 512) * 512 + r.val % 512, _⟩ ⟨a.val / 64 * 64 + a.val % 64, _⟩) = _
  rw [hr, ha]
theorem blk3 (t : Fin cfg0.N) (p : Fin 512) (n : Fin 1024) : iblk m c 3 t (ix2 p n) = A4 m c (ix3 0 ⟨p.val, by omega⟩ n) :=
  (congrFun (read3 (V m c main_v17) t) _).trans (V_17 m c _ _)
theorem blk4 (t : Fin cfg0.N) (p : Fin 512) (n : Fin 1024) : iblk m c 4 t (ix2 p n) = A4 m c (ix3 0 ⟨512 + p.val, by omega⟩ n) :=
  (congrFun (read4 (V m c main_v20) t) _).trans (V_20 m c _ _)
theorem blk5 (t : Fin cfg0.N) (n : Fin 1024) : iblk m c 5 t (ix3 0 0 n) = A3 m c (ix2 (bat t) (piece 5 n)) :=
  (read5 (V m c main_v2) t n).trans (V_2 m c _ _)
theorem blk6 (t : Fin cfg0.N) (n : Fin 1024) : iblk m c 6 t (ix3 0 0 n) = A3 m c (ix2 (bat t) (piece 6 n)) :=
  (read6 (V m c main_v4) t n).trans (V_4 m c _ _)
theorem blk7 (t : Fin cfg0.N) (n : Fin 1024) : iblk m c 7 t (ix3 0 0 n) = A3 m c (ix2 (bat t) (piece 7 n)) :=
  (read7 (V m c main_v6) t n).trans (V_6 m c _ _)
theorem blk8 (t : Fin cfg0.N) (n : Fin 1024) : iblk m c 8 t (ix3 0 0 n) = A3 m c (ix2 (bat t) (piece 8 n)) :=
  (read8 (V m c main_v8) t n).trans (V_8 m c _ _)
theorem blk9 (t : Fin cfg0.N) (n : Fin 1024) : iblk m c 9 t (ix2 0 n) = A5 m c (ix2 0 n) :=
  (congrFun (read9 (V m c main_v27) t) _).trans (V_27 m c _)
theorem blk13 (t : Fin cfg0.N) (n : Fin 1024) : iblk m c 13 t (ix2 0 n) = A9 m c (ix2 0 n) :=
  (congrFun (read13 (V m c main_v29) t) _).trans (V_29 m c _)
theorem blk10 (t : Fin cfg0.N) : (iblk m c 10 t : FVec Ideal S1024x2816 .bf16) = flat (A6 m c) :=
  (read10 (V m c main_v10) t).trans (V_10 m c)
theorem blk11 (t : Fin cfg0.N) : (iblk m c 11 t : FVec Ideal S1024x2816 .bf16) = flat (A7 m c) :=
  (read11 (V m c main_v12) t).trans (V_12 m c)
theorem blk12 (t : Fin cfg0.N) : (iblk m c 12 t : FVec Ideal S2816x1024 .bf16) = flat (A8 m c) :=
  (read12 (V m c main_v14) t).trans (V_14 m c)

/-- The added row block at an index. -/
theorem mid_blk (t : Fin cfg0.N) (r n : Fin 1024) :
    mid (F := Ideal) (iblk m c 0 t) (iblk m c 1 t) (iblk m c 2 t) (iblk m c 3 t) (iblk m c 4 t) (iblk m c 5 t) (ix2 r n)
      = added (A0 m c) (A1 m c) (A2 m c) (A3 m c) (A4 m c) (bat t) (row t r) n := by
  rw [mid_apply]
  unfold mix added
  simp only [blk0, blk1, blk2, blk3, blk4, blk5]

/-- What a point leaves in its block, at an index. -/
theorem out_apply (t : Fin cfg0.N) (r n : Fin 1024) : outsAt0 (F := Ideal) m c t (ix3 0 r n) = res m c (ix3 (bat t) (row t r) n) := by
  rw [out_eq, tower_apply, blk10, blk11, blk12]
  simp only [mid_blk, blk6, blk7, blk8, blk9, blk13]
  rfl

theorem out_emb (t : Fin cfg0.N) (y : S1x1024x1024.Idx) :
    outsAt0 (F := Ideal) m c t y = res m c (((cfg0.win 14).blk t).view.emb y) := by
  obtain ⟨p, r, n, rfl⟩ : ∃ p r n, y = ix3 p r n := ⟨y 0, y 1, y 2, (ix3_eta y).symm⟩
  obtain rfl : p = 0 := Subsingleton.elim _ _
  rw [out_apply]
  congr 1
  funext a
  apply Fin.ext
  match a with
  | ⟨0, _⟩ => show t.val / 8 = win0_14.index t 0 * 1 + 1 * 0; rw [idx14]; simp
  | ⟨1, _⟩ => show 1024 * (t.val % 8) + r.val = win0_14.index t 1 * 1024 + 1 * r.val; rw [idx14]; show _ = t.val % 8 * 1024 + 1 * r.val; omega
  | ⟨2, _⟩ => show n.val = win0_14.index t 2 * 1024 + 1 * n.val; rw [idx14]; simp

/-- What a point writes back is its block of the result. -/
theorem flushed_eq (t : Fin cfg0.N) :
    (dats (F := Ideal) m 0 c).flushed 14 t = ((cfg0.win 14).blk t).view.read (Elt Ideal) (res m c) := by
  show (cfg0.win 14).cut (grid0.coords t) ((dats (F := Ideal) m 0 c).after 14 t) = _
  rw [after0_14]
  funext y
  rw [View.read_apply]
  exact out_emb m c t y

theorem xsize14 : ∀ t : Fin cfg0.N, win0_14.xsize (grid0.coords t) = ![1, 1024, 1024] :=
  (by decide +kernel : ∀ t : Fin grid0.N, win0_14.xsize (grid0.coords t) = ![1, 1024, 1024])
theorem flush14 : ∀ t : Fin cfg0.N, (cfg0.win 14).flush t = true :=
  (by decide +kernel : ∀ t : Fin grid0.N, win0_14.flush t = true)

theorem cover (i : S4x8192x1024.Idx) : ∃ t : Fin cfg0.N, (cfg0.win 14).flush t = true ∧ i ∈ ((cfg0.win 14).blk t).view.set := by
  have h0 : (i 0).val < 4 := (i 0).isLt
  have h1 : (i 1).val < 8192 := (i 1).isLt
  have h2 : (i 2).val < 1024 := (i 2).isLt
  refine ⟨⟨8 * (i 0).val + (i 1).val / 1024, (by omega : _ < 32)⟩, flush14 _, ?_⟩
  set t : Fin cfg0.N := ⟨8 * (i 0).val + (i 1).val / 1024, (by omega : _ < 32)⟩ with ht
  show i ∈ ((View.whole main_v30).slice (win0_14.rect t)).set
  rw [View.set_slice_whole, Rect.mem_set_unit]
  have e0 : t.val / 8 = (i 0).val := by show (8 * (i 0).val + (i 1).val / 1024) / 8 = _; omega
  have e1 : t.val % 8 = (i 1).val / 1024 := by show (8 * (i 0).val + (i 1).val / 1024) % 8 = _; omega
  intro a
  match a with
  | ⟨0, _⟩ => show win0_14.index t 0 * 1 ≤ (i 0).val ∧ (i 0).val < win0_14.index t 0 * 1 + win0_14.xsize (grid0.coords t) 0
              rw [idx14, xsize14]; show t.val / 8 * 1 ≤ _ ∧ _ < t.val / 8 * 1 + 1; omega
  | ⟨1, _⟩ => show win0_14.index t 1 * 1024 ≤ (i 1).val ∧ (i 1).val < win0_14.index t 1 * 1024 + win0_14.xsize (grid0.coords t) 1
              rw [idx14, xsize14]; show t.val % 8 * 1024 ≤ _ ∧ _ < t.val % 8 * 1024 + 1024; omega
  | ⟨2, _⟩ => show win0_14.index t 2 * 1024 ≤ (i 2).val ∧ (i 2).val < win0_14.index t 2 * 1024 + win0_14.xsize (grid0.coords t) 2
              rw [idx14, xsize14]; show 0 * 1024 ≤ _ ∧ _ < 0 * 1024 + 1024; omega

/-- The result array after the run. -/
theorem final : (dats (F := Ideal) m 0 c).arrAt 14 cfg0.N = res m c :=
  (dats (F := Ideal) m 0 c).arrAt_eq_of_cover 14 _ (fun t _ => flushed_eq m c t) cover

end Cert.FfnTwoIdeal.Ffn
end
-- ==== Proof.FfnTwoRef.lean ====
/-
  The second feed-forward call's reference, read at an index, is the kernel's array.
-/
module

public import proofs.«01_k».proof.Proof.FfnTwoValue
public import proofs.«01_k».proof.Proof.Gen.FfnTwoRefIdeal.Read

@[expose] public section
set_option maxRecDepth 16384
set_option maxHeartbeats 800000
noncomputable section
namespace Cert.FfnTwoRefIdeal.Ffn

open Cert.FfnTwoRefIdeal.Gen Cert.FfnTwoRefIdeal.Read Cert.Ffn
open Idealize.ShloMosaic Idealize.ShloMosaic.TcCoe Idealize.ShloMosaic.StableHlo

variable (x0 : FVec Ideal S4x8192x1024 .f32) (x1 x2 : FVec Ideal S4x8192x512 .f32) (x3 : FVec Ideal S4x9216 .f32) (x4 : FVec Ideal S1x1024x1024 .f32)
  (x5 : FVec Ideal S1x1024 .f32) (x6 x7 : FVec Ideal S1x1024x2816 .f32) (x8 : FVec Ideal S1x2816x1024 .f32) (x9 : FVec Ideal S1x1024 .f32) (b : Fin 4) (n : Fin 8192)

/-- The two attentions' outputs side by side, times the output matrix: each by its half. -/
theorem both_apply (q : Fin 1024) : val_main_v11 (F := Ideal) x1 x2 x4 (ix3 b n q)
    = (∑ a : Fin 512, x1 (ix3 b n a) * x4 (ix3 0 ⟨a.val, by omega⟩ q)) + ∑ a : Fin 512, x2 (ix3 b n a) * x4 (ix3 0 ⟨512 + a.val, by omega⟩ q) := by
  have e : val_main_v11 (F := Ideal) x1 x2 x4 (ix3 b n q) = ∑ k : Fin 1024, val_main_v9 (F := Ideal) x1 x2 (ix3 b n k) * x4 (ix3 0 k q) := by
    unfold val_main_v11
    generalize val_main_v9 (F := Ideal) x1 x2 = y
    pointwise [val_main_v10]
  have l : ∀ (k : Fin 512), val_main_v9 (F := Ideal) x1 x2 (ix3 b n ⟨k.val, by omega⟩) = x1 (ix3 b n k) := fun k => by pointwise [val_main_v9]
  have h : ∀ (k : Fin 512), val_main_v9 (F := Ideal) x1 x2 (ix3 b n ⟨512 + k.val, by omega⟩) = x2 (ix3 b n k) := fun k => by pointwise [val_main_v9]
  rw [e, Fin.sum_univ_two_halves 512 512 rfl]
  simp only [l, h]

theorem added_apply (q : Fin 1024) : val_main_v15 (F := Ideal) x0 x1 x2 x3 x4 (ix3 b n q) = Cert.FfnTwoIdeal.Ffn.added x0 x1 x2 x3 x4 b n q := by
  have e5 : piece 5 q = ⟨5120 + q.val, by omega⟩ := Fin.ext (by show 1024 * 5 + q.val = 5120 + q.val; omega)
  unfold Cert.FfnTwoIdeal.Ffn.added
  rw [e5, ← both_apply]
  unfold val_main_v15 val_main_v14
  generalize val_main_v11 (F := Ideal) x1 x2 x4 = y
  pointwise [val_main_v13, val_main_v12, val_main_v5]

/-- The normalised, scaled and shifted row. -/
theorem hid_apply (k : Fin 1024) : val_main_v37 (F := Ideal) x0 x1 x2 x3 x4 x5 (ix3 b n k)
    = rnorm (fun l => val_main_v15 (F := Ideal) x0 x1 x2 x3 x4 (ix3 b n l)) k * (x5 (ix2 0 k) * (1 + x3 (ix2 b (piece 7 k)))) + x3 (ix2 b (piece 6 k)) := by
  have e6 : piece 6 k = ⟨6144 + k.val, by omega⟩ := Fin.ext (by show 1024 * 6 + k.val = 6144 + k.val; omega)
  have e7 : piece 7 k = ⟨7168 + k.val, by omega⟩ := Fin.ext (by show 1024 * 7 + k.val = 7168 + k.val; omega)
  rw [e6, e7, ← mul_assoc]
  unfold val_main_v37 val_main_v34 val_main_v29 val_main_v26 val_main_v25 val_main_v24 val_main_v23 val_main_v21 val_main_v19 val_main_v18 val_main_v17 rnorm
  generalize val_main_v15 (F := Ideal) x0 x1 x2 x3 x4 = y
  pointwise [val_main_v36, val_main_v35, val_main_v33, val_main_v32, val_main_v31, val_main_v30, val_main_v28, val_main_v27, val_main_v22, val_main_v20, val_main_v16, val_main_v7, val_main_v6, val_main_cst, val_main_cst_0, val_main_cst_1, val_main_cst_2]

theorem gate_apply (p : Fin 2816) : val_main_v44 (F := Ideal) x0 x1 x2 x3 x4 x5 x6 (ix3 b n p) = ∑ k : Fin 1024, val_main_v37 (F := Ideal) x0 x1 x2 x3 x4 x5 (ix3 b n k) * flat x6 (ix2 k p) := by
  unfold val_main_v44
  generalize val_main_v37 (F := Ideal) x0 x1 x2 x3 x4 x5 = h
  pointwise [val_main_v41, flat]

theorem up_apply (p : Fin 2816) : val_main_v46 (F := Ideal) x0 x1 x2 x3 x4 x5 x7 (ix3 b n p) = ∑ k : Fin 1024, val_main_v37 (F := Ideal) x0 x1 x2 x3 x4 x5 (ix3 b n k) * flat x7 (ix2 k p) := by
  unfold val_main_v46
  generalize val_main_v37 (F := Ideal) x0 x1 x2 x3 x4 x5 = h
  pointwise [val_main_v42, flat]

theorem act_apply (p : Fin 2816) : val_main_v47 (F := Ideal) x0 x1 x2 x3 x4 x5 x6 x7 (ix3 b n p) = swish (val_main_v44 (F := Ideal) x0 x1 x2 x3 x4 x5 x6 (ix3 b n p)) (val_main_v46 (F := Ideal) x0 x1 x2 x3 x4 x5 x7 (ix3 b n p)) := by
  unfold val_main_v47 val_main_v45 val_main_call0_v5 val_main_call0_v3 val_main_call0_v1 val_main_call0_v0 swish
  generalize val_main_v44 (F := Ideal) x0 x1 x2 x3 x4 x5 x6 = g
  generalize val_main_v46 (F := Ideal) x0 x1 x2 x3 x4 x5 x7 = u
  rw [zero_sub]
  pointwise [val_main_call0_v4, val_main_call0_v2, val_main_call0_cst, val_main_call0_cst_0]

theorem down_apply (q : Fin 1024) : val_main_v48 (F := Ideal) x0 x1 x2 x3 x4 x5 x6 x7 x8 (ix3 b n q) = ∑ p : Fin 2816, val_main_v47 (F := Ideal) x0 x1 x2 x3 x4 x5 x6 x7 (ix3 b n p) * flat x8 (ix2 p q) := by
  unfold val_main_v48
  generalize val_main_v47 (F := Ideal) x0 x1 x2 x3 x4 x5 x6 x7 = a
  pointwise [val_main_v43, flat]

theorem sum_apply (q : Fin 1024) : val_main_v51 (F := Ideal) x0 x1 x2 x3 x4 x5 x6 x7 x8 (ix3 b n q)
    = val_main_v15 (F := Ideal) x0 x1 x2 x3 x4 (ix3 b n q) + Ideal.ofBits .f32 0x3F000000#32 * x3 (ix2 b (piece 8 q)) * val_main_v48 (F := Ideal) x0 x1 x2 x3 x4 x5 x6 x7 x8 (ix3 b n q) := by
  have e8 : piece 8 q = ⟨8192 + q.val, by omega⟩ := Fin.ext (by show 1024 * 8 + q.val = 8192 + q.val; omega)
  rw [e8]
  unfold val_main_v51 val_main_v50
  generalize val_main_v48 (F := Ideal) x0 x1 x2 x3 x4 x5 x6 x7 x8 = a
  generalize val_main_v15 (F := Ideal) x0 x1 x2 x3 x4 = y
  pointwise [val_main_v49, val_main_v40, val_main_v39, val_main_v38, val_main_v8, val_main_cst_3]

theorem last_apply (q : Fin 1024) : val_main_v65 (F := Ideal) x0 x1 x2 x3 x4 x5 x6 x7 x8 x9 (ix3 b n q) = rnorm (fun l => val_main_v51 (F := Ideal) x0 x1 x2 x3 x4 x5 x6 x7 x8 (ix3 b n l)) q * x9 (ix2 0 q) := by
  unfold val_main_v65 val_main_v62 val_main_v61 val_main_v60 val_main_v59 val_main_v57 val_main_v55 val_main_v54 val_main_v53 rnorm
  generalize val_main_v51 (F := Ideal) x0 x1 x2 x3 x4 x5 x6 x7 x8 = z
  pointwise [val_main_v64, val_main_v63, val_main_v58, val_main_v56, val_main_v52, val_main_cst_4, val_main_cst_5, val_main_cst_6]

theorem ref_eq : val_main_v65 (F := Ideal) x0 x1 x2 x3 x4 x5 x6 x7 x8 x9 = Cert.FfnTwoIdeal.Ffn.ffn x0 x1 x2 x3 x4 x5 x6 x7 x8 x9 := by
  funext i
  obtain ⟨b, n, q, rfl⟩ : ∃ (b : Fin 4) (n : Fin 8192) (q : Fin 1024), i = ix3 b n q := ⟨i 0, i 1, i 2, (ix3_eta i).symm⟩
  rw [last_apply]
  simp only [sum_apply, down_apply, act_apply, gate_apply, up_apply, hid_apply, added_apply]
  rfl

end Cert.FfnTwoRefIdeal.Ffn
end
-- ==== Proof.FfnTwoClaim.lean ====
/-
  The second feed-forward call's claims.
-/
module

public import proofs.«01_k».proof.Defs
public import proofs.«01_k».proof.Proof.FfnTwoRef
public import proofs.«01_k».proof.Proof.Gen.FfnTwo.Frame

@[expose] public section
set_option maxRecDepth 16384
set_option maxHeartbeats 800000
noncomputable section
namespace Cert.Proof.FfnTwo

open Idealize.ShloMosaic Idealize.SL.Sem

theorem frame_p : Cert.quiescent_FfnTwo := fun m ρ _ => Cert.FfnTwo.Gen.frame m ρ
theorem frame_pi : Cert.quiescent_FfnTwoIdeal := fun m ρ _ => Cert.FfnTwoIdeal.Gen.frame m ρ
theorem frame_ri : Cert.quiescent_FfnTwoRefIdeal := fun m ρ _ =>
  (θ_run Cert.FfnTwoRefIdeal.defs _ _).mono (fun r h => ⟨fun c => (h c).2, sem_eq_zero_of_no_sems (by decide) r.2⟩)
    (Cert.FfnTwoRefIdeal.Value.run (F := Ideal) m ρ)

theorem preserves : Cert.preserves_FfnTwo_FfnTwoIdeal := trivial

theorem algebraic : Cert.algebraic_FfnTwoIdeal_FfnTwoRefIdeal := by
  intro m g m' g' hpre hag
  refine ⟨fun c => Cert.FfnTwoIdeal.Ffn.res m c,
    (θ_run Cert.FfnTwoIdeal.defs _ _).mono (fun r h c => ⟨(h c).1.trans (Cert.FfnTwoIdeal.Ffn.final m c), (h c).2⟩) (Cert.FfnTwoIdeal.Value.run_blocks (F := Ideal) m g),
    (θ_run Cert.FfnTwoRefIdeal.defs _ _).mono (fun r h c => ⟨(h c).1.trans ?_, (h c).2⟩) (Cert.FfnTwoRefIdeal.Value.run (F := Ideal) m' g')⟩
  obtain ⟨a0, a1, a2, a3, a4, a5, a6, a7, a8, a9⟩ := hag c
  refine (Cert.FfnTwoRefIdeal.Read.val_main_v65_eq (F := Ideal) _ _).trans ?_
  rw [a0, a1, a2, a3, a4, a5, a6, a7, a8, a9]
  exact Cert.FfnTwoRefIdeal.Ffn.ref_eq _ _ _ _ _ _ _ _ _ _

end Cert.Proof.FfnTwo
end
-- ==== Proof.SwaPay.lean ====
/-
  The windowed attention call: what one grid point stores, in closed form. Sixteen chains (a sub-block of 128 queries, a
  key head) each write three tiles of exponentials into one of two slots of the scratch and four blocks of the output.
-/
module

public import proofs.«01_k».proof.Proof.Gen.SwaIdeal.Value
public import Idealize.ShloMosaic.Lib.Pipeline.ReadBack

@[expose] public section
set_option maxRecDepth 16384
set_option maxHeartbeats 4000000
noncomputable section
namespace Cert.SwaIdeal.Swa

open Cert.SwaIdeal.Gen
open Idealize.ShloMosaic Idealize.ShloMosaic.TcCoe Idealize.SL.Sem Idealize.ShloMosaic.Tactic

variable {F : FTy → Type} [FloatOps F] [Named F]

/-- The number of the block of 128 tokens that sub-block `n` of a point's queries is. -/
def blockWord (i : grid0.Coords) (n : Fin 8) : BitVec 32 :=
  Scalar.addi (Scalar.muli (BitVec.ofNat 32 (i 1).val) 8#32) (BitVec.ofNat 32 n.val)

/-- Which keys of the block before a query sees. -/
def maskLo (i : grid0.Coords) (n : Fin 8) : IVec S128x512 1 :=
  cmpi .sge k0_pay2 (broadcast S128x512 (Scalar.select (Scalar.cmpi .sgt (blockWord i n) 0#32) 0#32 256#32))

/-- Which keys of the block after a query sees. -/
def maskHi (i : grid0.Coords) (n : Fin 8) : IVec S128x512 1 :=
  cmpi .sle k0_pay2 (broadcast S128x512 (Scalar.select (Scalar.cmpi .slt (blockWord i n) 63#32) 0#32 4294967040#32))

theorem inb_q : ∀ (h n : Fin 8) (a : Fin 4), (![0, h.val, 0, 128 * n.val] : Fin 4 → ℕ) a + S1x1x64x128.size a ≤ S1x8x64x1024.size a := by decide

/-- Sub-block `n` of the queries of head `h`. -/
def qAt (x1 : Vec F S1x8x64x1024 .f32) (h n : Fin 8) : Vec F S1x1x64x128 .f32 :=
  View.ld x1 (Rect.unit (s := S1x8x64x1024) ![0, h.val, 0, 128 * n.val] S1x1x64x128.size (inb_q h n))

/-- The queries of one head, scaled and rounded, in the rows of their key head; zeros in the other rows. -/
def qRows (j : Fin 2) (q : Vec F S1x1x64x128 .f32) : FVec F S128x128 .bf16 :=
  match j with
  | 0 => concatenate S128x128 0 [⟨S64x128, truncf .bf16 (mulf (shapeCast S64x128 q shapeCasts_S1x1x64x128_S64x128) (broadcast S64x128 (Named.named κ "swa_scale" 0x3E38AA3B#32))) bitsLt_bf16_f32⟩,
      ⟨S64x128, broadcast S64x128 (Scalar.ofBits .bf16 0x0000#16)⟩] concatenates_S64x128_S64x128_S128x128_d0
  | 1 => concatenate S128x128 0 [⟨S64x128, broadcast S64x128 (Scalar.ofBits .bf16 0x0000#16)⟩,
      ⟨S64x128, truncf .bf16 (mulf (shapeCast S64x128 q shapeCasts_S1x1x64x128_S64x128) (broadcast S64x128 (Named.named κ "swa_scale" 0x3E38AA3B#32))) bitsLt_bf16_f32⟩] concatenates_S64x128_S64x128_S128x128_d0

/-- The scores of four heads' queries against three blocks of keys. -/
def scores (j : Fin 2) (q0 q1 q2 q3 : Vec F S1x1x64x128 .f32) (k0 k1 k2 : Vec F S1x128x128 .bf16) : FVec F S384x512 .f32 :=
  matmul dot_S384x128_S128x512_S384x512_1_0_0_1_n_n none
    (concatenate S384x128 0 [⟨S128x128, shapeCast S128x128 k0 shapeCasts_S1x128x128_S128x128⟩, ⟨S128x128, shapeCast S128x128 k1 shapeCasts_S1x128x128_S128x128⟩, ⟨S128x128, shapeCast S128x128 k2 shapeCasts_S1x128x128_S128x128⟩] concatenates_S128x128_S128x128_S128x128_S384x128_d0)
    (concatenate S128x512 1 [⟨S128x128, qRows j q0⟩, ⟨S128x128, qRows j q1⟩, ⟨S128x128, qRows j q2⟩, ⟨S128x128, qRows j q3⟩] concatenates_S128x128_S128x128_S128x128_S128x128_S128x512_d1)
    (constant S384x512 .f32 0x00000000#32)

/-- The tile of exponentials of the block before. -/
def tileLo (mask : IVec S128x512 1) (s : FVec F S384x512 .f32) (v : Elt F .f32) : FVec F S1x1x128x512 .bf16 :=
  shapeCast S1x1x128x512 (truncf .bf16 (select mask (exp2 (subf (extractStridedSlice S128x512 ![0, 0] s slices_S384x512_o0_0_S128x512) (broadcast S128x512 v))) (broadcast S128x512 (Scalar.ofBits .f32 0x00000000#32))) bitsLt_bf16_f32) shapeCasts_S128x512_S1x1x128x512

/-- The tile of exponentials of the queries' own block. -/
def tileMid (s : FVec F S384x512 .f32) (v : Elt F .f32) : FVec F S1x1x128x512 .bf16 :=
  shapeCast S1x1x128x512 (truncf .bf16 (exp2 (subf (extractStridedSlice S128x512 ![128, 0] s slices_S384x512_o128_0_S128x512) (broadcast S128x512 v))) bitsLt_bf16_f32) shapeCasts_S128x512_S1x1x128x512

/-- The tile of exponentials of the block after. -/
def tileHi (mask : IVec S128x512 1) (s : FVec F S384x512 .f32) (v : Elt F .f32) : FVec F S1x1x128x512 .bf16 :=
  shapeCast S1x1x128x512 (truncf .bf16 (select mask (exp2 (subf (extractStridedSlice S128x512 ![256, 0] s slices_S384x512_o256_0_S128x512) (broadcast S128x512 v))) (broadcast S128x512 (Scalar.ofBits .f32 0x00000000#32))) bitsLt_bf16_f32) shapeCasts_S128x512_S1x1x128x512

/-- Values over the ones row, times the exponentials. -/
def accum (v0 v1 v2 : Vec F S1x1x64x128 .bf16) (p : Vec F S1x3x128x512 .bf16) : FVec F S80x512 .f32 :=
  matmul dot_S80x384_S384x512_S80x512_1_0_0_1_n_n none
    (concatenate S80x384 0 [⟨S64x384, concatenate S64x384 1 [⟨S64x128, shapeCast S64x128 v0 shapeCasts_S1x1x64x128_S64x128⟩, ⟨S64x128, shapeCast S64x128 v1 shapeCasts_S1x1x64x128_S64x128⟩, ⟨S64x128, shapeCast S64x128 v2 shapeCasts_S1x1x64x128_S64x128⟩] concatenates_S64x128_S64x128_S64x128_S64x384_d1⟩,
      ⟨S16x384, broadcast S16x384 (Scalar.ofBits .bf16 0x3F80#16)⟩] concatenates_S64x384_S16x384_S80x384_d0)
    (shapeCast S384x512 (shapeCast S3x128x512 p shapeCasts_S1x3x128x512_S3x128x512) shapeCasts_S3x128x512_S384x512)
    (constant S80x512 .f32 0x00000000#32)

/-- The weighted sums divided by the sum of the weights and the sink's. -/
def divided (v : Elt F .f32) (a : FVec F S80x512 .f32) (sk : Vec F S1x1x512 .f32) : FVec F S64x512 .f32 :=
  mulf (extractStridedSlice S64x512 ![0, 0] a slices_S80x512_o0_0_S64x512)
    (broadcastTo S64x512 (divf (broadcast S1x512 (Scalar.ofBits .f32 0x3F800000#32))
      (addf (extractStridedSlice S1x512 ![64, 0] a slices_S80x512_o64_0_S1x512)
        (exp2 (subf (mulf (shapeCast S1x512 sk shapeCasts_S1x1x512_S1x512) (broadcast S1x512 (Named.named κ "log2e" 0x3FB8AA3B#32))) (broadcast S1x512 v))))) broadcasts_S1x512_S64x512)

/-- The block of the output that head `g` of the four gets. -/
def blockOf (g : Fin 4) (o : FVec F S64x512 .f32) : FVec F S1x1x64x128 .bf16 :=
  match g with
  | 0 => shapeCast S1x1x64x128 (truncf .bf16 (extractStridedSlice S64x128 ![0, 0] o slices_S64x512_o0_0_S64x128) bitsLt_bf16_f32) shapeCasts_S64x128_S1x1x64x128
  | 1 => shapeCast S1x1x64x128 (truncf .bf16 (extractStridedSlice S64x128 ![0, 128] o slices_S64x512_o0_128_S64x128) bitsLt_bf16_f32) shapeCasts_S64x128_S1x1x64x128
  | 2 => shapeCast S1x1x64x128 (truncf .bf16 (extractStridedSlice S64x128 ![0, 256] o slices_S64x512_o0_256_S64x128) bitsLt_bf16_f32) shapeCasts_S64x128_S1x1x64x128
  | 3 => shapeCast S1x1x64x128 (truncf .bf16 (extractStridedSlice S64x128 ![0, 384] o slices_S64x512_o0_384_S64x128) bitsLt_bf16_f32) shapeCasts_S64x128_S1x1x64x128

section Point
variable (i : grid0.Coords) (x0 : Vec F S1x1 .f32) (x1 : Vec F S1x8x64x1024 .f32) (x2 : Vec F S1x8192x128 .bf16) (x3 : Vec F S1x64x128x128 .bf16) (x4 : Vec F S2x1x512 .f32)

/-- The shift of the exponentials. -/
def shiftOf : Elt F .f32 := View.ld x0 (Rect.unit (s := S1x1) ![0, 0] S1x1.size inb_S1x1_S1x1_0_0) (Shape.Idx.first (by decide))

/-- The head that is `g`-th among key head `j`'s. -/
def headOf (j : Fin 2) (g : Fin 4) : Fin 8 := ⟨4 * j.val + g.val, by omega⟩

def scoresAt (n : Fin 8) (j : Fin 2) : FVec F S384x512 .f32 :=
  scores j (qAt x1 (headOf j 0) n) (qAt x1 (headOf j 1) n) (qAt x1 (headOf j 2) n) (qAt x1 (headOf j 3) n)
    (View.ld x2 (Rect.unit (s := S1x8192x128) (k0_off1 i (BitVec.ofNat 32 n.val)) S1x128x128.size (k0_off1_inb i n)))
    (View.ld x2 (Rect.unit (s := S1x8192x128) (k0_off2 i (BitVec.ofNat 32 n.val)) S1x128x128.size (k0_off2_inb i n)))
    (View.ld x2 (Rect.unit (s := S1x8192x128) (k0_off3 i (BitVec.ofNat 32 n.val)) S1x128x128.size (k0_off3_inb i n)))

def loAt (n : Fin 8) (j : Fin 2) : FVec F S1x1x128x512 .bf16 := tileLo (maskLo i n) (scoresAt i x1 x2 n j) (shiftOf x0)
def midAt (n : Fin 8) (j : Fin 2) : FVec F S1x1x128x512 .bf16 := tileMid (scoresAt i x1 x2 n j) (shiftOf x0)
def hiAt (n : Fin 8) (j : Fin 2) : FVec F S1x1x128x512 .bf16 := tileHi (maskHi i n) (scoresAt i x1 x2 n j) (shiftOf x0)

theorem inb_sink : ∀ (j : Fin 2) (a : Fin 3), (![j.val, 0, 0] : Fin 3 → ℕ) a + S1x1x512.size a ≤ S2x1x512.size a := by decide

/-- The divided sums of chain `(n, j)` from the tiles read back. -/
def outAt (n : Fin 8) (j : Fin 2) (p : Vec F S1x3x128x512 .bf16) : FVec F S64x512 .f32 :=
  divided (shiftOf x0)
    (match j with
      | 0 => accum (View.ld x3 (Rect.unit (s := S1x64x128x128) (k0_off4 i (BitVec.ofNat 32 n.val)) S1x1x64x128.size (k0_off4_inb i n)))
          (View.ld x3 (Rect.unit (s := S1x64x128x128) (k0_off5 i (BitVec.ofNat 32 n.val)) S1x1x64x128.size (k0_off5_inb i n)))
          (View.ld x3 (Rect.unit (s := S1x64x128x128) (k0_off6 i (BitVec.ofNat 32 n.val)) S1x1x64x128.size (k0_off6_inb i n))) p
      | 1 => accum (View.ld x3 (Rect.unit (s := S1x64x128x128) (k0_off7 i (BitVec.ofNat 32 n.val)) S1x1x64x128.size (k0_off7_inb i n)))
          (View.ld x3 (Rect.unit (s := S1x64x128x128) (k0_off8 i (BitVec.ofNat 32 n.val)) S1x1x64x128.size (k0_off8_inb i n)))
          (View.ld x3 (Rect.unit (s := S1x64x128x128) (k0_off9 i (BitVec.ofNat 32 n.val)) S1x1x64x128.size (k0_off9_inb i n))) p)
    (View.ld x4 (Rect.unit (s := S2x1x512) ![j.val, 0, 0] S1x1x512.size (inb_sink j)))

theorem inb_tile : ∀ (s : Fin 2) (k : Fin 3) (a : Fin 4), (![s.val, k.val, 0, 0] : Fin 4 → ℕ) a + S1x1x128x512.size a ≤ S2x3x128x512.size a := by decide
theorem inb_slot : ∀ (s : Fin 2) (a : Fin 4), (![s.val, 0, 0, 0] : Fin 4 → ℕ) a + S1x3x128x512.size a ≤ S2x3x128x512.size a := by decide
theorem inb_out : ∀ (h n : Fin 8) (a : Fin 4), (![0, h.val, 0, 128 * n.val] : Fin 4 → ℕ) a + S1x1x64x128.size a ≤ S1x8x64x1024.size a := by decide

/-- A tile as it is stored in the scratch. -/
def tilePiece (s : Fin 2) (k : Fin 3) (p : FVec F S1x1x128x512 .bf16) : View.Piece (Elt F) S2x3x128x512 .bf16 :=
  ⟨Rect.unit (s := S2x3x128x512) ![s.val, k.val, 0, 0] S1x1x128x512.size (inb_tile s k), p⟩

/-- A block as it is stored in the output. -/
def outPiece (n : Fin 8) (j : Fin 2) (g : Fin 4) (o : FVec F S64x512 .f32) : View.Piece (Elt F) S1x8x64x1024 .bf16 :=
  ⟨Rect.unit (s := S1x8x64x1024) ![0, (headOf j g).val, 0, 128 * n.val] S1x1x64x128.size (inb_out (headOf j g) n), blockOf g o⟩

/-- The scratch's stores with chain `(n, j)`'s, the latest first. -/
def withTiles (n : Fin 8) (j : Fin 2) (L : List (View.Piece (Elt F) S2x3x128x512 .bf16)) : List (View.Piece (Elt F) S2x3x128x512 .bf16) :=
  tilePiece j 2 (hiAt i x0 x1 x2 n j) :: tilePiece j 1 (midAt i x0 x1 x2 n j) :: tilePiece j 0 (loAt i x0 x1 x2 n j) :: L

/-- The output's stores with chain `(n, j)`'s, the latest first. -/
def withOuts (n : Fin 8) (j : Fin 2) (p : Vec F S1x3x128x512 .bf16) (L : List (View.Piece (Elt F) S1x8x64x1024 .bf16)) : List (View.Piece (Elt F) S1x8x64x1024 .bf16) :=
  outPiece n j 3 (outAt i x0 x3 x4 n j p) :: outPiece n j 2 (outAt i x0 x3 x4 n j p) :: outPiece n j 1 (outAt i x0 x3 x4 n j p) :: outPiece n j 0 (outAt i x0 x3 x4 n j p) :: L

def stores0 : List (View.Piece (Elt F) S2x3x128x512 .bf16) := withTiles i x0 x1 x2 0 0 []
def stores1 : List (View.Piece (Elt F) S2x3x128x512 .bf16) := withTiles i x0 x1 x2 0 1 (stores0 i x0 x1 x2)
def stores2 : List (View.Piece (Elt F) S2x3x128x512 .bf16) := withTiles i x0 x1 x2 1 0 (stores1 i x0 x1 x2)
def stores3 : List (View.Piece (Elt F) S2x3x128x512 .bf16) := withTiles i x0 x1 x2 1 1 (stores2 i x0 x1 x2)
def stores4 : List (View.Piece (Elt F) S2x3x128x512 .bf16) := withTiles i x0 x1 x2 2 0 (stores3 i x0 x1 x2)
def stores5 : List (View.Piece (Elt F) S2x3x128x512 .bf16) := withTiles i x0 x1 x2 2 1 (stores4 i x0 x1 x2)
def stores6 : List (View.Piece (Elt F) S2x3x128x512 .bf16) := withTiles i x0 x1 x2 3 0 (stores5 i x0 x1 x2)
def stores7 : List (View.Piece (Elt F) S2x3x128x512 .bf16) := withTiles i x0 x1 x2 3 1 (stores6 i x0 x1 x2)
def stores8 : List (View.Piece (Elt F) S2x3x128x512 .bf16) := withTiles i x0 x1 x2 4 0 (stores7 i x0 x1 x2)
def stores9 : List (View.Piece (Elt F) S2x3x128x512 .bf16) := withTiles i x0 x1 x2 4 1 (stores8 i x0 x1 x2)
def stores10 : List (View.Piece (Elt F) S2x3x128x512 .bf16) := withTiles i x0 x1 x2 5 0 (stores9 i x0 x1 x2)
def stores11 : List (View.Piece (Elt F) S2x3x128x512 .bf16) := withTiles i x0 x1 x2 5 1 (stores10 i x0 x1 x2)
def stores12 : List (View.Piece (Elt F) S2x3x128x512 .bf16) := withTiles i x0 x1 x2 6 0 (stores11 i x0 x1 x2)
def stores13 : List (View.Piece (Elt F) S2x3x128x512 .bf16) := withTiles i x0 x1 x2 6 1 (stores12 i x0 x1 x2)
def stores14 : List (View.Piece (Elt F) S2x3x128x512 .bf16) := withTiles i x0 x1 x2 7 0 (stores13 i x0 x1 x2)
def stores15 : List (View.Piece (Elt F) S2x3x128x512 .bf16) := withTiles i x0 x1 x2 7 1 (stores14 i x0 x1 x2)

variable {κ' : Kind} {sp : Space} (v : View sig κ' sp S2x3x128x512 .bf16)

/-- Slot `s` of the scratch as read after the stores `L`. -/
def slotRead (s : Fin 2) (L : List (View.Piece (Elt F) S2x3x128x512 .bf16)) : Vec F S1x3x128x512 .bf16 :=
  v.readCov L (Rect.unit (s := S2x3x128x512) ![s.val, 0, 0, 0] S1x3x128x512.size (inb_slot s)).toLoadRect

def blocks0 : List (View.Piece (Elt F) S1x8x64x1024 .bf16) := withOuts i x0 x3 x4 0 0 (slotRead v 0 (stores1 i x0 x1 x2)) []
def blocks1 : List (View.Piece (Elt F) S1x8x64x1024 .bf16) := withOuts i x0 x3 x4 0 1 (slotRead v 1 (stores2 i x0 x1 x2)) (blocks0 i x0 x1 x2 x3 x4 v)
def blocks2 : List (View.Piece (Elt F) S1x8x64x1024 .bf16) := withOuts i x0 x3 x4 1 0 (slotRead v 0 (stores3 i x0 x1 x2)) (blocks1 i x0 x1 x2 x3 x4 v)
def blocks3 : List (View.Piece (Elt F) S1x8x64x1024 .bf16) := withOuts i x0 x3 x4 1 1 (slotRead v 1 (stores4 i x0 x1 x2)) (blocks2 i x0 x1 x2 x3 x4 v)
def blocks4 : List (View.Piece (Elt F) S1x8x64x1024 .bf16) := withOuts i x0 x3 x4 2 0 (slotRead v 0 (stores5 i x0 x1 x2)) (blocks3 i x0 x1 x2 x3 x4 v)
def blocks5 : List (View.Piece (Elt F) S1x8x64x1024 .bf16) := withOuts i x0 x3 x4 2 1 (slotRead v 1 (stores6 i x0 x1 x2)) (blocks4 i x0 x1 x2 x3 x4 v)
def blocks6 : List (View.Piece (Elt F) S1x8x64x1024 .bf16) := withOuts i x0 x3 x4 3 0 (slotRead v 0 (stores7 i x0 x1 x2)) (blocks5 i x0 x1 x2 x3 x4 v)
def blocks7 : List (View.Piece (Elt F) S1x8x64x1024 .bf16) := withOuts i x0 x3 x4 3 1 (slotRead v 1 (stores8 i x0 x1 x2)) (blocks6 i x0 x1 x2 x3 x4 v)
def blocks8 : List (View.Piece (Elt F) S1x8x64x1024 .bf16) := withOuts i x0 x3 x4 4 0 (slotRead v 0 (stores9 i x0 x1 x2)) (blocks7 i x0 x1 x2 x3 x4 v)
def blocks9 : List (View.Piece (Elt F) S1x8x64x1024 .bf16) := withOuts i x0 x3 x4 4 1 (slotRead v 1 (stores10 i x0 x1 x2)) (blocks8 i x0 x1 x2 x3 x4 v)
def blocks10 : List (View.Piece (Elt F) S1x8x64x1024 .bf16) := withOuts i x0 x3 x4 5 0 (slotRead v 0 (stores11 i x0 x1 x2)) (blocks9 i x0 x1 x2 x3 x4 v)
def blocks11 : List (View.Piece (Elt F) S1x8x64x1024 .bf16) := withOuts i x0 x3 x4 5 1 (slotRead v 1 (stores12 i x0 x1 x2)) (blocks10 i x0 x1 x2 x3 x4 v)
def blocks12 : List (View.Piece (Elt F) S1x8x64x1024 .bf16) := withOuts i x0 x3 x4 6 0 (slotRead v 0 (stores13 i x0 x1 x2)) (blocks11 i x0 x1 x2 x3 x4 v)
def blocks13 : List (View.Piece (Elt F) S1x8x64x1024 .bf16) := withOuts i x0 x3 x4 6 1 (slotRead v 1 (stores14 i x0 x1 x2)) (blocks12 i x0 x1 x2 x3 x4 v)
def blocks14 : List (View.Piece (Elt F) S1x8x64x1024 .bf16) := withOuts i x0 x3 x4 7 0 (slotRead v 0 (stores15 i x0 x1 x2)) (blocks13 i x0 x1 x2 x3 x4 v)
def blocks15 : List (View.Piece (Elt F) S1x8x64x1024 .bf16) := withOuts i x0 x3 x4 7 1 (slotRead v 1 (stores15 i x0 x1 x2)) (blocks14 i x0 x1 x2 x3 x4 v)

end Point

variable (m : (ℓ : Loc nD τ sig) → Buf (Elt F) ℓ) (c : Dev nD)

/-- What a point leaves in the result's buffer. -/
theorem out_stores (t : Fin cfg0.N) :
    outsAt0 m c t = View.canon (blocks15 (grid0.coords t) (iblk m c 0 t) (iblk m c 1 t) (iblk m c 2 t) (iblk m c 3 t) (iblk m c 4 t) scM0_0.view) := by
  unfold outsAt0 out0_A_5
  rw [View.read_writes_eq_canon _ _ _ (cover0_A_5 c _ _ _ _ _ _ _ _ _ _ _ _ _ _ _ _ _ _ _ _)]
  unfold kernelRun0_A
  dsimp only
  sl_unfold_words
  simp only [View.readAt_eq_ld]
  rw [(hs0_0 t).read_unread, (hs0_1 t).read_unread, (hs0_2 t).read_unread, (hs0_3 t).read_unread, (hs0_4 t).read_unread]
  rfl

end Cert.SwaIdeal.Swa
end
-- ==== Proof.SwaRead.lean ====
/-
  The windowed attention call: the scratch read back and the output's stores assembled, at the ideal values.
-/
module

public import proofs.«01_k».proof.Proof.SwaPay
public import Idealize.ShloMosaic.Lib.Pointwise

@[expose] public section
set_option maxRecDepth 16384
set_option maxHeartbeats 4000000
noncomputable section
namespace Cert.SwaIdeal.Swa

open Cert.SwaIdeal.Gen
open Idealize.ShloMosaic Idealize.ShloMosaic.TcCoe Idealize.SL.Sem Idealize.ShloMosaic.Tactic

section
variable {F : FTy → Type} [FloatOps F] [Named F]

/-- Three tiles as one slot of the scratch. -/
def tilesOf (p : Fin 3 → FVec F S1x1x128x512 .bf16) : Vec F S1x3x128x512 .bf16 := fun y => p (y 1) (ix4 0 0 (y 2) (y 3))

/-- The scratch with slot `a` at `p` and the other at `r`. -/
def scratchOf (a : Fin 2) (p r : Fin 3 → FVec F S1x1x128x512 .bf16) : S2x3x128x512.Idx → Elt F .bf16 :=
  fun z => (if (show Fin 2 from z 0) = a then p else r) (z 1) (ix4 0 0 (z 2) (z 3))

theorem idx_tile (x : S1x1x128x512.Idx) : x = ix4 0 0 (x 2) (x 3) := by
  funext a
  match a with
  | ⟨0, _⟩ => exact Subsingleton.elim (α := Fin 1) _ _
  | ⟨1, _⟩ => exact Subsingleton.elim (α := Fin 1) _ _
  | ⟨2, _⟩ => rfl
  | ⟨3, _⟩ => rfl

theorem tilePiece_emb (s : Fin 2) (k : Fin 3) (x : S1x1x128x512.Idx) :
    (Rect.unit (s := S2x3x128x512) ![s.val, k.val, 0, 0] S1x1x128x512.size (inb_tile s k)).emb x = ix4 s k (x 2) (x 3) := by
  funext a
  apply Fin.ext
  have h0 : (x 0).val < 1 := (x 0).isLt
  have h1 : (x 1).val < 1 := (x 1).isLt
  match a with
  | ⟨0, _⟩ => show s.val + 1 * (x 0).val = s.val; omega
  | ⟨1, _⟩ => show k.val + 1 * (x 1).val = k.val; omega
  | ⟨2, _⟩ => show 0 + 1 * (x 2).val = (x 2).val; omega
  | ⟨3, _⟩ => show 0 + 1 * (x 3).val = (x 3).val; omega

theorem piece_own (a : Fin 2) (p r : Fin 3 → FVec F S1x1x128x512 .bf16) (k : Fin 3) (x : S1x1x128x512.Idx) :
    p k x = scratchOf a p r ((Rect.unit (s := S2x3x128x512) ![a.val, k.val, 0, 0] S1x1x128x512.size (inb_tile a k)).emb x) := by
  rw [tilePiece_emb]
  show _ = (if a = a then p else r) k (ix4 0 0 (x 2) (x 3))
  rw [if_pos rfl]
  exact congrArg (p k) (idx_tile x)

theorem piece_other (a b : Fin 2) (h : b ≠ a) (p r : Fin 3 → FVec F S1x1x128x512 .bf16) (k : Fin 3) (x : S1x1x128x512.Idx) :
    r k x = scratchOf a p r ((Rect.unit (s := S2x3x128x512) ![b.val, k.val, 0, 0] S1x1x128x512.size (inb_tile b k)).emb x) := by
  rw [tilePiece_emb]
  show _ = (if b = a then p else r) k (ix4 0 0 (x 2) (x 3))
  rw [if_neg h]
  exact congrArg (r k) (idx_tile x)

theorem six_cover (a : Fin 2) (p r : Fin 3 → FVec F S1x1x128x512 .bf16) (y : S2x3x128x512.Idx) :
    ∃ q ∈ ([tilePiece a 2 (p 2), tilePiece a 1 (p 1), tilePiece a 0 (p 0), tilePiece (1 - a) 2 (r 2), tilePiece (1 - a) 1 (r 1), tilePiece (1 - a) 0 (r 0)] : List (View.Piece (Elt F) S2x3x128x512 .bf16)), y ∈ q.1.set := by
  match a with
  | 0 => exact View.cover_of_tiledL _ ![1, 1, 128, 512] rfl y
  | 1 => exact View.cover_of_tiledL _ ![1, 1, 128, 512] rfl y

/-- Two chains' tiles in the two slots, over any earlier stores. -/
theorem six_canon (a : Fin 2) (p r : Fin 3 → FVec F S1x1x128x512 .bf16) (L : List (View.Piece (Elt F) S2x3x128x512 .bf16)) (y : S2x3x128x512.Idx) :
    View.canon (tilePiece a 2 (p 2) :: tilePiece a 1 (p 1) :: tilePiece a 0 (p 0) :: tilePiece (1 - a) 2 (r 2) :: tilePiece (1 - a) 1 (r 1) :: tilePiece (1 - a) 0 (r 0) :: L) y
      = scratchOf a p r y := by
  have hb : (1 - a) ≠ a := by revert a; decide
  exact View.canon_append_of_piecesOf (scratchOf a p r) L
    [tilePiece a 2 (p 2), tilePiece a 1 (p 1), tilePiece a 0 (p 0), tilePiece (1 - a) 2 (r 2), tilePiece (1 - a) 1 (r 1), tilePiece (1 - a) 0 (r 0)]
    ⟨piece_own a p r 2, piece_own a p r 1, piece_own a p r 0, piece_other a (1 - a) hb p r 2, piece_other a (1 - a) hb p r 1, piece_other a (1 - a) hb p r 0, trivial⟩ y (six_cover a p r y)

variable {κ' : Kind} {sp : Space} (v : View sig κ' sp S2x3x128x512 .bf16)

theorem slot_idx (s : Fin 2) (y : S1x3x128x512.Idx) :
    (Rect.unit (s := S2x3x128x512) ![s.val, 0, 0, 0] S1x3x128x512.size (inb_slot s)).toLoadRect.idx y = ix4 s (y 1) (y 2) (y 3) := by
  funext a
  apply Fin.ext
  have h0 : (y 0).val < 1 := (y 0).isLt
  match a with
  | ⟨0, _⟩ => show s.val + 1 * (y 0).val = s.val; omega
  | ⟨1, _⟩ => show 0 + 1 * (y 1).val = (y 1).val; omega
  | ⟨2, _⟩ => show 0 + 1 * (y 2).val = (y 2).val; omega
  | ⟨3, _⟩ => show 0 + 1 * (y 3).val = (y 3).val; omega

/-- Reading the slot the chain before the latest wrote. -/
theorem slotRead_before (a : Fin 2) (p r : Fin 3 → FVec F S1x1x128x512 .bf16) (L : List (View.Piece (Elt F) S2x3x128x512 .bf16)) :
    slotRead v (1 - a) (tilePiece a 2 (p 2) :: tilePiece a 1 (p 1) :: tilePiece a 0 (p 0) :: tilePiece (1 - a) 2 (r 2) :: tilePiece (1 - a) 1 (r 1) :: tilePiece (1 - a) 0 (r 0) :: L)
      = tilesOf r := by
  have hb : (1 - a) ≠ a := by revert a; decide
  unfold slotRead
  rw [View.readCov_eq_canon']
  funext y
  rw [six_canon, slot_idx]
  show (if (1 - a) = a then p else r) (y 1) (ix4 0 0 (y 2) (y 3)) = _
  rw [if_neg hb]
  rfl

/-- Reading the slot the latest chain wrote. -/
theorem slotRead_latest (a : Fin 2) (p r : Fin 3 → FVec F S1x1x128x512 .bf16) (L : List (View.Piece (Elt F) S2x3x128x512 .bf16)) :
    slotRead v a (tilePiece a 2 (p 2) :: tilePiece a 1 (p 1) :: tilePiece a 0 (p 0) :: tilePiece (1 - a) 2 (r 2) :: tilePiece (1 - a) 1 (r 1) :: tilePiece (1 - a) 0 (r 0) :: L)
      = tilesOf p := by
  unfold slotRead
  rw [View.readCov_eq_canon']
  funext y
  rw [six_canon, slot_idx]
  show (if a = a then p else r) (y 1) (ix4 0 0 (y 2) (y 3)) = _
  rw [if_pos rfl]
  rfl

variable (i : grid0.Coords) (x0 : Vec F S1x1 .f32) (x1 : Vec F S1x8x64x1024 .f32) (x2 : Vec F S1x8192x128 .bf16) (x3 : Vec F S1x64x128x128 .bf16) (x4 : Vec F S2x1x512 .f32)

/-- The three tiles of chain `(n, j)`. -/
def chainTiles (n : Fin 8) (j : Fin 2) : Fin 3 → FVec F S1x1x128x512 .bf16 :=
  ![loAt i x0 x1 x2 n j, midAt i x0 x1 x2 n j, hiAt i x0 x1 x2 n j]

/-- The divided sums of chain `(n, j)`. -/
def chainOut (n : Fin 8) (j : Fin 2) : FVec F S64x512 .f32 := outAt i x0 x3 x4 n j (tilesOf (chainTiles i x0 x1 x2 n j))

theorem slot_before0 (n n' : Fin 8) (L : List (View.Piece (Elt F) S2x3x128x512 .bf16)) :
    slotRead v 0 (withTiles i x0 x1 x2 n 1 (withTiles i x0 x1 x2 n' 0 L)) = tilesOf (chainTiles i x0 x1 x2 n' 0) :=
  slotRead_before v 1 (chainTiles i x0 x1 x2 n 1) (chainTiles i x0 x1 x2 n' 0) L
theorem slot_before1 (n n' : Fin 8) (L : List (View.Piece (Elt F) S2x3x128x512 .bf16)) :
    slotRead v 1 (withTiles i x0 x1 x2 n 0 (withTiles i x0 x1 x2 n' 1 L)) = tilesOf (chainTiles i x0 x1 x2 n' 1) :=
  slotRead_before v 0 (chainTiles i x0 x1 x2 n 0) (chainTiles i x0 x1 x2 n' 1) L
theorem slot_latest1 (n n' : Fin 8) (L : List (View.Piece (Elt F) S2x3x128x512 .bf16)) :
    slotRead v 1 (withTiles i x0 x1 x2 n 1 (withTiles i x0 x1 x2 n' 0 L)) = tilesOf (chainTiles i x0 x1 x2 n 1) :=
  slotRead_latest v 1 (chainTiles i x0 x1 x2 n 1) (chainTiles i x0 x1 x2 n' 0) L
end

section
variable (i : grid0.Coords) (x0 : Vec Ideal S1x1 .f32) (x1 : Vec Ideal S1x8x64x1024 .f32) (x2 : Vec Ideal S1x8192x128 .bf16) (x3 : Vec Ideal S1x64x128x128 .bf16) (x4 : Vec Ideal S2x1x512 .f32)

theorem blockOf_apply (g : Fin 4) (o : FVec Ideal S64x512 .f32) (d : Fin 64) (r : Fin 128) :
    blockOf (F := Ideal) g o (ix4 0 0 d r) = o (ix2 d ⟨128 * g.val + r.val, by omega⟩) := by
  match g with
  | 0 => unfold blockOf; pointwise []
  | 1 => unfold blockOf; pointwise []
  | 2 => unfold blockOf; pointwise []
  | 3 => unfold blockOf; pointwise []

/-- What one grid point leaves in the output's buffer. -/
def pointOut : Vec Ideal S1x8x64x1024 .bf16 := fun y =>
  chainOut (F := Ideal) i x0 x1 x2 x3 x4 ⟨(y 3).val / 128, Nat.div_lt_of_lt_mul (y 3).isLt⟩ ⟨(y 1).val / 4, Nat.div_lt_of_lt_mul (y 1).isLt⟩
    (ix2 (y 2) ⟨128 * ((y 1).val % 4) + (y 3).val % 128, by omega⟩)

theorem outPiece_eq (n : Fin 8) (j : Fin 2) (g : Fin 4) (x : S1x1x64x128.Idx) :
    blockOf (F := Ideal) g (chainOut (F := Ideal) i x0 x1 x2 x3 x4 n j) x
      = pointOut i x0 x1 x2 x3 x4 ((Rect.unit (s := S1x8x64x1024) ![0, (headOf j g).val, 0, 128 * n.val] S1x1x64x128.size (inb_out (headOf j g) n)).emb x) := by
  obtain ⟨d, r, rfl⟩ : ∃ (d : Fin 64) (r : Fin 128), x = ix4 0 0 d r := ⟨x 2, x 3, by
    funext a
    match a with
    | ⟨0, _⟩ => exact Subsingleton.elim (α := Fin 1) _ _
    | ⟨1, _⟩ => exact Subsingleton.elim (α := Fin 1) _ _
    | ⟨2, _⟩ => rfl
    | ⟨3, _⟩ => rfl⟩
  have he : (Rect.unit (s := S1x8x64x1024) ![0, (headOf j g).val, 0, 128 * n.val] S1x1x64x128.size (inb_out (headOf j g) n)).emb (ix4 0 0 d r)
      = ix4 0 (headOf j g) d ⟨128 * n.val + r.val, by omega⟩ := by
    funext a
    apply Fin.ext
    match a with
    | ⟨0, _⟩ => rfl
    | ⟨1, _⟩ => show (headOf j g).val + 1 * 0 = (headOf j g).val; omega
    | ⟨2, _⟩ => show 0 + 1 * d.val = d.val; omega
    | ⟨3, _⟩ => show 128 * n.val + 1 * r.val = 128 * n.val + r.val; omega
  rw [he, blockOf_apply]
  have e1 : (⟨(128 * n.val + r.val) / 128, by omega⟩ : Fin 8) = n := Fin.ext (by show (128 * n.val + r.val) / 128 = n.val; omega)
  have e2 : (⟨(4 * j.val + g.val) / 4, by omega⟩ : Fin 2) = j := Fin.ext (by show (4 * j.val + g.val) / 4 = j.val; omega)
  have e3 : (⟨128 * ((4 * j.val + g.val) % 4) + (128 * n.val + r.val) % 128, by omega⟩ : Fin 512) = ⟨128 * g.val + r.val, by omega⟩ :=
    Fin.ext (by show 128 * ((4 * j.val + g.val) % 4) + (128 * n.val + r.val) % 128 = 128 * g.val + r.val; omega)
  show _ = chainOut (F := Ideal) i x0 x1 x2 x3 x4 ⟨(128 * n.val + r.val) / 128, _⟩ ⟨(4 * j.val + g.val) / 4, _⟩ (ix2 d ⟨128 * ((4 * j.val + g.val) % 4) + (128 * n.val + r.val) % 128, _⟩)
  rw [e1, e2, e3]

variable {κ' : Kind} {sp : Space} (v : View sig κ' sp S2x3x128x512 .bf16)

/-- The output's stores leave `pointOut`. -/
theorem blocks_canon : View.canon (blocks15 (F := Ideal) i x0 x1 x2 x3 x4 v) = pointOut i x0 x1 x2 x3 x4 := by
  unfold blocks15 blocks14 blocks13 blocks12 blocks11 blocks10 blocks9 blocks8 blocks7 blocks6 blocks5 blocks4 blocks3 blocks2 blocks1 blocks0
  unfold stores15 stores14 stores13 stores12 stores11 stores10 stores9 stores8 stores7 stores6 stores5 stores4 stores3 stores2 stores1 stores0
  simp only [slot_before0, slot_before1, slot_latest1]
  unfold withOuts
  funext y
  have key : ∀ L : List (View.Piece (Elt Ideal) S1x8x64x1024 .bf16), View.PiecesOf (pointOut i x0 x1 x2 x3 x4) L → (∃ q ∈ L, y ∈ q.1.set) →
      View.canon L y = pointOut i x0 x1 x2 x3 x4 y := fun L hp hc => by
    have h := View.canon_append_of_piecesOf (pointOut i x0 x1 x2 x3 x4) [] L hp y hc
    rwa [List.append_nil] at h
  refine key _ ?_ ?_
  rotate_left
  · exact View.cover_of_tiledL _ ![1, 1, 64, 128] rfl y
  · exact ⟨outPiece_eq i x0 x1 x2 x3 x4 7 1 3, outPiece_eq i x0 x1 x2 x3 x4 7 1 2, outPiece_eq i x0 x1 x2 x3 x4 7 1 1, outPiece_eq i x0 x1 x2 x3 x4 7 1 0, outPiece_eq i x0 x1 x2 x3 x4 7 0 3, outPiece_eq i x0 x1 x2 x3 x4 7 0 2, outPiece_eq i x0 x1 x2 x3 x4 7 0 1, outPiece_eq i x0 x1 x2 x3 x4 7 0 0, outPiece_eq i x0 x1 x2 x3 x4 6 1 3, outPiece_eq i x0 x1 x2 x3 x4 6 1 2, outPiece_eq i x0 x1 x2 x3 x4 6 1 1, outPiece_eq i x0 x1 x2 x3 x4 6 1 0, outPiece_eq i x0 x1 x2 x3 x4 6 0 3, outPiece_eq i x0 x1 x2 x3 x4 6 0 2, outPiece_eq i x0 x1 x2 x3 x4 6 0 1, outPiece_eq i x0 x1 x2 x3 x4 6 0 0, outPiece_eq i x0 x1 x2 x3 x4 5 1 3, outPiece_eq i x0 x1 x2 x3 x4 5 1 2, outPiece_eq i x0 x1 x2 x3 x4 5 1 1, outPiece_eq i x0 x1 x2 x3 x4 5 1 0, outPiece_eq i x0 x1 x2 x3 x4 5 0 3, outPiece_eq i x0 x1 x2 x3 x4 5 0 2, outPiece_eq i x0 x1 x2 x3 x4 5 0 1, outPiece_eq i x0 x1 x2 x3 x4 5 0 0, outPiece_eq i x0 x1 x2 x3 x4 4 1 3, outPiece_eq i x0 x1 x2 x3 x4 4 1 2, outPiece_eq i x0 x1 x2 x3 x4 4 1 1, outPiece_eq i x0 x1 x2 x3 x4 4 1 0, outPiece_eq i x0 x1 x2 x3 x4 4 0 3, outPiece_eq i x0 x1 x2 x3 x4 4 0 2, outPiece_eq i x0 x1 x2 x3 x4 4 0 1, outPiece_eq i x0 x1 x2 x3 x4 4 0 0, outPiece_eq i x0 x1 x2 x3 x4 3 1 3, outPiece_eq i x0 x1 x2 x3 x4 3 1 2, outPiece_eq i x0 x1 x2 x3 x4 3 1 1, outPiece_eq i x0 x1 x2 x3 x4 3 1 0, outPiece_eq i x0 x1 x2 x3 x4 3 0 3, outPiece_eq i x0 x1 x2 x3 x4 3 0 2, outPiece_eq i x0 x1 x2 x3 x4 3 0 1, outPiece_eq i x0 x1 x2 x3 x4 3 0 0, outPiece_eq i x0 x1 x2 x3 x4 2 1 3, outPiece_eq i x0 x1 x2 x3 x4 2 1 2, outPiece_eq i x0 x1 x2 x3 x4 2 1 1, outPiece_eq i x0 x1 x2 x3 x4 2 1 0, outPiece_eq i x0 x1 x2 x3 x4 2 0 3, outPiece_eq i x0 x1 x2 x3 x4 2 0 2, outPiece_eq i x0 x1 x2 x3 x4 2 0 1, outPiece_eq i x0 x1 x2 x3 x4 2 0 0, outPiece_eq i x0 x1 x2 x3 x4 1 1 3, outPiece_eq i x0 x1 x2 x3 x4 1 1 2, outPiece_eq i x0 x1 x2 x3 x4 1 1 1, outPiece_eq i x0 x1 x2 x3 x4 1 1 0, outPiece_eq i x0 x1 x2 x3 x4 1 0 3, outPiece_eq i x0 x1 x2 x3 x4 1 0 2, outPiece_eq i x0 x1 x2 x3 x4 1 0 1, outPiece_eq i x0 x1 x2 x3 x4 1 0 0, outPiece_eq i x0 x1 x2 x3 x4 0 1 3, outPiece_eq i x0 x1 x2 x3 x4 0 1 2, outPiece_eq i x0 x1 x2 x3 x4 0 1 1, outPiece_eq i x0 x1 x2 x3 x4 0 1 0, outPiece_eq i x0 x1 x2 x3 x4 0 0 3, outPiece_eq i x0 x1 x2 x3 x4 0 0 2, outPiece_eq i x0 x1 x2 x3 x4 0 0 1, outPiece_eq i x0 x1 x2 x3 x4 0 0 0, trivial⟩
end

variable (m : (ℓ : Loc nD τ sig) → Buf (Elt Ideal) ℓ) (c : Dev nD)

theorem out_eq (t : Fin cfg0.N) :
    outsAt0 m c t = pointOut (grid0.coords t) (iblk m c 0 t) (iblk m c 1 t) (iblk m c 2 t) (iblk m c 3 t) (iblk m c 4 t) := by
  rw [out_stores, blocks_canon]

end Cert.SwaIdeal.Swa
end
-- ==== Proof.SwaSum.lean ====
/-
  Sums over a window of tokens, and weighted averages in which a window and a sink take part.
-/
module

public import proofs.«01_k».proof.Proof.Softmax
public import Idealize.ShloMosaic.Lib.Pointwise

@[expose] public section
noncomputable section
namespace Cert.Swa

open Idealize.ShloMosaic Cert.Softmax

/-- Tokens `t` and `s` are at most 128 apart. -/
def near (t s : Fin 8192) : Prop := s.val ≤ t.val + 128 ∧ t.val ≤ s.val + 128

instance (t s : Fin 8192) : Decidable (near t s) := by unfold near; infer_instance

/-- Token `r` of block `b`. -/
def tok (b : Fin 64) (r : Fin 128) : Fin 8192 := ⟨128 * b.val + r.val, by omega⟩

/-- The window of a token in block `b`: part of the block before, the block, part of the block after. -/
theorem window_sum (f : Fin 8192 → EReal) (b : Fin 64) (c : Fin 128) (b0 b2 : Fin 64) (h0 : b0.val = b.val - 1) (h2 : b2.val = min (b.val + 1) 63) :
    ∑ s, (if near (tok b c) s then f s else 0)
      = ∑ r, (if 0 < b.val ∧ c.val ≤ r.val then f (tok b0 r) else 0) + ∑ r, f (tok b r) + ∑ r, (if b.val < 63 ∧ r.val ≤ c.val then f (tok b2 r) else 0) := by
  rw [Fin.sum_univ_tiles 64 128 rfl]
  have e : ∀ a : Fin 64, ∑ r : Fin 128, (if near (tok b c) ⟨a.val * 128 + r.val, by omega⟩ then f ⟨a.val * 128 + r.val, by omega⟩ else 0)
      = (if a = b0 then ∑ r, (if 0 < b.val ∧ c.val ≤ r.val then f (tok b0 r) else 0) else 0) + (if a = b then ∑ r, f (tok b r) else 0)
        + (if a = b2 then ∑ r, (if b.val < 63 ∧ r.val ≤ c.val then f (tok b2 r) else 0) else 0) := by
    intro a
    have et : ∀ r : Fin 128, (⟨a.val * 128 + r.val, by omega⟩ : Fin 8192) = tok a r := fun r => Fin.ext (by show a.val * 128 + r.val = 128 * a.val + r.val; omega)
    simp only [et]
    have hn : ∀ r : Fin 128, near (tok b c) (tok a r) ↔ (a.val + 1 = b.val ∧ c.val ≤ r.val) ∨ a = b ∨ (a.val = b.val + 1 ∧ r.val ≤ c.val) := fun r => by
      unfold near tok
      rw [Fin.ext_iff]
      constructor
      · rintro ⟨h1, h2⟩
        simp only at h1 h2
        omega
      · intro h
        simp only
        omega
    simp only [hn]
    by_cases ha : a = b
    · subst ha
      have z0 : (if a = b0 then ∑ r : Fin 128, (if 0 < a.val ∧ c.val ≤ r.val then f (tok b0 r) else 0) else 0) = 0 := by
        split
        · rename_i h
          refine Finset.sum_eq_zero fun r _ => if_neg ?_
          rw [← h] at h0; omega
        · rfl
      have z2 : (if a = b2 then ∑ r : Fin 128, (if a.val < 63 ∧ r.val ≤ c.val then f (tok b2 r) else 0) else 0) = 0 := by
        split
        · rename_i h
          refine Finset.sum_eq_zero fun r _ => if_neg ?_
          rw [← h] at h2; omega
        · rfl
      rw [z0, z2, if_pos rfl, zero_add, add_zero]
      exact Finset.sum_congr rfl fun r _ => if_pos (by simp)
    · rw [if_neg ha, add_zero]
      have hab : a.val ≠ b.val := fun h => ha (Fin.ext h)
      by_cases hl : a.val + 1 = b.val
      · have e0 : a = b0 := Fin.ext (by omega)
        have e2 : a ≠ b2 := fun h => by rw [← h] at h2; omega
        rw [if_pos e0, if_neg e2, add_zero, ← e0]
        refine Finset.sum_congr rfl fun r _ => if_congr ?_ rfl rfl
        constructor
        · rintro (h | h | h)
          · exact ⟨by omega, h.2⟩
          · exact absurd h ha
          · omega
        · exact fun h => .inl ⟨hl, h.2⟩
      · by_cases hr : a.val = b.val + 1
        · have e2 : a = b2 := Fin.ext (by omega)
          have e0 : a ≠ b0 := fun h => by rw [← h] at h0; omega
          rw [if_pos e2, if_neg e0, zero_add, ← e2]
          refine Finset.sum_congr rfl fun r _ => if_congr ?_ rfl rfl
          constructor
          · rintro (h | h | h)
            · omega
            · exact absurd h ha
            · exact ⟨by omega, h.2⟩
          · exact fun h => .inr (.inr ⟨hr, h.2⟩)
        · have e0 : a ≠ b0 := fun h => by rw [← h] at h0; omega
          have e2 : a ≠ b2 := fun h => by rw [← h] at h2; omega
          rw [if_neg e0, if_neg e2, zero_add]
          refine Finset.sum_eq_zero fun r _ => if_neg ?_
          rintro (h | h | h)
          · exact hl h.1
          · exact ha h
          · exact hr h.1
  rw [Finset.sum_congr rfl fun a _ => e a, Finset.sum_add_distrib, Finset.sum_add_distrib, Finset.sum_ite_eq', Finset.sum_ite_eq', Finset.sum_ite_eq']
  simp

/-- A largest of scores, some masked, and a finite value is finite. -/
theorem max_sink_coe {n : ℕ} (f : Fin n → ℝ) (p : Fin n → Prop) [DecidablePred p] (sk : ℝ) :
    ∃ μ : ℝ, max (Finset.univ.fold max (⊥ : EReal) (fun k => if p k then (f k : EReal) else ⊥)) (sk : EReal) = (μ : EReal) := by
  set M := max (Finset.univ.fold max (⊥ : EReal) (fun k => if p k then (f k : EReal) else ⊥)) (sk : EReal) with hM
  have h1 : M ≠ ⊤ := by
    refine ne_of_lt ?_
    rw [hM, max_lt_iff, Finset.fold_max_lt]
    refine ⟨⟨bot_lt_top, fun k _ => ?_⟩, EReal.coe_lt_top _⟩
    split
    · exact EReal.coe_lt_top _
    · exact bot_lt_top
  have h2 : M ≠ ⊥ := ne_of_gt (lt_of_lt_of_le (EReal.bot_lt_coe sk) (le_max_right _ _))
  exact ⟨M.toReal, (EReal.coe_toReal h1 h2).symm⟩

/-- One division of the weighted sum against a division of every weight, the weights those of a window and of a sink. -/
theorem average_sink {n : ℕ} (v : Fin n → EReal) (p : Fin n → Prop) [DecidablePred p] (x y : Fin n → ℝ) (k σ μ : ℝ) (hxy : ∀ s, x s * Real.log 2 = y s) :
    (∑ s, v s * (if p s then Ideal.exp2 ((x s : EReal) - (σ : EReal)) else 0))
        * Ideal.div 1 ((∑ s, if p s then Ideal.exp2 ((x s : EReal) - (σ : EReal)) else 0) + Ideal.exp2 ((k : EReal) * (((Real.log 2)⁻¹ : ℝ) : EReal) - (σ : EReal)))
      = ∑ s, v s * Ideal.div (Ideal.exp ((if p s then (y s : EReal) else ⊥) - (μ : EReal)))
          ((∑ j, Ideal.exp ((if p j then (y j : EReal) else ⊥) - (μ : EReal))) + Ideal.exp ((k : EReal) - (μ : EReal))) := by
  set C : ℝ := Real.exp (μ - σ * Real.log 2) with hC
  have hl : Real.log 2 ≠ 0 := (Real.log_pos one_lt_two).ne'
  set e : Fin n → ℝ := fun s => if p s then Real.exp (y s - μ) else 0 with he
  have hw : ∀ s, (if p s then Ideal.exp2 ((x s : EReal) - (σ : EReal)) else 0) = ((e s * C : ℝ) : EReal) := fun s => by
    by_cases h : p s
    · simp only [he, if_pos h]
      rw [← EReal.coe_sub, exp2_coe, Real.rpow_def_of_pos two_pos, hC, ← Real.exp_add, ← hxy]
      congr 2; ring
    · simp only [he, if_neg h, zero_mul, EReal.coe_zero]
  have hk : Ideal.exp2 ((k : EReal) * (((Real.log 2)⁻¹ : ℝ) : EReal) - (σ : EReal)) = ((Real.exp (k - μ) * C : ℝ) : EReal) := by
    rw [← EReal.coe_mul, ← EReal.coe_sub, exp2_coe, Real.rpow_def_of_pos two_pos, hC, ← Real.exp_add]
    congr 2; field_simp; ring
  have hv : ∀ s, Ideal.exp ((if p s then (y s : EReal) else ⊥) - (μ : EReal)) = ((e s : ℝ) : EReal) := fun s => by
    by_cases h : p s
    · simp only [he, if_pos h]
      rw [← EReal.coe_sub, exp_coe]
    · simp only [he, if_neg h, EReal.bot_sub, EReal.coe_zero]
      rfl
  have hs : Ideal.exp ((k : EReal) - (μ : EReal)) = ((Real.exp (k - μ) : ℝ) : EReal) := by rw [← EReal.coe_sub, exp_coe]
  have hCp : 0 < C := Real.exp_pos _
  have hn : ∀ s, 0 ≤ e s := fun s => by
    by_cases h : p s
    · simp only [he, if_pos h]; exact (Real.exp_pos _).le
    · simp only [he, if_neg h]; exact le_refl _
  have hS : 0 < (∑ s, e s) + Real.exp (k - μ) := add_pos_of_nonneg_of_pos (Finset.sum_nonneg fun s _ => hn s) (Real.exp_pos _)
  simp only [hw, hk, hv, hs]
  rw [← coe_sum, ← coe_sum, ← Finset.sum_mul, ← EReal.coe_add, ← EReal.coe_add, ← add_mul, ← EReal.coe_one, div_coe _ _ (mul_pos hS hCp).ne',
    sum_mul_coe _ _ (by positivity)]
  refine Finset.sum_congr rfl fun s _ => ?_
  rw [div_coe _ _ hS.ne', mul_assoc, ← EReal.coe_mul]
  congr 2
  field_simp

end Cert.Swa
end
-- ==== Proof.SwaMath.lean ====
/-
  The windowed attention call's arithmetic at the ideal values: one element of what a grid point stores, as sums over all
  tokens restricted to the window.
-/
module

public import proofs.«01_k».proof.Proof.SwaRead
public import proofs.«01_k».proof.Proof.SwaSum

@[expose] public section
set_option maxRecDepth 16384
set_option maxHeartbeats 4000000
noncomputable section
namespace Cert.SwaIdeal.Swa

open Cert.SwaIdeal.Gen
open Idealize.ShloMosaic Idealize.ShloMosaic.TcCoe Idealize.SL.Sem Idealize.ShloMosaic.Tactic
open Cert.Swa

/-- The factor on the queries, `log 2` and `√64` inverted, exact. -/
def swaScale : EReal := (((Real.log 2)⁻¹ * 8⁻¹ : ℝ) : EReal)
/-- The factor on the sink, `log 2` inverted, exact. -/
def log2e : EReal := (((Real.log 2)⁻¹ : ℝ) : EReal)

theorem named_swaScale : Named.named (F := Ideal) (φ := .f32) κ "swa_scale" (0x3E38AA3B#32) = swaScale :=
  IdealRules.named_const.ideal_named_scalar _ _ _ _ rfl
theorem named_log2e : Named.named (F := Ideal) (φ := .f32) κ "log2e" (0x3FB8AA3B#32) = log2e :=
  IdealRules.named_const.ideal_named_scalar _ _ _ _ rfl

/-! The queries' rows. -/

theorem qRows0_lo (q : Vec Ideal S1x1x64x128 .f32) (d : Fin 64) (r : Fin 128) (h : d.val < 128) :
    qRows (F := Ideal) 0 q (ix2 ⟨d.val, h⟩ r) = q (ix4 0 0 d r) * swaScale := by
  unfold qRows
  pointwise []
  rw [named_swaScale]
theorem qRows0_hi (q : Vec Ideal S1x1x64x128 .f32) (d : Fin 64) (r : Fin 128) (h : 64 + d.val < 128) :
    qRows (F := Ideal) 0 q (ix2 ⟨64 + d.val, h⟩ r) = 0 := by
  unfold qRows
  pointwise []
theorem qRows1_lo (q : Vec Ideal S1x1x64x128 .f32) (d : Fin 64) (r : Fin 128) (h : d.val < 128) :
    qRows (F := Ideal) 1 q (ix2 ⟨d.val, h⟩ r) = 0 := by
  unfold qRows
  pointwise []
theorem qRows1_hi (q : Vec Ideal S1x1x64x128 .f32) (d : Fin 64) (r : Fin 128) (h : 64 + d.val < 128) :
    qRows (F := Ideal) 1 q (ix2 ⟨64 + d.val, h⟩ r) = q (ix4 0 0 d r) * swaScale := by
  unfold qRows
  pointwise []
  rw [named_swaScale]

/-- Row `d` of key head `j`. -/
def headRow (j : Fin 2) (d : Fin 64) : Fin 128 := ⟨64 * j.val + d.val, by omega⟩

/-- The other key head's rows add nothing. -/
theorem sum_rows (j : Fin 2) (q : Vec Ideal S1x1x64x128 .f32) (k : Fin 128 → EReal) (c : Fin 128) :
    ∑ x : Fin 128, k x * qRows (F := Ideal) j q (ix2 x c) = ∑ d : Fin 64, k (headRow j d) * (q (ix4 0 0 d c) * swaScale) := by
  rw [Fin.sum_univ_two_halves 64 64 rfl]
  match j with
  | 0 =>
    simp only [qRows0_lo, qRows0_hi, mul_zero, Finset.sum_const_zero, add_zero]
    exact Finset.sum_congr rfl fun d _ => congrArg (fun z => k z * _) (Fin.ext (by show d.val = 64 * 0 + d.val; omega))
  | 1 =>
    simp only [qRows1_lo, qRows1_hi, mul_zero, Finset.sum_const_zero, zero_add]
    exact Finset.sum_congr rfl fun d _ => congrArg (fun z => k z * _) (Fin.ext (by show 64 + d.val = 64 * 1 + d.val; omega))

/-- Column `c` of the `g`-th of four heads. -/
def col4 (g : Fin 4) (c : Fin 128) : Fin 512 := ⟨128 * g.val + c.val, by omega⟩

theorem pick4 (f0 f1 f2 f3 : Fin 128 → EReal) (g : Fin 4) (c : Fin 128) (l : Fin 512) (hl : l = col4 g c)
    (p0 : l.val < 128 → l.val < 128) (p1 : l.val - 128 < 128 → l.val - 128 < 128) (p2 : l.val - 128 - 128 < 128 → l.val - 128 - 128 < 128) (p3 : l.val - 128 - 128 - 128 < 128) :
    (if h : l.val < 128 then f0 ⟨l.val, p0 h⟩ else if h : l.val - 128 < 128 then f1 ⟨l.val - 128, p1 h⟩
      else if h : l.val - 128 - 128 < 128 then f2 ⟨l.val - 128 - 128, p2 h⟩ else f3 ⟨l.val - 128 - 128 - 128, p3⟩) = (![f0, f1, f2, f3] g) c := by
  have hv : l.val = 128 * g.val + c.val := congrArg Fin.val hl
  match g with
  | 0 => rw [dif_pos (by simp at hv; omega)]; exact congrArg f0 (Fin.ext (by simp at hv; simpa using hv))
  | 1 => rw [dif_neg (by simp at hv; omega), dif_pos (by simp at hv; omega)]; exact congrArg f1 (Fin.ext (by simp at hv; show l.val - 128 = c.val; omega))
  | 2 => rw [dif_neg (by simp at hv; omega), dif_neg (by simp at hv; omega), dif_pos (by simp at hv; omega)]; exact congrArg f2 (Fin.ext (by simp at hv; show l.val - 128 - 128 = c.val; omega))
  | 3 => rw [dif_neg (by simp at hv; omega), dif_neg (by simp at hv; omega), dif_neg (by simp at hv; omega)]; exact congrArg f3 (Fin.ext (by simp at hv; show l.val - 128 - 128 - 128 = c.val; omega))

section
variable (j : Fin 2) (q0 q1 q2 q3 : Vec Ideal S1x1x64x128 .f32) (k0 k1 k2 : Vec Ideal S1x128x128 .bf16) (r : Fin 128) (g : Fin 4) (c : Fin 128)

theorem scoresLo (h : r.val < 384) : scores (F := Ideal) j q0 q1 q2 q3 k0 k1 k2 (ix2 ⟨r.val, h⟩ (col4 g c))
    = ∑ d : Fin 64, k0 (ix3 0 r (headRow j d)) * ((![q0, q1, q2, q3] g) (ix4 0 0 d c) * swaScale) := by
  refine Eq.trans ?_ (sum_rows j ((![q0, q1, q2, q3]) g) (fun y => k0 (ix3 0 r y)) c)
  unfold scores
  generalize hl : col4 g c = l
  generalize ha0 : qRows (F := Ideal) j q0 = a0
  generalize ha1 : qRows (F := Ideal) j q1 = a1
  generalize ha2 : qRows (F := Ideal) j q2 = a2
  generalize ha3 : qRows (F := Ideal) j q3 = a3
  pointwise []
  refine Finset.sum_congr rfl fun x _ => congrArg₂ (· * ·) rfl ?_
  refine (pick4 (fun y => a0 (ix2 x y)) (fun y => a1 (ix2 x y)) (fun y => a2 (ix2 x y)) (fun y => a3 (ix2 x y)) g c l hl.symm (fun h => h) (fun h => h) (fun h => h) (by omega)).trans ?_
  subst ha0 ha1 ha2 ha3
  match g with
  | 0 => rfl
  | 1 => rfl
  | 2 => rfl
  | 3 => rfl

theorem scoresMid (h : 128 + r.val < 384) : scores (F := Ideal) j q0 q1 q2 q3 k0 k1 k2 (ix2 ⟨128 + r.val, h⟩ (col4 g c))
    = ∑ d : Fin 64, k1 (ix3 0 r (headRow j d)) * ((![q0, q1, q2, q3] g) (ix4 0 0 d c) * swaScale) := by
  refine Eq.trans ?_ (sum_rows j ((![q0, q1, q2, q3]) g) (fun y => k1 (ix3 0 r y)) c)
  unfold scores
  generalize hl : col4 g c = l
  generalize ha0 : qRows (F := Ideal) j q0 = a0
  generalize ha1 : qRows (F := Ideal) j q1 = a1
  generalize ha2 : qRows (F := Ideal) j q2 = a2
  generalize ha3 : qRows (F := Ideal) j q3 = a3
  pointwise []
  refine Finset.sum_congr rfl fun x _ => congrArg₂ (· * ·) rfl ?_
  refine (pick4 (fun y => a0 (ix2 x y)) (fun y => a1 (ix2 x y)) (fun y => a2 (ix2 x y)) (fun y => a3 (ix2 x y)) g c l hl.symm (fun h => h) (fun h => h) (fun h => h) (by omega)).trans ?_
  subst ha0 ha1 ha2 ha3
  match g with
  | 0 => rfl
  | 1 => rfl
  | 2 => rfl
  | 3 => rfl

theorem scoresHi (h : 256 + r.val < 384) : scores (F := Ideal) j q0 q1 q2 q3 k0 k1 k2 (ix2 ⟨256 + r.val, h⟩ (col4 g c))
    = ∑ d : Fin 64, k2 (ix3 0 r (headRow j d)) * ((![q0, q1, q2, q3] g) (ix4 0 0 d c) * swaScale) := by
  refine Eq.trans ?_ (sum_rows j ((![q0, q1, q2, q3]) g) (fun y => k2 (ix3 0 r y)) c)
  unfold scores
  generalize hl : col4 g c = l
  generalize ha0 : qRows (F := Ideal) j q0 = a0
  generalize ha1 : qRows (F := Ideal) j q1 = a1
  generalize ha2 : qRows (F := Ideal) j q2 = a2
  generalize ha3 : qRows (F := Ideal) j q3 = a3
  pointwise []
  refine Finset.sum_congr rfl fun x _ => congrArg₂ (· * ·) (by rw [dif_neg (by omega), dif_neg (by omega)]; exact congrArg (fun w => k2 (ix3 0 w x)) (Fin.ext (by show 256 + r.val - 128 - 128 = r.val; omega))) ?_
  refine (pick4 (fun y => a0 (ix2 x y)) (fun y => a1 (ix2 x y)) (fun y => a2 (ix2 x y)) (fun y => a3 (ix2 x y)) g c l hl.symm (fun h => h) (fun h => h) (fun h => h) (by omega)).trans ?_
  subst ha0 ha1 ha2 ha3
  match g with
  | 0 => rfl
  | 1 => rfl
  | 2 => rfl
  | 3 => rfl

end

/-! The tiles. -/

theorem tileLo_apply (mask : IVec S128x512 1) (s : FVec Ideal S384x512 .f32) (v : EReal) (r : Fin 128) (l : Fin 512) :
    tileLo (F := Ideal) mask s v (ix4 0 0 r l) = Scalar.select (mask (ix2 r l)) (Ideal.exp2 (s (ix2 ⟨r.val, by omega⟩ l) - v)) 0 := by
  unfold tileLo
  pointwise []
  rfl
theorem tileMid_apply (s : FVec Ideal S384x512 .f32) (v : EReal) (r : Fin 128) (l : Fin 512) :
    tileMid (F := Ideal) s v (ix4 0 0 r l) = Ideal.exp2 (s (ix2 ⟨128 + r.val, by omega⟩ l) - v) := by
  unfold tileMid
  pointwise []
  rfl
theorem tileHi_apply (mask : IVec S128x512 1) (s : FVec Ideal S384x512 .f32) (v : EReal) (r : Fin 128) (l : Fin 512) :
    tileHi (F := Ideal) mask s v (ix4 0 0 r l) = Scalar.select (mask (ix2 r l)) (Ideal.exp2 (s (ix2 ⟨256 + r.val, by omega⟩ l) - v)) 0 := by
  unfold tileHi
  pointwise []
  rfl

/-- The block of 128 tokens that sub-block `n` is. -/
def blk (i : grid0.Coords) (n : Fin 8) : Fin 64 := ⟨8 * (i 1).val + n.val, by have : (i 1).val < 8 := (i 1).isLt; omega⟩
def blkBefore (i : grid0.Coords) (n : Fin 8) : Fin 64 := ⟨(blk i n).val - 1, by omega⟩
def blkAfter (i : grid0.Coords) (n : Fin 8) : Fin 64 := ⟨min ((blk i n).val + 1) 63, by omega⟩

theorem word_lo : ∀ q n : Fin 8, Scalar.select (Scalar.cmpi .sgt (Scalar.addi (Scalar.muli (BitVec.ofNat 32 q.val) 8#32) (BitVec.ofNat 32 n.val)) 0#32) 0#32 256#32
    = if 0 < 8 * q.val + n.val then 0#32 else 256#32 := by decide +kernel
theorem word_hi : ∀ q n : Fin 8, Scalar.select (Scalar.cmpi .slt (Scalar.addi (Scalar.muli (BitVec.ofNat 32 q.val) 8#32) (BitVec.ofNat 32 n.val)) 63#32) 0#32 4294967040#32
    = if 8 * q.val + n.val < 63 then 0#32 else 4294967040#32 := by decide +kernel
theorem word_and : ∀ (g : Fin 4) (c : Fin 128), IntOp.andi (BitVec.ofNat 32 (128 * g.val + c.val)) 127#32 = BitVec.ofNat 32 c.val := by decide +kernel
theorem cmp_lo : ∀ r c : Fin 128, IntOp.cmpi .sge (IntOp.subi (BitVec.ofNat 32 r.val) (BitVec.ofNat 32 c.val)) 0#32 = if c.val ≤ r.val then 1#1 else 0#1 := by decide +kernel
theorem cmp_lo' : ∀ r c : Fin 128, IntOp.cmpi .sge (IntOp.subi (BitVec.ofNat 32 r.val) (BitVec.ofNat 32 c.val)) 256#32 = 0#1 := by decide +kernel
theorem cmp_hi : ∀ r c : Fin 128, IntOp.cmpi .sle (IntOp.subi (BitVec.ofNat 32 r.val) (BitVec.ofNat 32 c.val)) 0#32 = if r.val ≤ c.val then 1#1 else 0#1 := by decide +kernel
theorem cmp_hi' : ∀ r c : Fin 128, IntOp.cmpi .sle (IntOp.subi (BitVec.ofNat 32 r.val) (BitVec.ofNat 32 c.val)) 4294967040#32 = 0#1 := by decide +kernel

theorem maskLo_apply (i : grid0.Coords) (n : Fin 8) (r : Fin 128) (g : Fin 4) (c : Fin 128) :
    maskLo i n (ix2 r (col4 g c)) = if 0 < (blk i n).val ∧ c.val ≤ r.val then 1#1 else 0#1 := by
  unfold maskLo
  pointwise [k0_pay2]
  rw [show blockWord i n = Scalar.addi (Scalar.muli (BitVec.ofNat 32 (i 1).val) 8#32) (BitVec.ofNat 32 n.val) from rfl, word_lo (i 1) n]
  show IntOp.cmpi .sge (IntOp.subi (BitVec.ofNat 32 r.val) (IntOp.andi (BitVec.ofNat 32 (128 * g.val + c.val)) 127#32)) _ = _
  rw [word_and]
  by_cases h : 0 < 8 * (i 1).val + n.val
  · rw [if_pos h, cmp_lo]
    exact if_congr ⟨fun h' => ⟨h, h'⟩, fun h' => h'.2⟩ rfl rfl
  · rw [if_neg h, cmp_lo', if_neg (fun h' => h h'.1)]

theorem maskHi_apply (i : grid0.Coords) (n : Fin 8) (r : Fin 128) (g : Fin 4) (c : Fin 128) :
    maskHi i n (ix2 r (col4 g c)) = if (blk i n).val < 63 ∧ r.val ≤ c.val then 1#1 else 0#1 := by
  unfold maskHi
  pointwise [k0_pay2]
  rw [show blockWord i n = Scalar.addi (Scalar.muli (BitVec.ofNat 32 (i 1).val) 8#32) (BitVec.ofNat 32 n.val) from rfl, word_hi (i 1) n]
  show IntOp.cmpi .sle (IntOp.subi (BitVec.ofNat 32 r.val) (IntOp.andi (BitVec.ofNat 32 (128 * g.val + c.val)) 127#32)) _ = _
  rw [word_and]
  by_cases h : 8 * (i 1).val + n.val < 63
  · rw [if_pos h, cmp_hi]
    exact if_congr ⟨fun h' => ⟨h, h'⟩, fun h' => h'.2⟩ rfl rfl
  · rw [if_neg h, cmp_hi', if_neg (fun h' => h h'.1)]

theorem select_ite (p : Prop) [Decidable p] (a b : EReal) : Scalar.select (if p then 1#1 else 0#1) a b = if p then a else b := by
  by_cases h : p
  · rw [if_pos h, if_pos h]; rfl
  · rw [if_neg h, if_neg h]; rfl

/-! Where a chain's loads lie. -/

section
variable (i : grid0.Coords) (x0 : Vec Ideal S1x1 .f32) (x1 : Vec Ideal S1x8x64x1024 .f32) (x2 : Vec Ideal S1x8192x128 .bf16) (x3 : Vec Ideal S1x64x128x128 .bf16) (x4 : Vec Ideal S2x1x512 .f32)

theorem qAt_apply (h n : Fin 8) (d : Fin 64) (c : Fin 128) : qAt (F := Ideal) x1 h n (ix4 0 0 d c) = x1 (ix4 0 h d ⟨128 * n.val + c.val, by omega⟩) := by
  unfold qAt
  show x1 _ = x1 _
  congr 1
  funext a
  apply Fin.ext
  match a with
  | ⟨0, _⟩ => rfl
  | ⟨1, _⟩ => show h.val + 1 * 0 = h.val; omega
  | ⟨2, _⟩ => show 0 + 1 * d.val = d.val; omega
  | ⟨3, _⟩ => show 128 * n.val + 1 * c.val = 128 * n.val + c.val; omega

theorem ld_key (off : Fin 3 → ℕ) (b : Fin 64) (ho : off = ![0, 128 * b.val, 0]) (inb) (r x : Fin 128) :
    View.ld (Val := Elt Ideal) (e' := .bf16) x2 (Rect.unit (s := S1x8192x128) off S1x128x128.size inb) (ix3 0 r x) = x2 (ix3 0 (tok b r) x) := by
  subst ho
  show x2 _ = x2 _
  congr 1
  funext a
  apply Fin.ext
  match a with
  | ⟨0, _⟩ => rfl
  | ⟨1, _⟩ => show 128 * b.val + 1 * r.val = 128 * b.val + r.val; omega
  | ⟨2, _⟩ => show 0 + 1 * x.val = x.val; omega

theorem ld_val (off : Fin 4 → ℕ) (b : Fin 64) (j : Fin 2) (ho : off = ![0, b.val, 64 * j.val, 0]) (inb) (d : Fin 64) (r : Fin 128) :
    View.ld (Val := Elt Ideal) (e' := .bf16) x3 (Rect.unit (s := S1x64x128x128) off S1x1x64x128.size inb) (ix4 0 0 d r) = x3 (ix4 0 b (headRow j d) r) := by
  subst ho
  show x3 _ = x3 _
  congr 1
  funext a
  apply Fin.ext
  match a with
  | ⟨0, _⟩ => rfl
  | ⟨1, _⟩ => show b.val + 1 * 0 = b.val; omega
  | ⟨2, _⟩ => show 64 * j.val + 1 * d.val = 64 * j.val + d.val; omega
  | ⟨3, _⟩ => show 0 + 1 * r.val = r.val; omega

theorem off1_eq : ∀ (i : grid0.Coords) (n : Fin 8), k0_off1 i (BitVec.ofNat 32 n.val) = ![0, 128 * (blkBefore i n).val, 0] := by decide +kernel
theorem off4_eq : ∀ (i : grid0.Coords) (n : Fin 8), k0_off4 i (BitVec.ofNat 32 n.val) = ![0, (blkBefore i n).val, 64 * (0 : Fin 2).val, 0] := by decide +kernel
theorem off7_eq : ∀ (i : grid0.Coords) (n : Fin 8), k0_off7 i (BitVec.ofNat 32 n.val) = ![0, (blkBefore i n).val, 64 * (1 : Fin 2).val, 0] := by decide +kernel
theorem off2_eq : ∀ (i : grid0.Coords) (n : Fin 8), k0_off2 i (BitVec.ofNat 32 n.val) = ![0, 128 * (blk i n).val, 0] := by decide +kernel
theorem off5_eq : ∀ (i : grid0.Coords) (n : Fin 8), k0_off5 i (BitVec.ofNat 32 n.val) = ![0, (blk i n).val, 64 * (0 : Fin 2).val, 0] := by decide +kernel
theorem off8_eq : ∀ (i : grid0.Coords) (n : Fin 8), k0_off8 i (BitVec.ofNat 32 n.val) = ![0, (blk i n).val, 64 * (1 : Fin 2).val, 0] := by decide +kernel
theorem off3_eq : ∀ (i : grid0.Coords) (n : Fin 8), k0_off3 i (BitVec.ofNat 32 n.val) = ![0, 128 * (blkAfter i n).val, 0] := by decide +kernel
theorem off6_eq : ∀ (i : grid0.Coords) (n : Fin 8), k0_off6 i (BitVec.ofNat 32 n.val) = ![0, (blkAfter i n).val, 64 * (0 : Fin 2).val, 0] := by decide +kernel
theorem off9_eq : ∀ (i : grid0.Coords) (n : Fin 8), k0_off9 i (BitVec.ofNat 32 n.val) = ![0, (blkAfter i n).val, 64 * (1 : Fin 2).val, 0] := by decide +kernel

/-- The power of two of the scaled score of token `s`, for query `c` of sub-block `n` of head `h`, less the shift. -/
def expo (n : Fin 8) (j : Fin 2) (g : Fin 4) (c : Fin 128) (s : Fin 8192) : EReal :=
  Ideal.exp2 ((∑ d : Fin 64, x2 (ix3 0 s (headRow j d)) * (x1 (ix4 0 (headOf j g) d ⟨128 * n.val + c.val, by omega⟩) * swaScale)) - shiftOf (F := Ideal) x0)

theorem heads4 (j : Fin 2) (g : Fin 4) (n : Fin 8) (d : Fin 64) (c : Fin 128) :
    (![qAt (F := Ideal) x1 (headOf j 0) n, qAt (F := Ideal) x1 (headOf j 1) n, qAt (F := Ideal) x1 (headOf j 2) n, qAt (F := Ideal) x1 (headOf j 3) n] g) (ix4 0 0 d c)
      = x1 (ix4 0 (headOf j g) d ⟨128 * n.val + c.val, by omega⟩) := by
  match g with
  | 0 => exact qAt_apply x1 _ n d c
  | 1 => exact qAt_apply x1 _ n d c
  | 2 => exact qAt_apply x1 _ n d c
  | 3 => exact qAt_apply x1 _ n d c

theorem lo_apply (n : Fin 8) (j : Fin 2) (g : Fin 4) (r c : Fin 128) :
    loAt (F := Ideal) i x0 x1 x2 n j (ix4 0 0 r (col4 g c)) = if 0 < (blk i n).val ∧ c.val ≤ r.val then expo x0 x1 x2 n j g c (tok (blkBefore i n) r) else 0 := by
  unfold loAt
  rw [tileLo_apply, maskLo_apply, select_ite]
  unfold scoresAt expo
  simp only [scoresLo, heads4, ld_key x2 _ _ (off1_eq i n)]
theorem mid_apply (n : Fin 8) (j : Fin 2) (g : Fin 4) (r c : Fin 128) :
    midAt (F := Ideal) i x0 x1 x2 n j (ix4 0 0 r (col4 g c)) = expo x0 x1 x2 n j g c (tok (blk i n) r) := by
  unfold midAt
  rw [tileMid_apply]
  unfold scoresAt expo
  simp only [scoresMid, heads4, ld_key x2 _ _ (off2_eq i n)]
theorem hi_apply (n : Fin 8) (j : Fin 2) (g : Fin 4) (r c : Fin 128) :
    hiAt (F := Ideal) i x0 x1 x2 n j (ix4 0 0 r (col4 g c)) = if (blk i n).val < 63 ∧ r.val ≤ c.val then expo x0 x1 x2 n j g c (tok (blkAfter i n) r) else 0 := by
  unfold hiAt
  rw [tileHi_apply, maskHi_apply, select_ite]
  unfold scoresAt expo
  simp only [scoresHi, heads4, ld_key x2 _ _ (off3_eq i n)]

/-! The weighted sums. -/

theorem accum_val (v0 v1 v2 : Vec Ideal S1x1x64x128 .bf16) (p : Fin 3 → FVec Ideal S1x1x128x512 .bf16) (d : Fin 64) (l : Fin 512) (h : d.val < 80) :
    accum (F := Ideal) v0 v1 v2 (tilesOf p) (ix2 ⟨d.val, h⟩ l)
      = ∑ r, v0 (ix4 0 0 d r) * p 0 (ix4 0 0 r l) + ∑ r, v1 (ix4 0 0 d r) * p 1 (ix4 0 0 r l) + ∑ r, v2 (ix4 0 0 d r) * p 2 (ix4 0 0 r l) := by
  generalize hP : tilesOf (F := Ideal) p = P
  have e : ∀ (k : Fin 3) (r : Fin 128), P (ix4 0 k r l) = p k (ix4 0 0 r l) := fun k r => by subst hP; rfl
  simp only [← e]
  unfold accum
  pointwise []
  rw [Fin.sum_univ_tiles 3 128 rfl, Fin.sum_univ_three]
  refine congrArg₂ (· + ·) (congrArg₂ (· + ·) (Finset.sum_congr rfl fun r _ => ?_) (Finset.sum_congr rfl fun r _ => ?_)) (Finset.sum_congr rfl fun r _ => ?_)
  · rw [dif_pos (by show 0 * 128 + r.val < 128; omega)]
    exact congrArg₂ (· * ·) (congrArg (fun w => v0 (ix4 0 0 d w)) (Fin.ext (by show 0 * 128 + r.val = r.val; omega))) (congrArg₂ (fun u w => P (ix4 0 u w l)) (Fin.ext (by show (0 * 128 + r.val) / 128 = 0; omega)) (Fin.ext (by show (0 * 128 + r.val) % 128 = r.val; omega)))
  · rw [dif_neg (by show ¬ (1 * 128 + r.val < 128); omega), dif_pos (by show 1 * 128 + r.val - 128 < 128; omega)]
    exact congrArg₂ (· * ·) (congrArg (fun w => v1 (ix4 0 0 d w)) (Fin.ext (by show 1 * 128 + r.val - 128 = r.val; omega))) (congrArg₂ (fun u w => P (ix4 0 u w l)) (Fin.ext (by show (1 * 128 + r.val) / 128 = 1; omega)) (Fin.ext (by show (1 * 128 + r.val) % 128 = r.val; omega)))
  · rw [dif_neg (by show ¬ (2 * 128 + r.val < 128); omega), dif_neg (by show ¬ (2 * 128 + r.val - 128 < 128); omega)]
    exact congrArg₂ (· * ·) (congrArg (fun w => v2 (ix4 0 0 d w)) (Fin.ext (by show 2 * 128 + r.val - 128 - 128 = r.val; omega))) (congrArg₂ (fun u w => P (ix4 0 u w l)) (Fin.ext (by show (2 * 128 + r.val) / 128 = 2; omega)) (Fin.ext (by show (2 * 128 + r.val) % 128 = r.val; omega)))

theorem accum_one (v0 v1 v2 : Vec Ideal S1x1x64x128 .bf16) (p : Fin 3 → FVec Ideal S1x1x128x512 .bf16) (l : Fin 512) :
    accum (F := Ideal) v0 v1 v2 (tilesOf p) (ix2 64 l)
      = ∑ r, p 0 (ix4 0 0 r l) + ∑ r, p 1 (ix4 0 0 r l) + ∑ r, p 2 (ix4 0 0 r l) := by
  generalize hP : tilesOf (F := Ideal) p = P
  have e : ∀ (k : Fin 3) (r : Fin 128), P (ix4 0 k r l) = p k (ix4 0 0 r l) := fun k r => by subst hP; rfl
  simp only [← e]
  unfold accum
  pointwise []
  rw [Fin.sum_univ_tiles 3 128 rfl, Fin.sum_univ_three]
  exact congrArg₂ (· + ·) (congrArg₂ (· + ·) (Finset.sum_congr rfl fun r _ => congrArg₂ (fun u w => P (ix4 0 u w l)) (Fin.ext (by show (0 * 128 + r.val) / 128 = 0; omega)) (Fin.ext (by show (0 * 128 + r.val) % 128 = r.val; omega))) (Finset.sum_congr rfl fun r _ => congrArg₂ (fun u w => P (ix4 0 u w l)) (Fin.ext (by show (1 * 128 + r.val) / 128 = 1; omega)) (Fin.ext (by show (1 * 128 + r.val) % 128 = r.val; omega)))) (Finset.sum_congr rfl fun r _ => congrArg₂ (fun u w => P (ix4 0 u w l)) (Fin.ext (by show (2 * 128 + r.val) / 128 = 2; omega)) (Fin.ext (by show (2 * 128 + r.val) % 128 = r.val; omega)))

theorem divided_apply (v : EReal) (a : FVec Ideal S80x512 .f32) (sk : Vec Ideal S1x1x512 .f32) (d : Fin 64) (l : Fin 512) :
    divided (F := Ideal) v a sk (ix2 d l)
      = a (ix2 ⟨d.val, by omega⟩ l) * Ideal.div 1 (a (ix2 64 l) + Ideal.exp2 (sk (ix3 0 0 l) * log2e - v)) := by
  unfold divided
  pointwise []
  rw [named_log2e]
  rfl

/-- The weight of token `s`: nothing outside the window. -/
def wt (n : Fin 8) (j : Fin 2) (g : Fin 4) (c : Fin 128) (s : Fin 8192) : EReal :=
  if near (tok (blk i n) c) s then expo x0 x1 x2 n j g c s else 0

/-- Row `d` of the values of key head `j` at token `s`. -/
def valAt (j : Fin 2) (d : Fin 64) (s : Fin 8192) : EReal := x3 (ix4 0 ⟨s.val / 128, by omega⟩ (headRow j d) ⟨s.val % 128, by omega⟩)

theorem valAt_tok (j : Fin 2) (d : Fin 64) (b : Fin 64) (r : Fin 128) : valAt x3 j d (tok b r) = x3 (ix4 0 b (headRow j d) r) :=
  congrArg₂ (fun u w => x3 (ix4 0 u (headRow j d) w)) (Fin.ext (by show (128 * b.val + r.val) / 128 = b.val; omega)) (Fin.ext (by show (128 * b.val + r.val) % 128 = r.val; omega))

theorem ld_sink (j : Fin 2) (l : Fin 512) :
    View.ld (Val := Elt Ideal) (e' := .f32) x4 (Rect.unit (s := S2x1x512) ![j.val, 0, 0] S1x1x512.size (inb_sink j)) (ix3 0 0 l) = x4 (ix3 j 0 l) := by
  show x4 _ = x4 _
  congr 1
  funext a
  apply Fin.ext
  match a with
  | ⟨0, _⟩ => show j.val + 1 * 0 = j.val; omega
  | ⟨1, _⟩ => rfl
  | ⟨2, _⟩ => show 0 + 1 * l.val = l.val; omega

theorem sum_weights (n : Fin 8) (j : Fin 2) (g : Fin 4) (c : Fin 128) :
    ∑ r, loAt (F := Ideal) i x0 x1 x2 n j (ix4 0 0 r (col4 g c)) + ∑ r, midAt (F := Ideal) i x0 x1 x2 n j (ix4 0 0 r (col4 g c)) + ∑ r, hiAt (F := Ideal) i x0 x1 x2 n j (ix4 0 0 r (col4 g c))
      = ∑ s, wt i x0 x1 x2 n j g c s := by
  simp only [lo_apply, mid_apply, hi_apply]
  exact (window_sum (expo x0 x1 x2 n j g c) (blk i n) c (blkBefore i n) (blkAfter i n) rfl rfl).symm

theorem sum_values (n : Fin 8) (j : Fin 2) (g : Fin 4) (c : Fin 128) (d : Fin 64) :
    ∑ r, x3 (ix4 0 (blkBefore i n) (headRow j d) r) * loAt (F := Ideal) i x0 x1 x2 n j (ix4 0 0 r (col4 g c)) + ∑ r, x3 (ix4 0 (blk i n) (headRow j d) r) * midAt (F := Ideal) i x0 x1 x2 n j (ix4 0 0 r (col4 g c))
        + ∑ r, x3 (ix4 0 (blkAfter i n) (headRow j d) r) * hiAt (F := Ideal) i x0 x1 x2 n j (ix4 0 0 r (col4 g c))
      = ∑ s, valAt x3 j d s * wt i x0 x1 x2 n j g c s := by
  simp only [lo_apply, mid_apply, hi_apply, ← valAt_tok, mul_ite, mul_zero, wt]
  exact (window_sum (fun s => valAt x3 j d s * expo x0 x1 x2 n j g c s) (blk i n) c (blkBefore i n) (blkAfter i n) rfl rfl).symm

/-- One element of what a chain puts out. -/
theorem chainOut_apply (n : Fin 8) (j : Fin 2) (g : Fin 4) (c : Fin 128) (d : Fin 64) :
    chainOut (F := Ideal) i x0 x1 x2 x3 x4 n j (ix2 d (col4 g c))
      = (∑ s, valAt x3 j d s * wt i x0 x1 x2 n j g c s)
        * Ideal.div 1 ((∑ s, wt i x0 x1 x2 n j g c s) + Ideal.exp2 (x4 (ix3 j 0 (col4 g c)) * log2e - shiftOf (F := Ideal) x0)) := by
  unfold chainOut outAt
  rw [divided_apply, ld_sink, ← sum_values, ← sum_weights]
  match j with
  | 0 =>
    dsimp only
    rw [accum_val, accum_one]
    simp only [ld_val x3 _ _ _ (off4_eq i n), ld_val x3 _ _ _ (off5_eq i n), ld_val x3 _ _ _ (off6_eq i n)]
    rfl
  | 1 =>
    dsimp only
    rw [accum_val, accum_one]
    simp only [ld_val x3 _ _ _ (off7_eq i n), ld_val x3 _ _ _ (off8_eq i n), ld_val x3 _ _ _ (off9_eq i n)]
    rfl
end

end Cert.SwaIdeal.Swa
end
-- ==== Proof.SwaEntry.lean ====
/-
  What the windowed attention's pipeline finds in its arrays: the host operations before it, read at an index.
-/
module

public import proofs.«01_k».proof.Proof.SwaMath
public import proofs.«01_k».proof.Proof.Softmax
public import Idealize.ShloMosaic.Lib.StableHlo.RunRead

@[expose] public section
set_option maxRecDepth 16384
set_option maxHeartbeats 4000000
noncomputable section
namespace Cert.SwaIdeal.Swa

open Cert.SwaIdeal.Gen Cert.Swa
open Idealize.ShloMosaic Idealize.ShloMosaic.TcCoe Idealize.ShloMosaic.StableHlo

variable (m : (ℓ : Loc nD τ sig) → Buf (Elt Ideal) ℓ) (c : Dev nD)

def qOf (x : FVec Ideal S4x8192x8x64 .f32) : FVec Ideal S4x8x64x8192 .f32 :=
  transpose S4x8x64x8192 [0, 2, 3, 1] x transposes_S4x8192x8x64_S4x8x64x8192_0_2_3_1

def kOf (x : FVec Ideal S4x8192x2x64 .f32) : FVec Ideal S4x8192x128 .bf16 :=
  shapeCast S4x8192x128 (truncf .bf16 x bitsLt_bf16_f32 : FVec Ideal S4x8192x2x64 .bf16) shapeCasts_S4x8192x2x64_S4x8192x128

def vOf (x : FVec Ideal S4x8192x2x64 .f32) : FVec Ideal S4x64x128x128 .bf16 :=
  transpose S4x64x128x128 [0, 1, 3, 2] (shapeCast S4x64x128x128 (truncf .bf16 x bitsLt_bf16_f32 : FVec Ideal S4x8192x2x64 .bf16) shapeCasts_S4x8192x2x64_S4x64x128x128)
    transposes_S4x64x128x128_S4x64x128x128_0_1_3_2

def sinkOf (x : FVec Ideal S8 .f32) : FVec Ideal S2x1x512 .f32 :=
  shapeCast S2x1x512 (shapeCast S1024 (broadcastInDim S8x128 ![0] bcast_S8_S8x128_0 x) shapeCasts_S8x128_S1024) shapeCasts_S1024_S2x1x512

def shift (sk : FVec Ideal S8 .f32) (x y : FVec Ideal S64 .f32) : FVec Ideal S1x1 .f32 :=
  shapeCast S1x1 (maximumf (mulf (mulf (constant S_ .f32 0x413C5BB7#32) (Host.reduce FloatOps.maximumf (Host.absf x) (constant S_ .f32 0xFF800000#32) reducesTo_S64_S_d0 h_S_))
      (Host.reduce FloatOps.maximumf (Host.absf y) (constant S_ .f32 0xFF800000#32) reducesTo_S64_S_d0 h_S_))
    (Host.reduce FloatOps.maximumf (mulf sk (broadcastInDim S8 ![] bcast_S_S8 (constant S_ .f32 0x3FB8AA3B#32))) (constant S_ .f32 0xFF800000#32) reducesTo_S8_S_d0 h_S_)) shapeCasts_S_S1x1

theorem V_q : V m c main_v0 = qOf (m ((c.tc : Thread nD τ).loc main_arg0)) := by
  dsimp only [V, hostOps0, List.flatten_cons, List.flatten_nil, List.append_nil, List.cons_append, List.nil_append]
  after_reads_simp
  rfl
theorem V_k : V m c main_v2 = kOf (m ((c.tc : Thread nD τ).loc main_arg1)) := by
  dsimp only [V, hostOps0, List.flatten_cons, List.flatten_nil, List.append_nil, List.cons_append, List.nil_append]
  after_reads_simp
  rfl
theorem V_v : V m c main_v5 = vOf (m ((c.tc : Thread nD τ).loc main_arg2)) := by
  dsimp only [V, hostOps0, List.flatten_cons, List.flatten_nil, List.append_nil, List.cons_append, List.nil_append]
  after_reads_simp
  rfl
theorem V_sink : V m c main_v8 = sinkOf (m ((c.tc : Thread nD τ).loc main_arg3)) := by
  dsimp only [V, hostOps0, List.flatten_cons, List.flatten_nil, List.append_nil, List.cons_append, List.nil_append]
  after_reads_simp
  rfl
theorem V_shift : V m c main_v19 = shift (m ((c.tc : Thread nD τ).loc main_arg3)) (m ((c.tc : Thread nD τ).loc main_arg4)) (m ((c.tc : Thread nD τ).loc main_arg5)) := by
  dsimp only [V, hostOps0, List.flatten_cons, List.flatten_nil, List.append_nil, List.cons_append, List.nil_append]
  after_reads_simp
  rfl

theorem qOf_apply (x : FVec Ideal S4x8192x8x64 .f32) (B : Fin 4) (h : Fin 8) (d : Fin 64) (s : Fin 8192) : qOf x (ix4 B h d s) = x (ix4 B s h d) := by
  pointwise [qOf]

theorem kOf_apply (x : FVec Ideal S4x8192x2x64 .f32) (B : Fin 4) (s : Fin 8192) (j : Fin 2) (d : Fin 64) : kOf x (ix3 B s (headRow j d)) = x (ix4 B s j d) := by
  unfold headRow
  pointwise [kOf]

theorem vOf_apply (x : FVec Ideal S4x8192x2x64 .f32) (B : Fin 4) (s : Fin 8192) (j : Fin 2) (d : Fin 64) :
    vOf x (ix4 B ⟨s.val / 128, by omega⟩ (headRow j d) ⟨s.val % 128, by omega⟩) = x (ix4 B s j d) := by
  unfold headRow
  pointwise [vOf]

theorem sinkOf_apply (x : FVec Ideal S8 .f32) (j : Fin 2) (g : Fin 4) (c : Fin 128) : sinkOf x (ix3 j 0 (col4 g c)) = x (ix1 (headOf j g)) := by
  unfold col4
  pointwise [sinkOf]
  exact congrArg (fun u => x (ix1 u)) (Fin.ext (by show j.val * 4 + (128 * g.val + c.val) / 128 = 4 * j.val + g.val; omega))

theorem word_bound : ∃ r : ℝ, Ideal.ofBits .f32 0x413C5BB7#32 = (r : EReal) := by
  refine ⟨12344247 / 1048576, ?_⟩
  simp [Ideal.ofBits, Ideal.ieee, -EReal.coe_mul]; norm_num
theorem word_log2e : ∃ r : ℝ, Ideal.ofBits .f32 0x3FB8AA3B#32 = (r : EReal) := by
  refine ⟨12102203 / 8388608, ?_⟩
  simp [Ideal.ofBits, Ideal.ieee, -EReal.coe_mul]; norm_num

/-- The shift is finite where the sinks and both gains are. -/
theorem shift_coe (sk : FVec Ideal S8 .f32) (x y : FVec Ideal S64 .f32) (hs : ∀ i, ∃ r : ℝ, sk i = (r : EReal)) (hx : ∀ i, ∃ r : ℝ, x i = (r : EReal)) (hy : ∀ i, ∃ r : ℝ, y i = (r : EReal)) :
    ∃ σ : ℝ, shift sk x y (ix2 0 0) = (σ : EReal) := by
  pointwise [shift]
  have hmax : ∀ x : FVec Ideal S64 .f32, (∀ i, ∃ r : ℝ, x i = (r : EReal)) →
      ∃ μ : ℝ, Finset.fold max (⊥ : EReal) (fun k => FloatOps.absf (F := Ideal) (φ := .f32) (x (ix1 k))) Finset.univ = (μ : EReal) := by
    intro x hx
    choose f hf using hx
    obtain ⟨μ, hμ⟩ := Cert.Softmax.fold_max_coe (fun k : Fin 64 => |f (ix1 k)|)
    refine ⟨μ, hμ ▸ ?_⟩
    congr 1
    funext k
    rw [hf]
    exact (Cert.Softmax.abs_coe _).symm
  obtain ⟨a, ha⟩ := hmax x hx
  obtain ⟨b, hb⟩ := hmax y hy
  obtain ⟨l, hl⟩ := word_bound
  obtain ⟨e, he⟩ := word_log2e
  choose f hf using hs
  obtain ⟨k, hk⟩ := Cert.Softmax.fold_max_coe (fun k : Fin 8 => f (ix1 k) * e)
  have hk' : Finset.fold max (⊥ : EReal) (fun k : Fin 8 => sk (ix1 k) * (e : EReal)) Finset.univ = (k : EReal) := by
    rw [← hk]
    congr 1
    funext j
    rw [hf, EReal.coe_mul]
  refine ⟨max (l * a * b) k, ?_⟩
  rw [Cert.Softmax.word_negInf, hl, he, ha, hb, hk', ← EReal.coe_mul, ← EReal.coe_mul]
  exact (EReal.coe_strictMono.monotone.map_max).symm

end Cert.SwaIdeal.Swa
end
-- ==== Proof.SwaValue.lean ====
/-
  The windowed attention's result array: for every batch, head and query the values near the query, averaged by the softmax with the head's sink.
-/
module

public import proofs.«01_k».proof.Proof.SwaEntry
public import proofs.«01_k».proof.Proof.Gen.SwaIdeal.Value
public import Idealize.ShloMosaic.Lib.Pipeline.Value

@[expose] public section
set_option maxRecDepth 16384
set_option maxHeartbeats 1600000
noncomputable section
namespace Cert.SwaIdeal.Swa

open Cert.SwaIdeal.Gen Cert.Swa
open Idealize.ShloMosaic Idealize.ShloMosaic.TcCoe Idealize.ShloMosaic.StableHlo Idealize.SL.Sem
open Idealize.ShloMosaic.Pipeline (Dat)

/-- The key head of a query head. -/
def kvHead (h : Fin 8) : Fin 2 := ⟨h.val / 4, by omega⟩

/-- The scaled score of query `n` and key `s`. -/
def score (q : FVec Ideal S4x8192x8x64 .f32) (k : FVec Ideal S4x8192x2x64 .f32) (B : Fin 4) (h : Fin 8) (n s : Fin 8192) : EReal :=
  ∑ d : Fin 64, k (ix4 B s (kvHead h) d) * (q (ix4 B n h d) * swaScale)

/-- The weight of key `s` for query `n`: nothing outside the window. -/
def weight (σ : EReal) (q : FVec Ideal S4x8192x8x64 .f32) (k : FVec Ideal S4x8192x2x64 .f32) (B : Fin 4) (h : Fin 8) (n s : Fin 8192) : EReal :=
  if near n s then Ideal.exp2 (score q k B h n s - σ) else 0

/-- The result as a function of the arguments. -/
def attn (σ : EReal) (q : FVec Ideal S4x8192x8x64 .f32) (k v : FVec Ideal S4x8192x2x64 .f32) (sk : FVec Ideal S8 .f32) : FVec Ideal S4x8x64x8192 .bf16 := fun i =>
  (∑ s : Fin 8192, v (ix4 (i 0) s (kvHead (i 1)) (i 2)) * weight σ q k (i 0) (i 1) (i 3) s)
    * Ideal.div 1 ((∑ s : Fin 8192, weight σ q k (i 0) (i 1) (i 3) s) + Ideal.exp2 (sk (ix1 (i 1)) * log2e - σ))

variable (m : (ℓ : Loc nD τ sig) → Buf (Elt Ideal) ℓ) (ρ : Dev nD → PrngReg) (c : Dev nD)

/-- Where the windows' blocks lie: point `t` takes batch `t / 8` and the `t mod 8`th tile of queries. -/
theorem idx5 : ∀ t : Fin cfg0.N, win0_5.index t = ![t.val / 8, 0, 0, t.val % 8] :=
  (by decide +kernel : ∀ t : Fin grid0.N, win0_5.index t = ![t.val / 8, 0, 0, t.val % 8])
theorem idx1 : ∀ t : Fin cfg0.N, win0_1.index t = ![t.val / 8, 0, 0, t.val % 8] :=
  (by decide +kernel : ∀ t : Fin grid0.N, win0_1.index t = ![t.val / 8, 0, 0, t.val % 8])
theorem idx2 : ∀ t : Fin cfg0.N, win0_2.index t = ![t.val / 8, 0, 0] :=
  (by decide +kernel : ∀ t : Fin grid0.N, win0_2.index t = ![t.val / 8, 0, 0])
theorem idx3 : ∀ t : Fin cfg0.N, win0_3.index t = ![t.val / 8, 0, 0, 0] :=
  (by decide +kernel : ∀ t : Fin grid0.N, win0_3.index t = ![t.val / 8, 0, 0, 0])
theorem idx4 : ∀ t : Fin cfg0.N, win0_4.index t = ![0, 0, 0] :=
  (by decide +kernel : ∀ t : Fin grid0.N, win0_4.index t = ![0, 0, 0])
theorem coord1 : ∀ t : Fin cfg0.N, ((grid0.coords t) 1).val = t.val % 8 :=
  (by decide +kernel : ∀ t : Fin grid0.N, ((grid0.coords t) 1).val = t.val % 8)

theorem lt_N (t : Fin cfg0.N) : t.val < 32 := t.isLt

def bat (t : Fin cfg0.N) : Fin 4 := ⟨t.val / 8, by have := lt_N t; omega⟩

theorem read1 (f : FVec Ideal S4x8x64x8192 .f32) (t : Fin cfg0.N) (h : Fin 8) (d : Fin 64) (p : Fin 1024) :
    ((cfg0.win 1).blk t).view.read (Elt Ideal) f (ix4 0 h d p) = f (ix4 (bat t) h d ⟨1024 * (t.val % 8) + p.val, by omega⟩) := by
  rw [View.read_apply]
  show f _ = _
  congr 1
  funext a
  apply Fin.ext
  match a with
  | ⟨0, _⟩ => show win0_1.index t 0 * 1 + 1 * 0 = t.val / 8; rw [idx1]; simp
  | ⟨1, _⟩ => show win0_1.index t 1 * 8 + 1 * h.val = h.val; rw [idx1]; simp
  | ⟨2, _⟩ => show win0_1.index t 2 * 64 + 1 * d.val = d.val; rw [idx1]; simp
  | ⟨3, _⟩ => show win0_1.index t 3 * 1024 + 1 * p.val = 1024 * (t.val % 8) + p.val; rw [idx1]; show t.val % 8 * 1024 + 1 * p.val = _; omega

theorem read2 (f : FVec Ideal S4x8192x128 .bf16) (t : Fin cfg0.N) (s : Fin 8192) (x : Fin 128) :
    ((cfg0.win 2).blk t).view.read (Elt Ideal) f (ix3 0 s x) = f (ix3 (bat t) s x) := by
  rw [View.read_apply]
  show f _ = _
  congr 1
  funext a
  apply Fin.ext
  match a with
  | ⟨0, _⟩ => show win0_2.index t 0 * 1 + 1 * 0 = t.val / 8; rw [idx2]; simp
  | ⟨1, _⟩ => show win0_2.index t 1 * 8192 + 1 * s.val = s.val; rw [idx2]; simp
  | ⟨2, _⟩ => show win0_2.index t 2 * 128 + 1 * x.val = x.val; rw [idx2]; simp

theorem read3 (f : FVec Ideal S4x64x128x128 .bf16) (t : Fin cfg0.N) (b : Fin 64) (x r : Fin 128) :
    ((cfg0.win 3).blk t).view.read (Elt Ideal) f (ix4 0 b x r) = f (ix4 (bat t) b x r) := by
  rw [View.read_apply]
  show f _ = _
  congr 1
  funext a
  apply Fin.ext
  match a with
  | ⟨0, _⟩ => show win0_3.index t 0 * 1 + 1 * 0 = t.val / 8; rw [idx3]; simp
  | ⟨1, _⟩ => show win0_3.index t 1 * 64 + 1 * b.val = b.val; rw [idx3]; simp
  | ⟨2, _⟩ => show win0_3.index t 2 * 128 + 1 * x.val = x.val; rw [idx3]; simp
  | ⟨3, _⟩ => show win0_3.index t 3 * 128 + 1 * r.val = r.val; rw [idx3]; simp

theorem read4 (f : FVec Ideal S2x1x512 .f32) (t : Fin cfg0.N) (j : Fin 2) (l : Fin 512) :
    ((cfg0.win 4).blk t).view.read (Elt Ideal) f (ix3 j 0 l) = f (ix3 j 0 l) := by
  rw [View.read_apply]
  show f _ = _
  congr 1
  funext a
  apply Fin.ext
  match a with
  | ⟨0, _⟩ => show win0_4.index t 0 * 2 + 1 * j.val = j.val; rw [idx4]; simp
  | ⟨1, _⟩ => show win0_4.index t 1 * 1 + 1 * 0 = 0; rw [idx4]; simp
  | ⟨2, _⟩ => show win0_4.index t 2 * 512 + 1 * l.val = l.val; rw [idx4]; simp

abbrev A0 : FVec Ideal S4x8192x8x64 .f32 := m ((c.tc : Thread nD τ).loc main_arg0)
abbrev A1 : FVec Ideal S4x8192x2x64 .f32 := m ((c.tc : Thread nD τ).loc main_arg1)
abbrev A2 : FVec Ideal S4x8192x2x64 .f32 := m ((c.tc : Thread nD τ).loc main_arg2)
abbrev A3 : FVec Ideal S8 .f32 := m ((c.tc : Thread nD τ).loc main_arg3)
abbrev A4 : FVec Ideal S64 .f32 := m ((c.tc : Thread nD τ).loc main_arg4)
abbrev A5 : FVec Ideal S64 .f32 := m ((c.tc : Thread nD τ).loc main_arg5)

/-- The shift the kernel subtracts. -/
def sig0 : EReal := shift (A3 m c) (A4 m c) (A5 m c) (ix2 0 0)

theorem shiftOf_blk (t : Fin cfg0.N) : shiftOf (F := Ideal) (iblk m c 0 t) = sig0 m c := by
  unfold shiftOf sig0 iblk
  show ((cfg0.win 0).blk t).view.read (Elt Ideal) (V m c main_v19) _ = _
  rw [View.read_apply]
  show V m c main_v19 _ = _
  rw [V_shift]
  congr 1
  funext a
  apply Fin.ext
  match a with
  | ⟨0, _⟩ => exact Nat.lt_one_iff.mp (Fin.isLt _)
  | ⟨1, _⟩ => exact Nat.lt_one_iff.mp (Fin.isLt _)

/-- The token of query `r` of sub-block `n` of a point's tile. -/
def query (t : Fin cfg0.N) (n : Fin 8) (r : Fin 128) : Fin 8192 := tok (blk (grid0.coords t) n) r

theorem query_val (t : Fin cfg0.N) (n : Fin 8) (r : Fin 128) : (query t n r).val = 1024 * (t.val % 8) + (128 * n.val + r.val) := by
  show 128 * (8 * ((grid0.coords t) 1).val + n.val) + r.val = _
  rw [coord1]; omega

theorem kvHead_headOf (j : Fin 2) (g : Fin 4) : kvHead (headOf j g) = j := Fin.ext (by show (4 * j.val + g.val) / 4 = j.val; omega)

theorem wt_blk (t : Fin cfg0.N) (n : Fin 8) (j : Fin 2) (g : Fin 4) (r : Fin 128) (s : Fin 8192) :
    wt (grid0.coords t) (iblk m c 0 t) (iblk m c 1 t) (iblk m c 2 t) n j g r s = weight (sig0 m c) (A0 m c) (A1 m c) (bat t) (headOf j g) (query t n r) s := by
  unfold wt weight expo score
  rw [shiftOf_blk, kvHead_headOf]
  refine if_congr Iff.rfl (congrArg (fun z => Ideal.exp2 (z - sig0 m c)) (Finset.sum_congr rfl fun d _ => ?_)) rfl
  refine congrArg₂ (· * ·) ((read2 (V m c main_v2) t s _).trans (by rw [V_k]; exact kOf_apply _ _ _ _ _))
    (congrArg (· * swaScale) ((read1 (V m c main_v0) t _ d ⟨128 * n.val + r.val, by omega⟩).trans ?_))
  rw [V_q]
  refine (qOf_apply _ _ _ _ _).trans ?_
  exact congrArg (fun u => A0 m c (ix4 (bat t) u (headOf j g) d)) (Fin.ext (query_val t n r).symm)

theorem val_blk (t : Fin cfg0.N) (j : Fin 2) (d : Fin 64) (s : Fin 8192) : valAt (iblk m c 3 t) j d s = A2 m c (ix4 (bat t) s j d) := by
  unfold valAt
  refine (read3 (V m c main_v5) t _ _ _).trans ?_
  rw [V_v]
  exact vOf_apply _ _ _ _ _

/-- What a point leaves in its block, at an index. -/
theorem out_apply (t : Fin cfg0.N) (n : Fin 8) (j : Fin 2) (g : Fin 4) (r : Fin 128) (d : Fin 64) :
    outsAt0 (F := Ideal) m c t (ix4 0 (headOf j g) d ⟨128 * n.val + r.val, by omega⟩)
      = attn (sig0 m c) (A0 m c) (A1 m c) (A2 m c) (A3 m c) (ix4 (bat t) (headOf j g) d (query t n r)) := by
  rw [out_eq]
  have e1 : (⟨(128 * n.val + r.val) / 128, by omega⟩ : Fin 8) = n := Fin.ext (by show (128 * n.val + r.val) / 128 = n.val; omega)
  have e2 : (⟨(4 * j.val + g.val) / 4, by omega⟩ : Fin 2) = j := Fin.ext (by show (4 * j.val + g.val) / 4 = j.val; omega)
  have e3 : (⟨128 * ((4 * j.val + g.val) % 4) + (128 * n.val + r.val) % 128, by omega⟩ : Fin 512) = col4 g r :=
    Fin.ext (by show 128 * ((4 * j.val + g.val) % 4) + (128 * n.val + r.val) % 128 = 128 * g.val + r.val; omega)
  show chainOut (F := Ideal) (grid0.coords t) (iblk m c 0 t) (iblk m c 1 t) (iblk m c 2 t) (iblk m c 3 t) (iblk m c 4 t) ⟨(128 * n.val + r.val) / 128, _⟩ ⟨(4 * j.val + g.val) / 4, _⟩
    (ix2 d ⟨128 * ((4 * j.val + g.val) % 4) + (128 * n.val + r.val) % 128, _⟩) = _
  rw [e1, e2, e3, chainOut_apply, shiftOf_blk]
  simp only [wt_blk, val_blk]
  have hs : (iblk m c 4 t : Vec Ideal S2x1x512 .f32) (ix3 j 0 (col4 g r)) = A3 m c (ix1 (headOf j g)) := by
    refine (read4 (V m c main_v8) t j _).trans ?_
    rw [V_sink]
    exact sinkOf_apply _ _ _ _
  rw [hs]
  show _ = (∑ s : Fin 8192, A2 m c (ix4 (bat t) s (kvHead (headOf j g)) d) * weight (sig0 m c) (A0 m c) (A1 m c) (bat t) (headOf j g) (query t n r) s) * _
  rw [kvHead_headOf]
  rfl

/-- The same at any index of the block, against the array's index it stands for. -/
theorem out_emb (t : Fin cfg0.N) (y : S1x8x64x1024.Idx) :
    outsAt0 (F := Ideal) m c t y = attn (sig0 m c) (A0 m c) (A1 m c) (A2 m c) (A3 m c) (((cfg0.win 5).blk t).view.emb y) := by
  obtain ⟨p, h, d, l, rfl⟩ : ∃ (p : Fin 1) (h : Fin 8) (d : Fin 64) (l : Fin 1024), y = ix4 p h d l := ⟨y 0, y 1, y 2, y 3, by
    funext a
    match a with
    | ⟨0, _⟩ => rfl
    | ⟨1, _⟩ => rfl
    | ⟨2, _⟩ => rfl
    | ⟨3, _⟩ => rfl⟩
  obtain rfl : p = 0 := Subsingleton.elim _ _
  obtain ⟨j, g, rfl⟩ : ∃ j g, h = headOf j g := ⟨⟨h.val / 4, by omega⟩, ⟨h.val % 4, by omega⟩, Fin.ext (by show h.val = 4 * (h.val / 4) + h.val % 4; omega)⟩
  obtain ⟨n, r, rfl⟩ : ∃ (n : Fin 8) (r : Fin 128), l = ⟨128 * n.val + r.val, by omega⟩ :=
    ⟨⟨l.val / 128, by omega⟩, ⟨l.val % 128, by omega⟩, Fin.ext (by show l.val = 128 * (l.val / 128) + l.val % 128; omega)⟩
  rw [out_apply]
  congr 1
  funext a
  apply Fin.ext
  match a with
  | ⟨0, _⟩ => show t.val / 8 = win0_5.index t 0 * 1 + 1 * 0; rw [idx5]; simp
  | ⟨1, _⟩ => show (headOf j g).val = win0_5.index t 1 * 8 + 1 * (headOf j g).val; rw [idx5]; simp
  | ⟨2, _⟩ => show d.val = win0_5.index t 2 * 64 + 1 * d.val; rw [idx5]; simp
  | ⟨3, _⟩ => show (query t n r).val = win0_5.index t 3 * 1024 + 1 * (128 * n.val + r.val); rw [idx5, query_val]; show _ = t.val % 8 * 1024 + 1 * (128 * n.val + r.val); omega

/-- What a point writes back is its block of the result. -/
theorem flushed_eq (t : Fin cfg0.N) :
    (dats (F := Ideal) m 0 c).flushed 5 t = ((cfg0.win 5).blk t).view.read (Elt Ideal) (attn (sig0 m c) (A0 m c) (A1 m c) (A2 m c) (A3 m c)) := by
  rw [Cert.SwaIdeal.Value.flushed5]
  funext y
  rw [View.read_apply]
  exact out_emb m c t y

theorem flush5 : ∀ t : Fin cfg0.N, (cfg0.win 5).flush t = true :=
  (by decide +kernel : ∀ t : Fin grid0.N, win0_5.flush t = true)

theorem xsize5 : ∀ t : Fin cfg0.N, win0_5.xsize (grid0.coords t) = ![1, 8, 64, 1024] :=
  (by decide +kernel : ∀ t : Fin grid0.N, win0_5.xsize (grid0.coords t) = ![1, 8, 64, 1024])

theorem cover (i : S4x8x64x8192.Idx) : ∃ t : Fin cfg0.N, (cfg0.win 5).flush t = true ∧ i ∈ ((cfg0.win 5).blk t).view.set := by
  have h0 : (i 0).val < 4 := (i 0).isLt
  have h1 : (i 1).val < 8 := (i 1).isLt
  have h2 : (i 2).val < 64 := (i 2).isLt
  have h3 : (i 3).val < 8192 := (i 3).isLt
  refine ⟨⟨8 * (i 0).val + (i 3).val / 1024, (by omega : _ < 32)⟩, flush5 _, ?_⟩
  set t : Fin cfg0.N := ⟨8 * (i 0).val + (i 3).val / 1024, (by omega : _ < 32)⟩ with ht
  show i ∈ ((View.whole main_v20).slice (win0_5.rect t)).set
  rw [View.set_slice_whole, Rect.mem_set_unit]
  have e0 : t.val / 8 = (i 0).val := by show (8 * (i 0).val + (i 3).val / 1024) / 8 = _; omega
  have e1 : t.val % 8 = (i 3).val / 1024 := by show (8 * (i 0).val + (i 3).val / 1024) % 8 = _; omega
  intro a
  match a with
  | ⟨0, _⟩ => show win0_5.index t 0 * 1 ≤ (i 0).val ∧ (i 0).val < win0_5.index t 0 * 1 + win0_5.xsize (grid0.coords t) 0
              rw [idx5, xsize5]; show t.val / 8 * 1 ≤ _ ∧ _ < t.val / 8 * 1 + 1; omega
  | ⟨1, _⟩ => show win0_5.index t 1 * 8 ≤ (i 1).val ∧ (i 1).val < win0_5.index t 1 * 8 + win0_5.xsize (grid0.coords t) 1
              rw [idx5, xsize5]; show 0 * 8 ≤ _ ∧ _ < 0 * 8 + 8; omega
  | ⟨2, _⟩ => show win0_5.index t 2 * 64 ≤ (i 2).val ∧ (i 2).val < win0_5.index t 2 * 64 + win0_5.xsize (grid0.coords t) 2
              rw [idx5, xsize5]; show 0 * 64 ≤ _ ∧ _ < 0 * 64 + 64; omega
  | ⟨3, _⟩ => show win0_5.index t 3 * 1024 ≤ (i 3).val ∧ (i 3).val < win0_5.index t 3 * 1024 + win0_5.xsize (grid0.coords t) 3
              rw [idx5, xsize5]; show t.val % 8 * 1024 ≤ _ ∧ _ < t.val % 8 * 1024 + 1024; omega

/-- The result array after the run. -/
theorem final : (dats (F := Ideal) m 0 c).arrAt 5 cfg0.N = attn (sig0 m c) (A0 m c) (A1 m c) (A2 m c) (A3 m c) :=
  (dats (F := Ideal) m 0 c).arrAt_eq_of_cover 5 _ (fun t _ => flushed_eq m c t) cover

/-- The run: the result at the weighted averages, the arguments as launched. -/
theorem run : θ_run defs (onTc (τ := τ) (main (F := Ideal))) ⟨m, fun _ => 0, ρ⟩ (fun r => (∀ c : Dev nD,
      r.2.mem ((c.tc : Thread nD τ).loc main_v20) = attn (sig0 m c) (A0 m c) (A1 m c) (A2 m c) (A3 m c))
      ∧ ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0)) :=
  θ_run_and ((θ_run defs _ _).mono (fun _ h c => ((h c).1).trans (final m c)) (Cert.SwaIdeal.Value.run_blocks m ρ)) (frame m ρ)

end Cert.SwaIdeal.Swa
end
-- ==== Proof.SwaRef.lean ====
/-
  The windowed attention's reference at an index.
-/
module

public import proofs.«01_k».proof.Proof.SwaValue
public import proofs.«01_k».proof.Proof.Gen.SwaRefIdeal.Read
public import Idealize.ShloMosaic.Lib.Pointwise

@[expose] public section
set_option maxRecDepth 16384
set_option maxHeartbeats 4000000
noncomputable section
namespace Cert.SwaRefIdeal.Swa

open Cert.SwaRefIdeal.Read Cert.Swa
open Cert.SwaIdeal.Swa (kvHead score weight attn)
open Idealize.ShloMosaic

/-- The absolute difference of two tokens' numbers, as words. -/
theorem absi_sub (a b : ℕ) (ha : a < 8192) (hb : b < 8192) :
    (IntOp.absi (IntOp.subi (BitVec.ofNat 32 a) (BitVec.ofNat 32 b))).toNat = (a - b) + (b - a) := by
  show (if (BitVec.ofNat 32 a - BitVec.ofNat 32 b).msb then -(BitVec.ofNat 32 a - BitVec.ofNat 32 b) else BitVec.ofNat 32 a - BitVec.ofNat 32 b).toNat = _
  rw [BitVec.msb_eq_decide]
  rcases le_or_gt b a with h | h
  · have e : (BitVec.ofNat 32 a - BitVec.ofNat 32 b).toNat = a - b := by
      rw [BitVec.toNat_sub, BitVec.toNat_ofNat, BitVec.toNat_ofNat]; omega
    rw [if_neg (by rw [e, decide_eq_true_eq]; omega), e]; omega
  · have e : (BitVec.ofNat 32 a - BitVec.ofNat 32 b).toNat = 2 ^ 32 - (b - a) := by
      rw [BitVec.toNat_sub, BitVec.toNat_ofNat, BitVec.toNat_ofNat]; omega
    rw [if_pos (by rw [e, decide_eq_true_eq]; omega), BitVec.toNat_neg, e]; omega

/-- The mask's word. -/
theorem near_word (n s : Fin 8192) :
    IntOp.cmpi .sle (IntOp.absi (IntOp.subi (BitVec.ofNat 32 n.val) (BitVec.ofNat 32 s.val))) 128#32 = if near n s then 1#1 else 0#1 := by
  have e := absi_sub n.val s.val n.isLt s.isLt
  have hn := n.isLt
  have hs := s.isLt
  generalize IntOp.absi (IntOp.subi (BitVec.ofNat 32 n.val) (BitVec.ofNat 32 s.val)) = x at e
  show BitVec.ofBool (x.sle 128#32) = _
  rw [BitVec.sle_eq_decide, BitVec.toInt_eq_toNat_of_lt (by rw [e]; omega), e]
  by_cases h : near n s
  · rw [if_pos h, decide_eq_true]
    · rfl
    · obtain ⟨h1, h2⟩ := h
      show ((n.val - s.val + (s.val - n.val) : ℕ) : ℤ) ≤ 128
      omega
  · rw [if_neg h, decide_eq_false]
    · rfl
    · intro h'
      have h'' : ((n.val - s.val + (s.val - n.val) : ℕ) : ℤ) ≤ 128 := h'
      exact h ⟨by omega, by omega⟩

def sc (q : FVec Ideal S4x8192x8x64 .f32) (k : FVec Ideal S4x8192x2x64 .f32) (B : Fin 4) (h : Fin 8) (n s : Fin 8192) : EReal :=
  Ideal.div (∑ d : Fin 64, q (ix4 B n h d) * k (ix4 B s (kvHead h) d)) (Ideal.ofBits .f32 0x41000000#32)

theorem ref_dot (q : FVec Ideal S4x8192x8x64 .f32) (k : FVec Ideal S4x8192x2x64 .f32) (B : Fin 4) (h : Fin 8) (n s : Fin 8192) :
    val_main_v4 (F := Ideal) q k (ix4 B h n s) = sc q k B h n s := by
  unfold sc kvHead
  pointwise [val_main_v4, val_main_v3, val_main_v2, val_main_v1, val_main_v0, val_main_cst]

theorem ref_mask (B : Fin 4) (h : Fin 8) (n s : Fin 8192) :
    val_main_call0_v1 (F := Ideal) (ix4 B h n s) = if near n s then 1#1 else 0#1 := by
  rw [← near_word]
  pointwise [val_main_call0_v1, val_main_v13, val_main_v12, val_main_c, val_main_v11, val_main_v10, val_main_v9, val_main_v8, val_main_v7, val_main_v6, val_main_v5]

theorem ref_sc (q : FVec Ideal S4x8192x8x64 .f32) (k : FVec Ideal S4x8192x2x64 .f32) (B : Fin 4) (h : Fin 8) (n s : Fin 8192) :
    val_main_v14 (F := Ideal) q k (ix4 B h n s) = if near n s then sc q k B h n s else ⊥ := by
  rw [val_main_v14_apply, ref_mask, ref_dot, Cert.SwaIdeal.Swa.select_ite, val_main_call0_v2_apply, val_main_call0_v0_apply, val_main_cst_0_apply]
  refine if_congr Iff.rfl rfl ?_
  exact Cert.Softmax.word_negInf

/-- A row's maximum, as a fold over its columns. -/
theorem max_apply (y : FVec Ideal S4x8x8192x8192 .f32) (z : FVec Ideal S_ .f32) (B : Fin 4) (h : Fin 8) (n : Fin 8192) :
    Host.reduce FloatOps.maximumf y z Gen.reducesTo_S4x8x8192x8192_S4x8x8192_d3 Gen.h_S_ (ix3 B h n)
      = Finset.univ.fold max (z (Shape.Idx.first Gen.h_S_)) (fun s : Fin 8192 => y (ix4 B h n s)) := by
  pointwise

/-- The larger of a row's maximum and the head's sink. -/
theorem ref_max (q : FVec Ideal S4x8192x8x64 .f32) (k : FVec Ideal S4x8192x2x64 .f32) (sk : FVec Ideal S8 .f32) (B : Fin 4) (h : Fin 8) (n : Fin 8192) :
    val_main_v19 (F := Ideal) q k sk (ix4 B h n 0)
      = max (Finset.univ.fold max ⊥ (fun s => if near n s then sc q k B h n s else ⊥)) (sk (ix1 h)) := by
  have e1 : val_main_v17 (F := Ideal) q k (ix4 B h n 0) = Finset.univ.fold max ⊥ (fun s => if near n s then sc q k B h n s else ⊥) := by
    have e : val_main_v17 (F := Ideal) q k (ix4 B h n 0) = val_main_v16 (F := Ideal) q k (ix3 B h n) := by
      unfold val_main_v17
      generalize val_main_v16 (F := Ideal) q k = y
      pointwise []
    rw [e]
    unfold val_main_v16
    rw [max_apply, val_main_cst_1_apply]
    simp only [ref_sc]
    exact congrArg (fun z => Finset.univ.fold max z (fun s => if near n s then sc q k B h n s else ⊥)) Cert.Softmax.word_negInf
  have e2 : val_main_v18 (F := Ideal) sk (ix4 B h n 0) = sk (ix1 h) := by
    pointwise [val_main_v18, val_main_v15]
  rw [val_main_v19_apply, e1, e2]
  rfl

/-- The reference's result, from its scores and their rows' maxima. -/
theorem ref_apply (q : FVec Ideal S4x8192x8x64 .f32) (k v : FVec Ideal S4x8192x2x64 .f32) (sk : FVec Ideal S8 .f32) (B : Fin 4) (h : Fin 8) (d : Fin 64) (n : Fin 8192) :
    val_main_v36 (F := Ideal) q k v sk (ix4 B h d n) = ∑ s : Fin 8192, v (ix4 B s (kvHead h) d) *
      Ideal.div (Ideal.exp (val_main_v14 (F := Ideal) q k (ix4 B h n s) - val_main_v19 (F := Ideal) q k sk (ix4 B h n 0)))
        ((∑ j : Fin 8192, Ideal.exp (val_main_v14 (F := Ideal) q k (ix4 B h n j) - val_main_v19 (F := Ideal) q k sk (ix4 B h n 0)))
          + Ideal.exp (sk (ix1 h) - val_main_v19 (F := Ideal) q k sk (ix4 B h n 0))) := by
  unfold kvHead
  unfold val_main_v36 val_main_v35 val_main_v34 val_main_v33 val_main_v32 val_main_v31 val_main_v30 val_main_v29 val_main_v28 val_main_v27 val_main_v26 val_main_v25 val_main_v24 val_main_v23 val_main_v22 val_main_v21 val_main_v20
  generalize val_main_v19 (F := Ideal) q k sk = M
  generalize val_main_v14 (F := Ideal) q k = y
  pointwise [val_main_v15, val_main_cst_2]

theorem word_8 : Ideal.ofBits .f32 0x41000000#32 = ((8 : ℝ) : EReal) := by
  simp [Ideal.ofBits, Ideal.ieee, -EReal.coe_mul]; norm_num

/-- With finite queries, keys and sinks the reference is the kernel's average, whatever finite shift it subtracts. -/
theorem ref_eq (σ : ℝ) (q : FVec Ideal S4x8192x8x64 .f32) (k v : FVec Ideal S4x8192x2x64 .f32) (sk : FVec Ideal S8 .f32)
    (hq : ∀ i, ∃ r : ℝ, q i = (r : EReal)) (hk : ∀ i, ∃ r : ℝ, k i = (r : EReal)) (hs : ∀ i, ∃ r : ℝ, sk i = (r : EReal)) :
    attn (σ : EReal) q k v sk = val_main_v36 (F := Ideal) q k v sk := by
  choose q' hq using hq
  choose k' hk using hk
  choose s' hs using hs
  have hlog : Real.log 2 ≠ 0 := (Real.log_pos (by norm_num)).ne'
  have hsc : ∀ B h n s, sc q k B h n s = (((∑ d : Fin 64, q' (ix4 B n h d) * k' (ix4 B s (kvHead h) d)) / 8 : ℝ) : EReal) := fun B h n s => by
    unfold sc
    simp only [hq, hk, ← EReal.coe_mul]
    rw [← Cert.Softmax.coe_sum, word_8, Cert.Softmax.div_coe _ _ (by norm_num)]
  have hscore : ∀ B h n s, score q k B h n s
      = (((∑ d : Fin 64, q' (ix4 B n h d) * k' (ix4 B s (kvHead h) d)) / 8 / Real.log 2 : ℝ) : EReal) := fun B h n s => by
    unfold score Cert.SwaIdeal.Swa.swaScale
    simp only [hq, hk, ← EReal.coe_mul]
    rw [← Cert.Softmax.coe_sum]
    congr 1
    rw [div_div, div_eq_mul_inv, Finset.sum_mul]
    refine Finset.sum_congr rfl fun d _ => ?_
    rw [mul_inv]; ring
  funext i
  obtain ⟨B, h, d, n, rfl⟩ : ∃ (B : Fin 4) (h : Fin 8) (d : Fin 64) (n : Fin 8192), i = ix4 B h d n := ⟨i 0, i 1, i 2, i 3, by
    funext a
    match a with
    | ⟨0, _⟩ => rfl
    | ⟨1, _⟩ => rfl
    | ⟨2, _⟩ => rfl
    | ⟨3, _⟩ => rfl⟩
  rw [ref_apply]
  simp only [ref_sc, ref_max, hsc, hs]
  obtain ⟨μ, hμ⟩ := max_sink_coe (fun s : Fin 8192 => (∑ x : Fin 64, q' (ix4 B n h x) * k' (ix4 B s (kvHead h) x)) / 8) (near n) (s' (ix1 h))
  rw [hμ]
  show (∑ s : Fin 8192, v (ix4 B s (kvHead h) d) * (if near n s then Ideal.exp2 (score q k B h n s - (σ : EReal)) else 0))
    * Ideal.div 1 ((∑ s : Fin 8192, if near n s then Ideal.exp2 (score q k B h n s - (σ : EReal)) else 0) + Ideal.exp2 (sk (ix1 h) * (((Real.log 2)⁻¹ : ℝ) : EReal) - (σ : EReal))) = _
  simp only [hscore, hs]
  exact average_sink _ (near n) _ _ (s' (ix1 h)) σ μ fun s => div_mul_cancel₀ _ hlog

end Cert.SwaRefIdeal.Swa
end
-- ==== Proof.SwaClaim.lean ====
/-
  The windowed attention's claims.
-/
module

public import proofs.«01_k».proof.Defs
public import proofs.«01_k».proof.Proof.SwaRef
public import proofs.«01_k».proof.Proof.MlaClaim
public import proofs.«01_k».proof.Proof.Gen.Swa.Frame
public import proofs.«01_k».proof.Proof.Gen.SwaRefIdeal.Run
public import proofs.«01_k».proof.Proof.Gen.Pre_swa_finite
public import Idealize.ShloMosaic.Lib.ReduceAll

@[expose] public section
set_option maxRecDepth 16384
set_option maxHeartbeats 4000000
noncomputable section
namespace Cert.Proof.Swa

open Idealize.ShloMosaic Idealize.SL.Sem
open Cert.Proof.Mla (coe_of_cmp)

theorem frame_p : Cert.quiescent_Swa := fun m ρ _ => Cert.Swa.Gen.frame m ρ
theorem frame_pi : Cert.quiescent_SwaIdeal := fun m ρ _ => Cert.SwaIdeal.Gen.frame m ρ
theorem frame_pi_pre : Cert.quiescent_SwaIdeal_pre_swa_finite := fun m ρ _ => Cert.SwaIdeal.Gen.frame m ρ
theorem frame_ri : Cert.quiescent_SwaRefIdeal := fun m ρ _ =>
  (θ_run Cert.SwaRefIdeal.defs _ _).mono (fun r h => ⟨fun c => (h c).2, sem_eq_zero_of_no_sems (by decide) r.2⟩)
    (Cert.SwaRefIdeal.Value.run (F := Ideal) m ρ)
theorem frame_ri_pre : Cert.quiescent_SwaRefIdeal_pre_swa_finite := fun m ρ _ => frame_ri m ρ trivial

theorem preserves : Cert.preserves_Swa_SwaIdeal :=
  ⟨IdealRules.named_const.statement Cert.SwaIdeal.κ "swa_scale" .f32 0x3E38AA3B#32 (((Real.log 2)⁻¹ * 8⁻¹ : ℝ) : EReal) rfl,
    IdealRules.named_const.statement Cert.SwaIdeal.κ "log2e" .f32 0x3FB8AA3B#32 (((Real.log 2)⁻¹ : ℝ) : EReal) rfl⟩

/-- The precondition, read: every query, key, sink and gain is finite. -/
theorem finite_of (x0 : FVec Ideal Cert.Pre_swa_finite.S4x8192x8x64 .f32) (x1 x2 : FVec Ideal Cert.Pre_swa_finite.S4x8192x2x64 .f32) (x3 : FVec Ideal Cert.Pre_swa_finite.S8 .f32)
    (x4 x5 : FVec Ideal Cert.Pre_swa_finite.S64 .f32) (h : Cert.Pre_swa_finite.fn (F := Ideal) x0 x1 x2 x3 x4 x5 = fun _ => 1#1) :
    ((∀ i, ∃ r : ℝ, x0 i = (r : EReal)) ∧ (∀ i, ∃ r : ℝ, x1 i = (r : EReal)))
      ∧ (∀ i, ∃ r : ℝ, x3 i = (r : EReal)) ∧ (∀ i, ∃ r : ℝ, x4 i = (r : EReal)) ∧ ∀ i, ∃ r : ℝ, x5 i = (r : EReal) := by
  have e := congrFun h (fun a => a.elim0)
  haveI : Subsingleton Cert.Pre_swa_finite.S_.Idx := ⟨fun a b => funext fun x => x.elim0⟩
  obtain ⟨e, e5⟩ := IntOp.andi_eq_one.1 e
  obtain ⟨e, e4⟩ := IntOp.andi_eq_one.1 e
  obtain ⟨e, e3⟩ := IntOp.andi_eq_one.1 e
  obtain ⟨e0, e1⟩ := IntOp.andi_eq_one.1 e
  exact ⟨⟨fun i => coe_of_cmp _ (Host.reduce_andi_all _ _ _ _ _ e0 i), fun i => coe_of_cmp _ (Host.reduce_andi_all _ _ _ _ _ e1 i)⟩,
    fun i => coe_of_cmp _ (Host.reduce_andi_all _ _ _ _ _ e3 i), fun i => coe_of_cmp _ (Host.reduce_andi_all _ _ _ _ _ e4 i), fun i => coe_of_cmp _ (Host.reduce_andi_all _ _ _ _ _ e5 i)⟩

theorem algebraic : Cert.algebraic_SwaIdeal_SwaRefIdeal_pre_swa_finite := by
  intro m g m' g' hpre hag
  refine ⟨fun c => Cert.SwaIdeal.Swa.attn (Cert.SwaIdeal.Swa.sig0 m c) (Cert.SwaIdeal.Swa.A0 m c) (Cert.SwaIdeal.Swa.A1 m c) (Cert.SwaIdeal.Swa.A2 m c) (Cert.SwaIdeal.Swa.A3 m c),
    (θ_run Cert.SwaIdeal.defs _ _).mono (fun r h c => ⟨h.1 c, h.2.1 c⟩) (Cert.SwaIdeal.Swa.run m g),
    (θ_run Cert.SwaRefIdeal.defs _ _).mono (fun r h c => ⟨(h c).1.trans ?_, (h c).2⟩) (Cert.SwaRefIdeal.Value.run (F := Ideal) m' g')⟩
  obtain ⟨a0, a1, a2, a3, -, -⟩ := hag c
  obtain ⟨⟨hq, hk⟩, h3, h4, h5⟩ := finite_of _ _ _ _ _ _ (hpre c)
  obtain ⟨σ, hσ⟩ := Cert.SwaIdeal.Swa.shift_coe _ _ _ h3 h4 h5
  refine (Cert.SwaRefIdeal.Read.val_main_v36_eq (F := Ideal) _ _).trans ?_
  rw [a0, a1, a2, a3]
  refine (Cert.SwaRefIdeal.Swa.ref_eq σ _ _ _ _ hq hk h3).symm.trans ?_
  show _ = Cert.SwaIdeal.Swa.attn (Cert.SwaIdeal.Swa.shift _ _ _ _) _ _ _ _
  exact congrArg (fun s => Cert.SwaIdeal.Swa.attn s _ _ _ _) hσ.symm

end Cert.Proof.Swa
end
-- ==== Proof.ModValue.lean ====
/-
  The conditioning call's result array: for every sequence the linear map of its gated conditioning.
-/
module

public import proofs.«01_k».proof.Proof.FfnSum
public import proofs.«01_k».proof.Proof.Gen.ModIdeal.Value
public import Idealize.ShloMosaic.Lib.StableHlo.RunRead
public import Idealize.ShloMosaic.Lib.Pipeline.Value

@[expose] public section
set_option maxRecDepth 16384
set_option maxHeartbeats 800000
noncomputable section
namespace Cert.ModIdeal.Mod

open Cert.ModIdeal.Gen
open Idealize.ShloMosaic Idealize.ShloMosaic.TcCoe Idealize.ShloMosaic.StableHlo Idealize.SL.Sem
open Idealize.ShloMosaic.Pipeline (Dat)

/-- A number times its logistic. -/
def gate (g : EReal) : EReal := g * Ideal.div 1 (1 + Ideal.exp (0 - g))

/-- The two batches' conditionings, one under the other, and four rows of zeros. -/
def rows (x0 : FVec Ideal S4x1024 .f32) (x1 : FVec Ideal S8x1024 .f32) : FVec Ideal S16x1024 .f32 :=
  concatenate S16x1024 0 [⟨S4x1024, x0⟩, ⟨S8x1024, x1⟩, ⟨S4x1024, broadcastInDim S4x1024 ![] bcast_S_S4x1024 (constant S_ .f32 0x00000000#32)⟩]
    concatenates_S4x1024_S8x1024_S4x1024_S16x1024_d0

/-- The linear map: the gated row times the matrix, and the offset. -/
def lin (x : FVec Ideal S16x1024 .f32) (w : FVec Ideal S1x1024x9216 .f32) (b : FVec Ideal S1x9216 .f32) : FVec Ideal S16x9216 .f32 := fun i =>
  (∑ k : Fin 1024, gate (x (ix2 (i 0) k)) * w (ix3 0 k (i 1))) + b (ix2 0 (i 1))

theorem pay_apply (x0 : FVec Ideal S16x1024 .f32) (x1 : FVec Ideal S1024x1152 .f32) (x2 : FVec Ideal S1x1152 .f32) (r : Fin 16) (n : Fin 1152) :
    k0_pay1 (F := Ideal) x0 x1 x2 (ix2 r n) = (∑ k : Fin 1024, gate (x0 (ix2 r k)) * x1 (ix2 k n)) + x2 (ix2 0 n) := by
  unfold gate
  pointwise [k0_pay1]

theorem hz2 : (![0, 0] : Fin 2 → ℕ) = fun _ => 0 := by decide

/-- What a point leaves in the result's buffer. -/
theorem out_eq (x0 : FVec Ideal S16x1024 .f32) (x1 : FVec Ideal S1024x1152 .f32) (x2 : FVec Ideal S1x1152 .f32) :
    out0_3 (F := Ideal) x0 x1 x2 = k0_pay1 (F := Ideal) x0 x1 x2 := by
  unfold out0_3 r0_0 r0_1 r0_2 r0_3
  rw [View.canon_unit_zero (S := S16x1152) hz2]
  simp only [View.ld_unit_zero (S := S16x1024) hz2, View.ld_unit_zero (S := S1024x1152) hz2, View.ld_unit_zero (S := S1x1152) hz2]

variable (m : (ℓ : Loc nD τ sig) → Buf (Elt Ideal) ℓ) (c : Dev nD)

/-! The arguments, and what the pipeline finds in its arrays. -/

abbrev A0 : FVec Ideal S4x1024 .f32 := m ((c.tc : Thread nD τ).loc main_arg0)
abbrev A1 : FVec Ideal S8x1024 .f32 := m ((c.tc : Thread nD τ).loc main_arg1)
abbrev A2 : FVec Ideal S1x1024x9216 .f32 := m ((c.tc : Thread nD τ).loc main_arg2)
abbrev A3 : FVec Ideal S1x9216 .f32 := m ((c.tc : Thread nD τ).loc main_arg3)

theorem V_1 : V m c main_v1 = rows (A0 m c) (A1 m c) := by
  dsimp only [V, hostOps0, List.flatten_cons, List.flatten_nil, List.append_nil, List.cons_append, List.nil_append]
  after_reads_simp
  rfl

theorem V_2 (k : Fin 1024) (n : Fin 9216) : V m c main_v2 (ix2 k n) = A2 m c (ix3 0 k n) := by
  have e : V m c main_v2 = shapeCast S1024x9216 (A2 m c) shapeCasts_S1x1024x9216_S1024x9216 := by
    dsimp only [V, hostOps0, List.flatten_cons, List.flatten_nil, List.append_nil, List.cons_append, List.nil_append]
    after_reads_simp
    rfl
  rw [e]
  generalize A2 m c = x
  pointwise []

theorem V_4 (n : Fin 9216) : V m c main_v4 (ix2 0 n) = A3 m c (ix2 0 n) := by
  have e : V m c main_v4 = shapeCast S1x9216 (shapeCast S9216 (A3 m c) shapeCasts_S1x9216_S9216) shapeCasts_S9216_S1x9216 := by
    dsimp only [V, hostOps0, List.flatten_cons, List.flatten_nil, List.append_nil, List.cons_append, List.nil_append]
    after_reads_simp
    rfl
  rw [e]
  generalize A3 m c = x
  pointwise []

/-! Where the windows' blocks lie: point `t` takes columns `1152 t` on. -/

theorem idx0 : ∀ t : Fin cfg0.N, win0_0.index t = ![0, 0] := (by decide +kernel : ∀ t : Fin grid0.N, win0_0.index t = ![0, 0])
theorem idx1 : ∀ t : Fin cfg0.N, win0_1.index t = ![0, t.val] := (by decide +kernel : ∀ t : Fin grid0.N, win0_1.index t = ![0, t.val])
theorem idx2 : ∀ t : Fin cfg0.N, win0_2.index t = ![0, t.val] := (by decide +kernel : ∀ t : Fin grid0.N, win0_2.index t = ![0, t.val])
theorem idx3 : ∀ t : Fin cfg0.N, win0_3.index t = ![0, t.val] := (by decide +kernel : ∀ t : Fin grid0.N, win0_3.index t = ![0, t.val])

theorem lt_N (t : Fin cfg0.N) : t.val < 8 := t.isLt

def col (t : Fin cfg0.N) (n : Fin 1152) : Fin 9216 := ⟨1152 * t.val + n.val, by have := lt_N t; omega⟩

theorem read0 (f : FVec Ideal S16x1024 .f32) (t : Fin cfg0.N) : ((cfg0.win 0).blk t).view.read (Elt Ideal) f = f := by
  funext j
  rw [View.read_apply]
  show f _ = _
  congr 1
  funext a
  apply Fin.ext
  match a with
  | ⟨0, _⟩ => show win0_0.index t 0 * 16 + 1 * (j 0).val = (j 0).val; rw [idx0]; simp
  | ⟨1, _⟩ => show win0_0.index t 1 * 1024 + 1 * (j 1).val = (j 1).val; rw [idx0]; simp

theorem read1 (f : FVec Ideal S1024x9216 .f32) (t : Fin cfg0.N) (k : Fin 1024) (n : Fin 1152) :
    ((cfg0.win 1).blk t).view.read (Elt Ideal) f (ix2 k n) = f (ix2 k (col t n)) := by
  rw [View.read_apply]
  show f _ = _
  congr 1
  funext a
  apply Fin.ext
  match a with
  | ⟨0, _⟩ => show win0_1.index t 0 * 1024 + 1 * k.val = k.val; rw [idx1]; simp
  | ⟨1, _⟩ => show win0_1.index t 1 * 1152 + 1 * n.val = 1152 * t.val + n.val; rw [idx1]; show t.val * 1152 + 1 * n.val = _; omega

theorem read2 (f : FVec Ideal S1x9216 .f32) (t : Fin cfg0.N) (n : Fin 1152) :
    ((cfg0.win 2).blk t).view.read (Elt Ideal) f (ix2 0 n) = f (ix2 0 (col t n)) := by
  rw [View.read_apply]
  show f _ = _
  congr 1
  funext a
  apply Fin.ext
  match a with
  | ⟨0, _⟩ => show win0_2.index t 0 * 1 + 1 * 0 = 0; rw [idx2]; simp
  | ⟨1, _⟩ => show win0_2.index t 1 * 1152 + 1 * n.val = 1152 * t.val + n.val; rw [idx2]; show t.val * 1152 + 1 * n.val = _; omega

/-- The result as a function of the arguments. -/
def res : FVec Ideal S16x9216 .f32 := lin (rows (A0 m c) (A1 m c)) (A2 m c) (A3 m c)

theorem blk0 (t : Fin cfg0.N) : (iblk m c 0 t : FVec Ideal S16x1024 .f32) = rows (A0 m c) (A1 m c) :=
  (read0 (V m c main_v1) t).trans (V_1 m c)
theorem blk1 (t : Fin cfg0.N) (k : Fin 1024) (n : Fin 1152) : iblk m c 1 t (ix2 k n) = A2 m c (ix3 0 k (col t n)) :=
  (read1 (V m c main_v2) t k n).trans (V_2 m c _ _)
theorem blk2 (t : Fin cfg0.N) (n : Fin 1152) : iblk m c 2 t (ix2 0 n) = A3 m c (ix2 0 (col t n)) :=
  (read2 (V m c main_v4) t n).trans (V_4 m c _)

/-- What a point leaves in its block, at an index. -/
theorem out_apply (t : Fin cfg0.N) (r : Fin 16) (n : Fin 1152) :
    out0_3 (F := Ideal) (iblk m c 0 t) (iblk m c 1 t) (iblk m c 2 t) (ix2 r n) = res m c (ix2 r (col t n)) := by
  rw [out_eq, pay_apply, blk0]
  simp only [blk1, blk2]
  rfl

/-- What a point writes back is its block of the result. -/
theorem flushed_eq (t : Fin cfg0.N) : (dats (F := Ideal) m 0 c).flushed 3 t = ((cfg0.win 3).blk t).view.read (Elt Ideal) (res m c) := by
  show (cfg0.win 3).cut (grid0.coords t) ((dats (F := Ideal) m 0 c).after 3 t) = _
  rw [after0_3]
  funext y
  rw [View.read_apply]
  obtain ⟨r, n, rfl⟩ : ∃ (r : Fin 16) (n : Fin 1152), y = ix2 r n := ⟨y 0, y 1, (ix2_eta y).symm⟩
  refine (out_apply m c t r n).trans ?_
  congr 1
  funext a
  apply Fin.ext
  match a with
  | ⟨0, _⟩ => show r.val = win0_3.index t 0 * 16 + 1 * r.val; rw [idx3]; simp
  | ⟨1, _⟩ => show 1152 * t.val + n.val = win0_3.index t 1 * 1152 + 1 * n.val; rw [idx3]; show _ = t.val * 1152 + 1 * n.val; omega

theorem xsize3 : ∀ t : Fin cfg0.N, win0_3.xsize (grid0.coords t) = ![16, 1152] :=
  (by decide +kernel : ∀ t : Fin grid0.N, win0_3.xsize (grid0.coords t) = ![16, 1152])
theorem flush3 : ∀ t : Fin cfg0.N, (cfg0.win 3).flush t = true := (by decide +kernel : ∀ t : Fin grid0.N, win0_3.flush t = true)

theorem cover (i : S16x9216.Idx) : ∃ t : Fin cfg0.N, (cfg0.win 3).flush t = true ∧ i ∈ ((cfg0.win 3).blk t).view.set := by
  have h0 : (i 0).val < 16 := (i 0).isLt
  have h1 : (i 1).val < 9216 := (i 1).isLt
  refine ⟨⟨(i 1).val / 1152, (by omega : _ < 8)⟩, flush3 _, ?_⟩
  set t : Fin cfg0.N := ⟨(i 1).val / 1152, (by omega : _ < 8)⟩ with ht
  show i ∈ ((View.whole main_v5).slice (win0_3.rect t)).set
  rw [View.set_slice_whole, Rect.mem_set_unit]
  intro a
  match a with
  | ⟨0, _⟩ => show win0_3.index t 0 * 16 ≤ (i 0).val ∧ (i 0).val < win0_3.index t 0 * 16 + win0_3.xsize (grid0.coords t) 0
              rw [idx3, xsize3]; show 0 * 16 ≤ _ ∧ _ < 0 * 16 + 16; omega
  | ⟨1, _⟩ => show win0_3.index t 1 * 1152 ≤ (i 1).val ∧ (i 1).val < win0_3.index t 1 * 1152 + win0_3.xsize (grid0.coords t) 1
              rw [idx3, xsize3]; show (i 1).val / 1152 * 1152 ≤ _ ∧ _ < (i 1).val / 1152 * 1152 + 1152; omega

/-- The result array after the run. -/
theorem final : (dats (F := Ideal) m 0 c).arrAt 3 cfg0.N = res m c :=
  (dats (F := Ideal) m 0 c).arrAt_eq_of_cover 3 _ (fun t _ => flushed_eq m c t) cover

end Cert.ModIdeal.Mod
end
-- ==== Proof.ModClaim.lean ====
/-
  The conditioning call's claims.
-/
module

public import proofs.«01_k».proof.Defs
public import proofs.«01_k».proof.Proof.ModValue
public import proofs.«01_k».proof.Proof.Gen.Mod.Frame
public import proofs.«01_k».proof.Proof.Gen.ModRefIdeal.Run
public import proofs.«01_k».proof.Proof.Gen.ModRefIdeal.Read

@[expose] public section
set_option maxRecDepth 16384
set_option maxHeartbeats 800000
noncomputable section

namespace Cert.ModRefIdeal.Mod

open Cert.ModRefIdeal.Gen Cert.ModRefIdeal.Read
open Idealize.ShloMosaic Idealize.ShloMosaic.TcCoe Idealize.ShloMosaic.StableHlo

variable (x0 : FVec Ideal S4x1024 .f32) (x1 : FVec Ideal S8x1024 .f32) (x2 : FVec Ideal S1x1024x9216 .f32) (x3 : FVec Ideal S1x9216 .f32)

theorem gate_apply (r : Fin 16) (k : Fin 1024) :
    val_main_v2 (F := Ideal) x0 x1 (ix2 r k) = Cert.ModIdeal.Mod.gate (val_main_v1 (F := Ideal) x0 x1 (ix2 r k)) := by
  unfold val_main_v2 val_main_call0_v5 val_main_call0_v3 val_main_call0_v1 val_main_call0_v0 Cert.ModIdeal.Mod.gate
  generalize val_main_v1 (F := Ideal) x0 x1 = g
  rw [zero_sub]
  pointwise [val_main_call0_v4, val_main_call0_v2, val_main_call0_cst, val_main_call0_cst_0]

theorem sum_apply (r : Fin 16) (n : Fin 9216) : val_main_v8 (F := Ideal) x0 x1 x2 x3 (ix2 r n)
    = (∑ k : Fin 1024, val_main_v2 (F := Ideal) x0 x1 (ix2 r k) * x2 (ix3 0 k n)) + x3 (ix2 0 n) := by
  unfold val_main_v8 val_main_v4
  generalize val_main_v2 (F := Ideal) x0 x1 = g
  pointwise [val_main_v3, val_main_v7, val_main_v6, val_main_v5]

/-- The reference's array is the linear map of the gated rows. -/
theorem ref_eq : val_main_v8 (F := Ideal) x0 x1 x2 x3 = Cert.ModIdeal.Mod.lin (Cert.ModIdeal.Mod.rows x0 x1) x2 x3 := by
  funext i
  obtain ⟨r, n, rfl⟩ : ∃ (r : Fin 16) (n : Fin 9216), i = ix2 r n := ⟨i 0, i 1, (ix2_eta i).symm⟩
  rw [sum_apply]
  simp only [gate_apply]
  rfl

end Cert.ModRefIdeal.Mod

namespace Cert.Proof.Mod

open Idealize.ShloMosaic Idealize.SL.Sem

theorem frame_p : Cert.quiescent_Mod := fun m ρ _ => Cert.Mod.Gen.frame m ρ
theorem frame_pi : Cert.quiescent_ModIdeal := fun m ρ _ => Cert.ModIdeal.Gen.frame m ρ
theorem frame_ri : Cert.quiescent_ModRefIdeal := fun m ρ _ =>
  (θ_run Cert.ModRefIdeal.defs _ _).mono (fun r h => ⟨fun c => (h c).2, sem_eq_zero_of_no_sems (by decide) r.2⟩)
    (Cert.ModRefIdeal.Value.run (F := Ideal) m ρ)

theorem preserves : Cert.preserves_Mod_ModIdeal := trivial

theorem algebraic : Cert.algebraic_ModIdeal_ModRefIdeal := by
  intro m g m' g' hpre hag
  refine ⟨fun c => Cert.ModIdeal.Mod.res m c,
    (θ_run Cert.ModIdeal.defs _ _).mono (fun r h c => ⟨(h c).1.trans (Cert.ModIdeal.Mod.final m c), (h c).2⟩) (Cert.ModIdeal.Value.run_blocks (F := Ideal) m g),
    (θ_run Cert.ModRefIdeal.defs _ _).mono (fun r h c => ⟨(h c).1.trans ?_, (h c).2⟩) (Cert.ModRefIdeal.Value.run (F := Ideal) m' g')⟩
  obtain ⟨a0, a1, a2, a3⟩ := hag c
  refine (Cert.ModRefIdeal.Read.val_main_v8_eq (F := Ideal) _ _ _ _).trans ?_
  rw [a0, a1, a2, a3]
  exact Cert.ModRefIdeal.Mod.ref_eq _ _ _ _

end Cert.Proof.Mod
end
-- ==== Proof.InProjSum.lean ====
/-
  The input projection's arithmetic: the root over a head's mean square, the rotation of a head's two halves, and the
  rotation of a head taken over its root.
-/
module

public import proofs.«01_k».proof.Proof.FfnSum
public import Idealize.ShloMosaic.Lib.IdealHost

@[expose] public section
set_option maxRecDepth 16384
set_option maxHeartbeats 800000
noncomputable section
namespace Cert.InProj

open Idealize.ShloMosaic

/-- Entry `j` of a head's first half, and of its second. -/
def lo (j : Fin 32) : Fin 64 := ⟨j.val, by omega⟩
def hi (j : Fin 32) : Fin 64 := ⟨32 + j.val, by omega⟩

theorem halves (d : Fin 64) : ∃ j : Fin 32, d = lo j ∨ d = hi j := by
  by_cases h : d.val < 32
  · exact ⟨⟨d.val, h⟩, .inl rfl⟩
  · exact ⟨⟨d.val - 32, by omega⟩, .inr (Fin.ext (by show d.val = 32 + (d.val - 32); omega))⟩

theorem word_64 : Ideal.ofBits .f32 0x42800000#32 = ((64 : ℝ) : EReal) := by
  simp [Ideal.ofBits, Ideal.ieee, -EReal.coe_mul]; norm_num
theorem word_64th : Ideal.ofBits .f32 0x3C800000#32 = (((64 : ℝ)⁻¹ : ℝ) : EReal) := by
  simp [Ideal.ofBits, Ideal.ieee, -EReal.coe_mul]; norm_num
theorem word_eps : Ideal.ofBits .f32 0x358637BD#32 = ((8796093 / 8796093022208 : ℝ) : EReal) := by
  simp [Ideal.ofBits, Ideal.ieee, -EReal.coe_mul]; norm_num
theorem word_two : Ideal.ofBits .f32 0x40000000#32 = ((2 : ℝ) : EReal) := by
  simp [Ideal.ofBits, Ideal.ieee, -EReal.coe_mul]; norm_num
theorem word_8 : Ideal.ofBits .f32 0x41000000#32 = ((8 : ℝ) : EReal) := by
  simp [Ideal.ofBits, Ideal.ieee, -EReal.coe_mul]; norm_num

theorem div_coe (x : EReal) (r : ℝ) (h : r ≠ 0) : Ideal.div x (r : EReal) = x * ((r⁻¹ : ℝ) : EReal) := by
  unfold Ideal.div
  rw [if_neg (by exact_mod_cast h), EReal.coe_inv]

/-- The root over a head's mean square, the mean taken with a small summand. -/
def root (f : Fin 64 → EReal) : EReal :=
  Ideal.rsqrt ((∑ d : Fin 64, f d * f d) * Ideal.ofBits .f32 0x3C800000#32 + Ideal.ofBits .f32 0x358637BD#32)

theorem mean_div (x : EReal) : Ideal.div x (Ideal.ofBits .f32 0x42800000#32) = x * Ideal.ofBits .f32 0x3C800000#32 := by
  rw [word_64, word_64th, div_coe _ _ (by norm_num)]

theorem square_nonneg (x : EReal) : 0 ≤ x * x := by
  rcases le_total 0 x with h | h
  · exact mul_nonneg h h
  · rw [← neg_mul_neg]
    exact mul_nonneg (EReal.neg_nonneg.mpr h) (EReal.neg_nonneg.mpr h)

theorem root_arg (f : Fin 64 → EReal) :
    0 < (∑ d : Fin 64, f d * f d) * Ideal.ofBits .f32 0x3C800000#32 + Ideal.ofBits .f32 0x358637BD#32 := by
  have h1 : (0 : EReal) ≤ (∑ d : Fin 64, f d * f d) * Ideal.ofBits .f32 0x3C800000#32 :=
    mul_nonneg (Finset.sum_nonneg fun d _ => square_nonneg _) (by rw [word_64th]; exact_mod_cast (by norm_num : (0 : ℝ) ≤ (64 : ℝ)⁻¹))
  have h2 : (0 : EReal) < Ideal.ofBits .f32 0x358637BD#32 := by
    rw [word_eps]; exact_mod_cast (by norm_num : (0 : ℝ) < 8796093 / 8796093022208)
  calc (0 : EReal) < Ideal.ofBits .f32 0x358637BD#32 := h2
    _ = 0 + Ideal.ofBits .f32 0x358637BD#32 := (zero_add _).symm
    _ ≤ _ := add_le_add_left h1 _

theorem rsqrt_of_pos (x : EReal) (h : 0 < x) : 0 ≤ Ideal.rsqrt x ∧ Ideal.rsqrt x ≠ ⊤ := by
  induction x with
  | bot => exact absurd h (by simp)
  | top => exact ⟨le_of_eq Ideal.rsqrt_top.symm, by rw [Ideal.rsqrt_top]; exact EReal.zero_ne_top⟩
  | coe r =>
    have hr : 0 < r := by exact_mod_cast h
    rw [Ideal.rsqrt_coe, if_neg (not_lt.mpr hr.le), if_neg hr.ne']
    exact ⟨by exact_mod_cast inv_nonneg.mpr (Real.sqrt_nonneg r), EReal.coe_ne_top _⟩

theorem root_nonneg (f : Fin 64 → EReal) : 0 ≤ root f := (rsqrt_of_pos _ (root_arg f)).1
theorem root_ne_top (f : Fin 64 → EReal) : root f ≠ ⊤ := (rsqrt_of_pos _ (root_arg f)).2

/-- A head rotated: its first half, and its second. -/
def rotLo (y : Fin 64 → EReal) (co si : Fin 32 → EReal) (j : Fin 32) : EReal := y (lo j) * co j - y (hi j) * si j
def rotHi (y : Fin 64 → EReal) (co si : Fin 32 → EReal) (j : Fin 32) : EReal := y (hi j) * co j + y (lo j) * si j

theorem add_mul_root (a b r : EReal) (h : 0 ≤ r) (h' : r ≠ ⊤) : a * r + b * r = (a + b) * r :=
  (EReal.right_distrib_of_nonneg_of_ne_top h h' a b).symm

/-- A factor on the head is a factor on the rotated head. -/
theorem rotLo_scale (f g : Fin 64 → EReal) (co si : Fin 32 → EReal) (j : Fin 32) (r : EReal) (h : 0 ≤ r) (h' : r ≠ ⊤) :
    rotLo (fun d => f d * r * g d) co si j = rotLo (fun d => f d * g d) co si j * r := by
  unfold rotLo
  have e1 : ∀ a b c : EReal, a * r * b * c = a * b * c * r := fun a b c => by
    rw [mul_right_comm a r b, mul_right_comm (a * b) r c]
  rw [e1, e1, sub_eq_add_neg, sub_eq_add_neg, ← EReal.neg_mul]
  exact add_mul_root _ _ _ h h'
theorem rotHi_scale (f g : Fin 64 → EReal) (co si : Fin 32 → EReal) (j : Fin 32) (r : EReal) (h : 0 ≤ r) (h' : r ≠ ⊤) :
    rotHi (fun d => f d * r * g d) co si j = rotHi (fun d => f d * g d) co si j * r := by
  unfold rotHi
  have e1 : ∀ a b c : EReal, a * r * b * c = a * b * c * r := fun a b c => by
    rw [mul_right_comm a r b, mul_right_comm (a * b) r c]
  rw [e1, e1]
  exact add_mul_root _ _ _ h h'

/-- The queries' factor, exact. -/
def qScale : EReal := (((Real.log 2)⁻¹ * 8⁻¹ : ℝ) : EReal)

theorem div_scale (x : EReal) :
    Ideal.div x (Ideal.log (Ideal.ofBits .f32 0x40000000#32) * Ideal.ofBits .f32 0x41000000#32) = x * qScale := by
  have e : Ideal.log (Ideal.ofBits .f32 0x40000000#32) = ((Real.log 2 : ℝ) : EReal) := by
    rw [word_two]
    show (if (2 : ℝ) ≤ 0 then (⊥ : EReal) else (Real.log 2 : EReal)) = _
    rw [if_neg (by norm_num)]
  have hl : Real.log 2 ≠ 0 := (Real.log_pos (by norm_num)).ne'
  rw [e, word_8, ← EReal.coe_mul, div_coe _ _ (mul_ne_zero hl (by norm_num)), mul_inv]
  rfl

end Cert.InProj
end
-- ==== Proof.InProjPay.lean ====
/-
  The input projection call: the vectors a grid point stores, in closed form, and their entries at the ideal values.
-/
module

public import proofs.«01_k».proof.Proof.InProjSum
public import proofs.«01_k».proof.Proof.Gen.InProjIdeal.Skeleton
public import Idealize.ShloMosaic.Lib.Pointwise
public import Idealize.ShloMosaic.Lib.Pipeline.ReadBack

@[expose] public section
set_option maxRecDepth 16384
set_option maxHeartbeats 2000000
noncomputable section
namespace Cert.InProjIdeal.InProj

open Cert.InProjIdeal.Gen Cert.InProj
open Idealize.ShloMosaic Idealize.ShloMosaic.TcCoe Idealize.SL.Sem Idealize.ShloMosaic.Tactic

section
variable {F : FTy → Type} [FloatOps F] [Named F]

/-- The root over each column's mean square. -/
def colRoot (b : FVec F S64x512 .f32) : FVec F S1x512 .f32 :=
  rsqrt (addf (mulf (shapeCast S1x512 (multiReduction .add [0] S512 (mulf b b) 0x00000000#32 reduces_S64x512_S512 (.inl rfl) rfl) shapeCasts_S512_S1x512)
    (broadcast S1x512 (Scalar.ofBits .f32 0x3C800000#32))) (broadcast S1x512 (Scalar.ofBits .f32 0x358637BD#32)))

/-- Each column rotated. -/
def rotated (y : FVec F S64x512 .f32) (co si : FVec F S32x512 .f32) : FVec F S64x512 .f32 :=
  concatenate S64x512 0 [
    ⟨S32x512, subf (mulf (extractStridedSlice S32x512 ![0, 0] y slices_S64x512_o0_0_S32x512) co) (mulf (extractStridedSlice S32x512 ![32, 0] y slices_S64x512_o32_0_S32x512) si)⟩,
    ⟨S32x512, addf (mulf (extractStridedSlice S32x512 ![32, 0] y slices_S64x512_o32_0_S32x512) co) (mulf (extractStridedSlice S32x512 ![0, 0] y slices_S64x512_o0_0_S32x512) si)⟩]
    concatenates_S32x512_S32x512_S64x512_d0

/-- A query head's block. -/
def qBlock (b g : Vec F S64x512 .f32) (co si : Vec F S32x512 .f32) : FVec F S1x1x64x512 .bf16 :=
  shapeCast S1x1x64x512 (truncf .bf16 (mulf
    (rotated (mulf b (shapeCast S64x512 g shapeCasts_S64x512_S64x512)) (shapeCast S32x512 co shapeCasts_S32x512_S32x512) (shapeCast S32x512 si shapeCasts_S32x512_S32x512))
    (broadcastTo S64x512 (mulf (colRoot b) (broadcast S1x512 (Named.named κ "swa_scale" 0x3E38AA3B#32))) broadcasts_S1x512_S64x512)) bitsLt_bf16_f32) shapeCasts_S64x512_S1x1x64x512

/-- A key head's rows. -/
def kRows (b g : Vec F S64x512 .f32) (co si : Vec F S32x512 .f32) : FVec F S64x512 .f32 :=
  mulf (rotated (mulf b (shapeCast S64x512 g shapeCasts_S64x512_S64x512)) (shapeCast S32x512 co shapeCasts_S32x512_S32x512) (shapeCast S32x512 si shapeCasts_S32x512_S32x512))
    (broadcastTo S64x512 (colRoot b) broadcasts_S1x512_S64x512)

/-- The two key heads' block, a token a row. -/
def kBlock (b0 b1 g : Vec F S64x512 .f32) (co si : Vec F S32x512 .f32) : FVec F S1x512x128 .bf16 :=
  shapeCast S1x512x128 (truncf .bf16 (transpose S512x128 [1, 0]
    (concatenate S128x512 0 [⟨S64x512, kRows b0 g co si⟩, ⟨S64x512, kRows b1 g co si⟩] concatenates_S64x512_S64x512_S128x512_d0)
    transposes_S128x512_p1_0_S512x128) bitsLt_bf16_f32) shapeCasts_S512x128_S1x512x128

/-- A block of the values: 128 tokens. -/
def vBlock (b : Vec F S128x512 .f32) (n : Fin 4) : FVec F S1x1x128x128 .bf16 :=
  match n with
  | 0 => shapeCast S1x1x128x128 (extractStridedSlice S128x128 ![0, 0] (truncf .bf16 b bitsLt_bf16_f32) slices_S128x512_o0_0_S128x128) shapeCasts_S128x128_S1x1x128x128
  | 1 => shapeCast S1x1x128x128 (extractStridedSlice S128x128 ![0, 128] (truncf .bf16 b bitsLt_bf16_f32) slices_S128x512_o0_128_S128x128) shapeCasts_S128x128_S1x1x128x128
  | 2 => shapeCast S1x1x128x128 (extractStridedSlice S128x128 ![0, 256] (truncf .bf16 b bitsLt_bf16_f32) slices_S128x512_o0_256_S128x128) shapeCasts_S128x128_S1x1x128x128
  | 3 => shapeCast S1x1x128x128 (extractStridedSlice S128x128 ![0, 384] (truncf .bf16 b bitsLt_bf16_f32) slices_S128x512_o0_384_S128x128) shapeCasts_S128x128_S1x1x128x128

end

theorem named_scale : Named.named (F := Ideal) (φ := .f32) κ "swa_scale" (0x3E38AA3B#32) = qScale :=
  IdealRules.named_const.ideal_named_scalar _ _ _ _ rfl

theorem colRoot_apply (b : FVec Ideal S64x512 .f32) (t : Fin 512) : colRoot (F := Ideal) b (ix2 0 t) = root (fun d => b (ix2 d t)) := by
  unfold root
  pointwise [colRoot]

theorem rotated_lo (y : FVec Ideal S64x512 .f32) (co si : FVec Ideal S32x512 .f32) (j : Fin 32) (t : Fin 512) :
    rotated (F := Ideal) y co si (ix2 (lo j) t) = rotLo (fun d => y (ix2 d t)) (fun j => co (ix2 j t)) (fun j => si (ix2 j t)) j := by
  unfold rotLo lo hi
  pointwise [rotated]
theorem rotated_hi (y : FVec Ideal S64x512 .f32) (co si : FVec Ideal S32x512 .f32) (j : Fin 32) (t : Fin 512) :
    rotated (F := Ideal) y co si (ix2 (hi j) t) = rotHi (fun d => y (ix2 d t)) (fun j => co (ix2 j t)) (fun j => si (ix2 j t)) j := by
  unfold rotHi lo hi
  pointwise [rotated]

theorem kRows_eq (b g : Vec Ideal S64x512 .f32) (co si : Vec Ideal S32x512 .f32) (d : Fin 64) (t : Fin 512) :
    kRows (F := Ideal) b g co si (ix2 d t) = rotated (F := Ideal) (mulf b g) co si (ix2 d t) * root (fun d => b (ix2 d t)) := by
  rw [← colRoot_apply]
  unfold kRows
  simp only [shapeCast_self]
  generalize rotated (F := Ideal) _ co si = R
  generalize colRoot (F := Ideal) b = C
  pointwise []

theorem qBlock_eq (b g : Vec Ideal S64x512 .f32) (co si : Vec Ideal S32x512 .f32) (d : Fin 64) (t : Fin 512) :
    qBlock (F := Ideal) b g co si (ix4 0 0 d t) = rotated (F := Ideal) (mulf b g) co si (ix2 d t) * (root (fun d => b (ix2 d t)) * qScale) := by
  rw [← colRoot_apply, ← named_scale]
  unfold qBlock
  simp only [shapeCast_self]
  generalize rotated (F := Ideal) _ co si = R
  generalize colRoot (F := Ideal) b = C
  pointwise []

theorem kBlock_0 (b0 b1 g : Vec Ideal S64x512 .f32) (co si : Vec Ideal S32x512 .f32) (d : Fin 64) (t : Fin 512) (h : d.val < 128) :
    kBlock (F := Ideal) b0 b1 g co si (ix3 0 t ⟨d.val, h⟩) = kRows (F := Ideal) b0 g co si (ix2 d t) := by
  unfold kBlock
  generalize kRows (F := Ideal) b0 g co si = R0
  generalize kRows (F := Ideal) b1 g co si = R1
  pointwise []
theorem kBlock_1 (b0 b1 g : Vec Ideal S64x512 .f32) (co si : Vec Ideal S32x512 .f32) (d : Fin 64) (t : Fin 512) (h : 64 + d.val < 128) :
    kBlock (F := Ideal) b0 b1 g co si (ix3 0 t ⟨64 + d.val, h⟩) = kRows (F := Ideal) b1 g co si (ix2 d t) := by
  unfold kBlock
  generalize kRows (F := Ideal) b0 g co si = R0
  generalize kRows (F := Ideal) b1 g co si = R1
  pointwise []

theorem vBlock_apply (b : Vec Ideal S128x512 .f32) (n : Fin 4) (r : Fin 128) (t : Fin 128) :
    vBlock (F := Ideal) b n (ix4 0 0 r t) = b (ix2 r ⟨128 * n.val + t.val, by omega⟩) := by
  match n with
  | 0 => unfold vBlock; pointwise []
  | 1 => unfold vBlock; pointwise []
  | 2 => unfold vBlock; pointwise []
  | 3 => unfold vBlock; pointwise []

/-- The projection of a token's normalised, scaled and shifted row. -/
theorem proj_apply (x : Vec Ideal S1x512x1024 .f32) (nw : Vec Ideal S1x1024 .f32) (sc sh : Vec Ideal S1x1x1024 .f32) (w : Vec Ideal S1184x1024 .bf16) (n : Fin 1184) (t : Fin 512) :
    k0_pay2 (F := Ideal) x nw sc sh w (ix3 0 n t)
      = ∑ k : Fin 1024, w (ix2 n k) * (Cert.Ffn.rnorm (fun l => x (ix3 0 t l)) k * (nw (ix2 0 k) * (1 + sc (ix3 0 0 k))) + sh (ix3 0 0 k)) := by
  unfold Cert.Ffn.rnorm
  pointwise [k0_pay2]

end Cert.InProjIdeal.InProj
end
-- ==== Proof.InProjStore.lean ====
/-
  The input projection call: what a grid point leaves in the buffers of the windowed attention's three arrays.
-/
module

public import proofs.«01_k».proof.Proof.InProjPay
public import proofs.«01_k».proof.Proof.Gen.InProjIdeal.Frame

@[expose] public section
set_option maxRecDepth 16384
set_option maxHeartbeats 4000000
noncomputable section
namespace Cert.InProjIdeal.InProj

open Cert.InProjIdeal.Gen Cert.InProj
open Idealize.ShloMosaic Idealize.ShloMosaic.TcCoe Idealize.SL.Sem Idealize.ShloMosaic.Tactic

section
variable {F : FTy → Type} [FloatOps F] [Named F]

/-! The rectangles. -/

theorem inb_slot : ∀ (s : Fin 2) (a : Fin 3), (![s.val, 0, 0] : Fin 3 → ℕ) a + S1x1184x512.size a ≤ S2x1184x512.size a := by decide
theorem inb_rows (r n : ℕ) (h : r + n ≤ 1184) (a : Fin 2) : (![r, 0] : Fin 2 → ℕ) a + (![n, 512] : Fin 2 → ℕ) a ≤ S1184x512.size a := by
  match a with
  | 0 => exact h
  | 1 => show 0 + 512 ≤ 512; omega
theorem inb_x : ∀ (s : Fin 2) (a : Fin 3), (![0, 512 * s.val, 0] : Fin 3 → ℕ) a + S1x512x1024.size a ≤ S1x1024x1024.size a := by decide
theorem inb_gain : ∀ (s : Fin 2) (a : Fin 2), (![64 * s.val, 0] : Fin 2 → ℕ) a + S64x512.size a ≤ S704x512.size a := by decide
theorem inb_table : ∀ (h s : Fin 2) (a : Fin 2), (![32 * h.val, 512 * s.val] : Fin 2 → ℕ) a + S32x512.size a ≤ S96x1024.size a := by decide
theorem inb_q : ∀ (s : Fin 2) (h : Fin 8) (a : Fin 4), (![0, h.val, 0, 512 * s.val] : Fin 4 → ℕ) a + S1x1x64x512.size a ≤ S1x8x64x1024.size a := by decide
theorem inb_k : ∀ (s : Fin 2) (a : Fin 3), (![0, 512 * s.val, 0] : Fin 3 → ℕ) a + S1x512x128.size a ≤ S1x1024x128.size a := by decide
theorem inb_v : ∀ (s : Fin 2) (n : Fin 4) (a : Fin 4), (![0, 4 * s.val + n.val, 0, 0] : Fin 4 → ℕ) a + S1x1x128x128.size a ≤ S1x8x128x128.size a := by decide

def slotRect (s : Fin 2) : Rect S2x1184x512 := Rect.unit (s := S2x1184x512) ![s.val, 0, 0] S1x1184x512.size (inb_slot s)

/-- The rows of a slot that are read. -/
def rowsOf (r n : ℕ) (h : r + n ≤ 1184) : LoadRect S1184x512 := (Rect.unit (s := S1184x512) ![r, 0] ![n, 512] (inb_rows r n h)).toLoadRect

theorem slot_sizes : ∀ i : Fin 2, S1x1184x512.size i.succ = S1184x512.size i := by decide

/-- A read of a slot's rows, from the scratch's stores. -/
def rowRead {κ' : Kind} {sp : Space} (v : View sig κ' sp S2x1184x512 .f32) (s : Fin 2) (r n : ℕ) (h : r + n ≤ 1184)
    (L : List (View.Piece (Elt F) S2x1184x512 .f32)) : Vec F ⟨2, ![n, 512]⟩ .f32 :=
  LoadRect.valAlong (LoadRect.numel_consLift (rowsOf r n h) S1x1184x512.size rfl slot_sizes)
    (v.readCov L ((slotRect s).withinL ((rowsOf r n h).consLift S1x1184x512.size rfl slot_sizes) (fun _ => rfl)))

/-- The two slots' stores. -/
def slots (p0 p1 : Vec F S1x1184x512 .f32) : List (View.Piece (Elt F) S2x1184x512 .f32) := [⟨slotRect 1, p1⟩, ⟨slotRect 0, p0⟩]

/-- A slot's content without its leading unit axis. -/
def flatSlot (p : Vec F S1x1184x512 .f32) : Vec F S1184x512 .f32 := shapeCast S1184x512 p (Rect.numel_consShape S1x1184x512.size rfl slot_sizes)

theorem slots_canon0 (p0 p1 : Vec F S1x1184x512 .f32) (x : S1x1184x512.Idx) : View.canon (slots p0 p1) ((slotRect 0).emb x) = p0 x := by
  unfold slots
  refine (View.canon_cons_of_not_mem _ _ ?_).trans (View.canon_cons_emb (slotRect 0) p0 [] x)
  intro hm
  have hm' : (slotRect 0).emb x ∈ (Rect.unit (s := S2x1184x512) ![(1 : Fin 2).val, 0, 0] S1x1184x512.size (inb_slot 1)).set := hm
  rw [Rect.mem_set_unit] at hm'
  have e : (1 : ℕ) ≤ 0 + 1 * (x 0).val := (hm' 0).1
  have h0 : (x 0).val < 1 := (x 0).isLt
  omega
theorem slots_canon1 (p0 p1 : Vec F S1x1184x512 .f32) (x : S1x1184x512.Idx) : View.canon (slots p0 p1) ((slotRect 1).emb x) = p1 x := by
  unfold slots
  exact View.canon_cons_emb _ _ _ _

theorem rowRead_0 {κ' : Kind} {sp : Space} (v : View sig κ' sp S2x1184x512 .f32) (r n : ℕ) (h : r + n ≤ 1184) (p0 p1 : Vec F S1x1184x512 .f32) :
    rowRead v 0 r n h (slots p0 p1) = fun x => flatSlot p0 ((rowsOf r n h).idx x) := by
  funext x
  unfold rowRead
  rw [View.readCov_eq_canon']
  show View.canon (slots p0 p1) (((slotRect 0).withinL ((rowsOf r n h).consLift S1x1184x512.size rfl slot_sizes) (fun _ => rfl)).idx
    (Shape.reshapeEquiv (LoadRect.numel_consLift (rowsOf r n h) S1x1184x512.size rfl slot_sizes) x)) = _
  exact (congrArg (View.canon (slots p0 p1)) ((Rect.idx_withinL (slotRect 0) ((rowsOf r n h).consLift S1x1184x512.size rfl slot_sizes) (fun _ => rfl) _).trans
    (congrArg (slotRect 0).emb (LoadRect.liftsTo_consLift (rowsOf r n h) S1x1184x512.size rfl slot_sizes x).symm))).trans (slots_canon0 p0 p1 _)
theorem rowRead_1 {κ' : Kind} {sp : Space} (v : View sig κ' sp S2x1184x512 .f32) (r n : ℕ) (h : r + n ≤ 1184) (p0 p1 : Vec F S1x1184x512 .f32) :
    rowRead v 1 r n h (slots p0 p1) = fun x => flatSlot p1 ((rowsOf r n h).idx x) := by
  funext x
  unfold rowRead
  rw [View.readCov_eq_canon']
  show View.canon (slots p0 p1) (((slotRect 1).withinL ((rowsOf r n h).consLift S1x1184x512.size rfl slot_sizes) (fun _ => rfl)).idx
    (Shape.reshapeEquiv (LoadRect.numel_consLift (rowsOf r n h) S1x1184x512.size rfl slot_sizes) x)) = _
  exact (congrArg (View.canon (slots p0 p1)) ((Rect.idx_withinL (slotRect 1) ((rowsOf r n h).consLift S1x1184x512.size rfl slot_sizes) (fun _ => rfl) _).trans
    (congrArg (slotRect 1).emb (LoadRect.liftsTo_consLift (rowsOf r n h) S1x1184x512.size rfl slot_sizes x).symm))).trans (slots_canon1 p0 p1 _)

section Point
variable (x0 : Vec F S1x1024x1024 .f32) (x1 x2 : Vec F S1x1x1024 .f32) (x3 : Vec F S1x1024 .f32) (x4 : Vec F S1184x1024 .bf16)
  (x7 : Vec F S704x512 .f32) (x8 : Vec F S96x1024 .f32)

/-- The projection of a point's first 512 tokens, or of the others. -/
def projAt (s : Fin 2) : Vec F S1x1184x512 .f32 :=
  k0_pay2 (View.ld x0 (Rect.unit (s := S1x1024x1024) ![0, 512 * s.val, 0] S1x512x1024.size (inb_x s)))
    (View.ld x3 (Rect.unit (s := S1x1024) ![0, 0] S1x1024.size (by decide)))
    (View.ld x2 (Rect.unit (s := S1x1x1024) ![0, 0, 0] S1x1x1024.size (by decide)))
    (View.ld x1 (Rect.unit (s := S1x1x1024) ![0, 0, 0] S1x1x1024.size (by decide)))
    (View.ld x4 (Rect.unit (s := S1184x1024) ![0, 0] S1184x1024.size (by decide)))

def gainAt (g : Fin 2) : Vec F S64x512 .f32 := View.ld x7 (Rect.unit (s := S704x512) ![64 * g.val, 0] S64x512.size (inb_gain g))
def tableAt (h s : Fin 2) : Vec F S32x512 .f32 := View.ld x8 (Rect.unit (s := S96x1024) ![32 * h.val, 512 * s.val] S32x512.size (inb_table h s))

variable (zr : Fin 2 → (r n : ℕ) → r + n ≤ 1184 → Vec F ⟨2, ![n, 512]⟩ .f32)

/-- The stores of a point, from the reads of the projection. -/
def qPiece (s : Fin 2) (h : Fin 8) : View.Piece (Elt F) S1x8x64x1024 .bf16 :=
  ⟨Rect.unit (s := S1x8x64x1024) ![0, h.val, 0, 512 * s.val] S1x1x64x512.size (inb_q s h),
    qBlock (zr s (64 * h.val) 64 (by omega)) (gainAt x7 0) (tableAt x8 0 s) (tableAt x8 1 s)⟩
def kPiece (s : Fin 2) : View.Piece (Elt F) S1x1024x128 .bf16 :=
  ⟨Rect.unit (s := S1x1024x128) ![0, 512 * s.val, 0] S1x512x128.size (inb_k s),
    kBlock (zr s 512 64 (by omega)) (zr s 576 64 (by omega)) (gainAt x7 1) (tableAt x8 0 s) (tableAt x8 1 s)⟩
def vPiece (s : Fin 2) (n : Fin 4) : View.Piece (Elt F) S1x8x128x128 .bf16 :=
  ⟨Rect.unit (s := S1x8x128x128) ![0, 4 * s.val + n.val, 0, 0] S1x1x128x128.size (inb_v s n), vBlock (zr s 640 128 (by omega)) n⟩

def qPieces : List (View.Piece (Elt F) S1x8x64x1024 .bf16) :=
  [qPiece x7 x8 zr 1 7, qPiece x7 x8 zr 1 6, qPiece x7 x8 zr 1 5, qPiece x7 x8 zr 1 4, qPiece x7 x8 zr 1 3, qPiece x7 x8 zr 1 2, qPiece x7 x8 zr 1 1, qPiece x7 x8 zr 1 0,
    qPiece x7 x8 zr 0 7, qPiece x7 x8 zr 0 6, qPiece x7 x8 zr 0 5, qPiece x7 x8 zr 0 4, qPiece x7 x8 zr 0 3, qPiece x7 x8 zr 0 2, qPiece x7 x8 zr 0 1, qPiece x7 x8 zr 0 0]
def kPieces : List (View.Piece (Elt F) S1x1024x128 .bf16) := [kPiece x7 x8 zr 1, kPiece x7 x8 zr 0]
def vPieces : List (View.Piece (Elt F) S1x8x128x128 .bf16) :=
  [vPiece zr 1 3, vPiece zr 1 2, vPiece zr 1 1, vPiece zr 1 0, vPiece zr 0 3, vPiece zr 0 2, vPiece zr 0 1, vPiece zr 0 0]

/-- The reads of the projection. -/
def readAt (v : View sig .tc .vmem S2x1184x512 .f32) (s : Fin 2) (r n : ℕ) (h : r + n ≤ 1184) : Vec F ⟨2, ![n, 512]⟩ .f32 :=
  rowRead v s r n h (slots (projAt x0 x1 x2 x3 x4 0) (projAt x0 x1 x2 x3 x4 1))
end Point

variable (m : (ℓ : Loc nD τ sig) → Buf (Elt F) ℓ) (c : Dev nD) (t : Fin cfg0.N)

theorem v_stores : (outsAt0 m c t).2.2.1 = View.canon (vPieces
    (readAt (iblk m c 0 t) (iblk m c 1 t) (iblk m c 2 t) (iblk m c 3 t) (iblk m c 4 t) scM0_0.view)) := by
  unfold outsAt0 out0_A_11
  rw [View.read_writes_eq_canon _ _ _ (cover0_A_11 c _ _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld]
  rw [(hs0_0 t).read_unread, (hs0_1 t).read_unread, (hs0_2 t).read_unread, (hs0_3 t).read_unread, (hs0_4 t).read_unread]
  rfl

theorem k_stores : (outsAt0 m c t).2.1 = View.canon (kPieces (iblk m c 7 t) (iblk m c 8 t)
    (readAt (iblk m c 0 t) (iblk m c 1 t) (iblk m c 2 t) (iblk m c 3 t) (iblk m c 4 t) scM0_0.view)) := by
  unfold outsAt0 out0_A_10
  rw [View.read_writes_eq_canon _ _ _ (cover0_A_10 c _ _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld]
  rw [(hs0_0 t).read_unread, (hs0_1 t).read_unread, (hs0_2 t).read_unread, (hs0_3 t).read_unread, (hs0_4 t).read_unread, (hs0_7 t).read_unread, (hs0_8 t).read_unread]
  rfl

theorem q_stores : (outsAt0 m c t).1 = View.canon (qPieces (iblk m c 7 t) (iblk m c 8 t)
    (readAt (iblk m c 0 t) (iblk m c 1 t) (iblk m c 2 t) (iblk m c 3 t) (iblk m c 4 t) scM0_0.view)) := by
  unfold outsAt0 out0_A_9
  rw [View.read_writes_eq_canon _ _ _ (cover0_A_9 c _ _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld]
  rw [(hs0_0 t).read_unread, (hs0_1 t).read_unread, (hs0_2 t).read_unread, (hs0_3 t).read_unread, (hs0_4 t).read_unread, (hs0_7 t).read_unread, (hs0_8 t).read_unread]
  rfl

end
end Cert.InProjIdeal.InProj
end
-- ==== Proof.InProjValue.lean ====
/-
  The input projection call's arrays for the windowed attention: the queries and keys normalised and rotated, and the values.
-/
module

public import proofs.«01_k».proof.Proof.InProjStore
public import proofs.«01_k».proof.Proof.Gen.InProjIdeal.Value
public import proofs.«01_k».proof.Proof.Gen.InProjRefIdeal.Read
public import Idealize.ShloMosaic.Lib.StableHlo.RunRead
public import Idealize.ShloMosaic.Lib.Pipeline.Value

@[expose] public section
set_option maxRecDepth 16384
set_option maxHeartbeats 4000000
noncomputable section
namespace Cert.InProjIdeal.InProj

open Cert.InProjIdeal.Gen Cert.InProj Cert.Ffn
open Idealize.ShloMosaic Idealize.ShloMosaic.TcCoe Idealize.ShloMosaic.StableHlo Idealize.SL.Sem Idealize.ShloMosaic.Tactic

/-- A head rotated. -/
def rot (y : Fin 64 → EReal) (co si : Fin 32 → EReal) (d : Fin 64) : EReal :=
  if h : d.val < 32 then rotLo y co si ⟨d.val, h⟩ else rotHi y co si ⟨d.val - 32, by omega⟩

theorem rot_lo (y : Fin 64 → EReal) (co si : Fin 32 → EReal) (j : Fin 32) : rot y co si (lo j) = rotLo y co si j := by
  unfold rot
  exact dif_pos j.isLt
theorem rot_hi (y : Fin 64 → EReal) (co si : Fin 32 → EReal) (j : Fin 32) : rot y co si (hi j) = rotHi y co si j := by
  unfold rot
  rw [dif_neg (by show ¬ 32 + j.val < 32; omega)]
  exact congrArg _ (Fin.ext (by show 32 + j.val - 32 = j.val; omega))

theorem rotated_eq (y : FVec Ideal S64x512 .f32) (co si : FVec Ideal S32x512 .f32) (d : Fin 64) (t : Fin 512) :
    rotated (F := Ideal) y co si (ix2 d t) = rot (fun d => y (ix2 d t)) (fun j => co (ix2 j t)) (fun j => si (ix2 j t)) d := by
  obtain ⟨j, rfl | rfl⟩ := halves d
  · rw [rotated_lo, rot_lo]
  · rw [rotated_hi, rot_hi]

/-- The projection of a token's normalised, scaled and shifted row. -/
def proj (x : FVec Ideal S4x8192x1024 .f32) (md : FVec Ideal S4x9216 .f32) (nw : FVec Ideal S1x1024 .f32) (w : FVec Ideal S1x1024x1184 .f32)
    (B : Fin 4) (n : Fin 8192) (p : Fin 1184) : EReal :=
  ∑ k : Fin 1024, w (ix3 0 k p) * (rnorm (fun l => x (ix3 B n l)) k * (nw (ix2 0 k) * (1 + md (ix2 B (piece 4 k)))) + md (ix2 B (piece 3 k)))

/-- The angle of a token's rotation in pair `j`. -/
def angle : FVec Ideal S8192x32 .f32 := Cert.InProjRefIdeal.Read.val_main_v66 (F := Ideal)

def cosAt (n : Fin 8192) (j : Fin 32) : EReal := Ideal.cos (angle (ix2 n j))
def sinAt (n : Fin 8192) (j : Fin 32) : EReal := Ideal.sin (angle (ix2 n j))

/-- A head of a projected token, over the root of its mean square, times the gain, rotated. -/
def headOut (z : Fin 64 → EReal) (g : FVec Ideal S1x64 .f32) (n : Fin 8192) (d : Fin 64) : EReal :=
  rot (fun d => z d * g (ix2 0 d)) (cosAt n) (sinAt n) d

section
variable (z : Fin 4 → Fin 8192 → Fin 1184 → EReal) (gq gk : FVec Ideal S1x64 .f32)

def qHead (B : Fin 4) (n : Fin 8192) (h : Fin 8) (d : Fin 64) : EReal := z B n ⟨64 * h.val + d.val, by omega⟩
def kHead (B : Fin 4) (n : Fin 8192) (h : Fin 2) (d : Fin 64) : EReal := z B n ⟨512 + 64 * h.val + d.val, by omega⟩

def resQ : FVec Ideal S4x8x64x8192 .bf16 := fun i =>
  headOut (qHead z (i 0) (i 3) (i 1)) gq (i 3) (i 2) * (root (qHead z (i 0) (i 3) (i 1)) * qScale)
def resK : FVec Ideal S4x8192x128 .bf16 := fun i =>
  headOut (kHead z (i 0) (i 1) ⟨(i 2).val / 64, Nat.div_lt_of_lt_mul (i 2).isLt⟩) gk (i 1) ⟨(i 2).val % 64, Nat.mod_lt _ (by decide)⟩
    * root (kHead z (i 0) (i 1) ⟨(i 2).val / 64, Nat.div_lt_of_lt_mul (i 2).isLt⟩)
def resV : FVec Ideal S4x64x128x128 .bf16 := fun i =>
  z (i 0) ⟨128 * (i 1).val + (i 3).val, by have h1 : (i 1).val < 64 := (i 1).isLt; have h3 : (i 3).val < 128 := (i 3).isLt; omega⟩
    ⟨640 + (i 2).val, by have h : (i 2).val < 128 := (i 2).isLt; omega⟩
end

variable (m : (ℓ : Loc nD τ sig) → Buf (Elt Ideal) ℓ) (c : Dev nD)

/-! The arguments, and what the pipeline finds in its arrays. -/

abbrev A0 : FVec Ideal S4x8192x1024 .f32 := m ((c.tc : Thread nD τ).loc main_arg0)
abbrev A1 : FVec Ideal S4x9216 .f32 := m ((c.tc : Thread nD τ).loc main_arg1)
abbrev A2 : FVec Ideal S1x1024 .f32 := m ((c.tc : Thread nD τ).loc main_arg2)
abbrev A3 : FVec Ideal S1x1024x1184 .f32 := m ((c.tc : Thread nD τ).loc main_arg3)
abbrev A4 : FVec Ideal S1x64 .f32 := m ((c.tc : Thread nD τ).loc main_arg4)
abbrev A5 : FVec Ideal S1x64 .f32 := m ((c.tc : Thread nD τ).loc main_arg5)

abbrev zOf : Fin 4 → Fin 8192 → Fin 1184 → EReal := proj (A0 m c) (A1 m c) (A2 m c) (A3 m c)

theorem V_0 : V m c main_arg0 = A0 m c := by
  dsimp only [V, hostOps0, hostOps0_1, hostOps0_2, List.flatten_cons, List.flatten_nil, List.append_nil, List.cons_append, List.nil_append]
  after_reads_simp

theorem V_2 (b : Fin 4) (k : Fin 1024) : V m c main_v2 (ix3 b 0 k) = A1 m c (ix2 b (piece 3 k)) := by
  have e : V m c main_v2 = shapeCast S4x1x1024 (extractStridedSlice S4x1x1x1024 ![0, 3, 0, 0] (shapeCast S4x9x1x1024 (A1 m c) shapeCasts_S4x9216_S4x9x1x1024)
      slices_S4x9x1x1024_S4x1x1x1024_0_3_0_0) shapeCasts_S4x1x1x1024_S4x1x1024 := by
    dsimp only [V, hostOps0, hostOps0_1, hostOps0_2, List.flatten_cons, List.flatten_nil, List.append_nil, List.cons_append, List.nil_append]
    after_reads_simp
    rfl
  rw [e]
  generalize A1 m c = x
  pointwise []
  exact congrArg (fun q => x (ix2 b q)) (Fin.ext (by show 3072 + k.val = 1024 * 3 + k.val; omega))

theorem V_4 (b : Fin 4) (k : Fin 1024) : V m c main_v4 (ix3 b 0 k) = A1 m c (ix2 b (piece 4 k)) := by
  have e : V m c main_v4 = shapeCast S4x1x1024 (extractStridedSlice S4x1x1x1024 ![0, 4, 0, 0] (shapeCast S4x9x1x1024 (A1 m c) shapeCasts_S4x9216_S4x9x1x1024)
      slices_S4x9x1x1024_S4x1x1x1024_0_4_0_0) shapeCasts_S4x1x1x1024_S4x1x1024 := by
    dsimp only [V, hostOps0, hostOps0_1, hostOps0_2, List.flatten_cons, List.flatten_nil, List.append_nil, List.cons_append, List.nil_append]
    after_reads_simp
    rfl
  rw [e]
  generalize A1 m c = x
  pointwise []
  exact congrArg (fun q => x (ix2 b q)) (Fin.ext (by show 4096 + k.val = 1024 * 4 + k.val; omega))

theorem V_7 (p : Fin 1184) (k : Fin 1024) : V m c main_v7 (ix2 p k) = A3 m c (ix3 0 k p) := by
  have e : V m c main_v7 = truncf .bf16 (transpose S1184x1024 [1, 0] (shapeCast S1024x1184 (A3 m c) shapeCasts_S1x1024x1184_S1024x1184)
      transposes_S1024x1184_S1184x1024_1_0) bitsLt_bf16_f32 := by
    dsimp only [V, hostOps0, hostOps0_1, hostOps0_2, List.flatten_cons, List.flatten_nil, List.append_nil, List.cons_append, List.nil_append]
    after_reads_simp
    rfl
  rw [e]
  generalize A3 m c = x
  pointwise []

theorem V_29 (k : Fin 1024) : V m c main_v29 (ix2 0 k) = A2 m c (ix2 0 k) := by
  have e : V m c main_v29 = shapeCast S1x1024 (shapeCast S1024 (A2 m c) shapeCasts_S1x1024_S1024) shapeCasts_S1024_S1x1024 := by
    dsimp only [V, hostOps0, hostOps0_1, hostOps0_2, List.flatten_cons, List.flatten_nil, List.append_nil, List.cons_append, List.nil_append]
    after_reads_simp
    rfl
  rw [e]
  generalize A2 m c = x
  pointwise []

theorem V_27_term : ∃ (a2 : FVec Ideal S256 .f32) (a3 : FVec Ideal S128 .f32) (a4 : FVec Ideal S96 .f32) (a5 : FVec Ideal S64 .f32) (a6 : FVec Ideal S32 .f32),
    V m c main_v27 = broadcastInDim S704x512 ![0, 1] bcast_S704x1_S704x512_0_1 (broadcastInDim S704x1 ![0] bcast_S704_S704x1_0
      (concatenate S704 0 [⟨S64, shapeCast S64 (A4 m c) shapeCasts_S1x64_S64⟩, ⟨S64, shapeCast S64 (A5 m c) shapeCasts_S1x64_S64⟩,
        ⟨S256, a2⟩, ⟨S128, a3⟩, ⟨S96, a4⟩, ⟨S64, a5⟩, ⟨S32, a6⟩] concatenates_S64_S64_S256_S128_S96_S64_S32_S704_d0)) := by
  dsimp only [V, hostOps0, hostOps0_1, hostOps0_2, List.flatten_cons, List.flatten_nil, List.append_nil, List.cons_append, List.nil_append]
  after_reads_simp
  exact ⟨_, _, _, _, _, rfl⟩

theorem V_27_0 (d : Fin 64) (t : Fin 512) (h : d.val < 704) : V m c main_v27 (ix2 ⟨d.val, h⟩ t) = A4 m c (ix2 0 d) := by
  obtain ⟨a2, a3, a4, a5, a6, e⟩ := V_27_term m c
  rw [e]
  generalize A4 m c = x
  generalize A5 m c = y
  pointwise []
theorem V_27_1 (d : Fin 64) (t : Fin 512) (h : 64 + d.val < 704) : V m c main_v27 (ix2 ⟨64 + d.val, h⟩ t) = A5 m c (ix2 0 d) := by
  obtain ⟨a2, a3, a4, a5, a6, e⟩ := V_27_term m c
  rw [e]
  generalize A4 m c = x
  generalize A5 m c = y
  pointwise []

theorem V_69_term : ∃ a2 a3 : FVec Ideal S16x8192 .f32,
    V m c main_v69 = concatenate S96x8192 0 [⟨S32x8192, transpose S32x8192 [1, 0] (Host.cos angle) transposes_S8192x32_S32x8192_1_0⟩,
      ⟨S32x8192, transpose S32x8192 [1, 0] (Host.sin angle) transposes_S8192x32_S32x8192_1_0⟩, ⟨S16x8192, a2⟩, ⟨S16x8192, a3⟩]
      concatenates_S32x8192_S32x8192_S16x8192_S16x8192_S96x8192_d0 := by
  dsimp only [V, hostOps0, hostOps0_1, hostOps0_2, List.flatten_cons, List.flatten_nil, List.append_nil, List.cons_append, List.nil_append]
  after_reads_simp
  exact ⟨_, _, rfl⟩

theorem V_69_0 (j : Fin 32) (n : Fin 8192) (h : j.val < 96) : V m c main_v69 (ix2 ⟨j.val, h⟩ n) = cosAt n j := by
  obtain ⟨a2, a3, e⟩ := V_69_term m c
  rw [e]
  unfold cosAt
  generalize angle = x
  pointwise []
theorem V_69_1 (j : Fin 32) (n : Fin 8192) (h : 32 + j.val < 96) : V m c main_v69 (ix2 ⟨32 + j.val, h⟩ n) = sinAt n j := by
  obtain ⟨a2, a3, e⟩ := V_69_term m c
  rw [e]
  unfold sinAt
  generalize angle = x
  pointwise []

end Cert.InProjIdeal.InProj
end
-- ==== Proof.InProjOut.lean ====
/-
  The input projection call: the result arrays after the run, at the ideal values.
-/
module

public import proofs.«01_k».proof.Proof.InProjValue

@[expose] public section
set_option maxRecDepth 16384
set_option maxHeartbeats 4000000
noncomputable section
namespace Cert.InProjIdeal.InProj

open Cert.InProjIdeal.Gen Cert.InProj Cert.Ffn
open Idealize.ShloMosaic Idealize.ShloMosaic.TcCoe Idealize.ShloMosaic.StableHlo Idealize.SL.Sem Idealize.ShloMosaic.Tactic

variable (m : (ℓ : Loc nD τ sig) → Buf (Elt Ideal) ℓ) (c : Dev nD)

/-! Where the windows' blocks lie: point `t` is tile `t % 8` of sequence `t / 8`. -/

theorem idx0 : ∀ t : Fin cfg0.N, win0_0.index t = ![t.val / 8, t.val % 8, 0] := (by decide +kernel : ∀ t : Fin grid0.N, win0_0.index t = ![t.val / 8, t.val % 8, 0])
theorem idx1 : ∀ t : Fin cfg0.N, win0_1.index t = ![t.val / 8, 0, 0] := (by decide +kernel : ∀ t : Fin grid0.N, win0_1.index t = ![t.val / 8, 0, 0])
theorem idx2 : ∀ t : Fin cfg0.N, win0_2.index t = ![t.val / 8, 0, 0] := (by decide +kernel : ∀ t : Fin grid0.N, win0_2.index t = ![t.val / 8, 0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx7 : ∀ t : Fin cfg0.N, win0_7.index t = ![0, 0] := (by decide +kernel : ∀ t : Fin grid0.N, win0_7.index t = ![0, 0])
theorem idx8 : ∀ t : Fin cfg0.N, win0_8.index t = ![0, t.val % 8] := (by decide +kernel : ∀ t : Fin grid0.N, win0_8.index t = ![0, t.val % 8])
theorem idx9 : ∀ t : Fin cfg0.N, win0_9.index t = ![t.val / 8, 0, 0, t.val % 8] := (by decide +kernel : ∀ t : Fin grid0.N, win0_9.index t = ![t.val / 8, 0, 0, t.val % 8])
theorem idx10 : ∀ t : Fin cfg0.N, win0_10.index t = ![t.val / 8, t.val % 8, 0] := (by decide +kernel : ∀ t : Fin grid0.N, win0_10.index t = ![t.val / 8, t.val % 8, 0])
theorem idx11 : ∀ t : Fin cfg0.N, win0_11.index t = ![t.val / 8, t.val % 8, 0, 0] := (by decide +kernel : ∀ t : Fin grid0.N, win0_11.index t = ![t.val / 8, t.val % 8, 0, 0])

theorem lt_N (t : Fin cfg0.N) : t.val < 32 := t.isLt

def seqOf (t : Fin cfg0.N) : Fin 4 := ⟨t.val / 8, by have := lt_N t; omega⟩
/-- Token `r` of a point's half `s`. -/
def tok (t : Fin cfg0.N) (s : Fin 2) (r : Fin 512) : Fin 8192 := ⟨1024 * (t.val % 8) + 512 * s.val + r.val, by omega⟩
def row (s : Fin 2) (r : Fin 512) : Fin 1024 := ⟨512 * s.val + r.val, by omega⟩

theorem blk0 (t : Fin cfg0.N) (s : Fin 2) (r : Fin 512) (k : Fin 1024) : iblk m c 0 t (ix3 0 (row s r) k) = A0 m c (ix3 (seqOf t) (tok t s r) k) := by
  refine Eq.trans ?_ (congrFun (V_0 m c) _)
  show ((cfg0.win 0).blk t).view.read (Elt Ideal) (V m c main_arg0) (ix3 0 (row s r) k) = V m c main_arg0 _
  rw [View.read_apply]
  show V m c main_arg0 _ = _
  congr 1
  funext a
  apply Fin.ext
  match a with
  | ⟨0, _⟩ => show win0_0.index t 0 * 1 + 1 * 0 = t.val / 8; rw [idx0]; show t.val / 8 * 1 + 1 * 0 = _; omega
  | ⟨1, _⟩ => show win0_0.index t 1 * 1024 + 1 * (512 * s.val + r.val) = 1024 * (t.val % 8) + 512 * s.val + r.val; rw [idx0]; show t.val % 8 * 1024 + 1 * (512 * s.val + r.val) = _; omega
  | ⟨2, _⟩ => show win0_0.index t 2 * 1024 + 1 * k.val = k.val; rw [idx0]; show 0 * 1024 + 1 * k.val = _; omega

theorem blk1 (t : Fin cfg0.N) (k : Fin 1024) : iblk m c 1 t (ix3 0 0 k) = A1 m c (ix2 (seqOf t) (piece 3 k)) := by
  refine Eq.trans ?_ (V_2 m c _ _)
  show ((cfg0.win 1).blk t).view.read (Elt Ideal) (V m c main_v2) (ix3 0 0 k) = V m c main_v2 _
  rw [View.read_apply]
  show V m c main_v2 _ = _
  congr 1
  funext a
  apply Fin.ext
  match a with
  | ⟨0, _⟩ => show win0_1.index t 0 * 1 + 1 * 0 = t.val / 8; rw [idx1]; show t.val / 8 * 1 + 1 * 0 = _; omega
  | ⟨1, _⟩ => show win0_1.index t 1 * 1 + 1 * 0 = 0; rw [idx1]; rfl
  | ⟨2, _⟩ => show win0_1.index t 2 * 1024 + 1 * k.val = k.val; rw [idx1]; show 0 * 1024 + 1 * k.val = _; omega

theorem blk2 (t : Fin cfg0.N) (k : Fin 1024) : iblk m c 2 t (ix3 0 0 k) = A1 m c (ix2 (seqOf t) (piece 4 k)) := by
  refine Eq.trans ?_ (V_4 m c _ _)
  show ((cfg0.win 2).blk t).view.read (Elt Ideal) (V m c main_v4) (ix3 0 0 k) = V m c main_v4 _
  rw [View.read_apply]
  show V m c main_v4 _ = _
  congr 1
  funext a
  apply Fin.ext
  match a with
  | ⟨0, _⟩ => show win0_2.index t 0 * 1 + 1 * 0 = t.val / 8; rw [idx2]; show t.val / 8 * 1 + 1 * 0 = _; omega
  | ⟨1, _⟩ => show win0_2.index t 1 * 1 + 1 * 0 = 0; rw [idx2]; rfl
  | ⟨2, _⟩ => show win0_2.index t 2 * 1024 + 1 * k.val = k.val; rw [idx2]; show 0 * 1024 + 1 * k.val = _; omega

theorem blk3 (t : Fin cfg0.N) (k : Fin 1024) : iblk m c 3 t (ix2 0 k) = A2 m c (ix2 0 k) := by
  refine Eq.trans ?_ (V_29 m c _)
  show ((cfg0.win 3).blk t).view.read (Elt Ideal) (V m c main_v29) (ix2 0 k) = V m c main_v29 _
  rw [View.read_apply]
  show V m c main_v29 _ = _
  congr 1
  funext a
  apply Fin.ext
  match a with
  | ⟨0, _⟩ => show win0_3.index t 0 * 1 + 1 * 0 = 0; rw [idx3]; rfl
  | ⟨1, _⟩ => show win0_3.index t 1 * 1024 + 1 * k.val = k.val; rw [idx3]; show 0 * 1024 + 1 * k.val = _; omega

theorem blk4 (t : Fin cfg0.N) (p : Fin 1184) (k : Fin 1024) : iblk m c 4 t (ix2 p k) = A3 m c (ix3 0 k p) := by
  refine Eq.trans ?_ (V_7 m c _ _)
  show ((cfg0.win 4).blk t).view.read (Elt Ideal) (V m c main_v7) (ix2 p k) = V m c main_v7 _
  rw [View.read_apply]
  show V m c main_v7 _ = _
  congr 1
  funext a
  apply Fin.ext
  match a with
  | ⟨0, _⟩ => show win0_4.index t 0 * 1184 + 1 * p.val = p.val; rw [idx4]; show 0 * 1184 + 1 * p.val = _; omega
  | ⟨1, _⟩ => show win0_4.index t 1 * 1024 + 1 * k.val = k.val; rw [idx4]; show 0 * 1024 + 1 * k.val = _; omega

theorem blk7 (t : Fin cfg0.N) (p : Fin 704) (r : Fin 512) : iblk m c 7 t (ix2 p r) = V m c main_v27 (ix2 p r) := by
  show ((cfg0.win 7).blk t).view.read (Elt Ideal) (V m c main_v27) (ix2 p r) = V m c main_v27 _
  rw [View.read_apply]
  show V m c main_v27 _ = _
  congr 1
  funext a
  apply Fin.ext
  match a with
  | ⟨0, _⟩ => show win0_7.index t 0 * 704 + 1 * p.val = p.val; rw [idx7]; show 0 * 704 + 1 * p.val = _; omega
  | ⟨1, _⟩ => show win0_7.index t 1 * 512 + 1 * r.val = r.val; rw [idx7]; show 0 * 512 + 1 * r.val = _; omega

theorem blk8 (t : Fin cfg0.N) (p : Fin 96) (s : Fin 2) (r : Fin 512) : iblk m c 8 t (ix2 p (row s r)) = V m c main_v69 (ix2 p (tok t s r)) := by
  show ((cfg0.win 8).blk t).view.read (Elt Ideal) (V m c main_v69) (ix2 p (row s r)) = V m c main_v69 _
  rw [View.read_apply]
  show V m c main_v69 _ = _
  congr 1
  funext a
  apply Fin.ext
  match a with
  | ⟨0, _⟩ => show win0_8.index t 0 * 96 + 1 * p.val = p.val; rw [idx8]; show 0 * 96 + 1 * p.val = _; omega
  | ⟨1, _⟩ => show win0_8.index t 1 * 1024 + 1 * (512 * s.val + r.val) = 1024 * (t.val % 8) + 512 * s.val + r.val; rw [idx8]; show t.val % 8 * 1024 + 1 * (512 * s.val + r.val) = _; omega

/-! The loads of the blocks. -/

section
variable (x0 : Vec Ideal S1x1024x1024 .f32) (x1 : Vec Ideal S1x1x1024 .f32) (x3 : Vec Ideal S1x1024 .f32) (x4 : Vec Ideal S1184x1024 .bf16)
  (x7 : Vec Ideal S704x512 .f32) (x8 : Vec Ideal S96x1024 .f32)

theorem ld_x (s : Fin 2) (r : Fin 512) (k : Fin 1024) :
    View.ld x0 (Rect.unit (s := S1x1024x1024) ![0, 512 * s.val, 0] S1x512x1024.size (inb_x s)) (ix3 0 r k) = x0 (ix3 0 (row s r) k) := by
  show x0 _ = x0 _
  congr 1
  funext a
  apply Fin.ext
  match a with
  | ⟨0, _⟩ => rfl
  | ⟨1, _⟩ => show 512 * s.val + 1 * r.val = 512 * s.val + r.val; omega
  | ⟨2, _⟩ => show 0 + 1 * k.val = k.val; omega

theorem gainAt_apply (g : Fin 2) (d : Fin 64) (r : Fin 512) : gainAt (F := Ideal) x7 g (ix2 d r) = x7 (ix2 ⟨64 * g.val + d.val, by omega⟩ r) := by
  show x7 _ = x7 _
  congr 1
  funext a
  apply Fin.ext
  match a with
  | ⟨0, _⟩ => show 64 * g.val + 1 * d.val = 64 * g.val + d.val; omega
  | ⟨1, _⟩ => show 0 + 1 * r.val = r.val; omega

theorem tableAt_apply (h s : Fin 2) (j : Fin 32) (r : Fin 512) : tableAt (F := Ideal) x8 h s (ix2 j r) = x8 (ix2 ⟨32 * h.val + j.val, by omega⟩ (row s r)) := by
  show x8 _ = x8 _
  congr 1
  funext a
  apply Fin.ext
  match a with
  | ⟨0, _⟩ => show 32 * h.val + 1 * j.val = 32 * h.val + j.val; omega
  | ⟨1, _⟩ => show 512 * s.val + 1 * r.val = 512 * s.val + r.val; omega

theorem flatSlot_apply (p : Vec Ideal S1x1184x512 .f32) (n : Fin 1184) (r : Fin 512) : flatSlot (F := Ideal) p (ix2 n r) = p (ix3 0 n r) := by
  pointwise [flatSlot]
end

theorem hz2 : (![0, 0] : Fin 2 → ℕ) = fun _ => 0 := by decide
theorem hz3 : (![0, 0, 0] : Fin 3 → ℕ) = fun _ => 0 := by decide

theorem projAt_eq (x0 : Vec Ideal S1x1024x1024 .f32) (x1 x2 : Vec Ideal S1x1x1024 .f32) (x3 : Vec Ideal S1x1024 .f32) (x4 : Vec Ideal S1184x1024 .bf16)
    (s : Fin 2) (p : Fin 1184) (r : Fin 512) : projAt (F := Ideal) x0 x1 x2 x3 x4 s (ix3 0 p r)
      = ∑ k : Fin 1024, x4 (ix2 p k) * (rnorm (fun l => x0 (ix3 0 (row s r) l)) k * (x3 (ix2 0 k) * (1 + x2 (ix3 0 0 k))) + x1 (ix3 0 0 k)) := by
  unfold projAt
  rw [View.ld_unit_zero (S := S1x1024) hz2, View.ld_unit_zero (S := S1184x1024) hz2, View.ld_unit_zero (S := S1x1x1024) hz3, View.ld_unit_zero (S := S1x1x1024) hz3,
    proj_apply]
  exact congrArg (fun f : Fin 1024 → EReal => ∑ k : Fin 1024, x4 (ix2 p k) * (rnorm f k * (x3 (ix2 0 k) * (1 + x2 (ix3 0 0 k))) + x1 (ix3 0 0 k)))
    (funext fun l => ld_x x0 s r l)

/-- The projection of a point's half, at an index. -/
theorem projAt_apply (t : Fin cfg0.N) (s : Fin 2) (p : Fin 1184) (r : Fin 512) :
    projAt (F := Ideal) (iblk m c 0 t) (iblk m c 1 t) (iblk m c 2 t) (iblk m c 3 t) (iblk m c 4 t) s (ix3 0 p r) = zOf m c (seqOf t) (tok t s r) p := by
  rw [projAt_eq]
  simp only [blk0, blk1, blk2, blk3, blk4]
  rfl

/-- The reads of the projection at a point. -/
abbrev zr (t : Fin cfg0.N) : Fin 2 → (r n : ℕ) → r + n ≤ 1184 → Vec Ideal ⟨2, ![n, 512]⟩ .f32 :=
  readAt (F := Ideal) (iblk m c 0 t) (iblk m c 1 t) (iblk m c 2 t) (iblk m c 3 t) (iblk m c 4 t) scM0_0.view

theorem rowsOf_idx (r n : ℕ) (h : r + n ≤ 1184) (a : Fin n) (b : Fin 512) : (rowsOf r n h).idx (ix2 a b) = ix2 ⟨r + a.val, by omega⟩ b := by
  funext i
  apply Fin.ext
  match i with
  | ⟨0, _⟩ => show r + 1 * a.val = r + a.val; omega
  | ⟨1, _⟩ => show 0 + 1 * b.val = b.val; omega

theorem zr_apply (t : Fin cfg0.N) (s : Fin 2) (r n : ℕ) (h : r + n ≤ 1184) (a : Fin n) (b : Fin 512) :
    zr m c t s r n h (ix2 a b) = zOf m c (seqOf t) (tok t s b) ⟨r + a.val, by omega⟩ := by
  rw [← projAt_apply]
  refine Eq.trans ?_ (flatSlot_apply _ _ _)
  rw [← rowsOf_idx r n h a b]
  match s with
  | 0 => exact congrFun (rowRead_0 scM0_0.view r n h _ _) (ix2 a b)
  | 1 => exact congrFun (rowRead_1 scM0_0.view r n h _ _) (ix2 a b)

theorem gain_q (t : Fin cfg0.N) (d : Fin 64) (r : Fin 512) : gainAt (F := Ideal) (iblk m c 7 t) 0 (ix2 d r) = A4 m c (ix2 0 d) := by
  rw [gainAt_apply, blk7]
  refine Eq.trans ?_ (V_27_0 m c d r (by omega))
  exact congrArg (fun q => V m c main_v27 (ix2 q r)) (Fin.ext (by show 64 * 0 + d.val = d.val; omega))
theorem gain_k (t : Fin cfg0.N) (d : Fin 64) (r : Fin 512) : gainAt (F := Ideal) (iblk m c 7 t) 1 (ix2 d r) = A5 m c (ix2 0 d) := by
  rw [gainAt_apply, blk7]
  exact V_27_1 m c d r (by omega)
theorem table_cos (t : Fin cfg0.N) (s : Fin 2) (j : Fin 32) (r : Fin 512) : tableAt (F := Ideal) (iblk m c 8 t) 0 s (ix2 j r) = cosAt (tok t s r) j := by
  rw [tableAt_apply, blk8]
  refine Eq.trans ?_ (V_69_0 m c j (tok t s r) (by omega))
  exact congrArg (fun q => V m c main_v69 (ix2 q (tok t s r))) (Fin.ext (by show 32 * 0 + j.val = j.val; omega))
theorem table_sin (t : Fin cfg0.N) (s : Fin 2) (j : Fin 32) (r : Fin 512) : tableAt (F := Ideal) (iblk m c 8 t) 1 s (ix2 j r) = sinAt (tok t s r) j := by
  rw [tableAt_apply, blk8]
  exact V_69_1 m c j (tok t s r) (by omega)

/-! The blocks at a point. -/

theorem mulf_at (y g : FVec Ideal S64x512 .f32) (j : S64x512.Idx) : mulf (F := Ideal) y g j = y j * g j := rfl

theorem qBlock_at (t : Fin cfg0.N) (s : Fin 2) (h : Fin 8) (d : Fin 64) (r : Fin 512) :
    qBlock (F := Ideal) (zr m c t s (64 * h.val) 64 (by omega)) (gainAt (iblk m c 7 t) 0) (tableAt (iblk m c 8 t) 0 s) (tableAt (iblk m c 8 t) 1 s) (ix4 0 0 d r)
      = resQ (zOf m c) (A4 m c) (ix4 (seqOf t) h d (tok t s r)) := by
  rw [qBlock_eq, rotated_eq]
  simp only [mulf_at, zr_apply, gain_q, table_cos, table_sin]
  rfl

theorem kRows_at (t : Fin cfg0.N) (s : Fin 2) (h : Fin 2) (b : ℕ) (hb : b = 512 + 64 * h.val) (d : Fin 64) (r : Fin 512) :
    kRows (F := Ideal) (zr m c t s b 64 (by omega)) (gainAt (iblk m c 7 t) 1) (tableAt (iblk m c 8 t) 0 s) (tableAt (iblk m c 8 t) 1 s) (ix2 d r)
      = headOut (kHead (zOf m c) (seqOf t) (tok t s r) h) (A5 m c) (tok t s r) d * root (kHead (zOf m c) (seqOf t) (tok t s r) h) := by
  subst hb
  rw [kRows_eq, rotated_eq]
  simp only [mulf_at, zr_apply, gain_k, table_cos, table_sin]
  rfl

theorem resK_at (z : Fin 4 → Fin 8192 → Fin 1184 → EReal) (g : FVec Ideal S1x64 .f32) (B : Fin 4) (n : Fin 8192) (h : Fin 2) (d : Fin 64) (p : Fin 128) (hp : p.val = 64 * h.val + d.val) :
    resK z g (ix3 B n p) = headOut (kHead z B n h) g n d * root (kHead z B n h) := by
  have e1 : (⟨p.val / 64, by omega⟩ : Fin 2) = h := Fin.ext (by show p.val / 64 = h.val; omega)
  have e2 : (⟨p.val % 64, by omega⟩ : Fin 64) = d := Fin.ext (by show p.val % 64 = d.val; omega)
  show headOut (kHead z B n ⟨p.val / 64, _⟩) g n ⟨p.val % 64, _⟩ * root (kHead z B n ⟨p.val / 64, _⟩) = _
  rw [e1, e2]

theorem kBlock_at (t : Fin cfg0.N) (s : Fin 2) (r : Fin 512) (p : Fin 128) :
    kBlock (F := Ideal) (zr m c t s 512 64 (by omega)) (zr m c t s 576 64 (by omega)) (gainAt (iblk m c 7 t) 1) (tableAt (iblk m c 8 t) 0 s) (tableAt (iblk m c 8 t) 1 s) (ix3 0 r p)
      = resK (zOf m c) (A5 m c) (ix3 (seqOf t) (tok t s r) p) := by
  by_cases h : p.val < 64
  · rw [resK_at (zOf m c) (A5 m c) _ _ 0 ⟨p.val, h⟩ p (by show p.val = 64 * 0 + p.val; omega), ← kRows_at m c t s 0 512 rfl]
    exact kBlock_0 _ _ _ _ _ ⟨p.val, h⟩ r p.isLt
  · rw [resK_at (zOf m c) (A5 m c) _ _ 1 ⟨p.val - 64, by omega⟩ p (by show p.val = 64 * 1 + (p.val - 64); omega), ← kRows_at m c t s 1 576 rfl]
    refine Eq.trans ?_ (kBlock_1 (zr m c t s 512 64 (by omega)) _ _ _ _ ⟨p.val - 64, by omega⟩ r (by show 64 + (p.val - 64) < 128; omega))
    exact congrArg (fun q => kBlock (F := Ideal) _ _ _ _ _ (ix3 0 r q)) (Fin.ext (by show p.val = 64 + (p.val - 64); omega))

theorem vBlock_at (t : Fin cfg0.N) (s : Fin 2) (n : Fin 4) (r q : Fin 128) :
    vBlock (F := Ideal) (zr m c t s 640 128 (by omega)) n (ix4 0 0 r q)
      = resV (zOf m c) (ix4 (seqOf t) ⟨8 * (t.val % 8) + 4 * s.val + n.val, by omega⟩ r q) := by
  rw [vBlock_apply, zr_apply]
  show zOf m c (seqOf t) (tok t s _) _ = zOf m c (seqOf t) ⟨128 * (8 * (t.val % 8) + 4 * s.val + n.val) + q.val, _⟩ _
  exact congrArg (fun k => zOf m c (seqOf t) k _) (Fin.ext (by
    show 1024 * (t.val % 8) + 512 * s.val + (128 * n.val + q.val) = 128 * (8 * (t.val % 8) + 4 * s.val + n.val) + q.val; omega))

end Cert.InProjIdeal.InProj
end
-- ==== Proof.InProjFinal.lean ====
/-
  The input projection call: the windowed attention's three arrays after the run.
-/
module

public import proofs.«01_k».proof.Proof.InProjOut

@[expose] public section
set_option maxRecDepth 16384
set_option maxHeartbeats 4000000
noncomputable section
namespace Cert.InProjIdeal.InProj

open Cert.InProjIdeal.Gen Cert.InProj Cert.Ffn
open Idealize.ShloMosaic Idealize.ShloMosaic.TcCoe Idealize.ShloMosaic.StableHlo Idealize.SL.Sem Idealize.ShloMosaic.Tactic
open Idealize.ShloMosaic.Pipeline (Dat)

variable (m : (ℓ : Loc nD τ sig) → Buf (Elt Ideal) ℓ) (c : Dev nD)

/-! What a point leaves in each buffer. -/

def pointQ (t : Fin cfg0.N) : Vec Ideal S1x8x64x1024 .bf16 := fun y =>
  resQ (zOf m c) (A4 m c) (ix4 (seqOf t) (y 1) (y 2) ⟨1024 * (t.val % 8) + (y 3).val, by have h : (y 3).val < 1024 := (y 3).isLt; omega⟩)
def pointK (t : Fin cfg0.N) : Vec Ideal S1x1024x128 .bf16 := fun y =>
  resK (zOf m c) (A5 m c) (ix3 (seqOf t) ⟨1024 * (t.val % 8) + (y 1).val, by have h : (y 1).val < 1024 := (y 1).isLt; omega⟩ (y 2))
def pointV (t : Fin cfg0.N) : Vec Ideal S1x8x128x128 .bf16 := fun y =>
  resV (zOf m c) (ix4 (seqOf t) ⟨8 * (t.val % 8) + (y 1).val, by have h : (y 1).val < 8 := (y 1).isLt; omega⟩ (y 2) (y 3))

theorem qPiece_eq (t : Fin cfg0.N) (s : Fin 2) (h : Fin 8) (x : S1x1x64x512.Idx) :
    (qPiece (F := Ideal) (iblk m c 7 t) (iblk m c 8 t) (zr m c t) s h).2 x
      = pointQ m c t ((Rect.unit (s := S1x8x64x1024) ![0, h.val, 0, 512 * s.val] S1x1x64x512.size (inb_q s h)).emb x) := by
  obtain ⟨d, r, rfl⟩ : ∃ (d : Fin 64) (r : Fin 512), x = ix4 0 0 d r := ⟨x 2, x 3, by
    funext a
    match a with
    | ⟨0, _⟩ => exact Subsingleton.elim (α := Fin 1) _ _
    | ⟨1, _⟩ => exact Subsingleton.elim (α := Fin 1) _ _
    | ⟨2, _⟩ => rfl
    | ⟨3, _⟩ => rfl⟩
  refine (qBlock_at m c t s h d r).trans ?_
  unfold pointQ
  congr 1
  funext a
  apply Fin.ext
  match a with
  | ⟨0, _⟩ => rfl
  | ⟨1, _⟩ => show h.val = h.val + 1 * 0; omega
  | ⟨2, _⟩ => show d.val = 0 + 1 * d.val; omega
  | ⟨3, _⟩ => show 1024 * (t.val % 8) + 512 * s.val + r.val = 1024 * (t.val % 8) + (512 * s.val + 1 * r.val); omega

theorem kPiece_eq (t : Fin cfg0.N) (s : Fin 2) (x : S1x512x128.Idx) :
    (kPiece (F := Ideal) (iblk m c 7 t) (iblk m c 8 t) (zr m c t) s).2 x
      = pointK m c t ((Rect.unit (s := S1x1024x128) ![0, 512 * s.val, 0] S1x512x128.size (inb_k s)).emb x) := by
  obtain ⟨r, p, rfl⟩ : ∃ (r : Fin 512) (p : Fin 128), x = ix3 0 r p := ⟨x 1, x 2, by
    funext a
    match a with
    | ⟨0, _⟩ => exact Subsingleton.elim (α := Fin 1) _ _
    | ⟨1, _⟩ => rfl
    | ⟨2, _⟩ => rfl⟩
  refine (kBlock_at m c t s r p).trans ?_
  unfold pointK
  congr 1
  funext a
  apply Fin.ext
  match a with
  | ⟨0, _⟩ => rfl
  | ⟨1, _⟩ => show 1024 * (t.val % 8) + 512 * s.val + r.val = 1024 * (t.val % 8) + (512 * s.val + 1 * r.val); omega
  | ⟨2, _⟩ => show p.val = 0 + 1 * p.val; omega

theorem vPiece_eq (t : Fin cfg0.N) (s : Fin 2) (n : Fin 4) (x : S1x1x128x128.Idx) :
    (vPiece (F := Ideal) (zr m c t) s n).2 x
      = pointV m c t ((Rect.unit (s := S1x8x128x128) ![0, 4 * s.val + n.val, 0, 0] S1x1x128x128.size (inb_v s n)).emb x) := by
  obtain ⟨r, q, rfl⟩ : ∃ (r : Fin 128) (q : Fin 128), x = ix4 0 0 r q := ⟨x 2, x 3, by
    funext a
    match a with
    | ⟨0, _⟩ => exact Subsingleton.elim (α := Fin 1) _ _
    | ⟨1, _⟩ => exact Subsingleton.elim (α := Fin 1) _ _
    | ⟨2, _⟩ => rfl
    | ⟨3, _⟩ => rfl⟩
  refine (vBlock_at m c t s n r q).trans ?_
  unfold pointV
  congr 1
  funext a
  apply Fin.ext
  match a with
  | ⟨0, _⟩ => rfl
  | ⟨1, _⟩ => show 8 * (t.val % 8) + 4 * s.val + n.val = 8 * (t.val % 8) + (4 * s.val + n.val + 1 * 0); omega
  | ⟨2, _⟩ => show r.val = 0 + 1 * r.val; omega
  | ⟨3, _⟩ => show q.val = 0 + 1 * q.val; omega

theorem canon_of_pieces {s : Shape} {e : EltTy} (f : s.Idx → Elt Ideal e) (L : List (View.Piece (Elt Ideal) s e)) (hp : View.PiecesOf f L)
    (hc : ∀ y, ∃ q ∈ L, y ∈ q.1.set) : View.canon L = f := by
  funext y
  have h := View.canon_append_of_piecesOf f [] L hp y (hc y)
  rwa [List.append_nil] at h

theorem q_canon (t : Fin cfg0.N) : View.canon (qPieces (F := Ideal) (iblk m c 7 t) (iblk m c 8 t) (zr m c t)) = pointQ m c t := by
  refine canon_of_pieces _ _ ?_ fun y => View.cover_of_tiledL _ ![1, 1, 64, 512] rfl y
  exact ⟨qPiece_eq m c t 1 7, qPiece_eq m c t 1 6, qPiece_eq m c t 1 5, qPiece_eq m c t 1 4, qPiece_eq m c t 1 3, qPiece_eq m c t 1 2, qPiece_eq m c t 1 1, qPiece_eq m c t 1 0,
    qPiece_eq m c t 0 7, qPiece_eq m c t 0 6, qPiece_eq m c t 0 5, qPiece_eq m c t 0 4, qPiece_eq m c t 0 3, qPiece_eq m c t 0 2, qPiece_eq m c t 0 1, qPiece_eq m c t 0 0, trivial⟩

theorem k_canon (t : Fin cfg0.N) : View.canon (kPieces (F := Ideal) (iblk m c 7 t) (iblk m c 8 t) (zr m c t)) = pointK m c t := by
  refine canon_of_pieces _ _ ?_ fun y => View.cover_of_tiledL _ ![1, 512, 128] rfl y
  exact ⟨kPiece_eq m c t 1, kPiece_eq m c t 0, trivial⟩

theorem v_canon (t : Fin cfg0.N) : View.canon (vPieces (F := Ideal) (zr m c t)) = pointV m c t := by
  refine canon_of_pieces _ _ ?_ fun y => View.cover_of_tiledL _ ![1, 1, 128, 128] rfl y
  exact ⟨vPiece_eq m c t 1 3, vPiece_eq m c t 1 2, vPiece_eq m c t 1 1, vPiece_eq m c t 1 0, vPiece_eq m c t 0 3, vPiece_eq m c t 0 2, vPiece_eq m c t 0 1, vPiece_eq m c t 0 0, trivial⟩

/-! What a point writes back is its block of the result. -/

theorem flushed_q (t : Fin cfg0.N) : (dats (F := Ideal) m 0 c).flushed 9 t = ((cfg0.win 9).blk t).view.read (Elt Ideal) (resQ (zOf m c) (A4 m c)) := by
  rw [Cert.InProjIdeal.Value.flushed9, q_stores, q_canon]
  funext y
  rw [View.read_apply]
  show pointQ m c t _ = resQ (zOf m c) (A4 m c) _
  unfold pointQ
  congr 1
  funext a
  apply Fin.ext
  have h0 : (y 0).val < 1 := (y 0).isLt
  match a with
  | ⟨0, _⟩ => show t.val / 8 = win0_9.index t 0 * 1 + 1 * (y 0).val; rw [idx9]; show _ = t.val / 8 * 1 + 1 * (y 0).val; omega
  | ⟨1, _⟩ => show (y 1).val = win0_9.index t 1 * 8 + 1 * (y 1).val; rw [idx9]; show _ = 0 * 8 + 1 * (y 1).val; omega
  | ⟨2, _⟩ => show (y 2).val = win0_9.index t 2 * 64 + 1 * (y 2).val; rw [idx9]; show _ = 0 * 64 + 1 * (y 2).val; omega
  | ⟨3, _⟩ => show 1024 * (t.val % 8) + (y 3).val = win0_9.index t 3 * 1024 + 1 * (y 3).val; rw [idx9]; show _ = t.val % 8 * 1024 + 1 * (y 3).val; omega

theorem flushed_k (t : Fin cfg0.N) : (dats (F := Ideal) m 0 c).flushed 10 t = ((cfg0.win 10).blk t).view.read (Elt Ideal) (resK (zOf m c) (A5 m c)) := by
  rw [Cert.InProjIdeal.Value.flushed10, k_stores, k_canon]
  funext y
  rw [View.read_apply]
  show pointK m c t _ = resK (zOf m c) (A5 m c) _
  unfold pointK
  congr 1
  funext a
  apply Fin.ext
  have h0 : (y 0).val < 1 := (y 0).isLt
  match a with
  | ⟨0, _⟩ => show t.val / 8 = win0_10.index t 0 * 1 + 1 * (y 0).val; rw [idx10]; show _ = t.val / 8 * 1 + 1 * (y 0).val; omega
  | ⟨1, _⟩ => show 1024 * (t.val % 8) + (y 1).val = win0_10.index t 1 * 1024 + 1 * (y 1).val; rw [idx10]; show _ = t.val % 8 * 1024 + 1 * (y 1).val; omega
  | ⟨2, _⟩ => show (y 2).val = win0_10.index t 2 * 128 + 1 * (y 2).val; rw [idx10]; show _ = 0 * 128 + 1 * (y 2).val; omega

theorem flushed_v (t : Fin cfg0.N) : (dats (F := Ideal) m 0 c).flushed 11 t = ((cfg0.win 11).blk t).view.read (Elt Ideal) (resV (zOf m c)) := by
  rw [Cert.InProjIdeal.Value.flushed11, v_stores, v_canon]
  funext y
  rw [View.read_apply]
  show pointV m c t _ = resV (zOf m c) _
  unfold pointV
  congr 1
  funext a
  apply Fin.ext
  have h0 : (y 0).val < 1 := (y 0).isLt
  match a with
  | ⟨0, _⟩ => show t.val / 8 = win0_11.index t 0 * 1 + 1 * (y 0).val; rw [idx11]; show _ = t.val / 8 * 1 + 1 * (y 0).val; omega
  | ⟨1, _⟩ => show 8 * (t.val % 8) + (y 1).val = win0_11.index t 1 * 8 + 1 * (y 1).val; rw [idx11]; show _ = t.val % 8 * 8 + 1 * (y 1).val; omega
  | ⟨2, _⟩ => show (y 2).val = win0_11.index t 2 * 128 + 1 * (y 2).val; rw [idx11]; show _ = 0 * 128 + 1 * (y 2).val; omega
  | ⟨3, _⟩ => show (y 3).val = win0_11.index t 3 * 128 + 1 * (y 3).val; rw [idx11]; show _ = 0 * 128 + 1 * (y 3).val; omega

theorem xsize9 : ∀ t : Fin cfg0.N, win0_9.xsize (grid0.coords t) = ![1, 8, 64, 1024] := (by decide +kernel : ∀ t : Fin grid0.N, win0_9.xsize (grid0.coords t) = ![1, 8, 64, 1024])
theorem xsize10 : ∀ t : Fin cfg0.N, win0_10.xsize (grid0.coords t) = ![1, 1024, 128] := (by decide +kernel : ∀ t : Fin grid0.N, win0_10.xsize (grid0.coords t) = ![1, 1024, 128])
theorem xsize11 : ∀ t : Fin cfg0.N, win0_11.xsize (grid0.coords t) = ![1, 8, 128, 128] := (by decide +kernel : ∀ t : Fin grid0.N, win0_11.xsize (grid0.coords t) = ![1, 8, 128, 128])

theorem cover_q (i : S4x8x64x8192.Idx) : ∃ t : Fin cfg0.N, (cfg0.win 9).flush t = true ∧ i ∈ ((cfg0.win 9).blk t).view.set := by
  have h0 : (i 0).val < 4 := (i 0).isLt
  have h1 : (i 1).val < 8 := (i 1).isLt
  have h2 : (i 2).val < 64 := (i 2).isLt
  have h3 : (i 3).val < 8192 := (i 3).isLt
  refine ⟨⟨8 * (i 0).val + (i 3).val / 1024, (by omega : _ < 32)⟩, flush0_9 _, ?_⟩
  set t : Fin cfg0.N := ⟨8 * (i 0).val + (i 3).val / 1024, (by omega : _ < 32)⟩ with ht
  show i ∈ ((View.whole main_v70_0).slice (win0_9.rect t)).set
  rw [View.set_slice_whole, Rect.mem_set_unit]
  have e0 : t.val / 8 = (i 0).val := by show (8 * (i 0).val + (i 3).val / 1024) / 8 = _; omega
  have e1 : t.val % 8 = (i 3).val / 1024 := by show (8 * (i 0).val + (i 3).val / 1024) % 8 = _; omega
  intro a
  match a with
  | ⟨0, _⟩ => show win0_9.index t 0 * 1 ≤ (i 0).val ∧ (i 0).val < win0_9.index t 0 * 1 + win0_9.xsize (grid0.coords t) 0
              rw [idx9, xsize9]; show t.val / 8 * 1 ≤ _ ∧ _ < t.val / 8 * 1 + 1; omega
  | ⟨1, _⟩ => show win0_9.index t 1 * 8 ≤ (i 1).val ∧ (i 1).val < win0_9.index t 1 * 8 + win0_9.xsize (grid0.coords t) 1
              rw [idx9, xsize9]; show 0 * 8 ≤ _ ∧ _ < 0 * 8 + 8; omega
  | ⟨2, _⟩ => show win0_9.index t 2 * 64 ≤ (i 2).val ∧ (i 2).val < win0_9.index t 2 * 64 + win0_9.xsize (grid0.coords t) 2
              rw [idx9, xsize9]; show 0 * 64 ≤ _ ∧ _ < 0 * 64 + 64; omega
  | ⟨3, _⟩ => show win0_9.index t 3 * 1024 ≤ (i 3).val ∧ (i 3).val < win0_9.index t 3 * 1024 + win0_9.xsize (grid0.coords t) 3
              rw [idx9, xsize9]; show t.val % 8 * 1024 ≤ _ ∧ _ < t.val % 8 * 1024 + 1024; omega

theorem cover_k (i : S4x8192x128.Idx) : ∃ t : Fin cfg0.N, (cfg0.win 10).flush t = true ∧ i ∈ ((cfg0.win 10).blk t).view.set := by
  have h0 : (i 0).val < 4 := (i 0).isLt
  have h1 : (i 1).val < 8192 := (i 1).isLt
  have h2 : (i 2).val < 128 := (i 2).isLt
  refine ⟨⟨8 * (i 0).val + (i 1).val / 1024, (by omega : _ < 32)⟩, flush0_10 _, ?_⟩
  set t : Fin cfg0.N := ⟨8 * (i 0).val + (i 1).val / 1024, (by omega : _ < 32)⟩ with ht
  show i ∈ ((View.whole main_v70_1).slice (win0_10.rect t)).set
  rw [View.set_slice_whole, Rect.mem_set_unit]
  have e0 : t.val / 8 = (i 0).val := by show (8 * (i 0).val + (i 1).val / 1024) / 8 = _; omega
  have e1 : t.val % 8 = (i 1).val / 1024 := by show (8 * (i 0).val + (i 1).val / 1024) % 8 = _; omega
  intro a
  match a with
  | ⟨0, _⟩ => show win0_10.index t 0 * 1 ≤ (i 0).val ∧ (i 0).val < win0_10.index t 0 * 1 + win0_10.xsize (grid0.coords t) 0
              rw [idx10, xsize10]; show t.val / 8 * 1 ≤ _ ∧ _ < t.val / 8 * 1 + 1; omega
  | ⟨1, _⟩ => show win0_10.index t 1 * 1024 ≤ (i 1).val ∧ (i 1).val < win0_10.index t 1 * 1024 + win0_10.xsize (grid0.coords t) 1
              rw [idx10, xsize10]; show t.val % 8 * 1024 ≤ _ ∧ _ < t.val % 8 * 1024 + 1024; omega
  | ⟨2, _⟩ => show win0_10.index t 2 * 128 ≤ (i 2).val ∧ (i 2).val < win0_10.index t 2 * 128 + win0_10.xsize (grid0.coords t) 2
              rw [idx10, xsize10]; show 0 * 128 ≤ _ ∧ _ < 0 * 128 + 128; omega

theorem cover_v (i : S4x64x128x128.Idx) : ∃ t : Fin cfg0.N, (cfg0.win 11).flush t = true ∧ i ∈ ((cfg0.win 11).blk t).view.set := by
  have h0 : (i 0).val < 4 := (i 0).isLt
  have h1 : (i 1).val < 64 := (i 1).isLt
  have h2 : (i 2).val < 128 := (i 2).isLt
  have h3 : (i 3).val < 128 := (i 3).isLt
  refine ⟨⟨8 * (i 0).val + (i 1).val / 8, (by omega : _ < 32)⟩, flush0_11 _, ?_⟩
  set t : Fin cfg0.N := ⟨8 * (i 0).val + (i 1).val / 8, (by omega : _ < 32)⟩ with ht
  show i ∈ ((View.whole main_v70_2).slice (win0_11.rect t)).set
  rw [View.set_slice_whole, Rect.mem_set_unit]
  have e0 : t.val / 8 = (i 0).val := by show (8 * (i 0).val + (i 1).val / 8) / 8 = _; omega
  have e1 : t.val % 8 = (i 1).val / 8 := by show (8 * (i 0).val + (i 1).val / 8) % 8 = _; omega
  intro a
  match a with
  | ⟨0, _⟩ => show win0_11.index t 0 * 1 ≤ (i 0).val ∧ (i 0).val < win0_11.index t 0 * 1 + win0_11.xsize (grid0.coords t) 0
              rw [idx11, xsize11]; show t.val / 8 * 1 ≤ _ ∧ _ < t.val / 8 * 1 + 1; omega
  | ⟨1, _⟩ => show win0_11.index t 1 * 8 ≤ (i 1).val ∧ (i 1).val < win0_11.index t 1 * 8 + win0_11.xsize (grid0.coords t) 1
              rw [idx11, xsize11]; show t.val % 8 * 8 ≤ _ ∧ _ < t.val % 8 * 8 + 8; omega
  | ⟨2, _⟩ => show win0_11.index t 2 * 128 ≤ (i 2).val ∧ (i 2).val < win0_11.index t 2 * 128 + win0_11.xsize (grid0.coords t) 2
              rw [idx11, xsize11]; show 0 * 128 ≤ _ ∧ _ < 0 * 128 + 128; omega
  | ⟨3, _⟩ => show win0_11.index t 3 * 128 ≤ (i 3).val ∧ (i 3).val < win0_11.index t 3 * 128 + win0_11.xsize (grid0.coords t) 3
              rw [idx11, xsize11]; show 0 * 128 ≤ _ ∧ _ < 0 * 128 + 128; omega

/-! The arrays after the run. -/

theorem final_q : (dats (F := Ideal) m 0 c).arrAt 9 cfg0.N = resQ (zOf m c) (A4 m c) :=
  (dats (F := Ideal) m 0 c).arrAt_eq_of_cover 9 _ (fun t _ => flushed_q m c t) cover_q
theorem final_k : (dats (F := Ideal) m 0 c).arrAt 10 cfg0.N = resK (zOf m c) (A5 m c) :=
  (dats (F := Ideal) m 0 c).arrAt_eq_of_cover 10 _ (fun t _ => flushed_k m c t) cover_k
theorem final_v : (dats (F := Ideal) m 0 c).arrAt 11 cfg0.N = resV (zOf m c) :=
  (dats (F := Ideal) m 0 c).arrAt_eq_of_cover 11 _ (fun t _ => flushed_v m c t) cover_v

end Cert.InProjIdeal.InProj
end
-- ==== Proof.InProjRef.lean ====
/-
  The input projection's reference, read at an index, is the kernel's arrays.
-/
module

public import proofs.«01_k».proof.Proof.InProjValue

@[expose] public section
set_option maxRecDepth 16384
set_option maxHeartbeats 4000000
noncomputable section
namespace Cert.InProjRefIdeal.InProj

open Cert.InProjRefIdeal.Gen Cert.InProjRefIdeal.Read Cert.Ffn Cert.InProj
open Cert.InProjIdeal.InProj (rot rot_lo rot_hi proj angle cosAt sinAt headOut qHead kHead resQ resK resV)
open Idealize.ShloMosaic Idealize.ShloMosaic.TcCoe Idealize.ShloMosaic.StableHlo Idealize.ShloMosaic.Tactic

variable (x0 : FVec Ideal S4x8192x1024 .f32) (x1 : FVec Ideal S4x9216 .f32) (x2 : FVec Ideal S1x1024 .f32) (x3 : FVec Ideal S1x1024x1184 .f32)
  (x4 x5 : FVec Ideal S1x64 .f32) (B : Fin 4) (n : Fin 8192)

/-- The normalised, scaled and shifted row. -/
theorem hid_apply (k : Fin 1024) : val_main_v30 (F := Ideal) x0 x1 x2 (ix3 B n k)
    = rnorm (fun l => x0 (ix3 B n l)) k * (x2 (ix2 0 k) * (1 + x1 (ix2 B (piece 4 k)))) + x1 (ix2 B (piece 3 k)) := by
  have e0 : piece 3 k = ⟨3072 + k.val, by omega⟩ := Fin.ext (by show 1024 * 3 + k.val = 3072 + k.val; omega)
  have e1 : piece 4 k = ⟨4096 + k.val, by omega⟩ := Fin.ext (by show 1024 * 4 + k.val = 4096 + k.val; omega)
  rw [e0, e1, ← mul_assoc]
  unfold rnorm
  pointwise [val_main_v30, val_main_v29, val_main_v28, val_main_v27, val_main_v26, val_main_v25, val_main_v24, val_main_v23, val_main_v22, val_main_v21, val_main_v20, val_main_v19, val_main_v18,
    val_main_v17, val_main_v16, val_main_v15, val_main_v14, val_main_v13, val_main_v12, val_main_v11, val_main_v10, val_main_v9, val_main_v3, val_main_v4, val_main_cst, val_main_cst_0, val_main_cst_1, val_main_cst_2]

/-- The projection. -/
theorem proj_ref (p : Fin 1184) : val_main_v32 (F := Ideal) x0 x1 x2 x3 (ix3 B n p) = proj x0 x1 x2 x3 B n p := by
  have e : val_main_v32 (F := Ideal) x0 x1 x2 x3 (ix3 B n p) = ∑ k : Fin 1024, val_main_v30 (F := Ideal) x0 x1 x2 (ix3 B n k) * x3 (ix3 0 k p) := by
    unfold val_main_v32
    generalize val_main_v30 (F := Ideal) x0 x1 x2 = h
    pointwise [val_main_v31]
  rw [e]
  unfold proj
  refine Finset.sum_congr rfl fun k _ => ?_
  rw [hid_apply, mul_comm]

/-! The queries. -/

theorem q_split (h : Fin 8) (d : Fin 64) : val_main_v36 (F := Ideal) x0 x1 x2 x3 (ix4 B n h d) = qHead (proj x0 x1 x2 x3) B n h d := by
  unfold qHead
  rw [← proj_ref]
  unfold val_main_v36 val_main_v33
  generalize val_main_v32 (F := Ideal) x0 x1 x2 x3 = z
  pointwise []
  exact congrArg (fun q => z (ix3 B n q)) (Fin.ext (by show h.val * 64 + d.val = 64 * h.val + d.val; omega))

theorem q_root (h : Fin 8) : val_main_v45 (F := Ideal) x0 x1 x2 x3 (ix4 B n h 0) = root (fun d => val_main_v36 (F := Ideal) x0 x1 x2 x3 (ix4 B n h d)) := by
  unfold root
  rw [← mean_div]
  unfold val_main_v45 val_main_v44 val_main_v42 val_main_v40 val_main_v39 val_main_v38
  generalize val_main_v36 (F := Ideal) x0 x1 x2 x3 = z
  pointwise [val_main_v43, val_main_v41, val_main_cst_3, val_main_cst_4, val_main_cst_5]

theorem q_norm (h : Fin 8) (d : Fin 64) : val_main_v50 (F := Ideal) x0 x1 x2 x3 x4 (ix4 B n h d)
    = val_main_v36 (F := Ideal) x0 x1 x2 x3 (ix4 B n h d) * val_main_v45 (F := Ideal) x0 x1 x2 x3 (ix4 B n h 0) * x4 (ix2 0 d) := by
  unfold val_main_v50 val_main_v47 val_main_v46
  generalize val_main_v36 (F := Ideal) x0 x1 x2 x3 = z
  generalize val_main_v45 (F := Ideal) x0 x1 x2 x3 = r
  pointwise [val_main_v49, val_main_v48, val_main_v37]

theorem q_rot_lo (h : Fin 8) (j : Fin 32) : val_main_v83 (F := Ideal) x0 x1 x2 x3 x4 (ix4 B n h (lo j))
    = rotLo (fun d => val_main_v50 (F := Ideal) x0 x1 x2 x3 x4 (ix4 B n h d)) (cosAt n) (sinAt n) j := by
  unfold rotLo lo hi cosAt sinAt angle val_main_v83 val_main_v77 val_main_v82 val_main_v74 val_main_v76 val_main_v79 val_main_v81 val_main_v71 val_main_v72
  generalize val_main_v50 (F := Ideal) x0 x1 x2 x3 x4 = y
  unfold val_main_v73 val_main_v75 val_main_v78 val_main_v80 val_main_v68 val_main_v70 val_main_v67 val_main_v69
  generalize val_main_v66 (F := Ideal) = a
  pointwise []
theorem q_rot_hi (h : Fin 8) (j : Fin 32) : val_main_v83 (F := Ideal) x0 x1 x2 x3 x4 (ix4 B n h (hi j))
    = rotHi (fun d => val_main_v50 (F := Ideal) x0 x1 x2 x3 x4 (ix4 B n h d)) (cosAt n) (sinAt n) j := by
  unfold rotHi lo hi cosAt sinAt angle val_main_v83 val_main_v77 val_main_v82 val_main_v74 val_main_v76 val_main_v79 val_main_v81 val_main_v71 val_main_v72
  generalize val_main_v50 (F := Ideal) x0 x1 x2 x3 x4 = y
  unfold val_main_v73 val_main_v75 val_main_v78 val_main_v80 val_main_v68 val_main_v70 val_main_v67 val_main_v69
  generalize val_main_v66 (F := Ideal) = a
  pointwise []

/-- A factor on a head is a factor on the rotated head. -/
theorem rot_scale (f g : Fin 64 → EReal) (co si : Fin 32 → EReal) (d : Fin 64) (r : EReal) (h : 0 ≤ r) (h' : r ≠ ⊤) :
    rot (fun d => f d * r * g d) co si d = rot (fun d => f d * g d) co si d * r := by
  obtain ⟨j, rfl | rfl⟩ := halves d
  · rw [rot_lo, rot_lo, rotLo_scale _ _ _ _ _ _ h h']
  · rw [rot_hi, rot_hi, rotHi_scale _ _ _ _ _ _ h h']

theorem q_rot (h : Fin 8) (d : Fin 64) : val_main_v83 (F := Ideal) x0 x1 x2 x3 x4 (ix4 B n h d)
    = headOut (qHead (proj x0 x1 x2 x3) B n h) x4 n d * root (qHead (proj x0 x1 x2 x3) B n h) := by
  have e : val_main_v83 (F := Ideal) x0 x1 x2 x3 x4 (ix4 B n h d) = rot (fun d => val_main_v50 (F := Ideal) x0 x1 x2 x3 x4 (ix4 B n h d)) (cosAt n) (sinAt n) d := by
    obtain ⟨j, rfl | rfl⟩ := halves d
    · rw [q_rot_lo, rot_lo]
    · rw [q_rot_hi, rot_hi]
  rw [e]
  unfold headOut
  rw [← rot_scale _ _ _ _ _ _ (root_nonneg _) (root_ne_top _)]
  simp only [q_norm, q_root, q_split]

theorem q_out (h : Fin 8) (d : Fin 64) : val_main_v137 (F := Ideal) x0 x1 x2 x3 x4 (ix4 B h d n)
    = Ideal.div (val_main_v83 (F := Ideal) x0 x1 x2 x3 x4 (ix4 B n h d)) (Ideal.log (Ideal.ofBits .f32 0x40000000#32) * Ideal.ofBits .f32 0x41000000#32) := by
  unfold val_main_v137 val_main_v136 val_main_v135
  generalize val_main_v83 (F := Ideal) x0 x1 x2 x3 x4 = y
  pointwise [val_main_v134, val_main_v133, val_main_v132, val_main_cst_17, val_main_cst_18]

theorem ref_q : val_main_v137 (F := Ideal) x0 x1 x2 x3 x4 = resQ (proj x0 x1 x2 x3) x4 := by
  funext i
  obtain ⟨B, h, d, n, rfl⟩ : ∃ (B : Fin 4) (h : Fin 8) (d : Fin 64) (n : Fin 8192), i = ix4 B h d n := ⟨i 0, i 1, i 2, i 3, (ix4_eta i).symm⟩
  rw [q_out, div_scale, q_rot, mul_assoc]
  rfl

/-! The keys. -/

theorem k_split (h : Fin 2) (d : Fin 64) : val_main_v84 (F := Ideal) x0 x1 x2 x3 (ix4 B n h d) = kHead (proj x0 x1 x2 x3) B n h d := by
  unfold kHead
  rw [← proj_ref]
  unfold val_main_v84 val_main_v34
  generalize val_main_v32 (F := Ideal) x0 x1 x2 x3 = z
  pointwise []
  exact congrArg (fun q => z (ix3 B n q)) (Fin.ext (by show 512 + (h.val * 64 + d.val) = 512 + 64 * h.val + d.val; omega))

theorem k_root (h : Fin 2) : val_main_v93 (F := Ideal) x0 x1 x2 x3 (ix4 B n h 0) = root (fun d => val_main_v84 (F := Ideal) x0 x1 x2 x3 (ix4 B n h d)) := by
  unfold root
  rw [← mean_div]
  unfold val_main_v93 val_main_v92 val_main_v90 val_main_v88 val_main_v87 val_main_v86
  generalize val_main_v84 (F := Ideal) x0 x1 x2 x3 = z
  pointwise [val_main_v91, val_main_v89, val_main_cst_10, val_main_cst_11, val_main_cst_12]

theorem k_norm (h : Fin 2) (d : Fin 64) : val_main_v98 (F := Ideal) x0 x1 x2 x3 x5 (ix4 B n h d)
    = val_main_v84 (F := Ideal) x0 x1 x2 x3 (ix4 B n h d) * val_main_v93 (F := Ideal) x0 x1 x2 x3 (ix4 B n h 0) * x5 (ix2 0 d) := by
  unfold val_main_v98 val_main_v95 val_main_v94
  generalize val_main_v84 (F := Ideal) x0 x1 x2 x3 = z
  generalize val_main_v93 (F := Ideal) x0 x1 x2 x3 = r
  pointwise [val_main_v97, val_main_v96, val_main_v85]

theorem angle_k : val_main_v114 (F := Ideal) = val_main_v66 (F := Ideal) := rfl

theorem k_rot_lo (h : Fin 2) (j : Fin 32) : val_main_v131 (F := Ideal) x0 x1 x2 x3 x5 (ix4 B n h (lo j))
    = rotLo (fun d => val_main_v98 (F := Ideal) x0 x1 x2 x3 x5 (ix4 B n h d)) (cosAt n) (sinAt n) j := by
  unfold rotLo lo hi cosAt sinAt angle val_main_v131 val_main_v125 val_main_v130 val_main_v122 val_main_v124 val_main_v127 val_main_v129 val_main_v119 val_main_v120
  generalize val_main_v98 (F := Ideal) x0 x1 x2 x3 x5 = y
  unfold val_main_v121 val_main_v123 val_main_v126 val_main_v128 val_main_v116 val_main_v118 val_main_v115 val_main_v117
  rw [angle_k]
  generalize val_main_v66 (F := Ideal) = a
  pointwise []
theorem k_rot_hi (h : Fin 2) (j : Fin 32) : val_main_v131 (F := Ideal) x0 x1 x2 x3 x5 (ix4 B n h (hi j))
    = rotHi (fun d => val_main_v98 (F := Ideal) x0 x1 x2 x3 x5 (ix4 B n h d)) (cosAt n) (sinAt n) j := by
  unfold rotHi lo hi cosAt sinAt angle val_main_v131 val_main_v125 val_main_v130 val_main_v122 val_main_v124 val_main_v127 val_main_v129 val_main_v119 val_main_v120
  generalize val_main_v98 (F := Ideal) x0 x1 x2 x3 x5 = y
  unfold val_main_v121 val_main_v123 val_main_v126 val_main_v128 val_main_v116 val_main_v118 val_main_v115 val_main_v117
  rw [angle_k]
  generalize val_main_v66 (F := Ideal) = a
  pointwise []

theorem k_rot (h : Fin 2) (d : Fin 64) : val_main_v131 (F := Ideal) x0 x1 x2 x3 x5 (ix4 B n h d)
    = headOut (kHead (proj x0 x1 x2 x3) B n h) x5 n d * root (kHead (proj x0 x1 x2 x3) B n h) := by
  have e : val_main_v131 (F := Ideal) x0 x1 x2 x3 x5 (ix4 B n h d) = rot (fun d => val_main_v98 (F := Ideal) x0 x1 x2 x3 x5 (ix4 B n h d)) (cosAt n) (sinAt n) d := by
    obtain ⟨j, rfl | rfl⟩ := halves d
    · rw [k_rot_lo, rot_lo]
    · rw [k_rot_hi, rot_hi]
  rw [e]
  unfold headOut
  rw [← rot_scale _ _ _ _ _ _ (root_nonneg _) (root_ne_top _)]
  simp only [k_norm, k_root, k_split]

theorem k_out (p : Fin 128) : val_main_v139 (F := Ideal) x0 x1 x2 x3 x5 (ix3 B n p)
    = val_main_v131 (F := Ideal) x0 x1 x2 x3 x5 (ix4 B n ⟨p.val / 64, by omega⟩ ⟨p.val % 64, by omega⟩) := by
  unfold val_main_v139 val_main_v138
  generalize val_main_v131 (F := Ideal) x0 x1 x2 x3 x5 = y
  pointwise []

theorem ref_k : val_main_v139 (F := Ideal) x0 x1 x2 x3 x5 = resK (proj x0 x1 x2 x3) x5 := by
  funext i
  obtain ⟨B, n, p, rfl⟩ : ∃ (B : Fin 4) (n : Fin 8192) (p : Fin 128), i = ix3 B n p := ⟨i 0, i 1, i 2, (ix3_eta i).symm⟩
  rw [k_out, k_rot]
  rfl

/-! The values. -/

theorem v_out (b : Fin 64) (r q : Fin 128) : val_main_v142 (F := Ideal) x0 x1 x2 x3 (ix4 B b r q)
    = val_main_v32 (F := Ideal) x0 x1 x2 x3 (ix3 B ⟨128 * b.val + q.val, by omega⟩ ⟨640 + r.val, by omega⟩) := by
  unfold val_main_v142 val_main_v141 val_main_v140 val_main_v35
  generalize val_main_v32 (F := Ideal) x0 x1 x2 x3 = z
  pointwise []
  exact congrArg (fun l => z (ix3 B l _)) (Fin.ext (by show b.val * 128 + q.val = 128 * b.val + q.val; omega))

theorem ref_v : val_main_v142 (F := Ideal) x0 x1 x2 x3 = resV (proj x0 x1 x2 x3) := by
  funext i
  obtain ⟨B, b, r, q, rfl⟩ : ∃ (B : Fin 4) (b : Fin 64) (r : Fin 128) (q : Fin 128), i = ix4 B b r q := ⟨i 0, i 1, i 2, i 3, (ix4_eta i).symm⟩
  rw [v_out, proj_ref]
  rfl

end Cert.InProjRefIdeal.InProj
end
-- ==== Proof.InProjClaim.lean ====
/-
  The input projection call's claims.
-/
module

public import proofs.«01_k».proof.Defs
public import proofs.«01_k».proof.Proof.InProjFinal
public import proofs.«01_k».proof.Proof.InProjRef
public import proofs.«01_k».proof.Proof.Gen.InProj.Frame
public import proofs.«01_k».proof.Proof.Gen.InProjRefIdeal.Run

@[expose] public section
set_option maxRecDepth 16384
set_option maxHeartbeats 4000000
noncomputable section
namespace Cert.Proof.InProj

open Idealize.ShloMosaic Idealize.SL.Sem
open Cert.InProjIdeal.InProj (resQ resK resV zOf A4 A5 final_q final_k final_v)

theorem frame_p : Cert.quiescent_InProj := fun m ρ _ => Cert.InProj.Gen.frame m ρ
theorem frame_pi : Cert.quiescent_InProjIdeal := fun m ρ _ => Cert.InProjIdeal.Gen.frame m ρ
theorem frame_ri : Cert.quiescent_InProjRefIdeal := fun m ρ _ =>
  (θ_run Cert.InProjRefIdeal.defs _ _).mono (fun r h => ⟨fun c => (h c).2.2.2, sem_eq_zero_of_no_sems (by decide) r.2⟩)
    (Cert.InProjRefIdeal.Value.run (F := Ideal) m ρ)

theorem preserves : Cert.preserves_InProj_InProjIdeal :=
  IdealRules.named_const.statement Cert.InProjIdeal.κ "swa_scale" .f32 0x3E38AA3B#32 (((Real.log 2)⁻¹ * 8⁻¹ : ℝ) : EReal) rfl

theorem algebraic : Cert.algebraic_InProjIdeal_InProjRefIdeal := by
  intro m g m' g' hpre hag
  refine ⟨fun c => resQ (zOf m c) (A4 m c), fun c => resK (zOf m c) (A5 m c), fun c => resV (zOf m c),
    (θ_run Cert.InProjIdeal.defs _ _).mono (fun r h c => ⟨(h c).1.trans (final_q m c), (h c).2.1.trans (final_k m c), (h c).2.2.1.trans (final_v m c), (h c).2.2.2.2.2.2⟩)
      (Cert.InProjIdeal.Value.run_blocks (F := Ideal) m g),
    (θ_run Cert.InProjRefIdeal.defs _ _).mono (fun r h c => ⟨(h c).1.trans ?_, (h c).2.1.trans ?_, (h c).2.2.1.trans ?_, (h c).2.2.2⟩) (Cert.InProjRefIdeal.Value.run (F := Ideal) m' g')⟩
  all_goals obtain ⟨a0, a1, a2, a3, a4, a5, -⟩ := hag c
  · refine (Cert.InProjRefIdeal.Read.val_main_v137_eq (F := Ideal) m' c).trans ?_
    rw [a0, a1, a2, a3, a4]
    exact Cert.InProjRefIdeal.InProj.ref_q _ _ _ _ _
  · refine (Cert.InProjRefIdeal.Read.val_main_v139_eq (F := Ideal) m' c).trans ?_
    rw [a0, a1, a2, a3, a5]
    exact Cert.InProjRefIdeal.InProj.ref_k _ _ _ _ _
  · refine (Cert.InProjRefIdeal.Read.val_main_v142_eq (F := Ideal) _ _ _ _).trans ?_
    rw [a0, a1, a2, a3]
    exact Cert.InProjRefIdeal.InProj.ref_v _ _ _ _

end Cert.Proof.InProj
end
-- ==== Proof.lean ====
/-
  Five of the layer's calls are correct: the latent attention, the windowed attention with its sink, the first feed-forward block, the output
  projection with the second feed-forward block and the last normalisation, and the linear map of the conditioning. The claims' proofs are in
  Proof/MlaClaim.lean, Proof/SwaClaim.lean, Proof/FfnOneClaim.lean, Proof/FfnTwoClaim.lean and Proof/ModClaim.lean.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.FfnOne
public import proofs.«01_k».proof.Proof.Gen.FfnOne.Skeleton
public import proofs.«01_k».proof.Proof.Gen.FfnOne.Launch
public import proofs.«01_k».proof.Proof.Gen.FfnOne.Points
public import proofs.«01_k».proof.Proof.Gen.FfnOne.Frame
public import proofs.«01_k».proof.Proof.Gen.FfnOneIdeal
public import proofs.«01_k».proof.Proof.Gen.FfnOneIdeal.Skeleton
public import proofs.«01_k».proof.Proof.Gen.FfnOneIdeal.Launch
public import proofs.«01_k».proof.Proof.Gen.FfnOneIdeal.Points
public import proofs.«01_k».proof.Proof.Gen.FfnOneIdeal.Frame
public import proofs.«01_k».proof.Proof.Gen.FfnOneIdeal.Value
public import proofs.«01_k».proof.Proof.Gen.FfnOneRefIdeal
public import proofs.«01_k».proof.Proof.Gen.FfnOneRefIdeal.Run
public import proofs.«01_k».proof.Proof.Gen.FfnOneRefIdeal.Read
public import proofs.«01_k».proof.Proof.Gen.FfnTwo
public import proofs.«01_k».proof.Proof.Gen.FfnTwo.Skeleton
public import proofs.«01_k».proof.Proof.Gen.FfnTwo.Launch
public import proofs.«01_k».proof.Proof.Gen.FfnTwo.Points
public import proofs.«01_k».proof.Proof.Gen.FfnTwo.Frame
public import proofs.«01_k».proof.Proof.Gen.FfnTwoIdeal
public import proofs.«01_k».proof.Proof.Gen.FfnTwoIdeal.Skeleton
public import proofs.«01_k».proof.Proof.Gen.FfnTwoIdeal.Launch
public import proofs.«01_k».proof.Proof.Gen.FfnTwoIdeal.Points
public import proofs.«01_k».proof.Proof.Gen.FfnTwoIdeal.Frame
public import proofs.«01_k».proof.Proof.Gen.FfnTwoIdeal.Value
public import proofs.«01_k».proof.Proof.Gen.FfnTwoRefIdeal
public import proofs.«01_k».proof.Proof.Gen.FfnTwoRefIdeal.Run
public import proofs.«01_k».proof.Proof.Gen.FfnTwoRefIdeal.Read
public import proofs.«01_k».proof.Proof.Gen.Swa
public import proofs.«01_k».proof.Proof.Gen.Swa.Frame
public import proofs.«01_k».proof.Proof.Gen.SwaIdeal
public import proofs.«01_k».proof.Proof.Gen.SwaIdeal.Frame
public import proofs.«01_k».proof.Proof.Gen.SwaIdeal.Value
public import proofs.«01_k».proof.Proof.Gen.SwaRefIdeal
public import proofs.«01_k».proof.Proof.Gen.SwaRefIdeal.Run
public import proofs.«01_k».proof.Proof.Gen.SwaRefIdeal.Read
public import proofs.«01_k».proof.Proof.Gen.Mod
public import proofs.«01_k».proof.Proof.Gen.Mod.Frame
public import proofs.«01_k».proof.Proof.Gen.ModIdeal
public import proofs.«01_k».proof.Proof.Gen.ModIdeal.Frame
public import proofs.«01_k».proof.Proof.Gen.ModIdeal.Value
public import proofs.«01_k».proof.Proof.Gen.ModRefIdeal
public import proofs.«01_k».proof.Proof.Gen.ModRefIdeal.Run
public import proofs.«01_k».proof.Proof.Gen.ModRefIdeal.Read
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.Pre_finite
public import proofs.«01_k».proof.Proof.Gen.Pre_swa_finite
public import proofs.«01_k».proof.Proof.MlaClaim
public import proofs.«01_k».proof.Proof.FfnOneClaim
public import proofs.«01_k».proof.Proof.FfnTwoClaim
public import proofs.«01_k».proof.Proof.SwaClaim
public import proofs.«01_k».proof.Proof.ModClaim
public import proofs.«01_k».proof.Proof.InProjClaim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.FfnOne.Gen.facts, Cert.FfnOneIdeal.Gen.facts, Cert.FfnOneRefIdeal.Gen.facts, Cert.FfnTwo.Gen.facts, Cert.FfnTwoIdeal.Gen.facts, Cert.FfnTwoRefIdeal.Gen.facts, Cert.Swa.Gen.facts, Cert.SwaIdeal.Gen.facts, Cert.SwaRefIdeal.Gen.facts, Cert.Mod.Gen.facts, Cert.ModIdeal.Gen.facts, Cert.ModRefIdeal.Gen.facts, Cert.InProj.Gen.facts, Cert.InProjIdeal.Gen.facts, Cert.InProjRefIdeal.Gen.facts, Cert.Pre_finite.Gen.facts, Cert.Pre_swa_finite.Gen.facts,
  Mla.frame_p, Mla.frame_pi, Mla.frame_pi_pre, Mla.frame_ri, Mla.frame_ri_pre,
  FfnOne.frame_p, FfnOne.frame_pi, FfnOne.frame_ri, FfnTwo.frame_p, FfnTwo.frame_pi, FfnTwo.frame_ri,
  Swa.frame_p, Swa.frame_pi, Swa.frame_pi_pre, Swa.frame_ri, Swa.frame_ri_pre,
  Mod.frame_p, Mod.frame_pi, Mod.frame_ri, InProj.frame_p, InProj.frame_pi, InProj.frame_ri,
  Mla.preserves, Mla.algebraic, FfnOne.preserves, FfnOne.algebraic, FfnTwo.preserves, FfnTwo.algebraic, Swa.preserves, Swa.algebraic, Mod.preserves, Mod.algebraic, InProj.preserves, InProj.algebraic⟩

end Cert.Proof

end
